-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_PoolMlp (m : (ℓ : Loc Cert.PoolMlp.nD Cert.PoolMlp.τ Cert.PoolMlp.sig) → Buf (Elt Bits) ℓ) : Prop :=
  True

def Pre_PoolMlpIdeal (m : (ℓ : Loc Cert.PoolMlpIdeal.nD Cert.PoolMlpIdeal.τ Cert.PoolMlpIdeal.sig) → Buf (Elt Ideal) ℓ) : Prop :=
  True

def Pre_PoolMlpReferenceIdeal (m : (ℓ : Loc Cert.PoolMlpReferenceIdeal.nD Cert.PoolMlpReferenceIdeal.τ Cert.PoolMlpReferenceIdeal.sig) → Buf (Elt Ideal) ℓ) : Prop :=
  True

def Pre_SharedKv (m : (ℓ : Loc Cert.SharedKv.nD Cert.SharedKv.τ Cert.SharedKv.sig) → Buf (Elt Bits) ℓ) : Prop :=
  True

def Pre_SharedKvIdeal (m : (ℓ : Loc Cert.SharedKvIdeal.nD Cert.SharedKvIdeal.τ Cert.SharedKvIdeal.sig) → Buf (Elt Ideal) ℓ) : Prop :=
  True

def Pre_SharedKvReferenceIdeal (m : (ℓ : Loc Cert.SharedKvReferenceIdeal.nD Cert.SharedKvReferenceIdeal.τ Cert.SharedKvReferenceIdeal.sig) → Buf (Elt Ideal) ℓ) : Prop :=
  True

def Pre_MlpSample (m : (ℓ : Loc Cert.MlpSample.nD Cert.MlpSample.τ Cert.MlpSample.sig) → Buf (Elt Bits) ℓ) : Prop :=
  True

def Pre_MlpSampleIdeal (m : (ℓ : Loc Cert.MlpSampleIdeal.nD Cert.MlpSampleIdeal.τ Cert.MlpSampleIdeal.sig) → Buf (Elt Ideal) ℓ) : Prop :=
  True

def Pre_MlpSampleReferenceIdeal (m : (ℓ : Loc Cert.MlpSampleReferenceIdeal.nD Cert.MlpSampleReferenceIdeal.τ Cert.MlpSampleReferenceIdeal.sig) → Buf (Elt Ideal) ℓ) : Prop :=
  True

def Pre_KvSample (m : (ℓ : Loc Cert.KvSample.nD Cert.KvSample.τ Cert.KvSample.sig) → Buf (Elt Bits) ℓ) : Prop :=
  True

def Pre_KvSampleIdeal (m : (ℓ : Loc Cert.KvSampleIdeal.nD Cert.KvSampleIdeal.τ Cert.KvSampleIdeal.sig) → Buf (Elt Ideal) ℓ) : Prop :=
  True

def Pre_KvSampleIdeal_finite_keys [hPre_finite_keys : Cert.Pre_finite_keys.Facts] (m : (ℓ : Loc Cert.KvSampleIdeal.nD Cert.KvSampleIdeal.τ Cert.KvSampleIdeal.sig) → Buf (Elt Ideal) ℓ) : Prop :=
  ∀ c : Dev Cert.KvSampleIdeal.nD,
    (Cert.Pre_finite_keys.fn (F := Ideal) (m ((c.tc : Thread Cert.KvSampleIdeal.nD Cert.KvSampleIdeal.τ).loc Cert.KvSampleIdeal.main_arg0)) (m ((c.tc : Thread Cert.KvSampleIdeal.nD Cert.KvSampleIdeal.τ).loc Cert.KvSampleIdeal.main_arg1)) (m ((c.tc : Thread Cert.KvSampleIdeal.nD Cert.KvSampleIdeal.τ).loc Cert.KvSampleIdeal.main_arg2)) (m ((c.tc : Thread Cert.KvSampleIdeal.nD Cert.KvSampleIdeal.τ).loc Cert.KvSampleIdeal.main_arg3)) (m ((c.tc : Thread Cert.KvSampleIdeal.nD Cert.KvSampleIdeal.τ).loc Cert.KvSampleIdeal.main_arg4)) (m ((c.tc : Thread Cert.KvSampleIdeal.nD Cert.KvSampleIdeal.τ).loc Cert.KvSampleIdeal.main_arg5)) (m ((c.tc : Thread Cert.KvSampleIdeal.nD Cert.KvSampleIdeal.τ).loc Cert.KvSampleIdeal.main_arg6))) = (fun _ => 1#1)

def Pre_KvSampleReferenceIdeal (m : (ℓ : Loc Cert.KvSampleReferenceIdeal.nD Cert.KvSampleReferenceIdeal.τ Cert.KvSampleReferenceIdeal.sig) → Buf (Elt Ideal) ℓ) : Prop :=
  True

def Pre_KvSampleReferenceIdeal_finite_keys [hPre_finite_keys : Cert.Pre_finite_keys.Facts] (m : (ℓ : Loc Cert.KvSampleReferenceIdeal.nD Cert.KvSampleReferenceIdeal.τ Cert.KvSampleReferenceIdeal.sig) → Buf (Elt Ideal) ℓ) : Prop :=
  ∀ c : Dev Cert.KvSampleReferenceIdeal.nD,
    (Cert.Pre_finite_keys.fn (F := Ideal) (m ((c.tc : Thread Cert.KvSampleReferenceIdeal.nD Cert.KvSampleReferenceIdeal.τ).loc Cert.KvSampleReferenceIdeal.main_arg0)) (m ((c.tc : Thread Cert.KvSampleReferenceIdeal.nD Cert.KvSampleReferenceIdeal.τ).loc Cert.KvSampleReferenceIdeal.main_arg1)) (m ((c.tc : Thread Cert.KvSampleReferenceIdeal.nD Cert.KvSampleReferenceIdeal.τ).loc Cert.KvSampleReferenceIdeal.main_arg2)) (m ((c.tc : Thread Cert.KvSampleReferenceIdeal.nD Cert.KvSampleReferenceIdeal.τ).loc Cert.KvSampleReferenceIdeal.main_arg3)) (m ((c.tc : Thread Cert.KvSampleReferenceIdeal.nD Cert.KvSampleReferenceIdeal.τ).loc Cert.KvSampleReferenceIdeal.main_arg4)) (m ((c.tc : Thread Cert.KvSampleReferenceIdeal.nD Cert.KvSampleReferenceIdeal.τ).loc Cert.KvSampleReferenceIdeal.main_arg5)) (m ((c.tc : Thread Cert.KvSampleReferenceIdeal.nD Cert.KvSampleReferenceIdeal.τ).loc Cert.KvSampleReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def quiescent_PoolMlp [hPoolMlp : Cert.PoolMlp.Facts] : Prop :=
  ∀ (m : (ℓ : Loc Cert.PoolMlp.nD Cert.PoolMlp.τ Cert.PoolMlp.sig) → Buf (Elt Bits) ℓ) (g : Dev Cert.PoolMlp.nD → PrngReg), Pre_PoolMlp m →
    θ_run (Cert.PoolMlp.defs (F := Bits)) (onTc (τ := Cert.PoolMlp.τ) (Cert.PoolMlp.main (F := Bits))) ⟨m, fun _ => 0, g⟩ (fun r => (∀ c : Dev Cert.PoolMlp.nD,
      r.2.mem ((c.tc : Thread Cert.PoolMlp.nD Cert.PoolMlp.τ).loc Cert.PoolMlp.main_arg0) = m ((c.tc : Thread Cert.PoolMlp.nD Cert.PoolMlp.τ).loc Cert.PoolMlp.main_arg0)
      ∧ r.2.mem ((c.tc : Thread Cert.PoolMlp.nD Cert.PoolMlp.τ).loc Cert.PoolMlp.main_arg1) = m ((c.tc : Thread Cert.PoolMlp.nD Cert.PoolMlp.τ).loc Cert.PoolMlp.main_arg1)
      ∧ r.2.mem ((c.tc : Thread Cert.PoolMlp.nD Cert.PoolMlp.τ).loc Cert.PoolMlp.main_arg2) = m ((c.tc : Thread Cert.PoolMlp.nD Cert.PoolMlp.τ).loc Cert.PoolMlp.main_arg2)
      ∧ r.2.mem ((c.tc : Thread Cert.PoolMlp.nD Cert.PoolMlp.τ).loc Cert.PoolMlp.main_arg3) = m ((c.tc : Thread Cert.PoolMlp.nD Cert.PoolMlp.τ).loc Cert.PoolMlp.main_arg3)
      ∧ r.2.mem ((c.tc : Thread Cert.PoolMlp.nD Cert.PoolMlp.τ).loc Cert.PoolMlp.main_arg4) = m ((c.tc : Thread Cert.PoolMlp.nD Cert.PoolMlp.τ).loc Cert.PoolMlp.main_arg4)
      ∧ r.2.mem ((c.tc : Thread Cert.PoolMlp.nD Cert.PoolMlp.τ).loc Cert.PoolMlp.main_arg5) = m ((c.tc : Thread Cert.PoolMlp.nD Cert.PoolMlp.τ).loc Cert.PoolMlp.main_arg5)
      ∧ r.2.mem ((c.tc : Thread Cert.PoolMlp.nD Cert.PoolMlp.τ).loc Cert.PoolMlp.main_arg6) = m ((c.tc : Thread Cert.PoolMlp.nD Cert.PoolMlp.τ).loc Cert.PoolMlp.main_arg6))
      ∧ r.2.sem = fun _ => 0)

def quiescent_PoolMlpIdeal [hPoolMlpIdeal : Cert.PoolMlpIdeal.Facts] : Prop :=
  ∀ (m : (ℓ : Loc Cert.PoolMlpIdeal.nD Cert.PoolMlpIdeal.τ Cert.PoolMlpIdeal.sig) → Buf (Elt Ideal) ℓ) (g : Dev Cert.PoolMlpIdeal.nD → PrngReg), Pre_PoolMlpIdeal m →
    θ_run (Cert.PoolMlpIdeal.defs (F := Ideal)) (onTc (τ := Cert.PoolMlpIdeal.τ) (Cert.PoolMlpIdeal.main (F := Ideal))) ⟨m, fun _ => 0, g⟩ (fun r => (∀ c : Dev Cert.PoolMlpIdeal.nD,
      r.2.mem ((c.tc : Thread Cert.PoolMlpIdeal.nD Cert.PoolMlpIdeal.τ).loc Cert.PoolMlpIdeal.main_arg0) = m ((c.tc : Thread Cert.PoolMlpIdeal.nD Cert.PoolMlpIdeal.τ).loc Cert.PoolMlpIdeal.main_arg0)
      ∧ r.2.mem ((c.tc : Thread Cert.PoolMlpIdeal.nD Cert.PoolMlpIdeal.τ).loc Cert.PoolMlpIdeal.main_arg1) = m ((c.tc : Thread Cert.PoolMlpIdeal.nD Cert.PoolMlpIdeal.τ).loc Cert.PoolMlpIdeal.main_arg1)
      ∧ r.2.mem ((c.tc : Thread Cert.PoolMlpIdeal.nD Cert.PoolMlpIdeal.τ).loc Cert.PoolMlpIdeal.main_arg2) = m ((c.tc : Thread Cert.PoolMlpIdeal.nD Cert.PoolMlpIdeal.τ).loc Cert.PoolMlpIdeal.main_arg2)
      ∧ r.2.mem ((c.tc : Thread Cert.PoolMlpIdeal.nD Cert.PoolMlpIdeal.τ).loc Cert.PoolMlpIdeal.main_arg3) = m ((c.tc : Thread Cert.PoolMlpIdeal.nD Cert.PoolMlpIdeal.τ).loc Cert.PoolMlpIdeal.main_arg3)
      ∧ r.2.mem ((c.tc : Thread Cert.PoolMlpIdeal.nD Cert.PoolMlpIdeal.τ).loc Cert.PoolMlpIdeal.main_arg4) = m ((c.tc : Thread Cert.PoolMlpIdeal.nD Cert.PoolMlpIdeal.τ).loc Cert.PoolMlpIdeal.main_arg4)
      ∧ r.2.mem ((c.tc : Thread Cert.PoolMlpIdeal.nD Cert.PoolMlpIdeal.τ).loc Cert.PoolMlpIdeal.main_arg5) = m ((c.tc : Thread Cert.PoolMlpIdeal.nD Cert.PoolMlpIdeal.τ).loc Cert.PoolMlpIdeal.main_arg5)
      ∧ r.2.mem ((c.tc : Thread Cert.PoolMlpIdeal.nD Cert.PoolMlpIdeal.τ).loc Cert.PoolMlpIdeal.main_arg6) = m ((c.tc : Thread Cert.PoolMlpIdeal.nD Cert.PoolMlpIdeal.τ).loc Cert.PoolMlpIdeal.main_arg6))
      ∧ r.2.sem = fun _ => 0)

def quiescent_PoolMlpReferenceIdeal [hPoolMlpReferenceIdeal : Cert.PoolMlpReferenceIdeal.Facts] : Prop :=
  ∀ (m : (ℓ : Loc Cert.PoolMlpReferenceIdeal.nD Cert.PoolMlpReferenceIdeal.τ Cert.PoolMlpReferenceIdeal.sig) → Buf (Elt Ideal) ℓ) (g : Dev Cert.PoolMlpReferenceIdeal.nD → PrngReg), Pre_PoolMlpReferenceIdeal m →
    θ_run (Cert.PoolMlpReferenceIdeal.defs (F := Ideal)) (onTc (τ := Cert.PoolMlpReferenceIdeal.τ) (Cert.PoolMlpReferenceIdeal.main (F := Ideal))) ⟨m, fun _ => 0, g⟩ (fun r => (∀ c : Dev Cert.PoolMlpReferenceIdeal.nD,
      r.2.mem ((c.tc : Thread Cert.PoolMlpReferenceIdeal.nD Cert.PoolMlpReferenceIdeal.τ).loc Cert.PoolMlpReferenceIdeal.main_arg0) = m ((c.tc : Thread Cert.PoolMlpReferenceIdeal.nD Cert.PoolMlpReferenceIdeal.τ).loc Cert.PoolMlpReferenceIdeal.main_arg0)
      ∧ r.2.mem ((c.tc : Thread Cert.PoolMlpReferenceIdeal.nD Cert.PoolMlpReferenceIdeal.τ).loc Cert.PoolMlpReferenceIdeal.main_arg1) = m ((c.tc : Thread Cert.PoolMlpReferenceIdeal.nD Cert.PoolMlpReferenceIdeal.τ).loc Cert.PoolMlpReferenceIdeal.main_arg1)
      ∧ r.2.mem ((c.tc : Thread Cert.PoolMlpReferenceIdeal.nD Cert.PoolMlpReferenceIdeal.τ).loc Cert.PoolMlpReferenceIdeal.main_arg2) = m ((c.tc : Thread Cert.PoolMlpReferenceIdeal.nD Cert.PoolMlpReferenceIdeal.τ).loc Cert.PoolMlpReferenceIdeal.main_arg2)
      ∧ r.2.mem ((c.tc : Thread Cert.PoolMlpReferenceIdeal.nD Cert.PoolMlpReferenceIdeal.τ).loc Cert.PoolMlpReferenceIdeal.main_arg3) = m ((c.tc : Thread Cert.PoolMlpReferenceIdeal.nD Cert.PoolMlpReferenceIdeal.τ).loc Cert.PoolMlpReferenceIdeal.main_arg3)
      ∧ r.2.mem ((c.tc : Thread Cert.PoolMlpReferenceIdeal.nD Cert.PoolMlpReferenceIdeal.τ).loc Cert.PoolMlpReferenceIdeal.main_arg4) = m ((c.tc : Thread Cert.PoolMlpReferenceIdeal.nD Cert.PoolMlpReferenceIdeal.τ).loc Cert.PoolMlpReferenceIdeal.main_arg4)
      ∧ r.2.mem ((c.tc : Thread Cert.PoolMlpReferenceIdeal.nD Cert.PoolMlpReferenceIdeal.τ).loc Cert.PoolMlpReferenceIdeal.main_arg5) = m ((c.tc : Thread Cert.PoolMlpReferenceIdeal.nD Cert.PoolMlpReferenceIdeal.τ).loc Cert.PoolMlpReferenceIdeal.main_arg5)
      ∧ r.2.mem ((c.tc : Thread Cert.PoolMlpReferenceIdeal.nD Cert.PoolMlpReferenceIdeal.τ).loc Cert.PoolMlpReferenceIdeal.main_arg6) = m ((c.tc : Thread Cert.PoolMlpReferenceIdeal.nD Cert.PoolMlpReferenceIdeal.τ).loc Cert.PoolMlpReferenceIdeal.main_arg6))
      ∧ r.2.sem = fun _ => 0)

def quiescent_SharedKv [hSharedKv : Cert.SharedKv.Facts] : Prop :=
  ∀ (m : (ℓ : Loc Cert.SharedKv.nD Cert.SharedKv.τ Cert.SharedKv.sig) → Buf (Elt Bits) ℓ) (g : Dev Cert.SharedKv.nD → PrngReg), Pre_SharedKv m →
    θ_run (Cert.SharedKv.defs (F := Bits)) (onTc (τ := Cert.SharedKv.τ) (Cert.SharedKv.main (F := Bits))) ⟨m, fun _ => 0, g⟩ (fun r => (∀ c : Dev Cert.SharedKv.nD,
      r.2.mem ((c.tc : Thread Cert.SharedKv.nD Cert.SharedKv.τ).loc Cert.SharedKv.main_arg0) = m ((c.tc : Thread Cert.SharedKv.nD Cert.SharedKv.τ).loc Cert.SharedKv.main_arg0)
      ∧ r.2.mem ((c.tc : Thread Cert.SharedKv.nD Cert.SharedKv.τ).loc Cert.SharedKv.main_arg1) = m ((c.tc : Thread Cert.SharedKv.nD Cert.SharedKv.τ).loc Cert.SharedKv.main_arg1)
      ∧ r.2.mem ((c.tc : Thread Cert.SharedKv.nD Cert.SharedKv.τ).loc Cert.SharedKv.main_arg2) = m ((c.tc : Thread Cert.SharedKv.nD Cert.SharedKv.τ).loc Cert.SharedKv.main_arg2)
      ∧ r.2.mem ((c.tc : Thread Cert.SharedKv.nD Cert.SharedKv.τ).loc Cert.SharedKv.main_arg3) = m ((c.tc : Thread Cert.SharedKv.nD Cert.SharedKv.τ).loc Cert.SharedKv.main_arg3)
      ∧ r.2.mem ((c.tc : Thread Cert.SharedKv.nD Cert.SharedKv.τ).loc Cert.SharedKv.main_arg4) = m ((c.tc : Thread Cert.SharedKv.nD Cert.SharedKv.τ).loc Cert.SharedKv.main_arg4)
      ∧ r.2.mem ((c.tc : Thread Cert.SharedKv.nD Cert.SharedKv.τ).loc Cert.SharedKv.main_arg5) = m ((c.tc : Thread Cert.SharedKv.nD Cert.SharedKv.τ).loc Cert.SharedKv.main_arg5)
      ∧ r.2.mem ((c.tc : Thread Cert.SharedKv.nD Cert.SharedKv.τ).loc Cert.SharedKv.main_arg6) = m ((c.tc : Thread Cert.SharedKv.nD Cert.SharedKv.τ).loc Cert.SharedKv.main_arg6))
      ∧ r.2.sem = fun _ => 0)

def quiescent_SharedKvIdeal [hSharedKvIdeal : Cert.SharedKvIdeal.Facts] : Prop :=
  ∀ (m : (ℓ : Loc Cert.SharedKvIdeal.nD Cert.SharedKvIdeal.τ Cert.SharedKvIdeal.sig) → Buf (Elt Ideal) ℓ) (g : Dev Cert.SharedKvIdeal.nD → PrngReg), Pre_SharedKvIdeal m →
    θ_run (Cert.SharedKvIdeal.defs (F := Ideal)) (onTc (τ := Cert.SharedKvIdeal.τ) (Cert.SharedKvIdeal.main (F := Ideal))) ⟨m, fun _ => 0, g⟩ (fun r => (∀ c : Dev Cert.SharedKvIdeal.nD,
      r.2.mem ((c.tc : Thread Cert.SharedKvIdeal.nD Cert.SharedKvIdeal.τ).loc Cert.SharedKvIdeal.main_arg0) = m ((c.tc : Thread Cert.SharedKvIdeal.nD Cert.SharedKvIdeal.τ).loc Cert.SharedKvIdeal.main_arg0)
      ∧ r.2.mem ((c.tc : Thread Cert.SharedKvIdeal.nD Cert.SharedKvIdeal.τ).loc Cert.SharedKvIdeal.main_arg1) = m ((c.tc : Thread Cert.SharedKvIdeal.nD Cert.SharedKvIdeal.τ).loc Cert.SharedKvIdeal.main_arg1)
      ∧ r.2.mem ((c.tc : Thread Cert.SharedKvIdeal.nD Cert.SharedKvIdeal.τ).loc Cert.SharedKvIdeal.main_arg2) = m ((c.tc : Thread Cert.SharedKvIdeal.nD Cert.SharedKvIdeal.τ).loc Cert.SharedKvIdeal.main_arg2)
      ∧ r.2.mem ((c.tc : Thread Cert.SharedKvIdeal.nD Cert.SharedKvIdeal.τ).loc Cert.SharedKvIdeal.main_arg3) = m ((c.tc : Thread Cert.SharedKvIdeal.nD Cert.SharedKvIdeal.τ).loc Cert.SharedKvIdeal.main_arg3)
      ∧ r.2.mem ((c.tc : Thread Cert.SharedKvIdeal.nD Cert.SharedKvIdeal.τ).loc Cert.SharedKvIdeal.main_arg4) = m ((c.tc : Thread Cert.SharedKvIdeal.nD Cert.SharedKvIdeal.τ).loc Cert.SharedKvIdeal.main_arg4)
      ∧ r.2.mem ((c.tc : Thread Cert.SharedKvIdeal.nD Cert.SharedKvIdeal.τ).loc Cert.SharedKvIdeal.main_arg5) = m ((c.tc : Thread Cert.SharedKvIdeal.nD Cert.SharedKvIdeal.τ).loc Cert.SharedKvIdeal.main_arg5)
      ∧ r.2.mem ((c.tc : Thread Cert.SharedKvIdeal.nD Cert.SharedKvIdeal.τ).loc Cert.SharedKvIdeal.main_arg6) = m ((c.tc : Thread Cert.SharedKvIdeal.nD Cert.SharedKvIdeal.τ).loc Cert.SharedKvIdeal.main_arg6))
      ∧ r.2.sem = fun _ => 0)

def quiescent_SharedKvReferenceIdeal [hSharedKvReferenceIdeal : Cert.SharedKvReferenceIdeal.Facts] : Prop :=
  ∀ (m : (ℓ : Loc Cert.SharedKvReferenceIdeal.nD Cert.SharedKvReferenceIdeal.τ Cert.SharedKvReferenceIdeal.sig) → Buf (Elt Ideal) ℓ) (g : Dev Cert.SharedKvReferenceIdeal.nD → PrngReg), Pre_SharedKvReferenceIdeal m →
    θ_run (Cert.SharedKvReferenceIdeal.defs (F := Ideal)) (onTc (τ := Cert.SharedKvReferenceIdeal.τ) (Cert.SharedKvReferenceIdeal.main (F := Ideal))) ⟨m, fun _ => 0, g⟩ (fun r => (∀ c : Dev Cert.SharedKvReferenceIdeal.nD,
      r.2.mem ((c.tc : Thread Cert.SharedKvReferenceIdeal.nD Cert.SharedKvReferenceIdeal.τ).loc Cert.SharedKvReferenceIdeal.main_arg0) = m ((c.tc : Thread Cert.SharedKvReferenceIdeal.nD Cert.SharedKvReferenceIdeal.τ).loc Cert.SharedKvReferenceIdeal.main_arg0)
      ∧ r.2.mem ((c.tc : Thread Cert.SharedKvReferenceIdeal.nD Cert.SharedKvReferenceIdeal.τ).loc Cert.SharedKvReferenceIdeal.main_arg1) = m ((c.tc : Thread Cert.SharedKvReferenceIdeal.nD Cert.SharedKvReferenceIdeal.τ).loc Cert.SharedKvReferenceIdeal.main_arg1)
      ∧ r.2.mem ((c.tc : Thread Cert.SharedKvReferenceIdeal.nD Cert.SharedKvReferenceIdeal.τ).loc Cert.SharedKvReferenceIdeal.main_arg2) = m ((c.tc : Thread Cert.SharedKvReferenceIdeal.nD Cert.SharedKvReferenceIdeal.τ).loc Cert.SharedKvReferenceIdeal.main_arg2)
      ∧ r.2.mem ((c.tc : Thread Cert.SharedKvReferenceIdeal.nD Cert.SharedKvReferenceIdeal.τ).loc Cert.SharedKvReferenceIdeal.main_arg3) = m ((c.tc : Thread Cert.SharedKvReferenceIdeal.nD Cert.SharedKvReferenceIdeal.τ).loc Cert.SharedKvReferenceIdeal.main_arg3)
      ∧ r.2.mem ((c.tc : Thread Cert.SharedKvReferenceIdeal.nD Cert.SharedKvReferenceIdeal.τ).loc Cert.SharedKvReferenceIdeal.main_arg4) = m ((c.tc : Thread Cert.SharedKvReferenceIdeal.nD Cert.SharedKvReferenceIdeal.τ).loc Cert.SharedKvReferenceIdeal.main_arg4)
      ∧ r.2.mem ((c.tc : Thread Cert.SharedKvReferenceIdeal.nD Cert.SharedKvReferenceIdeal.τ).loc Cert.SharedKvReferenceIdeal.main_arg5) = m ((c.tc : Thread Cert.SharedKvReferenceIdeal.nD Cert.SharedKvReferenceIdeal.τ).loc Cert.SharedKvReferenceIdeal.main_arg5)
      ∧ r.2.mem ((c.tc : Thread Cert.SharedKvReferenceIdeal.nD Cert.SharedKvReferenceIdeal.τ).loc Cert.SharedKvReferenceIdeal.main_arg6) = m ((c.tc : Thread Cert.SharedKvReferenceIdeal.nD Cert.SharedKvReferenceIdeal.τ).loc Cert.SharedKvReferenceIdeal.main_arg6))
      ∧ r.2.sem = fun _ => 0)

def quiescent_MlpSample [hMlpSample : Cert.MlpSample.Facts] : Prop :=
  ∀ (m : (ℓ : Loc Cert.MlpSample.nD Cert.MlpSample.τ Cert.MlpSample.sig) → Buf (Elt Bits) ℓ) (g : Dev Cert.MlpSample.nD → PrngReg), Pre_MlpSample m →
    θ_run (Cert.MlpSample.defs (F := Bits)) (onTc (τ := Cert.MlpSample.τ) (Cert.MlpSample.main (F := Bits))) ⟨m, fun _ => 0, g⟩ (fun r => (∀ c : Dev Cert.MlpSample.nD,
      r.2.mem ((c.tc : Thread Cert.MlpSample.nD Cert.MlpSample.τ).loc Cert.MlpSample.main_arg0) = m ((c.tc : Thread Cert.MlpSample.nD Cert.MlpSample.τ).loc Cert.MlpSample.main_arg0)
      ∧ r.2.mem ((c.tc : Thread Cert.MlpSample.nD Cert.MlpSample.τ).loc Cert.MlpSample.main_arg1) = m ((c.tc : Thread Cert.MlpSample.nD Cert.MlpSample.τ).loc Cert.MlpSample.main_arg1)
      ∧ r.2.mem ((c.tc : Thread Cert.MlpSample.nD Cert.MlpSample.τ).loc Cert.MlpSample.main_arg2) = m ((c.tc : Thread Cert.MlpSample.nD Cert.MlpSample.τ).loc Cert.MlpSample.main_arg2)
      ∧ r.2.mem ((c.tc : Thread Cert.MlpSample.nD Cert.MlpSample.τ).loc Cert.MlpSample.main_arg3) = m ((c.tc : Thread Cert.MlpSample.nD Cert.MlpSample.τ).loc Cert.MlpSample.main_arg3)
      ∧ r.2.mem ((c.tc : Thread Cert.MlpSample.nD Cert.MlpSample.τ).loc Cert.MlpSample.main_arg4) = m ((c.tc : Thread Cert.MlpSample.nD Cert.MlpSample.τ).loc Cert.MlpSample.main_arg4)
      ∧ r.2.mem ((c.tc : Thread Cert.MlpSample.nD Cert.MlpSample.τ).loc Cert.MlpSample.main_arg5) = m ((c.tc : Thread Cert.MlpSample.nD Cert.MlpSample.τ).loc Cert.MlpSample.main_arg5))
      ∧ r.2.sem = fun _ => 0)

def quiescent_MlpSampleIdeal [hMlpSampleIdeal : Cert.MlpSampleIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg), Pre_MlpSampleIdeal m →
    θ_run (Cert.MlpSampleIdeal.defs (F := Ideal)) (onTc (τ := Cert.MlpSampleIdeal.τ) (Cert.MlpSampleIdeal.main (F := Ideal))) ⟨m, fun _ => 0, g⟩ (fun r => (∀ c : Dev Cert.MlpSampleIdeal.nD,
      r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
      ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
      ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
      ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
      ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4)
      ∧ r.2.mem ((c.tc : Thread Cert.MlpSampleIdeal.nD Cert.MlpSampleIdeal.τ).loc Cert.MlpSampleIdeal.main_arg5) = m ((c.tc : Thread Cert.MlpSampleIdeal.nD Cert.MlpSampleIdeal.τ).loc Cert.MlpSampleIdeal.main_arg5))
      ∧ r.2.sem = fun _ => 0)

def quiescent_MlpSampleReferenceIdeal [hMlpSampleReferenceIdeal : Cert.MlpSampleReferenceIdeal.Facts] : Prop :=
  ∀ (m : (ℓ : Loc Cert.MlpSampleReferenceIdeal.nD Cert.MlpSampleReferenceIdeal.τ Cert.MlpSampleReferenceIdeal.sig) → Buf (Elt Ideal) ℓ) (g : Dev Cert.MlpSampleReferenceIdeal.nD → PrngReg), Pre_MlpSampleReferenceIdeal m →
    θ_run (Cert.MlpSampleReferenceIdeal.defs (F := Ideal)) (onTc (τ := Cert.MlpSampleReferenceIdeal.τ) (Cert.MlpSampleReferenceIdeal.main (F := Ideal))) ⟨m, fun _ => 0, g⟩ (fun r => (∀ c : Dev Cert.MlpSampleReferenceIdeal.nD,
      r.2.mem ((c.tc : Thread Cert.MlpSampleReferenceIdeal.nD Cert.MlpSampleReferenceIdeal.τ).loc Cert.MlpSampleReferenceIdeal.main_arg0) = m ((c.tc : Thread Cert.MlpSampleReferenceIdeal.nD Cert.MlpSampleReferenceIdeal.τ).loc Cert.MlpSampleReferenceIdeal.main_arg0)
      ∧ r.2.mem ((c.tc : Thread Cert.MlpSampleReferenceIdeal.nD Cert.MlpSampleReferenceIdeal.τ).loc Cert.MlpSampleReferenceIdeal.main_arg1) = m ((c.tc : Thread Cert.MlpSampleReferenceIdeal.nD Cert.MlpSampleReferenceIdeal.τ).loc Cert.MlpSampleReferenceIdeal.main_arg1)
      ∧ r.2.mem ((c.tc : Thread Cert.MlpSampleReferenceIdeal.nD Cert.MlpSampleReferenceIdeal.τ).loc Cert.MlpSampleReferenceIdeal.main_arg2) = m ((c.tc : Thread Cert.MlpSampleReferenceIdeal.nD Cert.MlpSampleReferenceIdeal.τ).loc Cert.MlpSampleReferenceIdeal.main_arg2)
      ∧ r.2.mem ((c.tc : Thread Cert.MlpSampleReferenceIdeal.nD Cert.MlpSampleReferenceIdeal.τ).loc Cert.MlpSampleReferenceIdeal.main_arg3) = m ((c.tc : Thread Cert.MlpSampleReferenceIdeal.nD Cert.MlpSampleReferenceIdeal.τ).loc Cert.MlpSampleReferenceIdeal.main_arg3)
      ∧ r.2.mem ((c.tc : Thread Cert.MlpSampleReferenceIdeal.nD Cert.MlpSampleReferenceIdeal.τ).loc Cert.MlpSampleReferenceIdeal.main_arg4) = m ((c.tc : Thread Cert.MlpSampleReferenceIdeal.nD Cert.MlpSampleReferenceIdeal.τ).loc Cert.MlpSampleReferenceIdeal.main_arg4)
      ∧ r.2.mem ((c.tc : Thread Cert.MlpSampleReferenceIdeal.nD Cert.MlpSampleReferenceIdeal.τ).loc Cert.MlpSampleReferenceIdeal.main_arg5) = m ((c.tc : Thread Cert.MlpSampleReferenceIdeal.nD Cert.MlpSampleReferenceIdeal.τ).loc Cert.MlpSampleReferenceIdeal.main_arg5))
      ∧ r.2.sem = fun _ => 0)

def quiescent_KvSample [hKvSample : Cert.KvSample.Facts] : Prop :=
  ∀ (m : (ℓ : Loc Cert.KvSample.nD Cert.KvSample.τ Cert.KvSample.sig) → Buf (Elt Bits) ℓ) (g : Dev Cert.KvSample.nD → PrngReg), Pre_KvSample m →
    θ_run (Cert.KvSample.defs (F := Bits)) (onTc (τ := Cert.KvSample.τ) (Cert.KvSample.main (F := Bits))) ⟨m, fun _ => 0, g⟩ (fun r => (∀ c : Dev Cert.KvSample.nD,
      r.2.mem ((c.tc : Thread Cert.KvSample.nD Cert.KvSample.τ).loc Cert.KvSample.main_arg0) = m ((c.tc : Thread Cert.KvSample.nD Cert.KvSample.τ).loc Cert.KvSample.main_arg0)
      ∧ r.2.mem ((c.tc : Thread Cert.KvSample.nD Cert.KvSample.τ).loc Cert.KvSample.main_arg1) = m ((c.tc : Thread Cert.KvSample.nD Cert.KvSample.τ).loc Cert.KvSample.main_arg1)
      ∧ r.2.mem ((c.tc : Thread Cert.KvSample.nD Cert.KvSample.τ).loc Cert.KvSample.main_arg2) = m ((c.tc : Thread Cert.KvSample.nD Cert.KvSample.τ).loc Cert.KvSample.main_arg2)
      ∧ r.2.mem ((c.tc : Thread Cert.KvSample.nD Cert.KvSample.τ).loc Cert.KvSample.main_arg3) = m ((c.tc : Thread Cert.KvSample.nD Cert.KvSample.τ).loc Cert.KvSample.main_arg3)
      ∧ r.2.mem ((c.tc : Thread Cert.KvSample.nD Cert.KvSample.τ).loc Cert.KvSample.main_arg4) = m ((c.tc : Thread Cert.KvSample.nD Cert.KvSample.τ).loc Cert.KvSample.main_arg4)
      ∧ r.2.mem ((c.tc : Thread Cert.KvSample.nD Cert.KvSample.τ).loc Cert.KvSample.main_arg5) = m ((c.tc : Thread Cert.KvSample.nD Cert.KvSample.τ).loc Cert.KvSample.main_arg5)
      ∧ r.2.mem ((c.tc : Thread Cert.KvSample.nD Cert.KvSample.τ).loc Cert.KvSample.main_arg6) = m ((c.tc : Thread Cert.KvSample.nD Cert.KvSample.τ).loc Cert.KvSample.main_arg6))
      ∧ r.2.sem = fun _ => 0)

def quiescent_KvSampleIdeal [hKvSampleIdeal : Cert.KvSampleIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg), Pre_KvSampleIdeal m →
    θ_run (Cert.KvSampleIdeal.defs (F := Ideal)) (onTc (τ := Cert.KvSampleIdeal.τ) (Cert.KvSampleIdeal.main (F := Ideal))) ⟨m, fun _ => 0, g⟩ (fun r => (∀ c : Dev Cert.KvSampleIdeal.nD,
      r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
      ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1)
      ∧ r.2.mem ((c.tc : Thread Cert.KvSampleIdeal.nD Cert.KvSampleIdeal.τ).loc Cert.KvSampleIdeal.main_arg2) = m ((c.tc : Thread Cert.KvSampleIdeal.nD Cert.KvSampleIdeal.τ).loc Cert.KvSampleIdeal.main_arg2)
      ∧ r.2.mem ((c.tc : Thread Cert.KvSampleIdeal.nD Cert.KvSampleIdeal.τ).loc Cert.KvSampleIdeal.main_arg3) = m ((c.tc : Thread Cert.KvSampleIdeal.nD Cert.KvSampleIdeal.τ).loc Cert.KvSampleIdeal.main_arg3)
      ∧ r.2.mem ((c.tc : Thread Cert.KvSampleIdeal.nD Cert.KvSampleIdeal.τ).loc Cert.KvSampleIdeal.main_arg4) = m ((c.tc : Thread Cert.KvSampleIdeal.nD Cert.KvSampleIdeal.τ).loc Cert.KvSampleIdeal.main_arg4)
      ∧ r.2.mem ((c.tc : Thread Cert.KvSampleIdeal.nD Cert.KvSampleIdeal.τ).loc Cert.KvSampleIdeal.main_arg5) = m ((c.tc : Thread Cert.KvSampleIdeal.nD Cert.KvSampleIdeal.τ).loc Cert.KvSampleIdeal.main_arg5)
      ∧ r.2.mem ((c.tc : Thread Cert.KvSampleIdeal.nD Cert.KvSampleIdeal.τ).loc Cert.KvSampleIdeal.main_arg6) = m ((c.tc : Thread Cert.KvSampleIdeal.nD Cert.KvSampleIdeal.τ).loc Cert.KvSampleIdeal.main_arg6))
      ∧ r.2.sem = fun _ => 0)

def quiescent_KvSampleIdeal_pre_finite_keys [hKvSampleIdeal : Cert.KvSampleIdeal.Facts] [hPre_finite_keys : Cert.Pre_finite_keys.Facts] : Prop :=
  ∀ (m : (ℓ : Loc Cert.KvSampleIdeal.nD Cert.KvSampleIdeal.τ Cert.KvSampleIdeal.sig) → Buf (Elt Ideal) ℓ) (g : Dev Cert.KvSampleIdeal.nD → PrngReg), Pre_KvSampleIdeal_finite_keys m →
    θ_run (Cert.KvSampleIdeal.defs (F := Ideal)) (onTc (τ := Cert.KvSampleIdeal.τ) (Cert.KvSampleIdeal.main (F := Ideal))) ⟨m, fun _ => 0, g⟩ (fun r => (∀ c : Dev Cert.KvSampleIdeal.nD,
      r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
      ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1)
      ∧ r.2.mem ((c.tc : Thread Cert.KvSampleIdeal.nD Cert.KvSampleIdeal.τ).loc Cert.KvSampleIdeal.main_arg2) = m ((c.tc : Thread Cert.KvSampleIdeal.nD Cert.KvSampleIdeal.τ).loc Cert.KvSampleIdeal.main_arg2)
      ∧ r.2.mem ((c.tc : Thread Cert.KvSampleIdeal.nD Cert.KvSampleIdeal.τ).loc Cert.KvSampleIdeal.main_arg3) = m ((c.tc : Thread Cert.KvSampleIdeal.nD Cert.KvSampleIdeal.τ).loc Cert.KvSampleIdeal.main_arg3)
      ∧ r.2.mem ((c.tc : Thread Cert.KvSampleIdeal.nD Cert.KvSampleIdeal.τ).loc Cert.KvSampleIdeal.main_arg4) = m ((c.tc : Thread Cert.KvSampleIdeal.nD Cert.KvSampleIdeal.τ).loc Cert.KvSampleIdeal.main_arg4)
      ∧ r.2.mem ((c.tc : Thread Cert.KvSampleIdeal.nD Cert.KvSampleIdeal.τ).loc Cert.KvSampleIdeal.main_arg5) = m ((c.tc : Thread Cert.KvSampleIdeal.nD Cert.KvSampleIdeal.τ).loc Cert.KvSampleIdeal.main_arg5)
      ∧ r.2.mem ((c.tc : Thread Cert.KvSampleIdeal.nD Cert.KvSampleIdeal.τ).loc Cert.KvSampleIdeal.main_arg6) = m ((c.tc : Thread Cert.KvSampleIdeal.nD Cert.KvSampleIdeal.τ).loc Cert.KvSampleIdeal.main_arg6))
      ∧ r.2.sem = fun _ => 0)

def quiescent_KvSampleReferenceIdeal [hKvSampleReferenceIdeal : Cert.KvSampleReferenceIdeal.Facts] : Prop :=
  ∀ (m : (ℓ : Loc Cert.KvSampleReferenceIdeal.nD Cert.KvSampleReferenceIdeal.τ Cert.KvSampleReferenceIdeal.sig) → Buf (Elt Ideal) ℓ) (g : Dev Cert.KvSampleReferenceIdeal.nD → PrngReg), Pre_KvSampleReferenceIdeal m →
    θ_run (Cert.KvSampleReferenceIdeal.defs (F := Ideal)) (onTc (τ := Cert.KvSampleReferenceIdeal.τ) (Cert.KvSampleReferenceIdeal.main (F := Ideal))) ⟨m, fun _ => 0, g⟩ (fun r => (∀ c : Dev Cert.KvSampleReferenceIdeal.nD,
      r.2.mem ((c.tc : Thread Cert.KvSampleReferenceIdeal.nD Cert.KvSampleReferenceIdeal.τ).loc Cert.KvSampleReferenceIdeal.main_arg0) = m ((c.tc : Thread Cert.KvSampleReferenceIdeal.nD Cert.KvSampleReferenceIdeal.τ).loc Cert.KvSampleReferenceIdeal.main_arg0)
      ∧ r.2.mem ((c.tc : Thread Cert.KvSampleReferenceIdeal.nD Cert.KvSampleReferenceIdeal.τ).loc Cert.KvSampleReferenceIdeal.main_arg1) = m ((c.tc : Thread Cert.KvSampleReferenceIdeal.nD Cert.KvSampleReferenceIdeal.τ).loc Cert.KvSampleReferenceIdeal.main_arg1)
      ∧ r.2.mem ((c.tc : Thread Cert.KvSampleReferenceIdeal.nD Cert.KvSampleReferenceIdeal.τ).loc Cert.KvSampleReferenceIdeal.main_arg2) = m ((c.tc : Thread Cert.KvSampleReferenceIdeal.nD Cert.KvSampleReferenceIdeal.τ).loc Cert.KvSampleReferenceIdeal.main_arg2)
      ∧ r.2.mem ((c.tc : Thread Cert.KvSampleReferenceIdeal.nD Cert.KvSampleReferenceIdeal.τ).loc Cert.KvSampleReferenceIdeal.main_arg3) = m ((c.tc : Thread Cert.KvSampleReferenceIdeal.nD Cert.KvSampleReferenceIdeal.τ).loc Cert.KvSampleReferenceIdeal.main_arg3)
      ∧ r.2.mem ((c.tc : Thread Cert.KvSampleReferenceIdeal.nD Cert.KvSampleReferenceIdeal.τ).loc Cert.KvSampleReferenceIdeal.main_arg4) = m ((c.tc : Thread Cert.KvSampleReferenceIdeal.nD Cert.KvSampleReferenceIdeal.τ).loc Cert.KvSampleReferenceIdeal.main_arg4)
      ∧ r.2.mem ((c.tc : Thread Cert.KvSampleReferenceIdeal.nD Cert.KvSampleReferenceIdeal.τ).loc Cert.KvSampleReferenceIdeal.main_arg5) = m ((c.tc : Thread Cert.KvSampleReferenceIdeal.nD Cert.KvSampleReferenceIdeal.τ).loc Cert.KvSampleReferenceIdeal.main_arg5)
      ∧ r.2.mem ((c.tc : Thread Cert.KvSampleReferenceIdeal.nD Cert.KvSampleReferenceIdeal.τ).loc Cert.KvSampleReferenceIdeal.main_arg6) = m ((c.tc : Thread Cert.KvSampleReferenceIdeal.nD Cert.KvSampleReferenceIdeal.τ).loc Cert.KvSampleReferenceIdeal.main_arg6))
      ∧ r.2.sem = fun _ => 0)

def quiescent_KvSampleReferenceIdeal_pre_finite_keys [hKvSampleReferenceIdeal : Cert.KvSampleReferenceIdeal.Facts] [hPre_finite_keys : Cert.Pre_finite_keys.Facts] : Prop :=
  ∀ (m : (ℓ : Loc Cert.KvSampleReferenceIdeal.nD Cert.KvSampleReferenceIdeal.τ Cert.KvSampleReferenceIdeal.sig) → Buf (Elt Ideal) ℓ) (g : Dev Cert.KvSampleReferenceIdeal.nD → PrngReg), Pre_KvSampleReferenceIdeal_finite_keys m →
    θ_run (Cert.KvSampleReferenceIdeal.defs (F := Ideal)) (onTc (τ := Cert.KvSampleReferenceIdeal.τ) (Cert.KvSampleReferenceIdeal.main (F := Ideal))) ⟨m, fun _ => 0, g⟩ (fun r => (∀ c : Dev Cert.KvSampleReferenceIdeal.nD,
      r.2.mem ((c.tc : Thread Cert.KvSampleReferenceIdeal.nD Cert.KvSampleReferenceIdeal.τ).loc Cert.KvSampleReferenceIdeal.main_arg0) = m ((c.tc : Thread Cert.KvSampleReferenceIdeal.nD Cert.KvSampleReferenceIdeal.τ).loc Cert.KvSampleReferenceIdeal.main_arg0)
      ∧ r.2.mem ((c.tc : Thread Cert.KvSampleReferenceIdeal.nD Cert.KvSampleReferenceIdeal.τ).loc Cert.KvSampleReferenceIdeal.main_arg1) = m ((c.tc : Thread Cert.KvSampleReferenceIdeal.nD Cert.KvSampleReferenceIdeal.τ).loc Cert.KvSampleReferenceIdeal.main_arg1)
      ∧ r.2.mem ((c.tc : Thread Cert.KvSampleReferenceIdeal.nD Cert.KvSampleReferenceIdeal.τ).loc Cert.KvSampleReferenceIdeal.main_arg2) = m ((c.tc : Thread Cert.KvSampleReferenceIdeal.nD Cert.KvSampleReferenceIdeal.τ).loc Cert.KvSampleReferenceIdeal.main_arg2)
      ∧ r.2.mem ((c.tc : Thread Cert.KvSampleReferenceIdeal.nD Cert.KvSampleReferenceIdeal.τ).loc Cert.KvSampleReferenceIdeal.main_arg3) = m ((c.tc : Thread Cert.KvSampleReferenceIdeal.nD Cert.KvSampleReferenceIdeal.τ).loc Cert.KvSampleReferenceIdeal.main_arg3)
      ∧ r.2.mem ((c.tc : Thread Cert.KvSampleReferenceIdeal.nD Cert.KvSampleReferenceIdeal.τ).loc Cert.KvSampleReferenceIdeal.main_arg4) = m ((c.tc : Thread Cert.KvSampleReferenceIdeal.nD Cert.KvSampleReferenceIdeal.τ).loc Cert.KvSampleReferenceIdeal.main_arg4)
      ∧ r.2.mem ((c.tc : Thread Cert.KvSampleReferenceIdeal.nD Cert.KvSampleReferenceIdeal.τ).loc Cert.KvSampleReferenceIdeal.main_arg5) = m ((c.tc : Thread Cert.KvSampleReferenceIdeal.nD Cert.KvSampleReferenceIdeal.τ).loc Cert.KvSampleReferenceIdeal.main_arg5)
      ∧ r.2.mem ((c.tc : Thread Cert.KvSampleReferenceIdeal.nD Cert.KvSampleReferenceIdeal.τ).loc Cert.KvSampleReferenceIdeal.main_arg6) = m ((c.tc : Thread Cert.KvSampleReferenceIdeal.nD Cert.KvSampleReferenceIdeal.τ).loc Cert.KvSampleReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v9)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v9) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v28) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5))

def preserves_PoolMlp_PoolMlpIdeal : Prop :=
  True

def algebraic_PoolMlpIdeal_PoolMlpReferenceIdeal [hPoolMlpIdeal : Cert.PoolMlpIdeal.Facts] [hPoolMlpReferenceIdeal : Cert.PoolMlpReferenceIdeal.Facts] : Prop :=
  ∀ (m : (ℓ : Loc Cert.PoolMlpIdeal.nD Cert.PoolMlpIdeal.τ Cert.PoolMlpIdeal.sig) → Buf (Elt Ideal) ℓ) (g : Dev Cert.PoolMlpIdeal.nD → PrngReg)
    (m' : (ℓ : Loc Cert.PoolMlpReferenceIdeal.nD Cert.PoolMlpReferenceIdeal.τ Cert.PoolMlpReferenceIdeal.sig) → Buf (Elt Ideal) ℓ) (g' : Dev Cert.PoolMlpReferenceIdeal.nD → PrngReg), Pre_PoolMlpIdeal m →
    (∀ c : Dev Cert.PoolMlpIdeal.nD,
      m' ((c.tc : Thread Cert.PoolMlpReferenceIdeal.nD Cert.PoolMlpReferenceIdeal.τ).loc Cert.PoolMlpReferenceIdeal.main_arg0) = m ((c.tc : Thread Cert.PoolMlpIdeal.nD Cert.PoolMlpIdeal.τ).loc Cert.PoolMlpIdeal.main_arg0)
      ∧ m' ((c.tc : Thread Cert.PoolMlpReferenceIdeal.nD Cert.PoolMlpReferenceIdeal.τ).loc Cert.PoolMlpReferenceIdeal.main_arg1) = m ((c.tc : Thread Cert.PoolMlpIdeal.nD Cert.PoolMlpIdeal.τ).loc Cert.PoolMlpIdeal.main_arg1)
      ∧ m' ((c.tc : Thread Cert.PoolMlpReferenceIdeal.nD Cert.PoolMlpReferenceIdeal.τ).loc Cert.PoolMlpReferenceIdeal.main_arg2) = m ((c.tc : Thread Cert.PoolMlpIdeal.nD Cert.PoolMlpIdeal.τ).loc Cert.PoolMlpIdeal.main_arg2)
      ∧ m' ((c.tc : Thread Cert.PoolMlpReferenceIdeal.nD Cert.PoolMlpReferenceIdeal.τ).loc Cert.PoolMlpReferenceIdeal.main_arg3) = m ((c.tc : Thread Cert.PoolMlpIdeal.nD Cert.PoolMlpIdeal.τ).loc Cert.PoolMlpIdeal.main_arg3)
      ∧ m' ((c.tc : Thread Cert.PoolMlpReferenceIdeal.nD Cert.PoolMlpReferenceIdeal.τ).loc Cert.PoolMlpReferenceIdeal.main_arg4) = m ((c.tc : Thread Cert.PoolMlpIdeal.nD Cert.PoolMlpIdeal.τ).loc Cert.PoolMlpIdeal.main_arg4)
      ∧ m' ((c.tc : Thread Cert.PoolMlpReferenceIdeal.nD Cert.PoolMlpReferenceIdeal.τ).loc Cert.PoolMlpReferenceIdeal.main_arg5) = m ((c.tc : Thread Cert.PoolMlpIdeal.nD Cert.PoolMlpIdeal.τ).loc Cert.PoolMlpIdeal.main_arg5)
      ∧ m' ((c.tc : Thread Cert.PoolMlpReferenceIdeal.nD Cert.PoolMlpReferenceIdeal.τ).loc Cert.PoolMlpReferenceIdeal.main_arg6) = m ((c.tc : Thread Cert.PoolMlpIdeal.nD Cert.PoolMlpIdeal.τ).loc Cert.PoolMlpIdeal.main_arg6)) →
    ∃ (v0 : (c : Dev Cert.PoolMlpIdeal.nD) → Buf (Elt Ideal) ((c.tc : Thread Cert.PoolMlpIdeal.nD Cert.PoolMlpIdeal.τ).loc Cert.PoolMlpIdeal.main_v12_0)) (v1 : (c : Dev Cert.PoolMlpIdeal.nD) → Buf (Elt Ideal) ((c.tc : Thread Cert.PoolMlpIdeal.nD Cert.PoolMlpIdeal.τ).loc Cert.PoolMlpIdeal.main_v12_1)),
      θ_run (Cert.PoolMlpIdeal.defs (F := Ideal)) (onTc (τ := Cert.PoolMlpIdeal.τ) (Cert.PoolMlpIdeal.main (F := Ideal))) ⟨m, fun _ => 0, g⟩ (fun r => ∀ c : Dev Cert.PoolMlpIdeal.nD,
          r.2.mem ((c.tc : Thread Cert.PoolMlpIdeal.nD Cert.PoolMlpIdeal.τ).loc Cert.PoolMlpIdeal.main_v12_0) = v0 c
          ∧ r.2.mem ((c.tc : Thread Cert.PoolMlpIdeal.nD Cert.PoolMlpIdeal.τ).loc Cert.PoolMlpIdeal.main_v12_1) = v1 c
          ∧ r.2.mem ((c.tc : Thread Cert.PoolMlpIdeal.nD Cert.PoolMlpIdeal.τ).loc Cert.PoolMlpIdeal.main_arg0) = m ((c.tc : Thread Cert.PoolMlpIdeal.nD Cert.PoolMlpIdeal.τ).loc Cert.PoolMlpIdeal.main_arg0)
          ∧ r.2.mem ((c.tc : Thread Cert.PoolMlpIdeal.nD Cert.PoolMlpIdeal.τ).loc Cert.PoolMlpIdeal.main_arg1) = m ((c.tc : Thread Cert.PoolMlpIdeal.nD Cert.PoolMlpIdeal.τ).loc Cert.PoolMlpIdeal.main_arg1)
          ∧ r.2.mem ((c.tc : Thread Cert.PoolMlpIdeal.nD Cert.PoolMlpIdeal.τ).loc Cert.PoolMlpIdeal.main_arg2) = m ((c.tc : Thread Cert.PoolMlpIdeal.nD Cert.PoolMlpIdeal.τ).loc Cert.PoolMlpIdeal.main_arg2)
          ∧ r.2.mem ((c.tc : Thread Cert.PoolMlpIdeal.nD Cert.PoolMlpIdeal.τ).loc Cert.PoolMlpIdeal.main_arg3) = m ((c.tc : Thread Cert.PoolMlpIdeal.nD Cert.PoolMlpIdeal.τ).loc Cert.PoolMlpIdeal.main_arg3)
          ∧ r.2.mem ((c.tc : Thread Cert.PoolMlpIdeal.nD Cert.PoolMlpIdeal.τ).loc Cert.PoolMlpIdeal.main_arg4) = m ((c.tc : Thread Cert.PoolMlpIdeal.nD Cert.PoolMlpIdeal.τ).loc Cert.PoolMlpIdeal.main_arg4)
          ∧ r.2.mem ((c.tc : Thread Cert.PoolMlpIdeal.nD Cert.PoolMlpIdeal.τ).loc Cert.PoolMlpIdeal.main_arg5) = m ((c.tc : Thread Cert.PoolMlpIdeal.nD Cert.PoolMlpIdeal.τ).loc Cert.PoolMlpIdeal.main_arg5)
          ∧ r.2.mem ((c.tc : Thread Cert.PoolMlpIdeal.nD Cert.PoolMlpIdeal.τ).loc Cert.PoolMlpIdeal.main_arg6) = m ((c.tc : Thread Cert.PoolMlpIdeal.nD Cert.PoolMlpIdeal.τ).loc Cert.PoolMlpIdeal.main_arg6))
      ∧ θ_run (Cert.PoolMlpReferenceIdeal.defs (F := Ideal)) (onTc (τ := Cert.PoolMlpReferenceIdeal.τ) (Cert.PoolMlpReferenceIdeal.main (F := Ideal))) ⟨m', fun _ => 0, g'⟩ (fun r => ∀ c : Dev Cert.PoolMlpReferenceIdeal.nD,
          r.2.mem ((c.tc : Thread Cert.PoolMlpReferenceIdeal.nD Cert.PoolMlpReferenceIdeal.τ).loc Cert.PoolMlpReferenceIdeal.main_v156) = v0 c
          ∧ r.2.mem ((c.tc : Thread Cert.PoolMlpReferenceIdeal.nD Cert.PoolMlpReferenceIdeal.τ).loc Cert.PoolMlpReferenceIdeal.main_v157) = v1 c
          ∧ r.2.mem ((c.tc : Thread Cert.PoolMlpReferenceIdeal.nD Cert.PoolMlpReferenceIdeal.τ).loc Cert.PoolMlpReferenceIdeal.main_arg0) = m' ((c.tc : Thread Cert.PoolMlpReferenceIdeal.nD Cert.PoolMlpReferenceIdeal.τ).loc Cert.PoolMlpReferenceIdeal.main_arg0)
          ∧ r.2.mem ((c.tc : Thread Cert.PoolMlpReferenceIdeal.nD Cert.PoolMlpReferenceIdeal.τ).loc Cert.PoolMlpReferenceIdeal.main_arg1) = m' ((c.tc : Thread Cert.PoolMlpReferenceIdeal.nD Cert.PoolMlpReferenceIdeal.τ).loc Cert.PoolMlpReferenceIdeal.main_arg1)
          ∧ r.2.mem ((c.tc : Thread Cert.PoolMlpReferenceIdeal.nD Cert.PoolMlpReferenceIdeal.τ).loc Cert.PoolMlpReferenceIdeal.main_arg2) = m' ((c.tc : Thread Cert.PoolMlpReferenceIdeal.nD Cert.PoolMlpReferenceIdeal.τ).loc Cert.PoolMlpReferenceIdeal.main_arg2)
          ∧ r.2.mem ((c.tc : Thread Cert.PoolMlpReferenceIdeal.nD Cert.PoolMlpReferenceIdeal.τ).loc Cert.PoolMlpReferenceIdeal.main_arg3) = m' ((c.tc : Thread Cert.PoolMlpReferenceIdeal.nD Cert.PoolMlpReferenceIdeal.τ).loc Cert.PoolMlpReferenceIdeal.main_arg3)
          ∧ r.2.mem ((c.tc : Thread Cert.PoolMlpReferenceIdeal.nD Cert.PoolMlpReferenceIdeal.τ).loc Cert.PoolMlpReferenceIdeal.main_arg4) = m' ((c.tc : Thread Cert.PoolMlpReferenceIdeal.nD Cert.PoolMlpReferenceIdeal.τ).loc Cert.PoolMlpReferenceIdeal.main_arg4)
          ∧ r.2.mem ((c.tc : Thread Cert.PoolMlpReferenceIdeal.nD Cert.PoolMlpReferenceIdeal.τ).loc Cert.PoolMlpReferenceIdeal.main_arg5) = m' ((c.tc : Thread Cert.PoolMlpReferenceIdeal.nD Cert.PoolMlpReferenceIdeal.τ).loc Cert.PoolMlpReferenceIdeal.main_arg5)
          ∧ r.2.mem ((c.tc : Thread Cert.PoolMlpReferenceIdeal.nD Cert.PoolMlpReferenceIdeal.τ).loc Cert.PoolMlpReferenceIdeal.main_arg6) = m' ((c.tc : Thread Cert.PoolMlpReferenceIdeal.nD Cert.PoolMlpReferenceIdeal.τ).loc Cert.PoolMlpReferenceIdeal.main_arg6))

def preserves_SharedKv_SharedKvIdeal : Prop :=
  True

def algebraic_SharedKvIdeal_SharedKvReferenceIdeal [hSharedKvIdeal : Cert.SharedKvIdeal.Facts] [hSharedKvReferenceIdeal : Cert.SharedKvReferenceIdeal.Facts] : Prop :=
  ∀ (m : (ℓ : Loc Cert.SharedKvIdeal.nD Cert.SharedKvIdeal.τ Cert.SharedKvIdeal.sig) → Buf (Elt Ideal) ℓ) (g : Dev Cert.SharedKvIdeal.nD → PrngReg)
    (m' : (ℓ : Loc Cert.SharedKvReferenceIdeal.nD Cert.SharedKvReferenceIdeal.τ Cert.SharedKvReferenceIdeal.sig) → Buf (Elt Ideal) ℓ) (g' : Dev Cert.SharedKvReferenceIdeal.nD → PrngReg), Pre_SharedKvIdeal m →
    (∀ c : Dev Cert.SharedKvIdeal.nD,
      m' ((c.tc : Thread Cert.SharedKvReferenceIdeal.nD Cert.SharedKvReferenceIdeal.τ).loc Cert.SharedKvReferenceIdeal.main_arg0) = m ((c.tc : Thread Cert.SharedKvIdeal.nD Cert.SharedKvIdeal.τ).loc Cert.SharedKvIdeal.main_arg0)
      ∧ m' ((c.tc : Thread Cert.SharedKvReferenceIdeal.nD Cert.SharedKvReferenceIdeal.τ).loc Cert.SharedKvReferenceIdeal.main_arg1) = m ((c.tc : Thread Cert.SharedKvIdeal.nD Cert.SharedKvIdeal.τ).loc Cert.SharedKvIdeal.main_arg1)
      ∧ m' ((c.tc : Thread Cert.SharedKvReferenceIdeal.nD Cert.SharedKvReferenceIdeal.τ).loc Cert.SharedKvReferenceIdeal.main_arg2) = m ((c.tc : Thread Cert.SharedKvIdeal.nD Cert.SharedKvIdeal.τ).loc Cert.SharedKvIdeal.main_arg2)
      ∧ m' ((c.tc : Thread Cert.SharedKvReferenceIdeal.nD Cert.SharedKvReferenceIdeal.τ).loc Cert.SharedKvReferenceIdeal.main_arg3) = m ((c.tc : Thread Cert.SharedKvIdeal.nD Cert.SharedKvIdeal.τ).loc Cert.SharedKvIdeal.main_arg3)
      ∧ m' ((c.tc : Thread Cert.SharedKvReferenceIdeal.nD Cert.SharedKvReferenceIdeal.τ).loc Cert.SharedKvReferenceIdeal.main_arg4) = m ((c.tc : Thread Cert.SharedKvIdeal.nD Cert.SharedKvIdeal.τ).loc Cert.SharedKvIdeal.main_arg4)
      ∧ m' ((c.tc : Thread Cert.SharedKvReferenceIdeal.nD Cert.SharedKvReferenceIdeal.τ).loc Cert.SharedKvReferenceIdeal.main_arg5) = m ((c.tc : Thread Cert.SharedKvIdeal.nD Cert.SharedKvIdeal.τ).loc Cert.SharedKvIdeal.main_arg5)
      ∧ m' ((c.tc : Thread Cert.SharedKvReferenceIdeal.nD Cert.SharedKvReferenceIdeal.τ).loc Cert.SharedKvReferenceIdeal.main_arg6) = m ((c.tc : Thread Cert.SharedKvIdeal.nD Cert.SharedKvIdeal.τ).loc Cert.SharedKvIdeal.main_arg6)) →
    ∃ (v0 : (c : Dev Cert.SharedKvIdeal.nD) → Buf (Elt Ideal) ((c.tc : Thread Cert.SharedKvIdeal.nD Cert.SharedKvIdeal.τ).loc Cert.SharedKvIdeal.main_v44_0)) (v1 : (c : Dev Cert.SharedKvIdeal.nD) → Buf (Elt Ideal) ((c.tc : Thread Cert.SharedKvIdeal.nD Cert.SharedKvIdeal.τ).loc Cert.SharedKvIdeal.main_v44_1)) (v2 : (c : Dev Cert.SharedKvIdeal.nD) → Buf (Elt Ideal) ((c.tc : Thread Cert.SharedKvIdeal.nD Cert.SharedKvIdeal.τ).loc Cert.SharedKvIdeal.main_v44_2)),
      θ_run (Cert.SharedKvIdeal.defs (F := Ideal)) (onTc (τ := Cert.SharedKvIdeal.τ) (Cert.SharedKvIdeal.main (F := Ideal))) ⟨m, fun _ => 0, g⟩ (fun r => ∀ c : Dev Cert.SharedKvIdeal.nD,
          r.2.mem ((c.tc : Thread Cert.SharedKvIdeal.nD Cert.SharedKvIdeal.τ).loc Cert.SharedKvIdeal.main_v44_0) = v0 c
          ∧ r.2.mem ((c.tc : Thread Cert.SharedKvIdeal.nD Cert.SharedKvIdeal.τ).loc Cert.SharedKvIdeal.main_v44_1) = v1 c
          ∧ r.2.mem ((c.tc : Thread Cert.SharedKvIdeal.nD Cert.SharedKvIdeal.τ).loc Cert.SharedKvIdeal.main_v44_2) = v2 c
          ∧ r.2.mem ((c.tc : Thread Cert.SharedKvIdeal.nD Cert.SharedKvIdeal.τ).loc Cert.SharedKvIdeal.main_arg0) = m ((c.tc : Thread Cert.SharedKvIdeal.nD Cert.SharedKvIdeal.τ).loc Cert.SharedKvIdeal.main_arg0)
          ∧ r.2.mem ((c.tc : Thread Cert.SharedKvIdeal.nD Cert.SharedKvIdeal.τ).loc Cert.SharedKvIdeal.main_arg1) = m ((c.tc : Thread Cert.SharedKvIdeal.nD Cert.SharedKvIdeal.τ).loc Cert.SharedKvIdeal.main_arg1)
          ∧ r.2.mem ((c.tc : Thread Cert.SharedKvIdeal.nD Cert.SharedKvIdeal.τ).loc Cert.SharedKvIdeal.main_arg2) = m ((c.tc : Thread Cert.SharedKvIdeal.nD Cert.SharedKvIdeal.τ).loc Cert.SharedKvIdeal.main_arg2)
          ∧ r.2.mem ((c.tc : Thread Cert.SharedKvIdeal.nD Cert.SharedKvIdeal.τ).loc Cert.SharedKvIdeal.main_arg3) = m ((c.tc : Thread Cert.SharedKvIdeal.nD Cert.SharedKvIdeal.τ).loc Cert.SharedKvIdeal.main_arg3)
          ∧ r.2.mem ((c.tc : Thread Cert.SharedKvIdeal.nD Cert.SharedKvIdeal.τ).loc Cert.SharedKvIdeal.main_arg4) = m ((c.tc : Thread Cert.SharedKvIdeal.nD Cert.SharedKvIdeal.τ).loc Cert.SharedKvIdeal.main_arg4)
          ∧ r.2.mem ((c.tc : Thread Cert.SharedKvIdeal.nD Cert.SharedKvIdeal.τ).loc Cert.SharedKvIdeal.main_arg5) = m ((c.tc : Thread Cert.SharedKvIdeal.nD Cert.SharedKvIdeal.τ).loc Cert.SharedKvIdeal.main_arg5)
          ∧ r.2.mem ((c.tc : Thread Cert.SharedKvIdeal.nD Cert.SharedKvIdeal.τ).loc Cert.SharedKvIdeal.main_arg6) = m ((c.tc : Thread Cert.SharedKvIdeal.nD Cert.SharedKvIdeal.τ).loc Cert.SharedKvIdeal.main_arg6))
      ∧ θ_run (Cert.SharedKvReferenceIdeal.defs (F := Ideal)) (onTc (τ := Cert.SharedKvReferenceIdeal.τ) (Cert.SharedKvReferenceIdeal.main (F := Ideal))) ⟨m', fun _ => 0, g'⟩ (fun r => ∀ c : Dev Cert.SharedKvReferenceIdeal.nD,
          r.2.mem ((c.tc : Thread Cert.SharedKvReferenceIdeal.nD Cert.SharedKvReferenceIdeal.τ).loc Cert.SharedKvReferenceIdeal.main_v35) = v0 c
          ∧ r.2.mem ((c.tc : Thread Cert.SharedKvReferenceIdeal.nD Cert.SharedKvReferenceIdeal.τ).loc Cert.SharedKvReferenceIdeal.main_v36) = v1 c
          ∧ r.2.mem ((c.tc : Thread Cert.SharedKvReferenceIdeal.nD Cert.SharedKvReferenceIdeal.τ).loc Cert.SharedKvReferenceIdeal.main_v37) = v2 c
          ∧ r.2.mem ((c.tc : Thread Cert.SharedKvReferenceIdeal.nD Cert.SharedKvReferenceIdeal.τ).loc Cert.SharedKvReferenceIdeal.main_arg0) = m' ((c.tc : Thread Cert.SharedKvReferenceIdeal.nD Cert.SharedKvReferenceIdeal.τ).loc Cert.SharedKvReferenceIdeal.main_arg0)
          ∧ r.2.mem ((c.tc : Thread Cert.SharedKvReferenceIdeal.nD Cert.SharedKvReferenceIdeal.τ).loc Cert.SharedKvReferenceIdeal.main_arg1) = m' ((c.tc : Thread Cert.SharedKvReferenceIdeal.nD Cert.SharedKvReferenceIdeal.τ).loc Cert.SharedKvReferenceIdeal.main_arg1)
          ∧ r.2.mem ((c.tc : Thread Cert.SharedKvReferenceIdeal.nD Cert.SharedKvReferenceIdeal.τ).loc Cert.SharedKvReferenceIdeal.main_arg2) = m' ((c.tc : Thread Cert.SharedKvReferenceIdeal.nD Cert.SharedKvReferenceIdeal.τ).loc Cert.SharedKvReferenceIdeal.main_arg2)
          ∧ r.2.mem ((c.tc : Thread Cert.SharedKvReferenceIdeal.nD Cert.SharedKvReferenceIdeal.τ).loc Cert.SharedKvReferenceIdeal.main_arg3) = m' ((c.tc : Thread Cert.SharedKvReferenceIdeal.nD Cert.SharedKvReferenceIdeal.τ).loc Cert.SharedKvReferenceIdeal.main_arg3)
          ∧ r.2.mem ((c.tc : Thread Cert.SharedKvReferenceIdeal.nD Cert.SharedKvReferenceIdeal.τ).loc Cert.SharedKvReferenceIdeal.main_arg4) = m' ((c.tc : Thread Cert.SharedKvReferenceIdeal.nD Cert.SharedKvReferenceIdeal.τ).loc Cert.SharedKvReferenceIdeal.main_arg4)
          ∧ r.2.mem ((c.tc : Thread Cert.SharedKvReferenceIdeal.nD Cert.SharedKvReferenceIdeal.τ).loc Cert.SharedKvReferenceIdeal.main_arg5) = m' ((c.tc : Thread Cert.SharedKvReferenceIdeal.nD Cert.SharedKvReferenceIdeal.τ).loc Cert.SharedKvReferenceIdeal.main_arg5)
          ∧ r.2.mem ((c.tc : Thread Cert.SharedKvReferenceIdeal.nD Cert.SharedKvReferenceIdeal.τ).loc Cert.SharedKvReferenceIdeal.main_arg6) = m' ((c.tc : Thread Cert.SharedKvReferenceIdeal.nD Cert.SharedKvReferenceIdeal.τ).loc Cert.SharedKvReferenceIdeal.main_arg6))

def preserves_MlpSample_MlpSampleIdeal : Prop :=
  True

def algebraic_MlpSampleIdeal_MlpSampleReferenceIdeal [hMlpSampleIdeal : Cert.MlpSampleIdeal.Facts] [hMlpSampleReferenceIdeal : Cert.MlpSampleReferenceIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg)
    (m' : (ℓ : Loc Cert.MlpSampleReferenceIdeal.nD Cert.MlpSampleReferenceIdeal.τ Cert.MlpSampleReferenceIdeal.sig) → Buf (Elt Ideal) ℓ) (g' : Dev Cert.MlpSampleReferenceIdeal.nD → PrngReg), Pre_MlpSampleIdeal m →
    (∀ c : Dev Cert.MlpSampleIdeal.nD,
      m' ((c.tc : Thread Cert.MlpSampleReferenceIdeal.nD Cert.MlpSampleReferenceIdeal.τ).loc Cert.MlpSampleReferenceIdeal.main_arg0) = m ((c.tc : Thread Cert.MlpSampleIdeal.nD Cert.MlpSampleIdeal.τ).loc Cert.MlpSampleIdeal.main_arg0)
      ∧ m' ((c.tc : Thread Cert.MlpSampleReferenceIdeal.nD Cert.MlpSampleReferenceIdeal.τ).loc Cert.MlpSampleReferenceIdeal.main_arg1) = m ((c.tc : Thread Cert.MlpSampleIdeal.nD Cert.MlpSampleIdeal.τ).loc Cert.MlpSampleIdeal.main_arg1)
      ∧ m' ((c.tc : Thread Cert.MlpSampleReferenceIdeal.nD Cert.MlpSampleReferenceIdeal.τ).loc Cert.MlpSampleReferenceIdeal.main_arg2) = m ((c.tc : Thread Cert.MlpSampleIdeal.nD Cert.MlpSampleIdeal.τ).loc Cert.MlpSampleIdeal.main_arg2)
      ∧ m' ((c.tc : Thread Cert.MlpSampleReferenceIdeal.nD Cert.MlpSampleReferenceIdeal.τ).loc Cert.MlpSampleReferenceIdeal.main_arg3) = m ((c.tc : Thread Cert.MlpSampleIdeal.nD Cert.MlpSampleIdeal.τ).loc Cert.MlpSampleIdeal.main_arg3)
      ∧ m' ((c.tc : Thread Cert.MlpSampleReferenceIdeal.nD Cert.MlpSampleReferenceIdeal.τ).loc Cert.MlpSampleReferenceIdeal.main_arg4) = m ((c.tc : Thread Cert.MlpSampleIdeal.nD Cert.MlpSampleIdeal.τ).loc Cert.MlpSampleIdeal.main_arg4)
      ∧ m' ((c.tc : Thread Cert.MlpSampleReferenceIdeal.nD Cert.MlpSampleReferenceIdeal.τ).loc Cert.MlpSampleReferenceIdeal.main_arg5) = m ((c.tc : Thread Cert.MlpSampleIdeal.nD Cert.MlpSampleIdeal.τ).loc Cert.MlpSampleIdeal.main_arg5)) →
    ∃ (v0 : (c : Dev Cert.MlpSampleIdeal.nD) → Buf (Elt Ideal) ((c.tc : Thread Cert.MlpSampleIdeal.nD Cert.MlpSampleIdeal.τ).loc Cert.MlpSampleIdeal.main_v9)),
      θ_run (Cert.MlpSampleIdeal.defs (F := Ideal)) (onTc (τ := Cert.MlpSampleIdeal.τ) (Cert.MlpSampleIdeal.main (F := Ideal))) ⟨m, fun _ => 0, g⟩ (fun r => ∀ c : Dev Cert.MlpSampleIdeal.nD,
          r.2.mem ((c.tc : Thread Cert.MlpSampleIdeal.nD Cert.MlpSampleIdeal.τ).loc Cert.MlpSampleIdeal.main_v9) = v0 c
          ∧ r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
          ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
          ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
          ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
          ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4)
          ∧ r.2.mem ((c.tc : Thread Cert.MlpSampleIdeal.nD Cert.MlpSampleIdeal.τ).loc Cert.MlpSampleIdeal.main_arg5) = m ((c.tc : Thread Cert.MlpSampleIdeal.nD Cert.MlpSampleIdeal.τ).loc Cert.MlpSampleIdeal.main_arg5))
      ∧ θ_run (Cert.MlpSampleReferenceIdeal.defs (F := Ideal)) (onTc (τ := Cert.MlpSampleReferenceIdeal.τ) (Cert.MlpSampleReferenceIdeal.main (F := Ideal))) ⟨m', fun _ => 0, g'⟩ (fun r => ∀ c : Dev Cert.MlpSampleReferenceIdeal.nD,
          r.2.mem ((c.tc : Thread Cert.MlpSampleReferenceIdeal.nD Cert.MlpSampleReferenceIdeal.τ).loc Cert.MlpSampleReferenceIdeal.main_v28) = v0 c
          ∧ r.2.mem ((c.tc : Thread Cert.MlpSampleReferenceIdeal.nD Cert.MlpSampleReferenceIdeal.τ).loc Cert.MlpSampleReferenceIdeal.main_arg0) = m' ((c.tc : Thread Cert.MlpSampleReferenceIdeal.nD Cert.MlpSampleReferenceIdeal.τ).loc Cert.MlpSampleReferenceIdeal.main_arg0)
          ∧ r.2.mem ((c.tc : Thread Cert.MlpSampleReferenceIdeal.nD Cert.MlpSampleReferenceIdeal.τ).loc Cert.MlpSampleReferenceIdeal.main_arg1) = m' ((c.tc : Thread Cert.MlpSampleReferenceIdeal.nD Cert.MlpSampleReferenceIdeal.τ).loc Cert.MlpSampleReferenceIdeal.main_arg1)
          ∧ r.2.mem ((c.tc : Thread Cert.MlpSampleReferenceIdeal.nD Cert.MlpSampleReferenceIdeal.τ).loc Cert.MlpSampleReferenceIdeal.main_arg2) = m' ((c.tc : Thread Cert.MlpSampleReferenceIdeal.nD Cert.MlpSampleReferenceIdeal.τ).loc Cert.MlpSampleReferenceIdeal.main_arg2)
          ∧ r.2.mem ((c.tc : Thread Cert.MlpSampleReferenceIdeal.nD Cert.MlpSampleReferenceIdeal.τ).loc Cert.MlpSampleReferenceIdeal.main_arg3) = m' ((c.tc : Thread Cert.MlpSampleReferenceIdeal.nD Cert.MlpSampleReferenceIdeal.τ).loc Cert.MlpSampleReferenceIdeal.main_arg3)
          ∧ r.2.mem ((c.tc : Thread Cert.MlpSampleReferenceIdeal.nD Cert.MlpSampleReferenceIdeal.τ).loc Cert.MlpSampleReferenceIdeal.main_arg4) = m' ((c.tc : Thread Cert.MlpSampleReferenceIdeal.nD Cert.MlpSampleReferenceIdeal.τ).loc Cert.MlpSampleReferenceIdeal.main_arg4)
          ∧ r.2.mem ((c.tc : Thread Cert.MlpSampleReferenceIdeal.nD Cert.MlpSampleReferenceIdeal.τ).loc Cert.MlpSampleReferenceIdeal.main_arg5) = m' ((c.tc : Thread Cert.MlpSampleReferenceIdeal.nD Cert.MlpSampleReferenceIdeal.τ).loc Cert.MlpSampleReferenceIdeal.main_arg5))

def preserves_KvSample_KvSampleIdeal : Prop :=
  True

def algebraic_KvSampleIdeal_KvSampleReferenceIdeal_pre_finite_keys [hKvSampleIdeal : Cert.KvSampleIdeal.Facts] [hKvSampleReferenceIdeal : Cert.KvSampleReferenceIdeal.Facts] [hPre_finite_keys : Cert.Pre_finite_keys.Facts] : Prop :=
  ∀ (m : (ℓ : Loc Cert.KvSampleIdeal.nD Cert.KvSampleIdeal.τ Cert.KvSampleIdeal.sig) → Buf (Elt Ideal) ℓ) (g : Dev Cert.KvSampleIdeal.nD → PrngReg)
    (m' : (ℓ : Loc Cert.KvSampleReferenceIdeal.nD Cert.KvSampleReferenceIdeal.τ Cert.KvSampleReferenceIdeal.sig) → Buf (Elt Ideal) ℓ) (g' : Dev Cert.KvSampleReferenceIdeal.nD → PrngReg), Pre_KvSampleIdeal_finite_keys m →
    (∀ c : Dev Cert.KvSampleIdeal.nD,
      m' ((c.tc : Thread Cert.KvSampleReferenceIdeal.nD Cert.KvSampleReferenceIdeal.τ).loc Cert.KvSampleReferenceIdeal.main_arg0) = m ((c.tc : Thread Cert.KvSampleIdeal.nD Cert.KvSampleIdeal.τ).loc Cert.KvSampleIdeal.main_arg0)
      ∧ m' ((c.tc : Thread Cert.KvSampleReferenceIdeal.nD Cert.KvSampleReferenceIdeal.τ).loc Cert.KvSampleReferenceIdeal.main_arg1) = m ((c.tc : Thread Cert.KvSampleIdeal.nD Cert.KvSampleIdeal.τ).loc Cert.KvSampleIdeal.main_arg1)
      ∧ m' ((c.tc : Thread Cert.KvSampleReferenceIdeal.nD Cert.KvSampleReferenceIdeal.τ).loc Cert.KvSampleReferenceIdeal.main_arg2) = m ((c.tc : Thread Cert.KvSampleIdeal.nD Cert.KvSampleIdeal.τ).loc Cert.KvSampleIdeal.main_arg2)
      ∧ m' ((c.tc : Thread Cert.KvSampleReferenceIdeal.nD Cert.KvSampleReferenceIdeal.τ).loc Cert.KvSampleReferenceIdeal.main_arg3) = m ((c.tc : Thread Cert.KvSampleIdeal.nD Cert.KvSampleIdeal.τ).loc Cert.KvSampleIdeal.main_arg3)
      ∧ m' ((c.tc : Thread Cert.KvSampleReferenceIdeal.nD Cert.KvSampleReferenceIdeal.τ).loc Cert.KvSampleReferenceIdeal.main_arg4) = m ((c.tc : Thread Cert.KvSampleIdeal.nD Cert.KvSampleIdeal.τ).loc Cert.KvSampleIdeal.main_arg4)
      ∧ m' ((c.tc : Thread Cert.KvSampleReferenceIdeal.nD Cert.KvSampleReferenceIdeal.τ).loc Cert.KvSampleReferenceIdeal.main_arg5) = m ((c.tc : Thread Cert.KvSampleIdeal.nD Cert.KvSampleIdeal.τ).loc Cert.KvSampleIdeal.main_arg5)
      ∧ m' ((c.tc : Thread Cert.KvSampleReferenceIdeal.nD Cert.KvSampleReferenceIdeal.τ).loc Cert.KvSampleReferenceIdeal.main_arg6) = m ((c.tc : Thread Cert.KvSampleIdeal.nD Cert.KvSampleIdeal.τ).loc Cert.KvSampleIdeal.main_arg6)) →
    ∃ (v0 : (c : Dev Cert.KvSampleIdeal.nD) → Buf (Elt Ideal) ((c.tc : Thread Cert.KvSampleIdeal.nD Cert.KvSampleIdeal.τ).loc Cert.KvSampleIdeal.main_v22_0)) (v1 : (c : Dev Cert.KvSampleIdeal.nD) → Buf (Elt Ideal) ((c.tc : Thread Cert.KvSampleIdeal.nD Cert.KvSampleIdeal.τ).loc Cert.KvSampleIdeal.main_v22_1)) (v2 : (c : Dev Cert.KvSampleIdeal.nD) → Buf (Elt Ideal) ((c.tc : Thread Cert.KvSampleIdeal.nD Cert.KvSampleIdeal.τ).loc Cert.KvSampleIdeal.main_v22_2)),
      θ_run (Cert.KvSampleIdeal.defs (F := Ideal)) (onTc (τ := Cert.KvSampleIdeal.τ) (Cert.KvSampleIdeal.main (F := Ideal))) ⟨m, fun _ => 0, g⟩ (fun r => ∀ c : Dev Cert.KvSampleIdeal.nD,
          r.2.mem ((c.tc : Thread Cert.KvSampleIdeal.nD Cert.KvSampleIdeal.τ).loc Cert.KvSampleIdeal.main_v22_0) = v0 c
          ∧ r.2.mem ((c.tc : Thread Cert.KvSampleIdeal.nD Cert.KvSampleIdeal.τ).loc Cert.KvSampleIdeal.main_v22_1) = v1 c
          ∧ r.2.mem ((c.tc : Thread Cert.KvSampleIdeal.nD Cert.KvSampleIdeal.τ).loc Cert.KvSampleIdeal.main_v22_2) = v2 c
          ∧ r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
          ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1)
          ∧ r.2.mem ((c.tc : Thread Cert.KvSampleIdeal.nD Cert.KvSampleIdeal.τ).loc Cert.KvSampleIdeal.main_arg2) = m ((c.tc : Thread Cert.KvSampleIdeal.nD Cert.KvSampleIdeal.τ).loc Cert.KvSampleIdeal.main_arg2)
          ∧ r.2.mem ((c.tc : Thread Cert.KvSampleIdeal.nD Cert.KvSampleIdeal.τ).loc Cert.KvSampleIdeal.main_arg3) = m ((c.tc : Thread Cert.KvSampleIdeal.nD Cert.KvSampleIdeal.τ).loc Cert.KvSampleIdeal.main_arg3)
          ∧ r.2.mem ((c.tc : Thread Cert.KvSampleIdeal.nD Cert.KvSampleIdeal.τ).loc Cert.KvSampleIdeal.main_arg4) = m ((c.tc : Thread Cert.KvSampleIdeal.nD Cert.KvSampleIdeal.τ).loc Cert.KvSampleIdeal.main_arg4)
          ∧ r.2.mem ((c.tc : Thread Cert.KvSampleIdeal.nD Cert.KvSampleIdeal.τ).loc Cert.KvSampleIdeal.main_arg5) = m ((c.tc : Thread Cert.KvSampleIdeal.nD Cert.KvSampleIdeal.τ).loc Cert.KvSampleIdeal.main_arg5)
          ∧ r.2.mem ((c.tc : Thread Cert.KvSampleIdeal.nD Cert.KvSampleIdeal.τ).loc Cert.KvSampleIdeal.main_arg6) = m ((c.tc : Thread Cert.KvSampleIdeal.nD Cert.KvSampleIdeal.τ).loc Cert.KvSampleIdeal.main_arg6))
      ∧ θ_run (Cert.KvSampleReferenceIdeal.defs (F := Ideal)) (onTc (τ := Cert.KvSampleReferenceIdeal.τ) (Cert.KvSampleReferenceIdeal.main (F := Ideal))) ⟨m', fun _ => 0, g'⟩ (fun r => ∀ c : Dev Cert.KvSampleReferenceIdeal.nD,
          r.2.mem ((c.tc : Thread Cert.KvSampleReferenceIdeal.nD Cert.KvSampleReferenceIdeal.τ).loc Cert.KvSampleReferenceIdeal.main_v34) = v0 c
          ∧ r.2.mem ((c.tc : Thread Cert.KvSampleReferenceIdeal.nD Cert.KvSampleReferenceIdeal.τ).loc Cert.KvSampleReferenceIdeal.main_v35) = v1 c
          ∧ r.2.mem ((c.tc : Thread Cert.KvSampleReferenceIdeal.nD Cert.KvSampleReferenceIdeal.τ).loc Cert.KvSampleReferenceIdeal.main_v36) = v2 c
          ∧ r.2.mem ((c.tc : Thread Cert.KvSampleReferenceIdeal.nD Cert.KvSampleReferenceIdeal.τ).loc Cert.KvSampleReferenceIdeal.main_arg0) = m' ((c.tc : Thread Cert.KvSampleReferenceIdeal.nD Cert.KvSampleReferenceIdeal.τ).loc Cert.KvSampleReferenceIdeal.main_arg0)
          ∧ r.2.mem ((c.tc : Thread Cert.KvSampleReferenceIdeal.nD Cert.KvSampleReferenceIdeal.τ).loc Cert.KvSampleReferenceIdeal.main_arg1) = m' ((c.tc : Thread Cert.KvSampleReferenceIdeal.nD Cert.KvSampleReferenceIdeal.τ).loc Cert.KvSampleReferenceIdeal.main_arg1)
          ∧ r.2.mem ((c.tc : Thread Cert.KvSampleReferenceIdeal.nD Cert.KvSampleReferenceIdeal.τ).loc Cert.KvSampleReferenceIdeal.main_arg2) = m' ((c.tc : Thread Cert.KvSampleReferenceIdeal.nD Cert.KvSampleReferenceIdeal.τ).loc Cert.KvSampleReferenceIdeal.main_arg2)
          ∧ r.2.mem ((c.tc : Thread Cert.KvSampleReferenceIdeal.nD Cert.KvSampleReferenceIdeal.τ).loc Cert.KvSampleReferenceIdeal.main_arg3) = m' ((c.tc : Thread Cert.KvSampleReferenceIdeal.nD Cert.KvSampleReferenceIdeal.τ).loc Cert.KvSampleReferenceIdeal.main_arg3)
          ∧ r.2.mem ((c.tc : Thread Cert.KvSampleReferenceIdeal.nD Cert.KvSampleReferenceIdeal.τ).loc Cert.KvSampleReferenceIdeal.main_arg4) = m' ((c.tc : Thread Cert.KvSampleReferenceIdeal.nD Cert.KvSampleReferenceIdeal.τ).loc Cert.KvSampleReferenceIdeal.main_arg4)
          ∧ r.2.mem ((c.tc : Thread Cert.KvSampleReferenceIdeal.nD Cert.KvSampleReferenceIdeal.τ).loc Cert.KvSampleReferenceIdeal.main_arg5) = m' ((c.tc : Thread Cert.KvSampleReferenceIdeal.nD Cert.KvSampleReferenceIdeal.τ).loc Cert.KvSampleReferenceIdeal.main_arg5)
          ∧ r.2.mem ((c.tc : Thread Cert.KvSampleReferenceIdeal.nD Cert.KvSampleReferenceIdeal.τ).loc Cert.KvSampleReferenceIdeal.main_arg6) = m' ((c.tc : Thread Cert.KvSampleReferenceIdeal.nD Cert.KvSampleReferenceIdeal.τ).loc Cert.KvSampleReferenceIdeal.main_arg6))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hPoolMlp : Cert.PoolMlp.Facts) (hPoolMlpIdeal : Cert.PoolMlpIdeal.Facts) (hPoolMlpReferenceIdeal : Cert.PoolMlpReferenceIdeal.Facts) (hSharedKv : Cert.SharedKv.Facts) (hSharedKvIdeal : Cert.SharedKvIdeal.Facts) (hSharedKvReferenceIdeal : Cert.SharedKvReferenceIdeal.Facts) (hMlpSample : Cert.MlpSample.Facts) (hMlpSampleIdeal : Cert.MlpSampleIdeal.Facts) (hMlpSampleReferenceIdeal : Cert.MlpSampleReferenceIdeal.Facts) (hKvSample : Cert.KvSample.Facts) (hKvSampleIdeal : Cert.KvSampleIdeal.Facts) (hKvSampleReferenceIdeal : Cert.KvSampleReferenceIdeal.Facts) (hPre_finite : Cert.Pre_finite.Facts) (hPre_finite_keys : Cert.Pre_finite_keys.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_PoolMlp (hPoolMlp := hPoolMlp)
    ∧ quiescent_PoolMlpIdeal (hPoolMlpIdeal := hPoolMlpIdeal)
    ∧ quiescent_PoolMlpReferenceIdeal (hPoolMlpReferenceIdeal := hPoolMlpReferenceIdeal)
    ∧ quiescent_SharedKv (hSharedKv := hSharedKv)
    ∧ quiescent_SharedKvIdeal (hSharedKvIdeal := hSharedKvIdeal)
    ∧ quiescent_SharedKvReferenceIdeal (hSharedKvReferenceIdeal := hSharedKvReferenceIdeal)
    ∧ quiescent_MlpSample (hMlpSample := hMlpSample)
    ∧ quiescent_MlpSampleIdeal (hMlpSampleIdeal := hMlpSampleIdeal)
    ∧ quiescent_MlpSampleReferenceIdeal (hMlpSampleReferenceIdeal := hMlpSampleReferenceIdeal)
    ∧ quiescent_KvSample (hKvSample := hKvSample)
    ∧ quiescent_KvSampleIdeal (hKvSampleIdeal := hKvSampleIdeal)
    ∧ quiescent_KvSampleIdeal_pre_finite_keys (hKvSampleIdeal := hKvSampleIdeal) (hPre_finite_keys := hPre_finite_keys)
    ∧ quiescent_KvSampleReferenceIdeal (hKvSampleReferenceIdeal := hKvSampleReferenceIdeal)
    ∧ quiescent_KvSampleReferenceIdeal_pre_finite_keys (hKvSampleReferenceIdeal := hKvSampleReferenceIdeal) (hPre_finite_keys := hPre_finite_keys)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_PoolMlp_PoolMlpIdeal
    ∧ algebraic_PoolMlpIdeal_PoolMlpReferenceIdeal (hPoolMlpIdeal := hPoolMlpIdeal) (hPoolMlpReferenceIdeal := hPoolMlpReferenceIdeal)
    ∧ preserves_SharedKv_SharedKvIdeal
    ∧ algebraic_SharedKvIdeal_SharedKvReferenceIdeal (hSharedKvIdeal := hSharedKvIdeal) (hSharedKvReferenceIdeal := hSharedKvReferenceIdeal)
    ∧ preserves_MlpSample_MlpSampleIdeal
    ∧ algebraic_MlpSampleIdeal_MlpSampleReferenceIdeal (hMlpSampleIdeal := hMlpSampleIdeal) (hMlpSampleReferenceIdeal := hMlpSampleReferenceIdeal)
    ∧ preserves_KvSample_KvSampleIdeal
    ∧ algebraic_KvSampleIdeal_KvSampleReferenceIdeal_pre_finite_keys (hKvSampleIdeal := hKvSampleIdeal) (hKvSampleReferenceIdeal := hKvSampleReferenceIdeal) (hPre_finite_keys := hPre_finite_keys)
-- ==== Pre_finite.lean ====
abbrev S2x8192x16x64 : Shape := ⟨4, ![2, 8192, 16, 64]⟩
abbrev S2x8192x16 : Shape := ⟨3, ![2, 8192, 16]⟩
abbrev S64 : Shape := ⟨1, ![64]⟩
abbrev S_ : Shape := ⟨0, ![]⟩

class Facts : Prop where
  bcast_S_S2x8192x16x64 : S_.BroadcastsInDim S2x8192x16x64 (![] : Fin 0 → Fin S2x8192x16x64.rank)
  reducesTo_S2x8192x16x64_S_d0_1_2_3 : S2x8192x16x64.ReducesTo [0, 1, 2, 3] S_
  h_S_ : 0 < S_.numel
  bcast_S_S2x8192x16 : S_.BroadcastsInDim S2x8192x16 (![] : Fin 0 → Fin S2x8192x16.rank)
  reducesTo_S2x8192x16_S_d0_1_2 : S2x8192x16.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S2x8192x16 1) : IVec S_ 1 :=
  let main_c_5 : IVec S_ 1 := constantI S_ 1 1#1
  let main_v17 : IVec S_ 1 := (fun x v => Host.reduce IntOp.andi x v reducesTo_S2x8192x16_S_d0_1_2 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S2x8192x16x64 .f32) (main_arg1 : FVec F S2x8192x16x64 .f32) (main_arg2 : FVec F S2x8192x16x64 .f32) (main_arg3 : FVec F S2x8192x16 .f32) (main_arg4 : FVec F S64 .f32) (main_arg5 : FVec F S64 .f32) : IVec S_ 1 :=
  let main_v0 : FVec F S2x8192x16x64 .f32 := Host.absf main_arg0
  let main_cst : FVec F S_ .f32 := constant S_ .f32 0x7F800000#32
  let main_v1 : FVec F S2x8192x16x64 .f32 := broadcastInDim S2x8192x16x64 ![] bcast_S_S2x8192x16x64 main_cst
  let main_v2 : IVec S2x8192x16x64 1 := cmpf .olt main_v0 main_v1
  let main_c : IVec S_ 1 := constantI S_ 1 1#1
  let main_v3 : IVec S_ 1 := (fun x v => Host.reduce IntOp.andi x v reducesTo_S2x8192x16x64_S_d0_1_2_3 h_S_) main_v2 main_c
  let main_v4 : FVec F S2x8192x16x64 .f32 := Host.absf main_arg1
  let main_cst_0 : FVec F S_ .f32 := constant S_ .f32 0x7F800000#32
  let main_v5 : FVec F S2x8192x16x64 .f32 := broadcastInDim S2x8192x16x64 ![] bcast_S_S2x8192x16x64 main_cst_0
  let main_v6 : IVec S2x8192x16x64 1 := cmpf .olt main_v4 main_v5
  let main_c_1 : IVec S_ 1 := constantI S_ 1 1#1
  let main_v7 : IVec S_ 1 := (fun x v => Host.reduce IntOp.andi x v reducesTo_S2x8192x16x64_S_d0_1_2_3 h_S_) main_v6 main_c_1
  let main_v8 : IVec S_ 1 := andi main_v3 main_v7
  let main_v9 : FVec F S2x8192x16x64 .f32 := Host.absf main_arg2
  let main_cst_2 : FVec F S_ .f32 := constant S_ .f32 0x7F800000#32
  let main_v10 : FVec F S2x8192x16x64 .f32 := broadcastInDim S2x8192x16x64 ![] bcast_S_S2x8192x16x64 main_cst_2
  let main_v11 : IVec S2x8192x16x64 1 := cmpf .olt main_v9 main_v10
  let main_c_3 : IVec S_ 1 := constantI S_ 1 1#1
  let main_v12 : IVec S_ 1 := (fun x v => Host.reduce IntOp.andi x v reducesTo_S2x8192x16x64_S_d0_1_2_3 h_S_) main_v11 main_c_3
  let main_v13 : IVec S_ 1 := andi main_v8 main_v12
  let main_v14 : FVec F S2x8192x16 .f32 := Host.absf main_arg3
  let main_cst_4 : FVec F S_ .f32 := constant S_ .f32 0x7F800000#32
  let main_v15 : FVec F S2x8192x16 .f32 := broadcastInDim S2x8192x16 ![] bcast_S_S2x8192x16 main_cst_4
  let main_v16 : IVec S2x8192x16 1 := cmpf .olt main_v14 main_v15
  fn_part1 (F := F) main_arg4 main_arg5 main_v13 main_v16
-- ==== Pre_finite_keys.lean ====
abbrev S128x4x1024 : Shape := ⟨3, ![128, 4, 1024]⟩
abbrev S1024 : Shape := ⟨1, ![1024]⟩
abbrev S1024x1024 : Shape := ⟨2, ![1024, 1024]⟩
abbrev S64 : Shape := ⟨1, ![64]⟩
abbrev S1024x16 : Shape := ⟨2, ![1024, 16]⟩
abbrev S16 : Shape := ⟨1, ![16]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S128x4x1024 .f32) (main_arg1 : FVec F S1024 .f32) (main_arg2 : FVec F S1024x1024 .f32) (main_arg3 : FVec F S1024x1024 .f32) (main_arg4 : FVec F S64 .f32) (main_arg5 : FVec F S1024x16 .f32) (main_arg6 : FVec F S16 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S2x8192x16x64 : Shape := ⟨4, ![2, 8192, 16, 64]⟩
abbrev S2x8192x16 : Shape := ⟨3, ![2, 8192, 16]⟩
abbrev S64 : Shape := ⟨1, ![64]⟩
abbrev S_ : Shape := ⟨0, ![]⟩
abbrev S2x16x64x8192 : Shape := ⟨4, ![2, 16, 64, 8192]⟩
abbrev S2x16x8192 : Shape := ⟨3, ![2, 16, 8192]⟩
abbrev S2x16x1x8192 : Shape := ⟨4, ![2, 16, 1, 8192]⟩
abbrev S2x16x128x8192 : Shape := ⟨4, ![2, 16, 128, 8192]⟩
abbrev S2x8192x16x1 : Shape := ⟨4, ![2, 8192, 16, 1]⟩
abbrev S2x8192x16x128 : Shape := ⟨4, ![2, 8192, 16, 128]⟩
abbrev S2x8192x2048 : Shape := ⟨3, ![2, 8192, 2048]⟩
abbrev S2x16x16x8192 : Shape := ⟨4, ![2, 16, 16, 8192]⟩
abbrev S2x16x80x8192 : Shape := ⟨4, ![2, 16, 80, 8192]⟩
abbrev S1x4x128x512 : Shape := ⟨4, ![1, 4, 128, 512]⟩
abbrev S1x8192x512 : Shape := ⟨3, ![1, 8192, 512]⟩
abbrev S1x4x80x8192 : Shape := ⟨4, ![1, 4, 80, 8192]⟩
abbrev S1x4x64x512 : Shape := ⟨4, ![1, 4, 64, 512]⟩
abbrev S1x1x128x512 : Shape := ⟨4, ![1, 1, 128, 512]⟩
abbrev S128x512 : Shape := ⟨2, ![128, 512]⟩
abbrev S512x512 : Shape := ⟨2, ![512, 512]⟩
abbrev S1x512 : Shape := ⟨2, ![1, 512]⟩
abbrev S80x512 : Shape := ⟨2, ![80, 512]⟩
abbrev S1x512x128 : Shape := ⟨3, ![1, 512, 128]⟩
abbrev S512x128 : Shape := ⟨2, ![512, 128]⟩
abbrev S1x1x80x512 : Shape := ⟨4, ![1, 1, 80, 512]⟩
abbrev S64x512 : Shape := ⟨2, ![64, 512]⟩
abbrev S1x1x64x512 : Shape := ⟨4, ![1, 1, 64, 512]⟩

abbrev nBuf : Space → Nat
  | .hbm => 137
  | .vmem => 8
  | .smem => 0
  | _ => 0

abbrev hbmTy0_0 (i : Nat) : BufTy := match i % 128 with
  | 0 => ⟨S2x8192x16x64, .f32⟩
  | 1 => ⟨S2x8192x16x64, .f32⟩
  | 2 => ⟨S2x8192x16x64, .f32⟩
  | 3 => ⟨S2x8192x16, .f32⟩
  | 4 => ⟨S64, .f32⟩
  | 5 => ⟨S64, .f32⟩
  | 6 => ⟨S64, .f32⟩
  | 7 => ⟨S_, .f32⟩
  | 8 => ⟨S_, .f32⟩
  | 9 => ⟨S_, .f32⟩
  | 10 => ⟨S_, .f32⟩
  | 11 => ⟨S64, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S2x8192x16x64, .f32⟩
  | 22 => ⟨S2x8192x16x64, .f32⟩
  | 23 => ⟨S2x16x64x8192, .f32⟩
  | 24 => ⟨S2x16x64x8192, .bf16⟩
  | 25 => ⟨S2x16x8192, .f32⟩
  | 26 => ⟨S2x16x64x8192, .i32⟩
  | 27 => ⟨S_, .f32⟩
  | 28 => ⟨S_, .f32⟩
  | 29 => ⟨S_, .f32⟩
  | 30 => ⟨S_, .f32⟩
  | 31 => ⟨S2x16x8192, .f32⟩
  | 32 => ⟨S2x16x8192, .f32⟩
  | 33 => ⟨S2x16x8192, .f32⟩
  | 34 => ⟨S2x16x8192, .f32⟩
  | 35 => ⟨S2x16x8192, .bf16⟩
  | 36 => ⟨S2x16x8192, .f32⟩
  | 37 => ⟨S2x16x8192, .f32⟩
  | 38 => ⟨S2x16x8192, .bf16⟩
  | 39 => ⟨S2x16x8192, .f32⟩
  | 40 => ⟨S2x16x8192, .f32⟩
  | 41 => ⟨S2x16x8192, .bf16⟩
  | 42 => ⟨S2x16x8192, .f32⟩
  | 43 => ⟨S2x16x1x8192, .f32⟩
  | 44 => ⟨S2x16x64x8192, .f32⟩
  | 45 => ⟨S2x16x8192, .f32⟩
  | 46 => ⟨S2x16x1x8192, .f32⟩
  | 47 => ⟨S2x16x64x8192, .f32⟩
  | 48 => ⟨S2x16x8192, .f32⟩
  | 49 => ⟨S2x16x1x8192, .f32⟩
  | 50 => ⟨S2x16x64x8192, .f32⟩
  | 51 => ⟨S_, .i32⟩
  | 52 => ⟨S2x16x64x8192, .i32⟩
  | 53 => ⟨S2x16x64x8192, .i1⟩
  | 54 => ⟨S_, .i32⟩
  | 55 => ⟨S2x16x64x8192, .i32⟩
  | 56 => ⟨S2x16x64x8192, .i1⟩
  | 57 => ⟨S_, .i32⟩
  | 58 => ⟨S2x16x64x8192, .i32⟩
  | 59 => ⟨S2x16x64x8192, .i1⟩
  | 60 => ⟨S_, .i32⟩
  | 61 => ⟨S2x16x64x8192, .i32⟩
  | 62 => ⟨S2x16x64x8192, .i1⟩
  | 63 => ⟨S_, .f32⟩
  | 64 => ⟨S_, .f32⟩
  | 65 => ⟨S2x16x64x8192, .f32⟩
  | 66 => ⟨S2x16x64x8192, .f32⟩
  | 67 => ⟨S2x16x64x8192, .f32⟩
  | 68 => ⟨S2x16x64x8192, .f32⟩
  | 69 => ⟨S_, .f32⟩
  | 70 => ⟨S_, .f32⟩
  | 71 => ⟨S2x16x64x8192, .f32⟩
  | 72 => ⟨S2x16x64x8192, .f32⟩
  | 73 => ⟨S2x16x64x8192, .bf16⟩
  | 74 => ⟨S2x16x128x8192, .bf16⟩
  | 75 => ⟨S2x8192x16x64, .i32⟩
  | 76 => ⟨S_, .f32⟩
  | 77 => ⟨S_, .f32⟩
  | 78 => ⟨S_, .f32⟩
  | 79 => ⟨S_, .f32⟩
  | 80 => ⟨S_, .f32⟩
  | 81 => ⟨S2x8192x16, .f32⟩
  | 82 => ⟨S2x8192x16, .f32⟩
  | 83 => ⟨S2x8192x16, .bf16⟩
  | 84 => ⟨S2x8192x16, .f32⟩
  | 85 => ⟨S2x8192x16, .f32⟩
  | 86 => ⟨S2x8192x16, .bf16⟩
  | 87 => ⟨S2x8192x16, .f32⟩
  | 88 => ⟨S2x8192x16, .f32⟩
  | 89 => ⟨S2x8192x16, .bf16⟩
  | 90 => ⟨S2x8192x16, .f32⟩
  | 91 => ⟨S2x8192x16x1, .f32⟩
  | 92 => ⟨S2x8192x16x64, .f32⟩
  | 93 => ⟨S2x8192x16, .f32⟩
  | 94 => ⟨S2x8192x16x1, .f32⟩
  | 95 => ⟨S2x8192x16x64, .f32⟩
  | 96 => ⟨S2x8192x16, .f32⟩
  | 97 => ⟨S2x8192x16x1, .f32⟩
  | 98 => ⟨S2x8192x16x64, .f32⟩
  | 99 => ⟨S_, .i32⟩
  | 100 => ⟨S2x8192x16x64, .i32⟩
  | 101 => ⟨S2x8192x16x64, .i1⟩
  | 102 => ⟨S_, .i32⟩
  | 103 => ⟨S2x8192x16x64, .i32⟩
  | 104 => ⟨S2x8192x16x64, .i1⟩
  | 105 => ⟨S_, .i32⟩
  | 106 => ⟨S2x8192x16x64, .i32⟩
  | 107 => ⟨S2x8192x16x64, .i1⟩
  | 108 => ⟨S_, .i32⟩
  | 109 => ⟨S2x8192x16x64, .i32⟩
  | 110 => ⟨S2x8192x16x64, .i1⟩
  | 111 => ⟨S_, .f32⟩
  | 112 => ⟨S_, .f32⟩
  | 113 => ⟨S2x8192x16x64, .f32⟩
  | 114 => ⟨S2x8192x16x64, .f32⟩
  | 115 => ⟨S2x8192x16x64, .f32⟩
  | 116 => ⟨S2x8192x16x64, .f32⟩
  | 117 => ⟨S2x8192x16x64, .f32⟩
  | 118 => ⟨S2x8192x16x64, .f32⟩
  | 119 => ⟨S2x8192x16x64, .f32⟩
  | 120 => ⟨S2x8192x16x128, .f32⟩
  | 121 => ⟨S2x8192x16x128, .bf16⟩
  | 122 => ⟨S2x8192x2048, .bf16⟩
  | 123 => ⟨S2x16x16x8192, .i32⟩
  | 124 => ⟨S_, .i32⟩
  | 125 => ⟨S2x16x16x8192, .i32⟩
  | 126 => ⟨S2x16x16x8192, .i1⟩
  | 127 => ⟨S_, .f32⟩
  | _ => ⟨S2x8192x16x64, .f32⟩

abbrev hbmTy0_1 (i : Nat) : BufTy := match i % 128 with
  | 0 => ⟨S_, .f32⟩
  | 1 => ⟨S2x16x16x8192, .f32⟩
  | 2 => ⟨S2x16x16x8192, .f32⟩
  | 3 => ⟨S2x16x16x8192, .f32⟩
  | 4 => ⟨S2x16x16x8192, .bf16⟩
  | 5 => ⟨S2x16x64x8192, .f32⟩
  | 6 => ⟨S2x16x64x8192, .bf16⟩
  | 7 => ⟨S2x16x80x8192, .bf16⟩
  | 8 => ⟨S2x16x64x8192, .bf16⟩
  | _ => ⟨S2x8192x16x64, .f32⟩

abbrev hbmTy (i : Nat) : BufTy := match i / 128 with
  | 0 => hbmTy0_0 i
  | 1 => hbmTy0_1 i
  | _ => ⟨S2x8192x16x64, .f32⟩

abbrev bufTy : (tb : Table) → Fin (tcTables nBuf tb) → BufTy
  | .hbm, ⟨i, _⟩ => hbmTy i
  | .local _ .vmem, ⟨0, _⟩ => ⟨S1x4x128x512, .bf16⟩
  | .local _ .vmem, ⟨1, _⟩ => ⟨S1x4x128x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x4x80x8192, .bf16⟩
  | .local _ .vmem, ⟨5, _⟩ => ⟨S1x4x80x8192, .bf16⟩
  | .local _ .vmem, ⟨6, _⟩ => ⟨S1x4x64x512, .bf16⟩
  | .local _ .vmem, ⟨7, _⟩ => ⟨S1x4x64x512, .bf16⟩
  | _, _ => ⟨S2x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_call0_v0 : Ref sig .tc := ⟨.hbm, 64, rfl⟩
abbrev main_call0_v1 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_call3_v0 : Ref sig .tc := ⟨.hbm, 70, rfl⟩
abbrev main_call3_v1 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_cst_13 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_14 : Ref sig .tc := ⟨.hbm, 99, rfl⟩
abbrev main_v73 : Ref sig .tc := ⟨.hbm, 100, rfl⟩
abbrev main_v74 : Ref sig .tc := ⟨.hbm, 101, rfl⟩
abbrev main_c_15 : Ref sig .tc := ⟨.hbm, 102, rfl⟩
abbrev main_v75 : Ref sig .tc := ⟨.hbm, 103, rfl⟩
abbrev main_v76 : Ref sig .tc := ⟨.hbm, 104, rfl⟩
abbrev main_c_16 : Ref sig .tc := ⟨.hbm, 105, rfl⟩
abbrev main_v77 : Ref sig .tc := ⟨.hbm, 106, rfl⟩
abbrev main_v78 : Ref sig .tc := ⟨.hbm, 107, rfl⟩
abbrev main_c_17 : Ref sig .tc := ⟨.hbm, 108, rfl⟩
abbrev main_v79 : Ref sig .tc := ⟨.hbm, 109, rfl⟩
abbrev main_v80 : Ref sig .tc := ⟨.hbm, 110, rfl⟩
abbrev main_cst_18 : Ref sig .tc := ⟨.hbm, 111, rfl⟩
abbrev main_cst_19 : Ref sig .tc := ⟨.hbm, 112, rfl⟩
abbrev main_call4_v0 : Ref sig .tc := ⟨.hbm, 113, rfl⟩
abbrev main_call4_v1 : Ref sig .tc := ⟨.hbm, 114, rfl⟩
abbrev main_v81 : Ref sig .tc := ⟨.hbm, 115, rfl⟩
abbrev main_call5_v0 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_20 : Ref sig .tc := ⟨.hbm, 124, rfl⟩
abbrev main_v89 : Ref sig .tc := ⟨.hbm, 125, rfl⟩
abbrev main_v90 : Ref sig .tc := ⟨.hbm, 126, rfl⟩
abbrev main_cst_21 : Ref sig .tc := ⟨.hbm, 127, rfl⟩
abbrev main_cst_22 : Ref sig .tc := ⟨.hbm, 128, rfl⟩
abbrev main_call8_v0 : Ref sig .tc := ⟨.hbm, 129, rfl⟩
abbrev main_call8_v1 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_23 : BitVec 32 := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let v35 : BitVec 32 := Scalar.subi v34 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_25 : BitVec 32 := 1#32
  ⟨c0_i32_23, v39, c1_i32_25⟩
def k0_mult1 (i : grid0.Coords) (k0_t1 : Fin (k0_t1_loop i).trips) : BitVec 32 :=
  let c0_i32_23 : BitVec 32 := 0#32
  let c1_i32_25 : BitVec 32 := 1#32
  let arg7 : BitVec 32 := Scf.iv c0_i32_23 c1_i32_25 k0_t1
  let c4_i32_46 : BitVec 32 := 4#32
  let v80 : BitVec 32 := Scalar.muli arg7 c4_i32_46
  let c0_i32_47 : BitVec 32 := 0#32
  let v81 : BitVec 32 := Scalar.addi v80 c0_i32_47
  let c512_i32 : BitVec 32 := 512#32
  let v82 : BitVec 32 := Scalar.muli v81 c512_i32
  v82
def k0_mult2 (i : grid0.Coords) (k0_t1 : Fin (k0_t1_loop i).trips) : BitVec 32 :=
  let c0_i32_23 : BitVec 32 := 0#32
  let c1_i32_25 : BitVec 32 := 1#32
  let arg7 : BitVec 32 := Scf.iv c0_i32_23 c1_i32_25 k0_t1
  let c4_i32_46 : BitVec 32 := 4#32
  let v80 : BitVec 32 := Scalar.muli arg7 c4_i32_46
  let c1_i32_48 : BitVec 32 := 1#32
  let v84 : BitVec 32 := Scalar.addi v80 c1_i32_48
  let c512_i32_49 : BitVec 32 := 512#32
  let v85 : BitVec 32 := Scalar.muli v84 c512_i32_49
  v85
def k0_mult3 (i : grid0.Coords) (k0_t1 : Fin (k0_t1_loop i).trips) : BitVec 32 :=
  let c0_i32_23 : BitVec 32 := 0#32
  let c1_i32_25 : BitVec 32 := 1#32
  let arg7 : BitVec 32 := Scf.iv c0_i32_23 c1_i32_25 k0_t1
  let c4_i32_46 : BitVec 32 := 4#32
  let v80 : BitVec 32 := Scalar.muli arg7 c4_i32_46
  let c2_i32 : BitVec 32 := 2#32
  let v87 : BitVec 32 := Scalar.addi v80 c2_i32
  let c512_i32_50 : BitVec 32 := 512#32
  let v88 : BitVec 32 := Scalar.muli v87 c512_i32_50
  v88
def k0_mult4 (i : grid0.Coords) (k0_t1 : Fin (k0_t1_loop i).trips) : BitVec 32 :=
  let c0_i32_23 : BitVec 32 := 0#32
  let c1_i32_25 : BitVec 32 := 1#32
  let arg7 : BitVec 32 := Scf.iv c0_i32_23 c1_i32_25 k0_t1
  let c4_i32_46 : BitVec 32 := 4#32
  let v80 : BitVec 32 := Scalar.muli arg7 c4_i32_46
  let c3_i32_51 : BitVec 32 := 3#32
  let v90 : BitVec 32 := Scalar.addi v80 c3_i32_51
  let c512_i32_52 : BitVec 32 := 512#32
  let v91 : BitVec 32 := Scalar.muli v90 c512_i32_52
  v91
def k0_off1 (i : grid0.Coords) (k0_t1 : Fin (k0_t1_loop i).trips) (c0_i32_47 : BitVec 32) : Fin 3 → Nat :=
  let c0_53 : Index := 0#32
  let c0_i32_23 : BitVec 32 := 0#32
  let c1_i32_25 : BitVec 32 := 1#32
  let arg7 : BitVec 32 := Scf.iv c0_i32_23 c1_i32_25 k0_t1
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v93 : Index := Scalar.indexCast v83
  let c0_54 : Index := 0#32
  ![0, v93.toNat, 0]
def k0_off2 (i : grid0.Coords) (k0_t1 : Fin (k0_t1_loop i).trips) (c0_i32_47 : BitVec 32) : Fin 3 → Nat :=
  let c0_56 : Index := 0#32
  let c0_i32_23 : BitVec 32 := 0#32
  let c1_i32_25 : BitVec 32 := 1#32
  let arg7 : BitVec 32 := Scf.iv c0_i32_23 c1_i32_25 k0_t1
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v97 : Index := Scalar.indexCast v83
  let c128 : Index := 128#32
  ![0, v97.toNat, 128]
def k0_off3 (i : grid0.Coords) (k0_t1 : Fin (k0_t1_loop i).trips) (c0_i32_47 : BitVec 32) : Fin 3 → Nat :=
  let c0_58 : Index := 0#32
  let c0_i32_23 : BitVec 32 := 0#32
  let c1_i32_25 : BitVec 32 := 1#32
  let arg7 : BitVec 32 := Scf.iv c0_i32_23 c1_i32_25 k0_t1
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v101 : Index := Scalar.indexCast v83
  let c256 : Index := 256#32
  ![0, v101.toNat, 256]
def k0_off4 (i : grid0.Coords) (k0_t1 : Fin (k0_t1_loop i).trips) (c0_i32_47 : BitVec 32) : Fin 3 → Nat :=
  let c0_60 : Index := 0#32
  let c0_i32_23 : BitVec 32 := 0#32
  let c1_i32_25 : BitVec 32 := 1#32
  let arg7 : BitVec 32 := Scf.iv c0_i32_23 c1_i32_25 k0_t1
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v105 : Index := Scalar.indexCast v83
  let c384 : Index := 384#32
  ![0, v105.toNat, 384]
def k0_off5 (i : grid0.Coords) (k0_t1 : Fin (k0_t1_loop i).trips) (c0_i32_47 : BitVec 32) : Fin 4 → Nat :=
  let c0_98 : Index := 0#32
  let c0_99 : Index := 0#32
  let c0_100 : Index := 0#32
  let c0_i32_23 : BitVec 32 := 0#32
  let c1_i32_25 : BitVec 32 := 1#32
  let arg7 : BitVec 32 := Scf.iv c0_i32_23 c1_i32_25 k0_t1
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v157 : Index := Scalar.indexCast v83
  ![0, 0, 0, v157.toNat]
def k0_off6 (i : grid0.Coords) (k0_t1 : Fin (k0_t1_loop i).trips) (c0_i32_47 : BitVec 32) : Fin 4 → Nat :=
  let c0_114 : Index := 0#32
  let c1_115 : Index := 1#32
  let c0_116 : Index := 0#32
  let c0_i32_23 : BitVec 32 := 0#32
  let c1_i32_25 : BitVec 32 := 1#32
  let arg7 : BitVec 32 := Scf.iv c0_i32_23 c1_i32_25 k0_t1
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v185 : Index := Scalar.indexCast v83
  ![0, 1, 0, v185.toNat]
def k0_off7 (i : grid0.Coords) (k0_t1 : Fin (k0_t1_loop i).trips) (c0_i32_47 : BitVec 32) : Fin 4 → Nat :=
  let c0_130 : Index := 0#32
  let c2_131 : Index := 2#32
  let c0_132 : Index := 0#32
  let c0_i32_23 : BitVec 32 := 0#32
  let c1_i32_25 : BitVec 32 := 1#32
  let arg7 : BitVec 32 := Scf.iv c0_i32_23 c1_i32_25 k0_t1
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v213 : Index := Scalar.indexCast v83
  ![0, 2, 0, v213.toNat]
def k0_off8 (i : grid0.Coords) (k0_t1 : Fin (k0_t1_loop i).trips) (c0_i32_47 : BitVec 32) : Fin 4 → Nat :=
  let c0_146 : Index := 0#32
  let c3_147 : Index := 3#32
  let c0_148 : Index := 0#32
  let c0_i32_23 : BitVec 32 := 0#32
  let c1_i32_25 : BitVec 32 := 1#32
  let arg7 : BitVec 32 := Scf.iv c0_i32_23 c1_i32_25 k0_t1
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v241 : Index := Scalar.indexCast v83
  ![0, 3, 0, v241.toNat]
@[reducible] def k0_t2_loop (i : grid0.Coords) : Scf.Loop 32 :=
  let c0_i32_23 : BitVec 32 := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let v35 : BitVec 32 := Scalar.subi v34 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let v36 : BitVec 32 := Scalar.addi c0_i32_23 v35
  let c1_i32_26 : BitVec 32 := 1#32
  ⟨v39, v36, c1_i32_26⟩
def k0_mult5 (i : grid0.Coords) (k0_t2 : Fin (k0_t2_loop i).trips) : BitVec 32 :=
  let c0_i32_23 : BitVec 32 := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let v35 : BitVec 32 := Scalar.subi v34 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_26 : BitVec 32 := 1#32
  let arg7 : BitVec 32 := Scf.iv v39 c1_i32_26 k0_t2
  let c4_i32_46 : BitVec 32 := 4#32
  let v80 : BitVec 32 := Scalar.muli arg7 c4_i32_46
  let c0_i32_47 : BitVec 32 := 0#32
  let v81 : BitVec 32 := Scalar.addi v80 c0_i32_47
  let c512_i32 : BitVec 32 := 512#32
  let v82 : BitVec 32 := Scalar.muli v81 c512_i32
  v82
def k0_mult6 (i : grid0.Coords) (k0_t2 : Fin (k0_t2_loop i).trips) : BitVec 32 :=
  let c0_i32_23 : BitVec 32 := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let v35 : BitVec 32 := Scalar.subi v34 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_26 : BitVec 32 := 1#32
  let arg7 : BitVec 32 := Scf.iv v39 c1_i32_26 k0_t2
  let c4_i32_46 : BitVec 32 := 4#32
  let v80 : BitVec 32 := Scalar.muli arg7 c4_i32_46
  let c1_i32_48 : BitVec 32 := 1#32
  let v84 : BitVec 32 := Scalar.addi v80 c1_i32_48
  let c512_i32_49 : BitVec 32 := 512#32
  let v85 : BitVec 32 := Scalar.muli v84 c512_i32_49
  v85
def k0_mult7 (i : grid0.Coords) (k0_t2 : Fin (k0_t2_loop i).trips) : BitVec 32 :=
  let c0_i32_23 : BitVec 32 := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let v35 : BitVec 32 := Scalar.subi v34 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_26 : BitVec 32 := 1#32
  let arg7 : BitVec 32 := Scf.iv v39 c1_i32_26 k0_t2
  let c4_i32_46 : BitVec 32 := 4#32
  let v80 : BitVec 32 := Scalar.muli arg7 c4_i32_46
  let c2_i32 : BitVec 32 := 2#32
  let v87 : BitVec 32 := Scalar.addi v80 c2_i32
  let c512_i32_50 : BitVec 32 := 512#32
  let v88 : BitVec 32 := Scalar.muli v87 c512_i32_50
  v88
def k0_mult8 (i : grid0.Coords) (k0_t2 : Fin (k0_t2_loop i).trips) : BitVec 32 :=
  let c0_i32_23 : BitVec 32 := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let v35 : BitVec 32 := Scalar.subi v34 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_26 : BitVec 32 := 1#32
  let arg7 : BitVec 32 := Scf.iv v39 c1_i32_26 k0_t2
  let c4_i32_46 : BitVec 32 := 4#32
  let v80 : BitVec 32 := Scalar.muli arg7 c4_i32_46
  let c3_i32_51 : BitVec 32 := 3#32
  let v90 : BitVec 32 := Scalar.addi v80 c3_i32_51
  let c512_i32_52 : BitVec 32 := 512#32
  let v91 : BitVec 32 := Scalar.muli v90 c512_i32_52
  v91
def k0_off9 (i : grid0.Coords) (k0_t2 : Fin (k0_t2_loop i).trips) (c0_i32_47 : BitVec 32) : Fin 3 → Nat :=
  let c0_53 : Index := 0#32
  let c0_i32_23 : BitVec 32 := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let v35 : BitVec 32 := Scalar.subi v34 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_26 : BitVec 32 := 1#32
  let arg7 : BitVec 32 := Scf.iv v39 c1_i32_26 k0_t2
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v93 : Index := Scalar.indexCast v83
  let c0_54 : Index := 0#32
  ![0, v93.toNat, 0]
def k0_off10 (i : grid0.Coords) (k0_t2 : Fin (k0_t2_loop i).trips) (c0_i32_47 : BitVec 32) : Fin 3 → Nat :=
  let c0_56 : Index := 0#32
  let c0_i32_23 : BitVec 32 := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let v35 : BitVec 32 := Scalar.subi v34 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_26 : BitVec 32 := 1#32
  let arg7 : BitVec 32 := Scf.iv v39 c1_i32_26 k0_t2
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v97 : Index := Scalar.indexCast v83
  let c128 : Index := 128#32
  ![0, v97.toNat, 128]
def k0_off11 (i : grid0.Coords) (k0_t2 : Fin (k0_t2_loop i).trips) (c0_i32_47 : BitVec 32) : Fin 3 → Nat :=
  let c0_58 : Index := 0#32
  let c0_i32_23 : BitVec 32 := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let v35 : BitVec 32 := Scalar.subi v34 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_26 : BitVec 32 := 1#32
  let arg7 : BitVec 32 := Scf.iv v39 c1_i32_26 k0_t2
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v101 : Index := Scalar.indexCast v83
  let c256 : Index := 256#32
  ![0, v101.toNat, 256]
def k0_off12 (i : grid0.Coords) (k0_t2 : Fin (k0_t2_loop i).trips) (c0_i32_47 : BitVec 32) : Fin 3 → Nat :=
  let c0_60 : Index := 0#32
  let c0_i32_23 : BitVec 32 := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let v35 : BitVec 32 := Scalar.subi v34 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_26 : BitVec 32 := 1#32
  let arg7 : BitVec 32 := Scf.iv v39 c1_i32_26 k0_t2
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v105 : Index := Scalar.indexCast v83
  let c384 : Index := 384#32
  ![0, v105.toNat, 384]
def k0_off13 (i : grid0.Coords) (k0_t2 : Fin (k0_t2_loop i).trips) (c0_i32_47 : BitVec 32) : Fin 4 → Nat :=
  let c0_98 : Index := 0#32
  let c0_99 : Index := 0#32
  let c0_100 : Index := 0#32
  let c0_i32_23 : BitVec 32 := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let v35 : BitVec 32 := Scalar.subi v34 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_26 : BitVec 32 := 1#32
  let arg7 : BitVec 32 := Scf.iv v39 c1_i32_26 k0_t2
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v157 : Index := Scalar.indexCast v83
  ![0, 0, 0, v157.toNat]
def k0_off14 (i : grid0.Coords) (k0_t2 : Fin (k0_t2_loop i).trips) (c0_i32_47 : BitVec 32) : Fin 4 → Nat :=
  let c0_114 : Index := 0#32
  let c1_115 : Index := 1#32
  let c0_116 : Index := 0#32
  let c0_i32_23 : BitVec 32 := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let v35 : BitVec 32 := Scalar.subi v34 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_26 : BitVec 32 := 1#32
  let arg7 : BitVec 32 := Scf.iv v39 c1_i32_26 k0_t2
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v185 : Index := Scalar.indexCast v83
  ![0, 1, 0, v185.toNat]
def k0_off15 (i : grid0.Coords) (k0_t2 : Fin (k0_t2_loop i).trips) (c0_i32_47 : BitVec 32) : Fin 4 → Nat :=
  let c0_130 : Index := 0#32
  let c2_131 : Index := 2#32
  let c0_132 : Index := 0#32
  let c0_i32_23 : BitVec 32 := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let v35 : BitVec 32 := Scalar.subi v34 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_26 : BitVec 32 := 1#32
  let arg7 : BitVec 32 := Scf.iv v39 c1_i32_26 k0_t2
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v213 : Index := Scalar.indexCast v83
  ![0, 2, 0, v213.toNat]
def k0_off16 (i : grid0.Coords) (k0_t2 : Fin (k0_t2_loop i).trips) (c0_i32_47 : BitVec 32) : Fin 4 → Nat :=
  let c0_146 : Index := 0#32
  let c3_147 : Index := 3#32
  let c0_148 : Index := 0#32
  let c0_i32_23 : BitVec 32 := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let v35 : BitVec 32 := Scalar.subi v34 c0_i32_23
  let c1_i32_24 : BitVec 32 := 1#32
  let v37 : BitVec 32 := Scalar.divsi v35 c1_i32_24
  let v38 : BitVec 32 := Scalar.muli v37 c1_i32_24
  let v39 : BitVec 32 := Scalar.addi c0_i32_23 v38
  let c1_i32_26 : BitVec 32 := 1#32
  let arg7 : BitVec 32 := Scf.iv v39 c1_i32_26 k0_t2
  let c4_i32_46 : BitVec 32 := 4#32
  let v80 : BitVec 32 := Scalar.muli arg7 c4_i32_46
  let v81 : BitVec 32 := Scalar.addi v80 c0_i32_47
  let c512_i32 : BitVec 32 := 512#32
  let v82 : BitVec 32 := Scalar.muli v81 c512_i32
  let v83 : BitVec 32 := v82
  let v241 : Index := Scalar.indexCast v83
  ![0, 3, 0, v241.toNat]
def k0_cond1 (i : grid0.Coords) : BitVec 1 :=
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v43 : BitVec 32 := Scalar.subi arg2 v42
  let c0_i32_28 : BitVec 32 := 0#32
  let v44 : BitVec 32 := Scalar.maxsi v43 c0_i32_28
  let c3_i32 : BitVec 32 := 3#32
  let v45 : BitVec 32 := Scalar.minsi v44 c3_i32
  let c0_i32_29 : BitVec 32 := 0#32
  let v46 : BitVec 1 := Scalar.cmpi .ne v45 c0_i32_29
  v46

def k0_cond2 (i : grid0.Coords) : BitVec 1 :=
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v43 : BitVec 32 := Scalar.subi arg2 v42
  let c0_i32_28 : BitVec 32 := 0#32
  let v44 : BitVec 32 := Scalar.maxsi v43 c0_i32_28
  let c3_i32 : BitVec 32 := 3#32
  let v45 : BitVec 32 := Scalar.minsi v44 c3_i32
  let c1_i32_46 : BitVec 32 := 1#32
  let v80 : BitVec 32 := Scalar.subi v45 c1_i32_46
  let c0_i32_47 : BitVec 32 := 0#32
  let v81 : BitVec 1 := Scalar.cmpi .ne v80 c0_i32_47
  v81

def k0_cond3 (i : grid0.Coords) : BitVec 1 :=
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v43 : BitVec 32 := Scalar.subi arg2 v42
  let c0_i32_28 : BitVec 32 := 0#32
  let v44 : BitVec 32 := Scalar.maxsi v43 c0_i32_28
  let c3_i32 : BitVec 32 := 3#32
  let v45 : BitVec 32 := Scalar.minsi v44 c3_i32
  let c1_i32_46 : BitVec 32 := 1#32
  let v80 : BitVec 32 := Scalar.subi v45 c1_i32_46
  let c1_i32_48 : BitVec 32 := 1#32
  let v83 : BitVec 32 := Scalar.subi v80 c1_i32_48
  let c0_i32_49 : BitVec 32 := 0#32
  let v84 : BitVec 1 := Scalar.cmpi .ne v83 c0_i32_49
  v84

def k0_mult9 (i : grid0.Coords) : BitVec 32 :=
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c0_i32_50 : BitVec 32 := 0#32
  let v86 : BitVec 32 := Scalar.addi v42 c0_i32_50
  let c512_i32 : BitVec 32 := 512#32
  let v87 : BitVec 32 := Scalar.muli v86 c512_i32
  v87
def k0_mult10 (i : grid0.Coords) : BitVec 32 :=
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c1_i32_51 : BitVec 32 := 1#32
  let v89 : BitVec 32 := Scalar.addi v42 c1_i32_51
  let c512_i32_52 : BitVec 32 := 512#32
  let v90 : BitVec 32 := Scalar.muli v89 c512_i32_52
  v90
def k0_mult11 (i : grid0.Coords) : BitVec 32 :=
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c2_i32 : BitVec 32 := 2#32
  let v92 : BitVec 32 := Scalar.addi v42 c2_i32
  let c512_i32_53 : BitVec 32 := 512#32
  let v93 : BitVec 32 := Scalar.muli v92 c512_i32_53
  v93
def k0_mult12 (i : grid0.Coords) : BitVec 32 :=
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c3_i32_54 : BitVec 32 := 3#32
  let v95 : BitVec 32 := Scalar.addi v42 c3_i32_54
  let c512_i32_55 : BitVec 32 := 512#32
  let v96 : BitVec 32 := Scalar.muli v95 c512_i32_55
  v96
def k0_off17 (i : grid0.Coords) (c0_i32_50 : BitVec 32) : Fin 3 → Nat :=
  let c0_56 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v98 : Index := Scalar.indexCast v88
  let c0_57 : Index := 0#32
  ![0, v98.toNat, 0]
def k0_off18 (i : grid0.Coords) (c0_i32_50 : BitVec 32) : Fin 3 → Nat :=
  let c0_59 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v102 : Index := Scalar.indexCast v88
  let c128 : Index := 128#32
  ![0, v102.toNat, 128]
def k0_off19 (i : grid0.Coords) (c0_i32_50 : BitVec 32) : Fin 3 → Nat :=
  let c0_61 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v106 : Index := Scalar.indexCast v88
  let c256 : Index := 256#32
  ![0, v106.toNat, 256]
def k0_off20 (i : grid0.Coords) (c0_i32_50 : BitVec 32) : Fin 3 → Nat :=
  let c0_63 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v110 : Index := Scalar.indexCast v88
  let c384 : Index := 384#32
  ![0, v110.toNat, 384]
def k0_off21 (i : grid0.Coords) (c0_i32_50 : BitVec 32) : Fin 4 → Nat :=
  let c0_101 : Index := 0#32
  let c0_102 : Index := 0#32
  let c0_103 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v162 : Index := Scalar.indexCast v88
  ![0, 0, 0, v162.toNat]
def k0_off22 (i : grid0.Coords) (c0_i32_50 : BitVec 32) : Fin 4 → Nat :=
  let c0_118 : Index := 0#32
  let c1_119 : Index := 1#32
  let c0_120 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v193 : Index := Scalar.indexCast v88
  ![0, 1, 0, v193.toNat]
def k0_off23 (i : grid0.Coords) (c0_i32_50 : BitVec 32) : Fin 4 → Nat :=
  let c0_135 : Index := 0#32
  let c2_136 : Index := 2#32
  let c0_137 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v224 : Index := Scalar.indexCast v88
  ![0, 2, 0, v224.toNat]
def k0_off24 (i : grid0.Coords) (c0_i32_50 : BitVec 32) : Fin 4 → Nat :=
  let c0_152 : Index := 0#32
  let c3_153 : Index := 3#32
  let c0_154 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v255 : Index := Scalar.indexCast v88
  ![0, 3, 0, v255.toNat]
def k0_mult13 (i : grid0.Coords) : BitVec 32 :=
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c0_i32_50 : BitVec 32 := 0#32
  let v86 : BitVec 32 := Scalar.addi v42 c0_i32_50
  let c512_i32 : BitVec 32 := 512#32
  let v87 : BitVec 32 := Scalar.muli v86 c512_i32
  v87
def k0_mult14 (i : grid0.Coords) : BitVec 32 :=
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c1_i32_51 : BitVec 32 := 1#32
  let v89 : BitVec 32 := Scalar.addi v42 c1_i32_51
  let c512_i32_52 : BitVec 32 := 512#32
  let v90 : BitVec 32 := Scalar.muli v89 c512_i32_52
  v90
def k0_mult15 (i : grid0.Coords) : BitVec 32 :=
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c2_i32 : BitVec 32 := 2#32
  let v92 : BitVec 32 := Scalar.addi v42 c2_i32
  let c512_i32_53 : BitVec 32 := 512#32
  let v93 : BitVec 32 := Scalar.muli v92 c512_i32_53
  v93
def k0_off25 (i : grid0.Coords) (c0_i32_50 : BitVec 32) : Fin 3 → Nat :=
  let c0_54 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v95 : Index := Scalar.indexCast v88
  let c0_55 : Index := 0#32
  ![0, v95.toNat, 0]
def k0_off26 (i : grid0.Coords) (c0_i32_50 : BitVec 32) : Fin 3 → Nat :=
  let c0_57 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v99 : Index := Scalar.indexCast v88
  let c128 : Index := 128#32
  ![0, v99.toNat, 128]
def k0_off27 (i : grid0.Coords) (c0_i32_50 : BitVec 32) : Fin 3 → Nat :=
  let c0_59 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v103 : Index := Scalar.indexCast v88
  let c256 : Index := 256#32
  ![0, v103.toNat, 256]
def k0_off28 (i : grid0.Coords) (c0_i32_50 : BitVec 32) : Fin 3 → Nat :=
  let c0_61 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v107 : Index := Scalar.indexCast v88
  let c384 : Index := 384#32
  ![0, v107.toNat, 384]
def k0_off29 (i : grid0.Coords) (c0_i32_50 : BitVec 32) : Fin 4 → Nat :=
  let c0_87 : Index := 0#32
  let c0_88 : Index := 0#32
  let c0_89 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v143 : Index := Scalar.indexCast v88
  ![0, 0, 0, v143.toNat]
def k0_off30 (i : grid0.Coords) (c0_i32_50 : BitVec 32) : Fin 4 → Nat :=
  let c0_100 : Index := 0#32
  let c1_101 : Index := 1#32
  let c0_102 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v167 : Index := Scalar.indexCast v88
  ![0, 1, 0, v167.toNat]
def k0_off31 (i : grid0.Coords) (c0_i32_50 : BitVec 32) : Fin 4 → Nat :=
  let c0_113 : Index := 0#32
  let c2_114 : Index := 2#32
  let c0_115 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v191 : Index := Scalar.indexCast v88
  ![0, 2, 0, v191.toNat]
def k0_off32 (i : grid0.Coords) (c0_i32_50 : BitVec 32) : Fin 4 → Nat :=
  let c0_126 : Index := 0#32
  let c3_127 : Index := 3#32
  let c0_128 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v86 : BitVec 32 := Scalar.addi v42 c0_i32_50
  let c512_i32 : BitVec 32 := 512#32
  let v87 : BitVec 32 := Scalar.muli v86 c512_i32
  let v88 : BitVec 32 := v87
  let v215 : Index := Scalar.indexCast v88
  ![0, 3, 0, v215.toNat]
def k0_mult16 (i : grid0.Coords) : BitVec 32 :=
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c0_i32_48 : BitVec 32 := 0#32
  let v83 : BitVec 32 := Scalar.addi v42 c0_i32_48
  let c512_i32 : BitVec 32 := 512#32
  let v84 : BitVec 32 := Scalar.muli v83 c512_i32
  v84
def k0_mult17 (i : grid0.Coords) : BitVec 32 :=
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c1_i32_49 : BitVec 32 := 1#32
  let v86 : BitVec 32 := Scalar.addi v42 c1_i32_49
  let c512_i32_50 : BitVec 32 := 512#32
  let v87 : BitVec 32 := Scalar.muli v86 c512_i32_50
  v87
def k0_off33 (i : grid0.Coords) (c0_i32_48 : BitVec 32) : Fin 3 → Nat :=
  let c0_51 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v83 : BitVec 32 := Scalar.addi v42 c0_i32_48
  let c512_i32 : BitVec 32 := 512#32
  let v84 : BitVec 32 := Scalar.muli v83 c512_i32
  let v85 : BitVec 32 := v84
  let v89 : Index := Scalar.indexCast v85
  let c0_52 : Index := 0#32
  ![0, v89.toNat, 0]
def k0_off34 (i : grid0.Coords) (c0_i32_48 : BitVec 32) : Fin 3 → Nat :=
  let c0_54 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v83 : BitVec 32 := Scalar.addi v42 c0_i32_48
  let c512_i32 : BitVec 32 := 512#32
  let v84 : BitVec 32 := Scalar.muli v83 c512_i32
  let v85 : BitVec 32 := v84
  let v93 : Index := Scalar.indexCast v85
  let c128 : Index := 128#32
  ![0, v93.toNat, 128]
def k0_off35 (i : grid0.Coords) (c0_i32_48 : BitVec 32) : Fin 3 → Nat :=
  let c0_56 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v83 : BitVec 32 := Scalar.addi v42 c0_i32_48
  let c512_i32 : BitVec 32 := 512#32
  let v84 : BitVec 32 := Scalar.muli v83 c512_i32
  let v85 : BitVec 32 := v84
  let v97 : Index := Scalar.indexCast v85
  let c256 : Index := 256#32
  ![0, v97.toNat, 256]
def k0_off36 (i : grid0.Coords) (c0_i32_48 : BitVec 32) : Fin 3 → Nat :=
  let c0_58 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v83 : BitVec 32 := Scalar.addi v42 c0_i32_48
  let c512_i32 : BitVec 32 := 512#32
  let v84 : BitVec 32 := Scalar.muli v83 c512_i32
  let v85 : BitVec 32 := v84
  let v101 : Index := Scalar.indexCast v85
  let c384 : Index := 384#32
  ![0, v101.toNat, 384]
def k0_off37 (i : grid0.Coords) (c0_i32_48 : BitVec 32) : Fin 4 → Nat :=
  let c0_72 : Index := 0#32
  let c0_73 : Index := 0#32
  let c0_74 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v83 : BitVec 32 := Scalar.addi v42 c0_i32_48
  let c512_i32 : BitVec 32 := 512#32
  let v84 : BitVec 32 := Scalar.muli v83 c512_i32
  let v85 : BitVec 32 := v84
  let v121 : Index := Scalar.indexCast v85
  ![0, 0, 0, v121.toNat]
def k0_off38 (i : grid0.Coords) (c0_i32_48 : BitVec 32) : Fin 4 → Nat :=
  let c0_81 : Index := 0#32
  let c1_82 : Index := 1#32
  let c0_83 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v83 : BitVec 32 := Scalar.addi v42 c0_i32_48
  let c512_i32 : BitVec 32 := 512#32
  let v84 : BitVec 32 := Scalar.muli v83 c512_i32
  let v85 : BitVec 32 := v84
  let v138 : Index := Scalar.indexCast v85
  ![0, 1, 0, v138.toNat]
def k0_off39 (i : grid0.Coords) (c0_i32_48 : BitVec 32) : Fin 4 → Nat :=
  let c0_90 : Index := 0#32
  let c2_91 : Index := 2#32
  let c0_92 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v83 : BitVec 32 := Scalar.addi v42 c0_i32_48
  let c512_i32 : BitVec 32 := 512#32
  let v84 : BitVec 32 := Scalar.muli v83 c512_i32
  let v85 : BitVec 32 := v84
  let v155 : Index := Scalar.indexCast v85
  ![0, 2, 0, v155.toNat]
def k0_off40 (i : grid0.Coords) (c0_i32_48 : BitVec 32) : Fin 4 → Nat :=
  let c0_99 : Index := 0#32
  let c3_100 : Index := 3#32
  let c0_101 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let v83 : BitVec 32 := Scalar.addi v42 c0_i32_48
  let c512_i32 : BitVec 32 := 512#32
  let v84 : BitVec 32 := Scalar.muli v83 c512_i32
  let v85 : BitVec 32 := v84
  let v172 : Index := Scalar.indexCast v85
  ![0, 3, 0, v172.toNat]
def k0_mult18 (i : grid0.Coords) : BitVec 32 :=
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c0_i32_46 : BitVec 32 := 0#32
  let v80 : BitVec 32 := Scalar.addi v42 c0_i32_46
  let c512_i32 : BitVec 32 := 512#32
  let v81 : BitVec 32 := Scalar.muli v80 c512_i32
  v81
def k0_off41 (i : grid0.Coords) : Fin 3 → Nat :=
  let c0_47 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c0_i32_46 : BitVec 32 := 0#32
  let v80 : BitVec 32 := Scalar.addi v42 c0_i32_46
  let c512_i32 : BitVec 32 := 512#32
  let v81 : BitVec 32 := Scalar.muli v80 c512_i32
  let v82 : BitVec 32 := v81
  let v83 : Index := Scalar.indexCast v82
  let c0_48 : Index := 0#32
  ![0, v83.toNat, 0]
def k0_off42 (i : grid0.Coords) : Fin 3 → Nat :=
  let c0_50 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c0_i32_46 : BitVec 32 := 0#32
  let v80 : BitVec 32 := Scalar.addi v42 c0_i32_46
  let c512_i32 : BitVec 32 := 512#32
  let v81 : BitVec 32 := Scalar.muli v80 c512_i32
  let v82 : BitVec 32 := v81
  let v87 : Index := Scalar.indexCast v82
  let c128 : Index := 128#32
  ![0, v87.toNat, 128]
def k0_off43 (i : grid0.Coords) : Fin 3 → Nat :=
  let c0_52 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c0_i32_46 : BitVec 32 := 0#32
  let v80 : BitVec 32 := Scalar.addi v42 c0_i32_46
  let c512_i32 : BitVec 32 := 512#32
  let v81 : BitVec 32 := Scalar.muli v80 c512_i32
  let v82 : BitVec 32 := v81
  let v91 : Index := Scalar.indexCast v82
  let c256 : Index := 256#32
  ![0, v91.toNat, 256]
def k0_off44 (i : grid0.Coords) : Fin 3 → Nat :=
  let c0_54 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c0_i32_46 : BitVec 32 := 0#32
  let v80 : BitVec 32 := Scalar.addi v42 c0_i32_46
  let c512_i32 : BitVec 32 := 512#32
  let v81 : BitVec 32 := Scalar.muli v80 c512_i32
  let v82 : BitVec 32 := v81
  let v95 : Index := Scalar.indexCast v82
  let c384 : Index := 384#32
  ![0, v95.toNat, 384]
def k0_off45 (i : grid0.Coords) : Fin 4 → Nat :=
  let c0_57 : Index := 0#32
  let c0_58 : Index := 0#32
  let c0_59 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c0_i32_46 : BitVec 32 := 0#32
  let v80 : BitVec 32 := Scalar.addi v42 c0_i32_46
  let c512_i32 : BitVec 32 := 512#32
  let v81 : BitVec 32 := Scalar.muli v80 c512_i32
  let v82 : BitVec 32 := v81
  let v102 : Index := Scalar.indexCast v82
  ![0, 0, 0, v102.toNat]
def k0_off46 (i : grid0.Coords) : Fin 4 → Nat :=
  let c0_62 : Index := 0#32
  let c1_63 : Index := 1#32
  let c0_64 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c0_i32_46 : BitVec 32 := 0#32
  let v80 : BitVec 32 := Scalar.addi v42 c0_i32_46
  let c512_i32 : BitVec 32 := 512#32
  let v81 : BitVec 32 := Scalar.muli v80 c512_i32
  let v82 : BitVec 32 := v81
  let v112 : Index := Scalar.indexCast v82
  ![0, 1, 0, v112.toNat]
def k0_off47 (i : grid0.Coords) : Fin 4 → Nat :=
  let c0_67 : Index := 0#32
  let c2_68 : Index := 2#32
  let c0_69 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c0_i32_46 : BitVec 32 := 0#32
  let v80 : BitVec 32 := Scalar.addi v42 c0_i32_46
  let c512_i32 : BitVec 32 := 512#32
  let v81 : BitVec 32 := Scalar.muli v80 c512_i32
  let v82 : BitVec 32 := v81
  let v122 : Index := Scalar.indexCast v82
  ![0, 2, 0, v122.toNat]
def k0_off48 (i : grid0.Coords) : Fin 4 → Nat :=
  let c0_72 : Index := 0#32
  let c3_73 : Index := 3#32
  let c0_74 : Index := 0#32
  let arg2 : BitVec 32 := BitVec.ofNat 32 (i 2).val
  let c0_i32 : BitVec 32 := 0#32
  let v19 : BitVec 1 := Scalar.cmpi .sgt arg2 c0_i32
  let v20 : BitVec 32 := Scalar.extui v19
  let c0_i32_19 : BitVec 32 := 0#32
  let v21 : BitVec 1 := Scalar.cmpi .slt arg2 c0_i32_19
  let v22 : BitVec 32 := Scalar.extui v21
  let v23 : BitVec 32 := Scalar.subi v20 v22
  let c4_i32 : BitVec 32 := 4#32
  let c0_i32_20 : BitVec 32 := 0#32
  let v24 : BitVec 1 := Scalar.cmpi .sgt c4_i32 c0_i32_20
  let v25 : BitVec 32 := Scalar.extui v24
  let c0_i32_21 : BitVec 32 := 0#32
  let v26 : BitVec 1 := Scalar.cmpi .slt c4_i32 c0_i32_21
  let v27 : BitVec 32 := Scalar.extui v26
  let v28 : BitVec 32 := Scalar.subi v25 v27
  let v29 : BitVec 1 := Scalar.cmpi .ne v23 v28
  let v30 : BitVec 32 := Scalar.remsi arg2 c4_i32
  let c0_i32_22 : BitVec 32 := 0#32
  let v31 : BitVec 1 := Scalar.cmpi .ne v30 c0_i32_22
  let v32 : BitVec 1 := Scalar.andi v29 v31
  let v18 : BitVec 32 := Scalar.divsi arg2 c4_i32
  let c1_i32 : BitVec 32 := 1#32
  let v33 : BitVec 32 := Scalar.subi v18 c1_i32
  let v34 : BitVec 32 := Scalar.select v32 v33 v18
  let c4_i32_27 : BitVec 32 := 4#32
  let v42 : BitVec 32 := Scalar.muli v34 c4_i32_27
  let c0_i32_46 : BitVec 32 := 0#32
  let v80 : BitVec 32 := Scalar.addi v42 c0_i32_46
  let c512_i32 : BitVec 32 := 512#32
  let v81 : BitVec 32 := Scalar.muli v80 c512_i32
  let v82 : BitVec 32 := v81
  let v132 : Index := Scalar.indexCast v82
  ![0, 3, 0, v132.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x80x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x16x64 : Shape := ⟨4, ![2, 8192, 16, 64]⟩
abbrev S2x8192x16 : Shape := ⟨3, ![2, 8192, 16]⟩
abbrev S64 : Shape := ⟨1, ![64]⟩
abbrev S2x16x8192x8192 : Shape := ⟨4, ![2, 16, 8192, 8192]⟩
abbrev S_ : Shape := ⟨0, ![]⟩
abbrev S2x16x8192 : Shape := ⟨3, ![2, 16, 8192]⟩
abbrev S2x16x8192x1 : Shape := ⟨4, ![2, 16, 8192, 1]⟩
abbrev S2x16x1x8192 : Shape := ⟨4, ![2, 16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x16x64x8192 : Shape := ⟨4, ![2, 16, 64, 8192]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S2x8192x16, .f32⟩
  | .hbm, ⟨4, _⟩ => ⟨S64, .f32⟩
  | .hbm, ⟨5, _⟩ => ⟨S64, .f32⟩
  | .hbm, ⟨6, _⟩ => ⟨S2x16x8192x8192, .f32⟩
  | .hbm, ⟨7, _⟩ => ⟨S_, .f32⟩
  | .hbm, ⟨8, _⟩ => ⟨S2x16x8192x8192, .f32⟩
  | .hbm, ⟨9, _⟩ => ⟨S2x16x8192x8192, .f32⟩
  | .hbm, ⟨10, _⟩ => ⟨S2x16x8192, .f32⟩
  | .hbm, ⟨11, _⟩ => ⟨S2x16x8192x1, .f32⟩
  | .hbm, ⟨12, _⟩ => ⟨S2x16x1x8192, .f32⟩
  | .hbm, ⟨13, _⟩ => ⟨S2x16x8192x8192, .f32⟩
  | .hbm, ⟨14, _⟩ => ⟨S2x16x8192x8192, .f32⟩
  | .hbm, ⟨15, _⟩ => ⟨S2x16x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S1x1x8192x8192, .i1⟩
  | .hbm, ⟨23, _⟩ => ⟨S2x16x8192x8192, .f32⟩
  | .hbm, ⟨24, _⟩ => ⟨S_, .f32⟩
  | .hbm, ⟨25, _⟩ => ⟨S_, .f32⟩
  | .hbm, ⟨26, _⟩ => ⟨S2x16x8192x8192, .i1⟩
  | .hbm, ⟨27, _⟩ => ⟨S2x16x8192x8192, .f32⟩
  | .hbm, ⟨28, _⟩ => ⟨S2x16x8192x8192, .f32⟩
  | .hbm, ⟨29, _⟩ => ⟨S_, .f32⟩
  | .hbm, ⟨30, _⟩ => ⟨S2x16x8192, .f32⟩
  | .hbm, ⟨31, _⟩ => ⟨S_, .f32⟩
  | .hbm, ⟨32, _⟩ => ⟨S2x16x8192, .f32⟩
  | .hbm, ⟨33, _⟩ => ⟨S2x16x8192, .f32⟩
  | .hbm, ⟨34, _⟩ => ⟨S2x16x8192x1, .f32⟩
  | .hbm, ⟨35, _⟩ => ⟨S2x16x8192x8192, .f32⟩
  | .hbm, ⟨36, _⟩ => ⟨S2x16x8192x8192, .f32⟩
  | .hbm, ⟨37, _⟩ => ⟨S2x16x8192x8192, .f32⟩
  | .hbm, ⟨38, _⟩ => ⟨S_, .f32⟩
  | .hbm, ⟨39, _⟩ => ⟨S2x16x8192, .f32⟩
  | .hbm, ⟨40, _⟩ => ⟨S2x16x8192x1, .f32⟩
  | .hbm, ⟨41, _⟩ => ⟨S2x16x8192x8192, .f32⟩
  | .hbm, ⟨42, _⟩ => ⟨S2x16x8192x8192, .f32⟩
  | .hbm, ⟨43, _⟩ => ⟨S2x16x64x8192, .f32⟩
  | .hbm, ⟨44, _⟩ => ⟨S2x8192x16x64, .f32⟩
  | .hbm, ⟨45, _⟩ => ⟨S2x16x64x8192, .f32⟩
  | .hbm, ⟨46, _⟩ => ⟨S2x16x64x8192, .bf16⟩
  | _, _ => ⟨S2x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Mlp.lean ====
abbrev S2x8192x1024 : Shape := ⟨3, ![2, 8192, 1024]⟩
abbrev S2x1024x1024 : Shape := ⟨3, ![2, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S2x1024x8192 : Shape := ⟨3, ![2, 1024, 8192]⟩
abbrev S16384x1024 : Shape := ⟨2, ![16384, 1024]⟩
abbrev S1x1024 : Shape := ⟨2, ![1, 1024]⟩
abbrev S1024 : Shape := ⟨1, ![1024]⟩
abbrev S512x1024 : Shape := ⟨2, ![512, 1024]⟩
abbrev S1x1024x512 : Shape := ⟨3, ![1, 1024, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x512 : Shape := ⟨2, ![1024, 512]⟩
abbrev S1024x1024 : Shape := ⟨2, ![1024, 1024]⟩
abbrev S512 : Shape := ⟨1, ![512]⟩
abbrev S512x1 : Shape := ⟨2, ![512, 1]⟩

abbrev nBuf : Space → Nat
  | .hbm => 16
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x1024x1024, .f32⟩
  | .hbm, ⟨3, _⟩ => ⟨S4x1024, .f32⟩
  | .hbm, ⟨4, _⟩ => ⟨S4x1024x4096, .f32⟩
  | .hbm, ⟨5, _⟩ => ⟨S4x4096x1024, .f32⟩
  | .hbm, ⟨6, _⟩ => ⟨S2x1024x8192, .f32⟩
  | .hbm, ⟨7, _⟩ => ⟨S2x1024x8192, .bf16⟩
  | .hbm, ⟨8, _⟩ => ⟨S2x1024x1024, .bf16⟩
  | .hbm, ⟨9, _⟩ => ⟨S4x1024x4096, .bf16⟩
  | .hbm, ⟨10, _⟩ => ⟨S4x4096x1024, .bf16⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .bf16⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S512x1024, .f32⟩
  | .local _ .vmem, ⟨9, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpReferenceIdeal.lean ====
abbrev S2x8192x1024 : Shape := ⟨3, ![2, 8192, 1024]⟩
abbrev S2x1024x1024 : Shape := ⟨3, ![2, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x1024x1024, .f32⟩
  | .hbm, ⟨3, _⟩ => ⟨S4x1024, .f32⟩
  | .hbm, ⟨4, _⟩ => ⟨S4x1024x4096, .f32⟩
  | .hbm, ⟨5, _⟩ => ⟨S4x4096x1024, .f32⟩
  | .hbm, ⟨6, _⟩ => ⟨S1x1024x1024, .f32⟩
  | .hbm, ⟨7, _⟩ => ⟨S1024x1024, .f32⟩
  | .hbm, ⟨8, _⟩ => ⟨S2x8192x1024, .f32⟩
  | .hbm, ⟨9, _⟩ => ⟨S2x8192x1024, .f32⟩
  | .hbm, ⟨10, _⟩ => ⟨S1x1024, .f32⟩
  | .hbm, ⟨11, _⟩ => ⟨S1024, .f32⟩
  | .hbm, ⟨12, _⟩ => ⟨S1x1024x4096, .f32⟩
  | .hbm, ⟨13, _⟩ => ⟨S1024x4096, .f32⟩
  | .hbm, ⟨14, _⟩ => ⟨S1x4096x1024, .f32⟩
  | .hbm, ⟨15, _⟩ => ⟨S4096x1024, .f32⟩
  | .hbm, ⟨16, _⟩ => ⟨S2x8192x1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x1024, .f32⟩
  | .hbm, ⟨28, _⟩ => ⟨S2x8192x1024, .f32⟩
  | .hbm, ⟨29, _⟩ => ⟨S1x1x1024, .f32⟩
  | .hbm, ⟨30, _⟩ => ⟨S2x8192x1024, .f32⟩
  | .hbm, ⟨31, _⟩ => ⟨S2x8192x1024, .f32⟩
  | .hbm, ⟨32, _⟩ => ⟨S2x8192x4096, .f32⟩
  | .hbm, ⟨33, _⟩ => ⟨S_, .f32⟩
  | .hbm, ⟨34, _⟩ => ⟨S2x8192x4096, .f32⟩
  | .hbm, ⟨35, _⟩ => ⟨S2x8192x4096, .f32⟩
  | .hbm, ⟨36, _⟩ => ⟨S2x8192x4096, .f32⟩
  | .hbm, ⟨37, _⟩ => ⟨S2x8192x1024, .f32⟩
  | .hbm, ⟨38, _⟩ => ⟨S2x8192x1024, .f32⟩
  | .hbm, ⟨39, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== PoolMlp.lean ====
abbrev S2x8192x1024 : Shape := ⟨3, ![2, 8192, 1024]⟩
abbrev S2x1024 : Shape := ⟨2, ![2, 1024]⟩
abbrev S2x4x256x256 : Shape := ⟨4, ![2, 4, 256, 256]⟩
abbrev S4x1024 : Shape := ⟨2, ![4, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024 : Shape := ⟨1, ![1024]⟩
abbrev S2x16x1024 : Shape := ⟨3, ![2, 16, 1024]⟩
abbrev S1x512x1024 : Shape := ⟨3, ![1, 512, 1024]⟩
abbrev S1x16x1024 : Shape := ⟨3, ![1, 16, 1024]⟩
abbrev S1x4x256x256 : Shape := ⟨4, ![1, 4, 256, 256]⟩
abbrev S1x1024x4096 : Shape := ⟨3, ![1, 1024, 4096]⟩
abbrev S1x4096x1024 : Shape := ⟨3, ![1, 4096, 1024]⟩
abbrev S512x1024 : Shape := ⟨2, ![512, 1024]⟩
abbrev S16x1024 : Shape := ⟨2, ![16, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x1024 : Shape := ⟨2, ![528, 1024]⟩
abbrev S512x256 : Shape := ⟨2, ![512, 256]⟩
abbrev S528x768 : Shape := ⟨2, ![528, 768]⟩
abbrev S528x512 : Shape := ⟨2, ![528, 512]⟩
abbrev S528x256 : Shape := ⟨2, ![528, 256]⟩
abbrev S1x1x256x256 : Shape := ⟨4, ![1, 1, 256, 256]⟩
abbrev S256x256 : Shape := ⟨2, ![256, 256]⟩
abbrev S1x256 : Shape := ⟨2, ![1, 256]⟩
abbrev S1x1024x1024 : Shape := ⟨3, ![1, 1024, 1024]⟩
abbrev S1024x1024 : Shape := ⟨2, ![1024, 1024]⟩

abbrev nBuf : Space → Nat
  | .hbm => 21
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x4x256x256, .f32⟩
  | .hbm, ⟨3, _⟩ => ⟨S2x1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S2x4x256x256, .bf16⟩
  | .hbm, ⟨8, _⟩ => ⟨S4x1024x4096, .bf16⟩
  | .hbm, ⟨9, _⟩ => ⟨S4x4096x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S2x8192x1024, .f32⟩
  | .hbm, ⟨20, _⟩ => ⟨S2x16x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x1024, .f32⟩
  | .local _ .vmem, ⟨5, _⟩ => ⟨S1x4x256x256, .bf16⟩
  | .local _ .vmem, ⟨6, _⟩ => ⟨S1x1024, .f32⟩
  | .local _ .vmem, ⟨7, _⟩ => ⟨S1x1024, .f32⟩
  | .local _ .vmem, ⟨8, _⟩ => ⟨S1x1024x4096, .bf16⟩
  | .local _ .vmem, ⟨9, _⟩ => ⟨S1x4096x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1x16x1024, .f32⟩
  | .local _ .vmem, ⟨13, _⟩ => ⟨S1x16x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== PoolMlpReferenceIdeal.lean ====
abbrev S2x8192x1024 : Shape := ⟨3, ![2, 8192, 1024]⟩
abbrev S2x1024 : Shape := ⟨2, ![2, 1024]⟩
abbrev S2x4x256x256 : Shape := ⟨4, ![2, 4, 256, 256]⟩
abbrev S4x1024 : Shape := ⟨2, ![4, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x15x1024 : Shape := ⟨3, ![2, 15, 1024]⟩
abbrev S2x8207x1024 : Shape := ⟨3, ![2, 8207, 1024]⟩
abbrev S8192 : Shape := ⟨1, ![8192]⟩
abbrev S2x8192x256 : Shape := ⟨3, ![2, 8192, 256]⟩
abbrev S1x8192x1 : Shape := ⟨3, ![1, 8192, 1]⟩
abbrev S1x1x256x256 : Shape := ⟨4, ![1, 1, 256, 256]⟩
abbrev S256x256 : Shape := ⟨2, ![256, 256]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S2x8192x4096 : Shape := ⟨3, ![2, 8192, 4096]⟩
abbrev S2x16x1024 : Shape := ⟨3, ![2, 16, 1024]⟩

abbrev nBuf : Space → Nat
  | .hbm => 182
  | .vmem => 0
  | .smem => 0
  | _ => 0

abbrev hbmTy0_0 (i : Nat) : BufTy := match i % 128 with
  | 0 => ⟨S2x8192x1024, .f32⟩
  | 1 => ⟨S2x1024, .f32⟩
  | 2 => ⟨S2x4x256x256, .f32⟩
  | 3 => ⟨S2x1024, .f32⟩
  | 4 => ⟨S4x1024, .f32⟩
  | 5 => ⟨S4x1024x4096, .f32⟩
  | 6 => ⟨S4x4096x1024, .f32⟩
  | 7 => ⟨S1x1024, .f32⟩
  | 8 => ⟨S1024, .f32⟩
  | 9 => ⟨S2x8192x1024, .f32⟩
  | 10 => ⟨S_, .f32⟩
  | 11 => ⟨S2x8192, .f32⟩
  | 12 => ⟨S2x8192x1, .f32⟩
  | 13 => ⟨S_, .f32⟩
  | 14 => ⟨S2x8192x1, .f32⟩
  | 15 => ⟨S2x8192x1, .f32⟩
  | 16 => ⟨S_, .f32⟩
  | 17 => ⟨S2x8192x1, .f32⟩
  | 18 => ⟨S2x8192x1, .f32⟩
  | 19 => ⟨S2x8192x1, .f32⟩
  | 20 => ⟨S2x8192x1024, .f32⟩
  | 21 => ⟨S2x8192x1024, .f32⟩
  | 22 => ⟨S1x1x1024, .f32⟩
  | 23 => ⟨S2x8192x1024, .f32⟩
  | 24 => ⟨S2x8192x1024, .f32⟩
  | 25 => ⟨S_, .f32⟩
  | 26 => ⟨S2x15x1024, .f32⟩
  | 27 => ⟨S2x8207x1024, .f32⟩
  | 28 => ⟨S8192, .i32⟩
  | 29 => ⟨S2x8192x256, .f32⟩
  | 30 => ⟨S2x8192x256, .f32⟩
  | 31 => ⟨S2x8192x256, .f32⟩
  | 32 => ⟨S_, .i32⟩
  | 33 => ⟨S8192, .i32⟩
  | 34 => ⟨S8192, .i32⟩
  | 35 => ⟨S_, .i32⟩
  | 36 => ⟨S8192, .i32⟩
  | 37 => ⟨S8192, .i32⟩
  | 38 => ⟨S8192, .f32⟩
  | 39 => ⟨S1x8192x1, .f32⟩
  | 40 => ⟨S2x8192x256, .f32⟩
  | 41 => ⟨S2x8192x256, .f32⟩
  | 42 => ⟨S2x8192x256, .f32⟩
  | 43 => ⟨S2x8192x256, .f32⟩
  | 44 => ⟨S1x1x256x256, .f32⟩
  | 45 => ⟨S256x256, .f32⟩
  | 46 => ⟨S2x8192x256, .f32⟩
  | 47 => ⟨S2x8192x256, .f32⟩
  | 48 => ⟨S2x8192x256, .f32⟩
  | 49 => ⟨S2x8192x256, .f32⟩
  | 50 => ⟨S2x8192x256, .f32⟩
  | 51 => ⟨S2x8192x256, .f32⟩
  | 52 => ⟨S2x8192x256, .f32⟩
  | 53 => ⟨S2x8192x256, .f32⟩
  | 54 => ⟨S_, .i32⟩
  | 55 => ⟨S8192, .i32⟩
  | 56 => ⟨S8192, .i32⟩
  | 57 => ⟨S_, .i32⟩
  | 58 => ⟨S8192, .i32⟩
  | 59 => ⟨S8192, .i32⟩
  | 60 => ⟨S8192, .f32⟩
  | 61 => ⟨S1x8192x1, .f32⟩
  | 62 => ⟨S2x8192x256, .f32⟩
  | 63 => ⟨S2x8192x256, .f32⟩
  | 64 => ⟨S2x8192x256, .f32⟩
  | 65 => ⟨S2x8192x256, .f32⟩
  | 66 => ⟨S1x1x256x256, .f32⟩
  | 67 => ⟨S256x256, .f32⟩
  | 68 => ⟨S2x8192x256, .f32⟩
  | 69 => ⟨S2x8192x256, .f32⟩
  | 70 => ⟨S2x8192x256, .f32⟩
  | 71 => ⟨S2x8192x256, .f32⟩
  | 72 => ⟨S2x8192x256, .f32⟩
  | 73 => ⟨S2x8192x256, .f32⟩
  | 74 => ⟨S2x8192x256, .f32⟩
  | 75 => ⟨S2x8192x256, .f32⟩
  | 76 => ⟨S2x8192x256, .f32⟩
  | 77 => ⟨S2x8192x256, .f32⟩
  | 78 => ⟨S2x8192x256, .f32⟩
  | 79 => ⟨S2x8192x256, .f32⟩
  | 80 => ⟨S2x8192x256, .f32⟩
  | 81 => ⟨S2x8192x256, .f32⟩
  | 82 => ⟨S2x8192x256, .f32⟩
  | 83 => ⟨S2x8192x256, .f32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S8192, .f32⟩
  | 91 => ⟨S1x8192x1, .f32⟩
  | 92 => ⟨S2x8192x256, .f32⟩
  | 93 => ⟨S2x8192x256, .f32⟩
  | 94 => ⟨S2x8192x256, .f32⟩
  | 95 => ⟨S2x8192x256, .f32⟩
  | 96 => ⟨S1x1x256x256, .f32⟩
  | 97 => ⟨S256x256, .f32⟩
  | 98 => ⟨S2x8192x256, .f32⟩
  | 99 => ⟨S2x8192x256, .f32⟩
  | 100 => ⟨S2x8192x256, .f32⟩
  | 101 => ⟨S2x8192x256, .f32⟩
  | 102 => ⟨S2x8192x256, .f32⟩
  | 103 => ⟨S2x8192x256, .f32⟩
  | 104 => ⟨S2x8192x256, .f32⟩
  | 105 => ⟨S2x8192x256, .f32⟩
  | 106 => ⟨S2x8192x256, .f32⟩
  | 107 => ⟨S2x8192x256, .f32⟩
  | 108 => ⟨S2x8192x256, .f32⟩
  | 109 => ⟨S2x8192x256, .f32⟩
  | 110 => ⟨S2x8192x256, .f32⟩
  | 111 => ⟨S2x8192x256, .f32⟩
  | 112 => ⟨S2x8192x256, .f32⟩
  | 113 => ⟨S2x8192x256, .f32⟩
  | 114 => ⟨S2x8192x256, .f32⟩
  | 115 => ⟨S2x8192x256, .f32⟩
  | 116 => ⟨S2x8192x256, .f32⟩
  | 117 => ⟨S2x8192x256, .f32⟩
  | 118 => ⟨S2x8192x256, .f32⟩
  | 119 => ⟨S2x8192x256, .f32⟩
  | 120 => ⟨S2x8192x256, .f32⟩
  | 121 => ⟨S2x8192x256, .f32⟩
  | 122 => ⟨S2x8192x256, .f32⟩
  | 123 => ⟨S2x8192x256, .f32⟩
  | 124 => ⟨S2x8192x256, .f32⟩
  | 125 => ⟨S2x8192x256, .f32⟩
  | 126 => ⟨S2x8192x256, .f32⟩
  | 127 => ⟨S2x8192x256, .f32⟩
  | _ => ⟨S2x8192x1024, .f32⟩

abbrev hbmTy0_1 (i : Nat) : BufTy := match i % 128 with
  | 0 => ⟨S2x8192x256, .f32⟩
  | 1 => ⟨S2x8192x256, .f32⟩
  | 2 => ⟨S_, .i32⟩
  | 3 => ⟨S8192, .i32⟩
  | 4 => ⟨S8192, .i32⟩
  | 5 => ⟨S_, .i32⟩
  | 6 => ⟨S8192, .i32⟩
  | 7 => ⟨S8192, .i32⟩
  | 8 => ⟨S8192, .f32⟩
  | 9 => ⟨S1x8192x1, .f32⟩
  | 10 => ⟨S2x8192x256, .f32⟩
  | 11 => ⟨S2x8192x256, .f32⟩
  | 12 => ⟨S2x8192x256, .f32⟩
  | 13 => ⟨S2x8192x256, .f32⟩
  | 14 => ⟨S1x1x256x256, .f32⟩
  | 15 => ⟨S256x256, .f32⟩
  | 16 => ⟨S2x8192x256, .f32⟩
  | 17 => ⟨S2x8192x1024, .f32⟩
  | 18 => ⟨S1x1024, .f32⟩
  | 19 => ⟨S1024, .f32⟩
  | 20 => ⟨S1x1x1024, .f32⟩
  | 21 => ⟨S2x8192x1024, .f32⟩
  | 22 => ⟨S2x8192x1024, .f32⟩
  | 23 => ⟨S2x8192x1024, .f32⟩
  | 24 => ⟨S1x1024, .f32⟩
  | 25 => ⟨S1024, .f32⟩
  | 26 => ⟨S1x1024x4096, .f32⟩
  | 27 => ⟨S1024x4096, .f32⟩
  | 28 => ⟨S1x4096x1024, .f32⟩
  | 29 => ⟨S4096x1024, .f32⟩
  | 30 => ⟨S2x8192x1024, .f32⟩
  | 31 => ⟨S_, .f32⟩
  | 32 => ⟨S2x8192, .f32⟩
  | 33 => ⟨S2x8192x1, .f32⟩
  | 34 => ⟨S_, .f32⟩
  | 35 => ⟨S2x8192x1, .f32⟩
  | 36 => ⟨S2x8192x1, .f32⟩
  | 37 => ⟨S_, .f32⟩
  | 38 => ⟨S2x8192x1, .f32⟩
  | 39 => ⟨S2x8192x1, .f32⟩
  | 40 => ⟨S2x8192x1, .f32⟩
  | 41 => ⟨S2x8192x1024, .f32⟩
  | 42 => ⟨S2x8192x1024, .f32⟩
  | 43 => ⟨S1x1x1024, .f32⟩
  | 44 => ⟨S2x8192x1024, .f32⟩
  | 45 => ⟨S2x8192x1024, .f32⟩
  | 46 => ⟨S2x8192x4096, .f32⟩
  | 47 => ⟨S_, .f32⟩
  | 48 => ⟨S2x8192x4096, .f32⟩
  | 49 => ⟨S2x8192x4096, .f32⟩
  | 50 => ⟨S2x8192x4096, .f32⟩
  | 51 => ⟨S2x8192x1024, .f32⟩
  | 52 => ⟨S2x8192x1024, .f32⟩
  | 53 => ⟨S2x16x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_4 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_c_6 : Ref sig .tc := ⟨.hbm, 84, rfl⟩
abbrev main_v69 : Ref sig .tc := ⟨.hbm, 85, rfl⟩
abbrev main_v70 : Ref sig .tc := ⟨.hbm, 86, rfl⟩
abbrev main_c_7 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_c_8 : Ref sig .tc := ⟨.hbm, 130, rfl⟩
abbrev main_v113 : Ref sig .tc := ⟨.hbm, 131, rfl⟩
abbrev main_v114 : Ref sig .tc := ⟨.hbm, 132, rfl⟩
abbrev main_c_9 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_cst_10 : Ref sig .tc := ⟨.hbm, 159, rfl⟩
abbrev main_v140 : Ref sig .tc := ⟨.hbm, 160, rfl⟩
abbrev main_v141 : Ref sig .tc := ⟨.hbm, 161, rfl⟩
abbrev main_cst_11 : Ref sig .tc := ⟨.hbm, 162, rfl⟩
abbrev main_v142 : Ref sig .tc := ⟨.hbm, 163, rfl⟩
abbrev main_v143 : Ref sig .tc := ⟨.hbm, 164, rfl⟩
abbrev main_cst_12 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_call0_cst : Ref sig .tc := ⟨.hbm, 175, rfl⟩
abbrev main_call0_v0 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩

abbrev nD : Nat := 1
abbrev τ : Topo := Topo.v7x

variable {F : FTy → Type} [FloatOps F]
-- ==== SharedKv.lean ====
abbrev S2x8192x1024 : Shape := ⟨3, ![2, 8192, 1024]⟩
abbrev S1024 : Shape := ⟨1, ![1024]⟩
abbrev S1024x1024 : Shape := ⟨2, ![1024, 1024]⟩
abbrev S64 : Shape := ⟨1, ![64]⟩
abbrev S1024x16 : Shape := ⟨2, ![1024, 16]⟩
abbrev S16 : Shape := ⟨1, ![16]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x64 : Shape := ⟨2, ![1, 64]⟩
abbrev S16x64 : Shape := ⟨2, ![16, 64]⟩
abbrev S16x64x1 : Shape := ⟨3, ![16, 64, 1]⟩
abbrev S16384x1024 : Shape := ⟨2, ![16384, 1024]⟩
abbrev S1x1024 : Shape := ⟨2, ![1, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128x1 : Shape := ⟨2, ![128, 1]⟩
abbrev S2048 : Shape := ⟨1, ![2048]⟩
abbrev S1x2048 : Shape := ⟨2, ![1, 2048]⟩
abbrev S128x2048 : Shape := ⟨2, ![128, 2048]⟩
abbrev S2x1024x8192 : Shape := ⟨3, ![2, 1024, 8192]⟩
abbrev S2x16x8192 : Shape := ⟨3, ![2, 16, 8192]⟩
abbrev S16384x2048 : Shape := ⟨2, ![16384, 2048]⟩
abbrev S2x16x80x8192 : Shape := ⟨4, ![2, 16, 80, 8192]⟩
abbrev S512x1024 : Shape := ⟨2, ![512, 1024]⟩
abbrev S1x1024x512 : Shape := ⟨3, ![1, 1024, 512]⟩
abbrev S1x16x512 : Shape := ⟨3, ![1, 16, 512]⟩
abbrev S512x2048 : Shape := ⟨2, ![512, 2048]⟩
abbrev S1x16x80x512 : Shape := ⟨4, ![1, 16, 80, 512]⟩
abbrev S1024x512 : Shape := ⟨2, ![1024, 512]⟩
abbrev S16x64x512 : Shape := ⟨3, ![16, 64, 512]⟩
abbrev S512x128 : Shape := ⟨2, ![512, 128]⟩
abbrev S16x512 : Shape := ⟨2, ![16, 512]⟩
abbrev S16x1x512 : Shape := ⟨3, ![16, 1, 512]⟩
abbrev S128x512 : Shape := ⟨2, ![128, 512]⟩
abbrev S1x16x64x512 : Shape := ⟨4, ![1, 16, 64, 512]⟩
abbrev S16x16x512 : Shape := ⟨3, ![16, 16, 512]⟩
abbrev S1x16x16x512 : Shape := ⟨4, ![1, 16, 16, 512]⟩

abbrev nBuf : Space → Nat
  | .hbm => 139
  | .vmem => 23
  | .smem => 0
  | _ => 0

abbrev hbmTy0_0 (i : Nat) : BufTy := match i % 128 with
  | 0 => ⟨S2x8192x1024, .f32⟩
  | 1 => ⟨S1024, .f32⟩
  | 2 => ⟨S1024x1024, .f32⟩
  | 3 => ⟨S1024x1024, .f32⟩
  | 4 => ⟨S64, .f32⟩
  | 5 => ⟨S1024x16, .f32⟩
  | 6 => ⟨S16, .f32⟩
  | 7 => ⟨S1024x1024, .bf16⟩
  | 8 => ⟨S1024x1024, .bf16⟩
  | 9 => ⟨S_, .i32⟩
  | 10 => ⟨S_, .f32⟩
  | 11 => ⟨S1024x128, .f32⟩
  | 12 => ⟨S1024x128, .bf16⟩
  | 13 => ⟨S_, .i32⟩
  | 14 => ⟨S_, .f32⟩
  | 15 => ⟨S128, .f32⟩
  | 16 => ⟨S1x128, .f32⟩
  | 17 => ⟨S1x64, .f32⟩
  | 18 => ⟨S16x64, .f32⟩
  | 19 => ⟨S1024, .f32⟩
  | 20 => ⟨S16x64x1, .f32⟩
  | 21 => ⟨S16384x1024, .f32⟩
  | 22 => ⟨S1x1024, .f32⟩
  | 23 => ⟨S1024x1024, .bf16⟩
  | 24 => ⟨S1024x1024, .bf16⟩
  | 25 => ⟨S512, .i32⟩
  | 26 => ⟨S512x1, .i32⟩
  | 27 => ⟨S512, .i32⟩
  | 28 => ⟨S1x512, .i32⟩
  | 29 => ⟨S512x512, .i32⟩
  | 30 => ⟨S512x512, .i32⟩
  | 31 => ⟨S512x512, .i1⟩
  | 32 => ⟨S512x512, .bf16⟩
  | 33 => ⟨S128, .i32⟩
  | 34 => ⟨S128x1, .i32⟩
  | 35 => ⟨S2048, .i32⟩
  | 36 => ⟨S1x2048, .i32⟩
  | 37 => ⟨S_, .i32⟩
  | 38 => ⟨S128x1, .i32⟩
  | 39 => ⟨S128x1, .i1⟩
  | 40 => ⟨S_, .i32⟩
  | 41 => ⟨S_, .i32⟩
  | 42 => ⟨S1x2048, .i32⟩
  | 43 => ⟨S1x2048, .i32⟩
  | 44 => ⟨S1x2048, .i32⟩
  | 45 => ⟨S_, .i32⟩
  | 46 => ⟨S1x2048, .i32⟩
  | 47 => ⟨S1x2048, .i1⟩
  | 48 => ⟨S1x2048, .i32⟩
  | 49 => ⟨S1x2048, .i32⟩
  | 50 => ⟨S_, .i32⟩
  | 51 => ⟨S1x2048, .i32⟩
  | 52 => ⟨S1x2048, .i1⟩
  | 53 => ⟨S1x2048, .i1⟩
  | 54 => ⟨S_, .i32⟩
  | 55 => ⟨S1x2048, .i32⟩
  | 56 => ⟨S1x2048, .i32⟩
  | 57 => ⟨S1x2048, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S128x1, .i32⟩
  | 65 => ⟨S128x1, .i32⟩
  | 66 => ⟨S_, .i32⟩
  | 67 => ⟨S128x1, .i32⟩
  | 68 => ⟨S128x1, .i1⟩
  | 69 => ⟨S_, .i32⟩
  | 70 => ⟨S128x1, .i32⟩
  | 71 => ⟨S128x1, .i1⟩
  | 72 => ⟨S_, .i32⟩
  | 73 => ⟨S_, .i1⟩
  | 74 => ⟨S128x1, .i1⟩
  | 75 => ⟨S128x1, .i1⟩
  | 76 => ⟨S128x1, .i1⟩
  | 77 => ⟨S128x1, .i32⟩
  | 78 => ⟨S128x1, .i32⟩
  | 79 => ⟨S128x1, .i32⟩
  | 80 => ⟨S128x2048, .i32⟩
  | 81 => ⟨S128x2048, .i32⟩
  | 82 => ⟨S128x2048, .i1⟩
  | 83 => ⟨S128x2048, .i1⟩
  | 84 => ⟨S128x2048, .i1⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S1x2048, .i32⟩
  | 92 => ⟨S1x2048, .i32⟩
  | 93 => ⟨S_, .i32⟩
  | 94 => ⟨S1x2048, .i32⟩
  | 95 => ⟨S1x2048, .i1⟩
  | 96 => ⟨S_, .i32⟩
  | 97 => ⟨S1x2048, .i32⟩
  | 98 => ⟨S1x2048, .i1⟩
  | 99 => ⟨S_, .i32⟩
  | 100 => ⟨S_, .i1⟩
  | 101 => ⟨S1x2048, .i1⟩
  | 102 => ⟨S1x2048, .i1⟩
  | 103 => ⟨S1x2048, .i1⟩
  | 104 => ⟨S1x2048, .i32⟩
  | 105 => ⟨S1x2048, .i32⟩
  | 106 => ⟨S1x2048, .i32⟩
  | 107 => ⟨S_, .i32⟩
  | 108 => ⟨S_, .i32⟩
  | 109 => ⟨S128x1, .i32⟩
  | 110 => ⟨S128x1, .i32⟩
  | 111 => ⟨S128x1, .i32⟩
  | 112 => ⟨S_, .i32⟩
  | 113 => ⟨S128x1, .i32⟩
  | 114 => ⟨S128x1, .i1⟩
  | 115 => ⟨S128x1, .i32⟩
  | 116 => ⟨S128x1, .i32⟩
  | 117 => ⟨S_, .i32⟩
  | 118 => ⟨S128x1, .i32⟩
  | 119 => ⟨S128x1, .i1⟩
  | 120 => ⟨S128x1, .i1⟩
  | 121 => ⟨S_, .i32⟩
  | 122 => ⟨S128x1, .i32⟩
  | 123 => ⟨S128x1, .i32⟩
  | 124 => ⟨S128x1, .i32⟩
  | 125 => ⟨S_, .i32⟩
  | 126 => ⟨S128x1, .i32⟩
  | 127 => ⟨S128x1, .i32⟩
  | _ => ⟨S2x8192x1024, .f32⟩

abbrev hbmTy0_1 (i : Nat) : BufTy := match i % 128 with
  | 0 => ⟨S128x2048, .i32⟩
  | 1 => ⟨S128x2048, .i32⟩
  | 2 => ⟨S128x2048, .i1⟩
  | 3 => ⟨S128x2048, .i1⟩
  | 4 => ⟨S128x2048, .bf16⟩
  | 5 => ⟨S2x1024x8192, .f32⟩
  | 6 => ⟨S2x1024x8192, .f32⟩
  | 7 => ⟨S2x16x8192, .f32⟩
  | 8 => ⟨S2x16x8192, .f32⟩
  | 9 => ⟨S16384x2048, .bf16⟩
  | 10 => ⟨S2x16x80x8192, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S16x64x1, .f32⟩
  | .local _ .vmem, ⟨6, _⟩ => ⟨S1024x128, .bf16⟩
  | .local _ .vmem, ⟨7, _⟩ => ⟨S1x128, .f32⟩
  | .local _ .vmem, ⟨8, _⟩ => ⟨S512x512, .bf16⟩
  | .local _ .vmem, ⟨9, _⟩ => ⟨S128x2048, .bf16⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x16x512, .f32⟩
  | .local _ .vmem, ⟨15, _⟩ => ⟨S1x16x512, .f32⟩
  | .local _ .vmem, ⟨16, _⟩ => ⟨S1x16x512, .f32⟩
  | .local _ .vmem, ⟨17, _⟩ => ⟨S1x16x512, .f32⟩
  | .local _ .vmem, ⟨18, _⟩ => ⟨S512x2048, .bf16⟩
  | .local _ .vmem, ⟨19, _⟩ => ⟨S512x2048, .bf16⟩
  | .local _ .vmem, ⟨20, _⟩ => ⟨S1x16x80x512, .bf16⟩
  | .local _ .vmem, ⟨21, _⟩ => ⟨S1x16x80x512, .bf16⟩
  | .local _ .vmem, ⟨22, _⟩ => ⟨S1x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_1 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_0 : Ref sig .tc := ⟨.hbm, 54, rfl⟩
abbrev main_call2_v12 : Ref sig .tc := ⟨.hbm, 55, rfl⟩
abbrev main_call2_v13 : Ref sig .tc := ⟨.hbm, 56, rfl⟩
abbrev main_v28 : Ref sig .tc := ⟨.hbm, 57, rfl⟩
abbrev main_c_3 : Ref sig .tc := ⟨.hbm, 58, rfl⟩
abbrev main_call3_v0 : Ref sig .tc := ⟨.hbm, 59, rfl⟩
abbrev main_call3_c : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_c_1 : Ref sig .tc := ⟨.hbm, 66, rfl⟩
abbrev main_call3_v5 : Ref sig .tc := ⟨.hbm, 67, rfl⟩
abbrev main_call3_v6 : Ref sig .tc := ⟨.hbm, 68, rfl⟩
abbrev main_call3_c_2 : Ref sig .tc := ⟨.hbm, 69, rfl⟩
abbrev main_call3_v7 : Ref sig .tc := ⟨.hbm, 70, rfl⟩
abbrev main_call3_v8 : Ref sig .tc := ⟨.hbm, 71, rfl⟩
abbrev main_call3_c_3 : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_v12 : Ref sig .tc := ⟨.hbm, 76, rfl⟩
abbrev main_call3_v13 : Ref sig .tc := ⟨.hbm, 77, rfl⟩
abbrev main_call3_v14 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_c_4 : Ref sig .tc := ⟨.hbm, 85, rfl⟩
abbrev main_call4_v0 : Ref sig .tc := ⟨.hbm, 86, rfl⟩
abbrev main_call4_c : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_c_1 : Ref sig .tc := ⟨.hbm, 93, rfl⟩
abbrev main_call4_v5 : Ref sig .tc := ⟨.hbm, 94, rfl⟩
abbrev main_call4_v6 : Ref sig .tc := ⟨.hbm, 95, rfl⟩
abbrev main_call4_c_2 : Ref sig .tc := ⟨.hbm, 96, rfl⟩
abbrev main_call4_v7 : Ref sig .tc := ⟨.hbm, 97, rfl⟩
abbrev main_call4_v8 : Ref sig .tc := ⟨.hbm, 98, rfl⟩
abbrev main_call4_c_3 : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_v12 : Ref sig .tc := ⟨.hbm, 103, rfl⟩
abbrev main_call4_v13 : Ref sig .tc := ⟨.hbm, 104, rfl⟩
abbrev main_call4_v14 : Ref sig .tc := ⟨.hbm, 105, rfl⟩
abbrev main_v35 : Ref sig .tc := ⟨.hbm, 106, rfl⟩
abbrev main_c_5 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_call5_v3 : Ref sig .tc := ⟨.hbm, 111, rfl⟩
abbrev main_call5_v4 : Ref sig .tc := ⟨.hbm, 112, rfl⟩
abbrev main_call5_v5 : Ref sig .tc := ⟨.hbm, 113, rfl⟩
abbrev main_call5_v6 : Ref sig .tc := ⟨.hbm, 114, rfl⟩
abbrev main_call5_v7 : Ref sig .tc := ⟨.hbm, 115, rfl⟩
abbrev main_call5_v8 : Ref sig .tc := ⟨.hbm, 116, rfl⟩
abbrev main_call5_c : Ref sig .tc := ⟨.hbm, 117, rfl⟩
abbrev main_call5_v9 : Ref sig .tc := ⟨.hbm, 118, rfl⟩
abbrev main_call5_v10 : Ref sig .tc := ⟨.hbm, 119, rfl⟩
abbrev main_call5_v11 : Ref sig .tc := ⟨.hbm, 120, rfl⟩
abbrev main_call5_c_0 : Ref sig .tc := ⟨.hbm, 121, rfl⟩
abbrev main_call5_v12 : Ref sig .tc := ⟨.hbm, 122, rfl⟩
abbrev main_call5_v13 : Ref sig .tc := ⟨.hbm, 123, rfl⟩
abbrev main_v36 : Ref sig .tc := ⟨.hbm, 124, rfl⟩
abbrev main_c_6 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_v44_0 : Ref sig .tc := ⟨.hbm, 133, rfl⟩
abbrev main_v44_1 : Ref sig .tc := ⟨.hbm, 134, rfl⟩
abbrev main_v44_2 : Ref sig .tc := ⟨.hbm, 135, rfl⟩
abbrev main_v44_3 : Ref sig .tc := ⟨.hbm, 136, rfl⟩
abbrev main_v44_4 : Ref sig .tc := ⟨.hbm, 137, rfl⟩
abbrev main_v44_5 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x16x80x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== SharedKvReferenceIdeal.lean ====
abbrev S2x8192x1024 : Shape := ⟨3, ![2, 8192, 1024]⟩
abbrev S1024 : Shape := ⟨1, ![1024]⟩
abbrev S1024x1024 : Shape := ⟨2, ![1024, 1024]⟩
abbrev S64 : Shape := ⟨1, ![64]⟩
abbrev S1024x16 : Shape := ⟨2, ![1024, 16]⟩
abbrev S16 : Shape := ⟨1, ![16]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x16x64 : Shape := ⟨4, ![2, 8192, 16, 64]⟩
abbrev S2x8192x16 : Shape := ⟨3, ![2, 8192, 16]⟩
abbrev S2x8192x16x1 : Shape := ⟨4, ![2, 8192, 16, 1]⟩
abbrev S1x1x1x64 : Shape := ⟨4, ![1, 1, 1, 64]⟩
abbrev S1x1x16 : Shape := ⟨3, ![1, 1, 16]⟩
abbrev S2x1024x8192 : Shape := ⟨3, ![2, 1024, 8192]⟩
abbrev S2x16x8192 : Shape := ⟨3, ![2, 16, 8192]⟩

abbrev nBuf : Space → Nat
  | .hbm => 66
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S64, .f32⟩
  | .hbm, ⟨5, _⟩ => ⟨S1024x16, .f32⟩
  | .hbm, ⟨6, _⟩ => ⟨S16, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S2x8192x16x64, .f32⟩
  | .hbm, ⟨25, _⟩ => ⟨S2x8192x16x64, .f32⟩
  | .hbm, ⟨26, _⟩ => ⟨S_, .f32⟩
  | .hbm, ⟨27, _⟩ => ⟨S2x8192x16, .f32⟩
  | .hbm, ⟨28, _⟩ => ⟨S2x8192x16x1, .f32⟩
  | .hbm, ⟨29, _⟩ => ⟨S_, .f32⟩
  | .hbm, ⟨30, _⟩ => ⟨S2x8192x16x1, .f32⟩
  | .hbm, ⟨31, _⟩ => ⟨S2x8192x16x1, .f32⟩
  | .hbm, ⟨32, _⟩ => ⟨S_, .f32⟩
  | .hbm, ⟨33, _⟩ => ⟨S2x8192x16x1, .f32⟩
  | .hbm, ⟨34, _⟩ => ⟨S2x8192x16x1, .f32⟩
  | .hbm, ⟨35, _⟩ => ⟨S2x8192x16x1, .f32⟩
  | .hbm, ⟨36, _⟩ => ⟨S2x8192x16x64, .f32⟩
  | .hbm, ⟨37, _⟩ => ⟨S2x8192x16x64, .f32⟩
  | .hbm, ⟨38, _⟩ => ⟨S1x1x1x64, .f32⟩
  | .hbm, ⟨39, _⟩ => ⟨S2x8192x16x64, .f32⟩
  | .hbm, ⟨40, _⟩ => ⟨S2x8192x16x64, .f32⟩
  | .hbm, ⟨41, _⟩ => ⟨S2x8192x1024, .f32⟩
  | .hbm, ⟨42, _⟩ => ⟨S2x8192x16, .f32⟩
  | .hbm, ⟨43, _⟩ => ⟨S1x1x16, .f32⟩
  | .hbm, ⟨44, _⟩ => ⟨S2x8192x16, .f32⟩
  | .hbm, ⟨45, _⟩ => ⟨S2x8192x16, .f32⟩
  | .hbm, ⟨46, _⟩ => ⟨S2x8192x16, .f32⟩
  | .hbm, ⟨47, _⟩ => ⟨S_, .f32⟩
  | .hbm, ⟨48, _⟩ => ⟨S2x8192x16, .f32⟩
  | .hbm, ⟨49, _⟩ => ⟨S2x8192x16, .f32⟩
  | .hbm, ⟨50, _⟩ => ⟨S2x8192x16, .f32⟩
  | .hbm, ⟨51, _⟩ => ⟨S2x8192x16, .f32⟩
  | .hbm, ⟨52, _⟩ => ⟨S2x8192x16, .i1⟩
  | .hbm, ⟨53, _⟩ => ⟨S2x8192x16, .f32⟩
  | .hbm, ⟨54, _⟩ => ⟨S2x8192x16, .f32⟩
  | .hbm, ⟨55, _⟩ => ⟨S2x8192x16, .f32⟩
  | .hbm, ⟨56, _⟩ => ⟨S2x8192x16, .f32⟩
  | .hbm, ⟨57, _⟩ => ⟨S2x8192x16, .f32⟩
  | .hbm, ⟨58, _⟩ => ⟨S2x8192x16, .f32⟩
  | .hbm, ⟨59, _⟩ => ⟨S2x8192x16, .f32⟩
  | .hbm, ⟨60, _⟩ => ⟨S2x8192x16, .f32⟩
  | .hbm, ⟨61, _⟩ => ⟨S2x8192x16, .f32⟩
  | .hbm, ⟨62, _⟩ => ⟨S2x8192x1024, .f32⟩
  | .hbm, ⟨63, _⟩ => ⟨S2x1024x8192, .f32⟩
  | .hbm, ⟨64, _⟩ => ⟨S2x1024x8192, .f32⟩
  | .hbm, ⟨65, _⟩ => ⟨S2x16x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩

abbrev nD : Nat := 1
abbrev τ : Topo := Topo.v7x

variable {F : FTy → Type} [FloatOps F]
-- ==== MlpSample.lean ====
abbrev S128x4x1024 : Shape := ⟨3, ![128, 4, 1024]⟩
abbrev S2x1024x1024 : Shape := ⟨3, ![2, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S512x1024 : Shape := ⟨2, ![512, 1024]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 16
  | .vmem => 7
  | .smem => 0
  | _ => 0

abbrev bufTy : (tb : Table) → Fin (tcTables nBuf tb) → BufTy
  | .hbm, ⟨0, _⟩ => ⟨S128x4x1024, .f32⟩
  | .hbm, ⟨1, _⟩ => ⟨S128x4x1024, .f32⟩
  | .hbm, ⟨2, _⟩ => ⟨S2x1024x1024, .f32⟩
  | .hbm, ⟨3, _⟩ => ⟨S4x1024, .f32⟩
  | .hbm, ⟨4, _⟩ => ⟨S4x1024x4096, .f32⟩
  | .hbm, ⟨5, _⟩ => ⟨S4x4096x1024, .f32⟩
  | .hbm, ⟨6, _⟩ => ⟨S2x1024x1024, .bf16⟩
  | .hbm, ⟨7, _⟩ => ⟨S4x1024x4096, .bf16⟩
  | .hbm, ⟨8, _⟩ => ⟨S4x4096x1024, .bf16⟩
  | .hbm, ⟨9, _⟩ => ⟨S512x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S128x4x1024, .bf16⟩
  | .hbm, ⟨14, _⟩ => ⟨S512x1024, .bf16⟩
  | .hbm, ⟨15, _⟩ => ⟨S512x1024, .f32⟩
  | .local _ .vmem, ⟨0, _⟩ => ⟨S512x1024, .f32⟩
  | .local _ .vmem, ⟨1, _⟩ => ⟨S512x1024, .bf16⟩
  | .local _ .vmem, ⟨2, _⟩ => ⟨S1x1024x1024, .bf16⟩
  | .local _ .vmem, ⟨3, _⟩ => ⟨S1x1024, .f32⟩
  | .local _ .vmem, ⟨4, _⟩ => ⟨S1x1024x4096, .bf16⟩
  | .local _ .vmem, ⟨5, _⟩ => ⟨S1x4096x1024, .bf16⟩
  | .local _ .vmem, ⟨6, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== MlpSampleReferenceIdeal.lean ====
abbrev S128x4x1024 : Shape := ⟨3, ![128, 4, 1024]⟩
abbrev S2x1024x1024 : Shape := ⟨3, ![2, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x4096 : Shape := ⟨3, ![128, 4, 4096]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x4x1024, .f32⟩
  | .hbm, ⟨2, _⟩ => ⟨S2x1024x1024, .f32⟩
  | .hbm, ⟨3, _⟩ => ⟨S4x1024, .f32⟩
  | .hbm, ⟨4, _⟩ => ⟨S4x1024x4096, .f32⟩
  | .hbm, ⟨5, _⟩ => ⟨S4x4096x1024, .f32⟩
  | .hbm, ⟨6, _⟩ => ⟨S1x1024x1024, .f32⟩
  | .hbm, ⟨7, _⟩ => ⟨S1024x1024, .f32⟩
  | .hbm, ⟨8, _⟩ => ⟨S128x4x1024, .f32⟩
  | .hbm, ⟨9, _⟩ => ⟨S128x4x1024, .f32⟩
  | .hbm, ⟨10, _⟩ => ⟨S1x1024, .f32⟩
  | .hbm, ⟨11, _⟩ => ⟨S1024, .f32⟩
  | .hbm, ⟨12, _⟩ => ⟨S1x1024x4096, .f32⟩
  | .hbm, ⟨13, _⟩ => ⟨S1024x4096, .f32⟩
  | .hbm, ⟨14, _⟩ => ⟨S1x4096x1024, .f32⟩
  | .hbm, ⟨15, _⟩ => ⟨S4096x1024, .f32⟩
  | .hbm, ⟨16, _⟩ => ⟨S128x4x1024, .f32⟩
  | .hbm, ⟨17, _⟩ => ⟨S_, .f32⟩
  | .hbm, ⟨18, _⟩ => ⟨S128x4, .f32⟩
  | .hbm, ⟨19, _⟩ => ⟨S128x4x1, .f32⟩
  | .hbm, ⟨20, _⟩ => ⟨S_, .f32⟩
  | .hbm, ⟨21, _⟩ => ⟨S128x4x1, .f32⟩
  | .hbm, ⟨22, _⟩ => ⟨S128x4x1, .f32⟩
  | .hbm, ⟨23, _⟩ => ⟨S_, .f32⟩
  | .hbm, ⟨24, _⟩ => ⟨S128x4x1, .f32⟩
  | .hbm, ⟨25, _⟩ => ⟨S128x4x1, .f32⟩
  | .hbm, ⟨26, _⟩ => ⟨S128x4x1, .f32⟩
  | .hbm, ⟨27, _⟩ => ⟨S128x4x1024, .f32⟩
  | .hbm, ⟨28, _⟩ => ⟨S128x4x1024, .f32⟩
  | .hbm, ⟨29, _⟩ => ⟨S1x1x1024, .f32⟩
  | .hbm, ⟨30, _⟩ => ⟨S128x4x1024, .f32⟩
  | .hbm, ⟨31, _⟩ => ⟨S128x4x1024, .f32⟩
  | .hbm, ⟨32, _⟩ => ⟨S128x4x4096, .f32⟩
  | .hbm, ⟨33, _⟩ => ⟨S_, .f32⟩
  | .hbm, ⟨34, _⟩ => ⟨S128x4x4096, .f32⟩
  | .hbm, ⟨35, _⟩ => ⟨S128x4x4096, .f32⟩
  | .hbm, ⟨36, _⟩ => ⟨S128x4x4096, .f32⟩
  | .hbm, ⟨37, _⟩ => ⟨S128x4x1024, .f32⟩
  | .hbm, ⟨38, _⟩ => ⟨S128x4x1024, .f32⟩
  | .hbm, ⟨39, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== KvSample.lean ====
abbrev S128x4x1024 : Shape := ⟨3, ![128, 4, 1024]⟩
abbrev S1024 : Shape := ⟨1, ![1024]⟩
abbrev S1024x1024 : Shape := ⟨2, ![1024, 1024]⟩
abbrev S64 : Shape := ⟨1, ![64]⟩
abbrev S1024x16 : Shape := ⟨2, ![1024, 16]⟩
abbrev S16 : Shape := ⟨1, ![16]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1024x1 : Shape := ⟨2, ![1024, 1]⟩
abbrev S128x1024 : Shape := ⟨2, ![128, 1024]⟩
abbrev S1x64 : Shape := ⟨2, ![1, 64]⟩
abbrev S16x64 : Shape := ⟨2, ![16, 64]⟩
abbrev S1x1024 : Shape := ⟨2, ![1, 1024]⟩
abbrev S512x1024 : Shape := ⟨2, ![512, 1024]⟩
abbrev S512x16 : Shape := ⟨2, ![512, 16]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩
abbrev S256x128 : Shape := ⟨2, ![256, 128]⟩
abbrev S128x256 : Shape := ⟨2, ![128, 256]⟩
abbrev S512x128 : Shape := ⟨2, ![512, 128]⟩

abbrev nBuf : Space → Nat
  | .hbm => 55
  | .vmem => 14
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S64, .f32⟩
  | .hbm, ⟨5, _⟩ => ⟨S1024x16, .f32⟩
  | .hbm, ⟨6, _⟩ => ⟨S16, .f32⟩
  | .hbm, ⟨7, _⟩ => ⟨S1024x1024, .bf16⟩
  | .hbm, ⟨8, _⟩ => ⟨S1024x1024, .bf16⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S1024, .i32⟩
  | .hbm, ⟨18, _⟩ => ⟨S1024x1, .i32⟩
  | .hbm, ⟨19, _⟩ => ⟨S_, .i32⟩
  | .hbm, ⟨20, _⟩ => ⟨S_, .i32⟩
  | .hbm, ⟨21, _⟩ => ⟨S1024x1, .i32⟩
  | .hbm, ⟨22, _⟩ => ⟨S1024x1, .i32⟩
  | .hbm, ⟨23, _⟩ => ⟨S1024x1, .i32⟩
  | .hbm, ⟨24, _⟩ => ⟨S_, .i32⟩
  | .hbm, ⟨25, _⟩ => ⟨S1024x1, .i32⟩
  | .hbm, ⟨26, _⟩ => ⟨S1024x1, .i1⟩
  | .hbm, ⟨27, _⟩ => ⟨S1024x1, .i32⟩
  | .hbm, ⟨28, _⟩ => ⟨S1024x1, .i32⟩
  | .hbm, ⟨29, _⟩ => ⟨S_, .i32⟩
  | .hbm, ⟨30, _⟩ => ⟨S1024x1, .i32⟩
  | .hbm, ⟨31, _⟩ => ⟨S1024x1, .i1⟩
  | .hbm, ⟨32, _⟩ => ⟨S1024x1, .i1⟩
  | .hbm, ⟨33, _⟩ => ⟨S_, .i32⟩
  | .hbm, ⟨34, _⟩ => ⟨S1024x1, .i32⟩
  | .hbm, ⟨35, _⟩ => ⟨S1024x1, .i32⟩
  | .hbm, ⟨36, _⟩ => ⟨S1024x1, .i32⟩
  | .hbm, ⟨37, _⟩ => ⟨S128, .i32⟩
  | .hbm, ⟨38, _⟩ => ⟨S1x128, .i32⟩
  | .hbm, ⟨39, _⟩ => ⟨S1024x128, .i32⟩
  | .hbm, ⟨40, _⟩ => ⟨S1024x128, .i32⟩
  | .hbm, ⟨41, _⟩ => ⟨S1024x128, .i1⟩
  | .hbm, ⟨42, _⟩ => ⟨S1024x128, .bf16⟩
  | .hbm, ⟨43, _⟩ => ⟨S128x1024, .bf16⟩
  | .hbm, ⟨44, _⟩ => ⟨S1x64, .f32⟩
  | .hbm, ⟨45, _⟩ => ⟨S16x64, .f32⟩
  | .hbm, ⟨46, _⟩ => ⟨S1024, .f32⟩
  | .hbm, ⟨47, _⟩ => ⟨S1x1024, .f32⟩
  | .hbm, ⟨48, _⟩ => ⟨S512x1024, .f32⟩
  | .hbm, ⟨49, _⟩ => ⟨S1x1024, .f32⟩
  | .hbm, ⟨50, _⟩ => ⟨S512x1024, .f32⟩
  | .hbm, ⟨51, _⟩ => ⟨S512x1024, .f32⟩
  | .hbm, ⟨52, _⟩ => ⟨S512x16, .f32⟩
  | .hbm, ⟨53, _⟩ => ⟨S512x1024, .bf16⟩
  | .hbm, ⟨54, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x128, .bf16⟩
  | .local _ .vmem, ⟨6, _⟩ => ⟨S1x128, .f32⟩
  | .local _ .vmem, ⟨7, _⟩ => ⟨S1024x128, .bf16⟩
  | .local _ .vmem, ⟨8, _⟩ => ⟨S128x1024, .bf16⟩
  | .local _ .vmem, ⟨9, _⟩ => ⟨S512x1024, .f32⟩
  | .local _ .vmem, ⟨10, _⟩ => ⟨S512x1024, .f32⟩
  | .local _ .vmem, ⟨11, _⟩ => ⟨S512x16, .f32⟩
  | .local _ .vmem, ⟨12, _⟩ => ⟨S512x1024, .bf16⟩
  | .local _ .vmem, ⟨13, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_c : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_0 : Ref sig .tc := ⟨.hbm, 33, rfl⟩
abbrev main_call2_v12 : Ref sig .tc := ⟨.hbm, 34, rfl⟩
abbrev main_call2_v13 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22_0 : Ref sig .tc := ⟨.hbm, 50, rfl⟩
abbrev main_v22_1 : Ref sig .tc := ⟨.hbm, 51, rfl⟩
abbrev main_v22_2 : Ref sig .tc := ⟨.hbm, 52, rfl⟩
abbrev main_v22_3 : Ref sig .tc := ⟨.hbm, 53, rfl⟩
abbrev main_v22_4 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== KvSampleReferenceIdeal.lean ====
abbrev S128x4x1024 : Shape := ⟨3, ![128, 4, 1024]⟩
abbrev S1024 : Shape := ⟨1, ![1024]⟩
abbrev S1024x1024 : Shape := ⟨2, ![1024, 1024]⟩
abbrev S64 : Shape := ⟨1, ![64]⟩
abbrev S1024x16 : Shape := ⟨2, ![1024, 16]⟩
abbrev S16 : Shape := ⟨1, ![16]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x16x64 : Shape := ⟨4, ![128, 4, 16, 64]⟩
abbrev S128x4x16 : Shape := ⟨3, ![128, 4, 16]⟩
abbrev S128x4x16x1 : Shape := ⟨4, ![128, 4, 16, 1]⟩
abbrev S1x1x1x64 : Shape := ⟨4, ![1, 1, 1, 64]⟩
abbrev S1x1x16 : Shape := ⟨3, ![1, 1, 16]⟩
abbrev S512x1024 : Shape := ⟨2, ![512, 1024]⟩
abbrev S512x16 : Shape := ⟨2, ![512, 16]⟩

abbrev nBuf : Space → Nat
  | .hbm => 65
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S64, .f32⟩
  | .hbm, ⟨5, _⟩ => ⟨S1024x16, .f32⟩
  | .hbm, ⟨6, _⟩ => ⟨S16, .f32⟩
  | .hbm, ⟨7, _⟩ => ⟨S128x4x1024, .f32⟩
  | .hbm, ⟨8, _⟩ => ⟨S_, .f32⟩
  | .hbm, ⟨9, _⟩ => ⟨S128x4, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S128x4x1, .f32⟩
  | .hbm, ⟨18, _⟩ => ⟨S128x4x1024, .f32⟩
  | .hbm, ⟨19, _⟩ => ⟨S128x4x1024, .f32⟩
  | .hbm, ⟨20, _⟩ => ⟨S1x1x1024, .f32⟩
  | .hbm, ⟨21, _⟩ => ⟨S128x4x1024, .f32⟩
  | .hbm, ⟨22, _⟩ => ⟨S128x4x1024, .f32⟩
  | .hbm, ⟨23, _⟩ => ⟨S128x4x1024, .f32⟩
  | .hbm, ⟨24, _⟩ => ⟨S128x4x16x64, .f32⟩
  | .hbm, ⟨25, _⟩ => ⟨S128x4x16x64, .f32⟩
  | .hbm, ⟨26, _⟩ => ⟨S_, .f32⟩
  | .hbm, ⟨27, _⟩ => ⟨S128x4x16, .f32⟩
  | .hbm, ⟨28, _⟩ => ⟨S128x4x16x1, .f32⟩
  | .hbm, ⟨29, _⟩ => ⟨S_, .f32⟩
  | .hbm, ⟨30, _⟩ => ⟨S128x4x16x1, .f32⟩
  | .hbm, ⟨31, _⟩ => ⟨S128x4x16x1, .f32⟩
  | .hbm, ⟨32, _⟩ => ⟨S_, .f32⟩
  | .hbm, ⟨33, _⟩ => ⟨S128x4x16x1, .f32⟩
  | .hbm, ⟨34, _⟩ => ⟨S128x4x16x1, .f32⟩
  | .hbm, ⟨35, _⟩ => ⟨S128x4x16x1, .f32⟩
  | .hbm, ⟨36, _⟩ => ⟨S128x4x16x64, .f32⟩
  | .hbm, ⟨37, _⟩ => ⟨S128x4x16x64, .f32⟩
  | .hbm, ⟨38, _⟩ => ⟨S1x1x1x64, .f32⟩
  | .hbm, ⟨39, _⟩ => ⟨S128x4x16x64, .f32⟩
  | .hbm, ⟨40, _⟩ => ⟨S128x4x16x64, .f32⟩
  | .hbm, ⟨41, _⟩ => ⟨S128x4x1024, .f32⟩
  | .hbm, ⟨42, _⟩ => ⟨S128x4x16, .f32⟩
  | .hbm, ⟨43, _⟩ => ⟨S1x1x16, .f32⟩
  | .hbm, ⟨44, _⟩ => ⟨S128x4x16, .f32⟩
  | .hbm, ⟨45, _⟩ => ⟨S128x4x16, .f32⟩
  | .hbm, ⟨46, _⟩ => ⟨S128x4x16, .f32⟩
  | .hbm, ⟨47, _⟩ => ⟨S_, .f32⟩
  | .hbm, ⟨48, _⟩ => ⟨S128x4x16, .f32⟩
  | .hbm, ⟨49, _⟩ => ⟨S128x4x16, .f32⟩
  | .hbm, ⟨50, _⟩ => ⟨S128x4x16, .f32⟩
  | .hbm, ⟨51, _⟩ => ⟨S128x4x16, .f32⟩
  | .hbm, ⟨52, _⟩ => ⟨S128x4x16, .i1⟩
  | .hbm, ⟨53, _⟩ => ⟨S128x4x16, .f32⟩
  | .hbm, ⟨54, _⟩ => ⟨S128x4x16, .f32⟩
  | .hbm, ⟨55, _⟩ => ⟨S128x4x16, .f32⟩
  | .hbm, ⟨56, _⟩ => ⟨S128x4x16, .f32⟩
  | .hbm, ⟨57, _⟩ => ⟨S128x4x16, .f32⟩
  | .hbm, ⟨58, _⟩ => ⟨S128x4x16, .f32⟩
  | .hbm, ⟨59, _⟩ => ⟨S128x4x16, .f32⟩
  | .hbm, ⟨60, _⟩ => ⟨S128x4x16, .f32⟩
  | .hbm, ⟨61, _⟩ => ⟨S128x4x16, .f32⟩
  | .hbm, ⟨62, _⟩ => ⟨S512x1024, .f32⟩
  | .hbm, ⟨63, _⟩ => ⟨S512x1024, .f32⟩
  | .hbm, ⟨64, _⟩ => ⟨S512x16, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩

abbrev nD : Nat := 1
abbrev τ : Topo := Topo.v7x

variable {F : FTy → Type} [FloatOps F]
-- ==== Proof.Body.lean ====
/-
  The body of the attention call, run once: at a grid point the tail of the key blocks has one of four lengths, decided by three
  conditions on the point's query block, and for each of the four the run finds what the four stores leave in the output's
  staging memory.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

/-- The body's triple for one list of pieces stored into the output: from the three inputs' staging memory at their contents and
    the output's at anything, the body runs to its return with the inputs as they were and the pieces written. -/
def Runs (c : Dev nD) (i : grid0.Coords)
    (arg3 : Memref sig .tc .vmem S1x4x128x512 .bf16) (harg3 : arg3.IsWhole) (arg4 : Memref sig .tc .vmem S1x8192x512 .bf16) (harg4 : arg4.IsWhole)
    (arg5 : Memref sig .tc .vmem S1x4x80x8192 .bf16) (harg5 : arg5.IsWhole) (arg6 : Memref sig .tc .vmem S1x4x64x512 .bf16) (harg6 : arg6.IsWhole)
    (x0 : Vec F S1x4x128x512 .bf16) (x1 : Vec F S1x8192x512 .bf16) (x2 : Vec F S1x4x80x8192 .bf16)
    (L : List (View.Piece (Elt F) S1x4x64x512 .bf16)) : Prop :=
  ∀ (E : Set ℕ) (K : PUnit → sProp (MT nD τ sig Unit (Elt F) ℕ (UR sig nD τ) ℕ)),
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
              ∗ (∃ f, arg6.view.loc (c : Thread nD τ) ↦[arg6.view.set]{fullShare} arg6.view.writes (Elt F) f L)) -∗ K ⟨⟩))
      ⊢ wp frame (wpE (defs₀ (F := F)) Variants.none c none) E (cc0_attn_prompt_bounded i arg3 harg3 arg4 harg4 arg5 harg5 arg6 harg6) K

set_option maxHeartbeats 0 in
/-- What the four stores leave, with the run, in each of the four cases: three key blocks left before the diagonal one, two, one, none. -/
def kernelRuns (c : Dev nD) (i : grid0.Coords)
    (arg3 : Memref sig .tc .vmem S1x4x128x512 .bf16) (harg3 : arg3.IsWhole) (arg4 : Memref sig .tc .vmem S1x8192x512 .bf16) (harg4 : arg4.IsWhole)
    (arg5 : Memref sig .tc .vmem S1x4x80x8192 .bf16) (harg5 : arg5.IsWhole) (arg6 : Memref sig .tc .vmem S1x4x64x512 .bf16) (harg6 : arg6.IsWhole)
    (x0 : Vec F S1x4x128x512 .bf16) (x1 : Vec F S1x8192x512 .bf16) (x2 : Vec F S1x4x80x8192 .bf16) :
    ((hc1 : k0_cond1 i = 1#1) → (hc2 : k0_cond2 i = 1#1) → (hc3 : k0_cond3 i = 1#1) →
        { L : List (View.Piece (Elt F) S1x4x64x512 .bf16) // Runs c i arg3 harg3 arg4 harg4 arg5 harg5 arg6 harg6 x0 x1 x2 L })
      × ((hc1 : k0_cond1 i = 1#1) → (hc2 : k0_cond2 i = 1#1) → (hc3 : ¬ k0_cond3 i = 1#1) →
        { L : List (View.Piece (Elt F) S1x4x64x512 .bf16) // Runs c i arg3 harg3 arg4 harg4 arg5 harg5 arg6 harg6 x0 x1 x2 L })
      × ((hc1 : k0_cond1 i = 1#1) → (hc2 : ¬ k0_cond2 i = 1#1) →
        { L : List (View.Piece (Elt F) S1x4x64x512 .bf16) // Runs c i arg3 harg3 arg4 harg4 arg5 harg5 arg6 harg6 x0 x1 x2 L })
      × ((hc1 : ¬ k0_cond1 i = 1#1) →
        { L : List (View.Piece (Elt F) S1x4x64x512 .bf16) // Runs c i arg3 harg3 arg4 harg4 arg5 harg5 arg6 harg6 x0 x1 x2 L }) := by
  refine ⟨fun hc1 hc2 hc3 => ?_, fun hc1 hc2 hc3 => ?_, fun hc1 hc2 => ?_, fun hc1 => ?_⟩
  all_goals
    refine ⟨?_, fun E K => ?run⟩
    case run =>
      simp only [cc0_attn_prompt_bounded_eq_skeleton]; unfold cc0_attn_prompt_bounded_skel
      unfold owns
      iintro ⟨⟨%f0, %hf0, H0⟩, ⟨%f1, %hf1, H1⟩, ⟨%f2, %hf2, H2⟩, ⟨%d3, %f3, -, H3⟩, Hk⟩
      obtain rfl := harg3.eq_unread hf0
      obtain rfl := harg4.eq_unread hf1
      obtain rfl := harg5.eq_unread hf2
      sl_exec
      sl_step
      iapply Hk
      isplitl [H0]
      · iexists _; isplitr; swap; · iexact H0
        ipureintro; exact harg3.read_unread _
      isplitl [H1]
      · iexists _; isplitr; swap; · iexact H1
        ipureintro; exact harg4.read_unread _
      isplitl [H2]
      · iexists _; isplitr; swap; · iexact H2
        ipureintro; exact harg5.read_unread _
      iexists _; iexact H3

end Cert.KernelIdeal.Hand

end
-- ==== Proof.Offsets.lean ====
/-
  The words the attention call computes from a grid point, in closed form: how many key blocks are left after the full trips, how
  many trips the loop makes, and the key block each load reads.
-/
module

public import proofs.«01_k».proof.Proof.Gen.KernelIdeal

@[expose] public section

set_option maxRecDepth 16384

noncomputable section

namespace Cert.KernelIdeal.Hand

open Cert.KernelIdeal Cert.KernelIdeal.Gen
open Idealize.ShloMosaic Idealize.ShloMosaic.TcCoe

/-- No key block is left exactly when the query block is a multiple of four. -/
theorem cond1_iff : ∀ i : grid0.Coords, k0_cond1 i = 1#1 ↔ (i 2).val % 4 ≠ 0 := by decide +kernel
theorem cond2_iff : ∀ i : grid0.Coords, (i 2).val % 4 ≠ 0 → (k0_cond2 i = 1#1 ↔ (i 2).val % 4 ≠ 1) := by decide +kernel
theorem cond3_iff : ∀ i : grid0.Coords, (i 2).val % 4 ≠ 0 → (i 2).val % 4 ≠ 1 → (k0_cond3 i = 1#1 ↔ (i 2).val % 4 ≠ 2) := by decide +kernel

/-- The loop makes one trip per four key blocks before the query block; the loop over what a step of four leaves makes none. -/
theorem trips1 : ∀ i : grid0.Coords, (k0_t1_loop i).trips = (i 2).val / 4 := by decide +kernel
theorem trips2 : ∀ i : grid0.Coords, (k0_t2_loop i).trips = 0 := by decide +kernel

/-! ## Where the loads read

  The loads come in tables: by the number of blocks left (the loop has a table of its own), then by head; the entry takes the block's
  number. The arguments of the entries are numbers, not words, so that one statement covers a table. -/

/-- A trip's loads of keys, by head. -/
def loopKey (i : grid0.Coords) (t : Fin (k0_t1_loop i).trips) (x : Fin 4) (r : ℕ) : Fin 3 → ℕ :=
  ![k0_off1 i t (BitVec.ofNat 32 r), k0_off2 i t (BitVec.ofNat 32 r), k0_off3 i t (BitVec.ofNat 32 r), k0_off4 i t (BitVec.ofNat 32 r)] x
/-- A trip's loads of values, by head. -/
def loopVal (i : grid0.Coords) (t : Fin (k0_t1_loop i).trips) (x : Fin 4) (r : ℕ) : Fin 4 → ℕ :=
  ![k0_off5 i t (BitVec.ofNat 32 r), k0_off6 i t (BitVec.ofNat 32 r), k0_off7 i t (BitVec.ofNat 32 r), k0_off8 i t (BitVec.ofNat 32 r)] x
/-- The tail's loads of keys, by how many blocks are left and by head. -/
def tailKey (i : grid0.Coords) (n x : Fin 4) (r : ℕ) : Fin 3 → ℕ :=
  ![![k0_off41 i, k0_off42 i, k0_off43 i, k0_off44 i],
    ![k0_off33 i (BitVec.ofNat 32 r), k0_off34 i (BitVec.ofNat 32 r), k0_off35 i (BitVec.ofNat 32 r), k0_off36 i (BitVec.ofNat 32 r)],
    ![k0_off25 i (BitVec.ofNat 32 r), k0_off26 i (BitVec.ofNat 32 r), k0_off27 i (BitVec.ofNat 32 r), k0_off28 i (BitVec.ofNat 32 r)],
    ![k0_off17 i (BitVec.ofNat 32 r), k0_off18 i (BitVec.ofNat 32 r), k0_off19 i (BitVec.ofNat 32 r), k0_off20 i (BitVec.ofNat 32 r)]] n x
/-- The tail's loads of values. -/
def tailVal (i : grid0.Coords) (n x : Fin 4) (r : ℕ) : Fin 4 → ℕ :=
  ![![k0_off45 i, k0_off46 i, k0_off47 i, k0_off48 i],
    ![k0_off37 i (BitVec.ofNat 32 r), k0_off38 i (BitVec.ofNat 32 r), k0_off39 i (BitVec.ofNat 32 r), k0_off40 i (BitVec.ofNat 32 r)],
    ![k0_off29 i (BitVec.ofNat 32 r), k0_off30 i (BitVec.ofNat 32 r), k0_off31 i (BitVec.ofNat 32 r), k0_off32 i (BitVec.ofNat 32 r)],
    ![k0_off21 i (BitVec.ofNat 32 r), k0_off22 i (BitVec.ofNat 32 r), k0_off23 i (BitVec.ofNat 32 r), k0_off24 i (BitVec.ofNat 32 r)]] n x

/-- A trip reads the keys of four blocks in a row. -/
theorem loopKey_eq : ∀ (i : grid0.Coords) (t : Fin (k0_t1_loop i).trips) (x r : Fin 4), loopKey i t x r.val = ![0, 512 * (4 * t.val + r.val), 128 * x.val] := by decide +kernel
theorem loopVal_eq : ∀ (i : grid0.Coords) (t : Fin (k0_t1_loop i).trips) (x r : Fin 4), loopVal i t x r.val = ![0, x.val, 0, 512 * (4 * t.val + r.val)] := by decide +kernel
/-- The tail goes on from the last trip's blocks up to the query block. -/
theorem tailKey_eq : ∀ (i : grid0.Coords) (n x r : Fin 4), (i 2).val % 4 = n.val → r.val ≤ n.val →
    tailKey i n x r.val = ![0, 512 * (4 * ((i 2).val / 4) + r.val), 128 * x.val] := by decide +kernel
theorem tailVal_eq : ∀ (i : grid0.Coords) (n x r : Fin 4), (i 2).val % 4 = n.val → r.val ≤ n.val →
    tailVal i n x r.val = ![0, x.val, 0, 512 * (4 * ((i 2).val / 4) + r.val)] := by decide +kernel

end Cert.KernelIdeal.Hand

end
-- ==== Proof.Steps.lean ====
/-
  What the attention call's body computes, over any values: one step takes a block of 512 keys of one head, and each of the loop's
  trips, and each of the four tails, is such steps one after the other.
-/
module

public import proofs.«01_k».proof.Proof.Body
public import proofs.«01_k».proof.Proof.Offsets
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F] [Named F]

/-! ## The blocks -/

theorem qInb (x : Fin 4) : ∀ a, (![0, x.val, 0, 0] : Fin 4 → ℕ) a + S1x1x128x512.size a ≤ S1x4x128x512.size a := by revert x; decide
theorem kInb (x : Fin 4) (j : Fin 16) : ∀ a, (![0, 512 * j.val, 128 * x.val] : Fin 3 → ℕ) a + S1x512x128.size a ≤ S1x8192x512.size a := by
  revert x j; decide +kernel
theorem vInb (x : Fin 4) (j : Fin 16) : ∀ a, (![0, x.val, 0, 512 * j.val] : Fin 4 → ℕ) a + S1x1x80x512.size a ≤ S1x4x80x8192.size a := by
  revert x j; decide +kernel

/-- Head `x`'s queries in the block of queries. -/
def qTile (x0 : Vec F S1x4x128x512 .bf16) (x : Fin 4) : FVec F S128x512 .bf16 :=
  shapeCast S128x512 (View.ld x0 (Rect.unit (s := S1x4x128x512) ![0, x.val, 0, 0] S1x1x128x512.size (qInb x))) shapeCasts_S1x1x128x512_S128x512
/-- Head `x`'s `j`-th block of 512 keys. -/
def kTile (x1 : Vec F S1x8192x512 .bf16) (x : Fin 4) (j : Fin 16) : Vec F S1x512x128 .bf16 :=
  View.ld x1 (Rect.unit (s := S1x8192x512) ![0, 512 * j.val, 128 * x.val] S1x512x128.size (kInb x j))
/-- Head `x`'s `j`-th block of 512 values. -/
def vTile (x2 : Vec F S1x4x80x8192 .bf16) (x : Fin 4) (j : Fin 16) : Vec F S1x1x80x512 .bf16 :=
  View.ld x2 (Rect.unit (s := S1x4x80x8192) ![0, x.val, 0, 512 * j.val] S1x1x80x512.size (vInb x j))

/-- A load of a staging memory held at `X`, at computed offsets equal to `off'`, is the block of `X` there. -/
theorem load_eq {S : Shape} {e : EltTy} {r : Fin S.rank → ℕ} (arg : Memref sig .tc .vmem S e) (h : arg.IsWhole) (X : Vec F S e)
    {off off' : Fin S.rank → ℕ} (inb : ∀ a, off a + r a ≤ S.size a) (inb' : ∀ a, off' a + r a ≤ S.size a) (ho : off = off') :
    View.readAt (Elt F) arg.view (Rect.unit (s := S) off r inb).toLoadRect (h.unread X) = View.ld X (Rect.unit (s := S) off' r inb') := by
  subst ho
  exact congrArg (fun Y => View.ld Y (Rect.unit (s := S) off r inb)) (h.read_unread X)

theorem kTile_eq (arg4 : Memref sig .tc .vmem S1x8192x512 .bf16) (harg4 : arg4.IsWhole) (x1 : Vec F S1x8192x512 .bf16) (x : Fin 4) (j : Fin 16)
    {off : Fin 3 → ℕ} (inb : ∀ a, off a + S1x512x128.size a ≤ S1x8192x512.size a) (ho : off = ![0, 512 * j.val, 128 * x.val]) :
    kTile x1 x j = View.readAt (Elt F) arg4.view (Rect.unit (s := S1x8192x512) off S1x512x128.size inb).toLoadRect (harg4.unread x1) :=
  (load_eq arg4 harg4 x1 inb (kInb x j) ho).symm
theorem vTile_eq (arg5 : Memref sig .tc .vmem S1x4x80x8192 .bf16) (harg5 : arg5.IsWhole) (x2 : Vec F S1x4x80x8192 .bf16) (x : Fin 4) (j : Fin 16)
    {off : Fin 4 → ℕ} (inb : ∀ a, off a + S1x1x80x512.size a ≤ S1x4x80x8192.size a) (ho : off = ![0, x.val, 0, 512 * j.val]) :
    vTile x2 x j = View.readAt (Elt F) arg5.view (Rect.unit (s := S1x4x80x8192) off S1x1x80x512.size inb).toLoadRect (harg5.unread x2) :=
  (load_eq arg5 harg5 x2 inb (vInb x j) ho).symm
theorem qTile_eq (arg3 : Memref sig .tc .vmem S1x4x128x512 .bf16) (harg3 : arg3.IsWhole) (x0 : Vec F S1x4x128x512 .bf16) (x : Fin 4)
    {off : Fin 4 → ℕ} (inb : ∀ a, off a + S1x1x128x512.size a ≤ S1x4x128x512.size a) (ho : off = ![0, x.val, 0, 0]) :
    qTile x0 x = shapeCast S128x512 (View.readAt (Elt F) arg3.view (Rect.unit (s := S1x4x128x512) off S1x1x128x512.size inb).toLoadRect (harg3.unread x0))
      shapeCasts_S1x1x128x512_S128x512 :=
  congrArg (fun V => shapeCast S128x512 V shapeCasts_S1x1x128x512_S128x512) (load_eq arg3 harg3 x0 inb (qInb x) ho).symm

/-! ## One step -/

/-- The scores of a block of keys against the queries: keys down, queries across. -/
def score (q : FVec F S128x512 .bf16) (kb : Vec F S1x512x128 .bf16) : FVec F S512x512 .f32 :=
  matmul dot_S512x128_S128x512_S512x512_1_0_0_1_n_n none (shapeCast S512x128 kb shapeCasts_S1x512x128_S512x128 : FVec F S512x128 .bf16) q
    (constant S512x512 .f32 0x00000000#32)
/-- The scores of the diagonal block: a key after the query is masked. -/
def masked (s : FVec F S512x512 .f32) : FVec F S512x512 .f32 :=
  select (cmpi .sle (iota .tc S512x512 32 [0] iota_S512x512_d0_w32 : IVec S512x512 32) (iota .tc S512x512 32 [1] iota_S512x512_d1_w32)) s
    (broadcast S512x512 (Named.named κ "mask" 0xF149F2CA#32 : F .f32))
/-- The values weighted by the scores' powers of two, added to what is carried. -/
def accum (s : FVec F S512x512 .f32) (vb : Vec F S1x1x80x512 .bf16) (acc : FVec F S80x512 .f32) : FVec F S80x512 .f32 :=
  addf acc (matmul dot_S80x512_S512x512_S80x512_1_0_0_1_n_n none (shapeCast S80x512 vb shapeCasts_S1x1x80x512_S80x512 : FVec F S80x512 .bf16)
    (truncf .bf16 (exp2 s) bitsLt_bf16_f32 : FVec F S512x512 .bf16) (constant S80x512 .f32 0x00000000#32))
/-- The carried weights' quotient: the first 64 rows by the row of the sums. -/
def quot (acc : FVec F S80x512 .f32) : FVec F S1x1x64x512 .bf16 :=
  shapeCast S1x1x64x512 (truncf .bf16 (divf (extractStridedSlice S64x512 ![0, 0] acc slices_S80x512_o0_0_S64x512 : FVec F S64x512 .f32)
    (broadcastTo S64x512 (extractStridedSlice S1x512 ![64, 0] acc slices_S80x512_o64_0_S1x512 : FVec F S1x512 .f32) broadcasts_S1x512_S64x512))
    bitsLt_bf16_f32 : FVec F S64x512 .bf16) shapeCasts_S64x512_S1x1x64x512

/-- A whole step on head `x`'s `j`-th block. -/
def step (q : FVec F S128x512 .bf16) (x1 : Vec F S1x8192x512 .bf16) (x2 : Vec F S1x4x80x8192 .bf16) (x : Fin 4) (j : ℕ)
    (acc : FVec F S80x512 .f32) : FVec F S80x512 .f32 :=
  accum (score q (kTile x1 x (Fin.ofNat 16 j))) (vTile x2 x (Fin.ofNat 16 j)) acc
/-- The step on the diagonal block. -/
def last (q : FVec F S128x512 .bf16) (x1 : Vec F S1x8192x512 .bf16) (x2 : Vec F S1x4x80x8192 .bf16) (x : Fin 4) (j : ℕ)
    (acc : FVec F S80x512 .f32) : FVec F S80x512 .f32 :=
  accum (masked (score q (kTile x1 x (Fin.ofNat 16 j)))) (vTile x2 x (Fin.ofNat 16 j)) acc
/-- What is carried after the first `n` blocks, from zero. -/
def accAt (q : FVec F S128x512 .bf16) (x1 : Vec F S1x8192x512 .bf16) (x2 : Vec F S1x4x80x8192 .bf16) (x : Fin 4) : ℕ → FVec F S80x512 .f32
  | 0 => broadcast S80x512 (Scalar.ofBits .f32 0x00000000#32 : F .f32)
  | n + 1 => step q x1 x2 x n (accAt q x1 x2 x n)
/-- Head `x`'s result at query block `n`. -/
def headOut (q : FVec F S128x512 .bf16) (x1 : Vec F S1x8192x512 .bf16) (x2 : Vec F S1x4x80x8192 .bf16) (x : Fin 4) (n : ℕ) : FVec F S1x1x64x512 .bf16 :=
  quot (last q x1 x2 x n (accAt q x1 x2 x n))

/-- The four heads' results, stored one after the other. -/
def quad (a b c d : FVec F S1x1x64x512 .bf16) : List (View.Piece (Elt F) S1x4x64x512 .bf16) :=
  [⟨Rect.unit (s := S1x4x64x512) ![0, 3, 0, 0] S1x1x64x512.size inb_S1x4x64x512_S1x1x64x512_0_3_0_0, d⟩,
   ⟨Rect.unit (s := S1x4x64x512) ![0, 2, 0, 0] S1x1x64x512.size inb_S1x4x64x512_S1x1x64x512_0_2_0_0, c⟩,
   ⟨Rect.unit (s := S1x4x64x512) ![0, 1, 0, 0] S1x1x64x512.size inb_S1x4x64x512_S1x1x64x512_0_1_0_0, b⟩,
   ⟨Rect.unit (s := S1x4x64x512) ![0, 0, 0, 0] S1x1x64x512.size inb_S1x4x64x512_S1x1x64x512_0_0_0_0, a⟩]

/-- Steps one after the other on the blocks `K 0, …, K (n - 1)` of keys and `W` of values, from `acc`. -/
def lead (q : FVec F S128x512 .bf16) (K : ℕ → Vec F S1x512x128 .bf16) (W : ℕ → Vec F S1x1x80x512 .bf16) (acc : FVec F S80x512 .f32) : ℕ → FVec F S80x512 .f32
  | 0 => acc
  | n + 1 => accum (score q (K n)) (W n) (lead q K W acc n)
/-- The steps before the diagonal block `n`, the step on it, and the quotient. -/
def tail (q : FVec F S128x512 .bf16) (K : ℕ → Vec F S1x512x128 .bf16) (W : ℕ → Vec F S1x1x80x512 .bf16) (acc : FVec F S80x512 .f32) (n : ℕ) : FVec F S1x1x64x512 .bf16 :=
  quot (accum (masked (score q (K n))) (W n) (lead q K W acc n))

section
variable {q : FVec F S128x512 .bf16} {x1 : Vec F S1x8192x512 .bf16} {x2 : Vec F S1x4x80x8192 .bf16} {x : Fin 4} {a : ℕ}
variable {K : ℕ → Vec F S1x512x128 .bf16} {W : ℕ → Vec F S1x1x80x512 .bf16}

/-- From what is carried after `a` blocks, steps on the next `n` blocks give what is carried after `a + n`. -/
theorem lead_eq (n : ℕ) (hK : ∀ r < n, K r = kTile x1 x (Fin.ofNat 16 (a + r))) (hW : ∀ r < n, W r = vTile x2 x (Fin.ofNat 16 (a + r))) :
    lead q K W (accAt q x1 x2 x a) n = accAt q x1 x2 x (a + n) := by
  induction n with
  | zero => rfl
  | succ n ih =>
    show accum (score q (K n)) (W n) (lead q K W (accAt q x1 x2 x a) n) = _
    rw [ih (fun r h => hK r (by omega)) (fun r h => hW r (by omega)), hK n (by omega), hW n (by omega)]
    rfl
theorem tail_eq (n : ℕ) (hK : ∀ r ≤ n, K r = kTile x1 x (Fin.ofNat 16 (a + r))) (hW : ∀ r ≤ n, W r = vTile x2 x (Fin.ofNat 16 (a + r))) :
    tail q K W (accAt q x1 x2 x a) n = headOut q x1 x2 x (a + n) := by
  unfold tail
  rw [lead_eq n (fun r h => hK r (by omega)) (fun r h => hW r (by omega)), hK n le_rfl, hW n le_rfl]
  rfl
end

/-! ## The blocks a run loads -/

section
variable {a n : ℕ} {x : Fin 4}

theorem keyFits {off : ℕ → Fin 3 → ℕ} (ha : a + n < 16) (h : ∀ r : Fin (n + 1), off r.val = ![0, 512 * (a + r.val), 128 * x.val]) (r : Fin (n + 1)) :
    ∀ b, off r.val b + S1x512x128.size b ≤ S1x8192x512.size b := by
  rw [h r]
  exact kInb x ⟨a + r.val, by omega⟩
theorem valFits {off : ℕ → Fin 4 → ℕ} (ha : a + n < 16) (h : ∀ r : Fin (n + 1), off r.val = ![0, x.val, 0, 512 * (a + r.val)]) (r : Fin (n + 1)) :
    ∀ b, off r.val b + S1x1x80x512.size b ≤ S1x4x80x8192.size b := by
  rw [h r]
  exact vInb x ⟨a + r.val, by omega⟩

/-- The `r`-th of the `n + 1` blocks of keys at the offsets `off`. -/
def keyAt (arg4 : Memref sig .tc .vmem S1x8192x512 .bf16) (harg4 : arg4.IsWhole) (x1 : Vec F S1x8192x512 .bf16) {off : ℕ → Fin 3 → ℕ}
    (hf : ∀ r : Fin (n + 1), ∀ b, off r.val b + S1x512x128.size b ≤ S1x8192x512.size b) (r : ℕ) : Vec F S1x512x128 .bf16 :=
  View.readAt (Elt F) arg4.view (Rect.unit (s := S1x8192x512) (off (Fin.ofNat (n + 1) r).val) S1x512x128.size (hf _)).toLoadRect (harg4.unread x1)
/-- The `r`-th of the `n + 1` blocks of values at the offsets `off`. -/
def valAt (arg5 : Memref sig .tc .vmem S1x4x80x8192 .bf16) (harg5 : arg5.IsWhole) (x2 : Vec F S1x4x80x8192 .bf16) {off : ℕ → Fin 4 → ℕ}
    (hf : ∀ r : Fin (n + 1), ∀ b, off r.val b + S1x1x80x512.size b ≤ S1x4x80x8192.size b) (r : ℕ) : Vec F S1x1x80x512 .bf16 :=
  View.readAt (Elt F) arg5.view (Rect.unit (s := S1x4x80x8192) (off (Fin.ofNat (n + 1) r).val) S1x1x80x512.size (hf _)).toLoadRect (harg5.unread x2)

theorem keyAt_eq (arg4 : Memref sig .tc .vmem S1x8192x512 .bf16) (harg4 : arg4.IsWhole) (x1 : Vec F S1x8192x512 .bf16) {off : ℕ → Fin 3 → ℕ}
    (ha : a + n < 16) (h : ∀ r : Fin (n + 1), off r.val = ![0, 512 * (a + r.val), 128 * x.val]) (r : ℕ) (hr : r ≤ n) :
    keyAt arg4 harg4 x1 (keyFits ha h) r = kTile x1 x (Fin.ofNat 16 (a + r)) := by
  refine (kTile_eq arg4 harg4 x1 x _ _ ((h _).trans ?_)).symm
  rw [show (Fin.ofNat (n + 1) r).val = r from Nat.mod_eq_of_lt (by omega), show (Fin.ofNat 16 (a + r)).val = a + r from Nat.mod_eq_of_lt (by omega)]
theorem valAt_eq (arg5 : Memref sig .tc .vmem S1x4x80x8192 .bf16) (harg5 : arg5.IsWhole) (x2 : Vec F S1x4x80x8192 .bf16) {off : ℕ → Fin 4 → ℕ}
    (ha : a + n < 16) (h : ∀ r : Fin (n + 1), off r.val = ![0, x.val, 0, 512 * (a + r.val)]) (r : ℕ) (hr : r ≤ n) :
    valAt arg5 harg5 x2 (valFits ha h) r = vTile x2 x (Fin.ofNat 16 (a + r)) := by
  refine (vTile_eq arg5 harg5 x2 x _ _ ((h _).trans ?_)).symm
  rw [show (Fin.ofNat (n + 1) r).val = r from Nat.mod_eq_of_lt (by omega), show (Fin.ofNat 16 (a + r)).val = a + r from Nat.mod_eq_of_lt (by omega)]
end

/-! ## A trip of the loop -/

set_option maxHeartbeats 4000000 in
/-- One trip is the next four steps on each head. -/
theorem trip_eq (c : Dev nD) (i : grid0.Coords) (arg3 : Memref sig .tc .vmem S1x4x128x512 .bf16) (harg3 : arg3.IsWhole) (arg4 : Memref sig .tc .vmem S1x8192x512 .bf16) (harg4 : arg4.IsWhole)
    (arg5 : Memref sig .tc .vmem S1x4x80x8192 .bf16) (harg5 : arg5.IsWhole) (arg6 : Memref sig .tc .vmem S1x4x64x512 .bf16) (harg6 : arg6.IsWhole)
    (arg2 : BitVec 32) (v1 v3 v5 v7 : FVec F S128x512 .bf16) (v8 v9 : IVec S512x512 32) (v11 v13 v15 v17 : FVec F S80x512 .f32) (c4_i32 v18 v23 v25 v27 : BitVec 32)
    (x1 : Vec F S1x8192x512 .bf16) (x2 : Vec F S1x4x80x8192 .bf16) (t : Fin (k0_t1_loop i).trips) :
    tripR_k0_t1 (F := F) Variants.none c none i arg3 harg3 arg4 harg4 arg5 harg5 arg6 harg6 arg2 v1 v3 v5 v7 v8 v9 v11 v13 v15 v17 c4_i32 v18 v23 v25 v27
        (harg4.unread x1) (harg5.unread x2) t
        (accAt v1 x1 x2 0 (4 * t.val), accAt v3 x1 x2 1 (4 * t.val), accAt v5 x1 x2 2 (4 * t.val), accAt v7 x1 x2 3 (4 * t.val))
      = (accAt v1 x1 x2 0 (4 * t.val + 4), accAt v3 x1 x2 1 (4 * t.val + 4), accAt v5 x1 x2 2 (4 * t.val + 4), accAt v7 x1 x2 3 (4 * t.val + 4)) := by
  have ht : 4 * t.val + 3 < 16 := by
    have h1 : t.val < (i 2).val / 4 := lt_of_lt_of_eq t.isLt (trips1 i)
    have h2 : (i 2).val < 16 := (i 2).isLt
    omega
  have e (q : FVec F S128x512 .bf16) (x : Fin 4) := lead_eq (q := q) (x := x) (a := 4 * t.val) 4
    (fun r h => keyAt_eq arg4 harg4 x1 ht (loopKey_eq i t x) r (by omega)) (fun r h => valAt_eq arg5 harg5 x2 ht (loopVal_eq i t x) r (by omega))
  rw [← e v1 0, ← e v3 1, ← e v5 2, ← e v7 3]
  generalize accAt v1 x1 x2 0 (4 * t.val) = a1, accAt v3 x1 x2 1 (4 * t.val) = a3, accAt v5 x1 x2 2 (4 * t.val) = a5, accAt v7 x1 x2 3 (4 * t.val) = a7
  unfold tripR_k0_t1 trip_k0_t1
  rfl

end Cert.KernelIdeal.Hand

end
-- ==== Proof.Outs.lean ====
/-
  What the body leaves in the output's staging memory, however many blocks are left: each head's result at the point's query block.
-/
module

public import proofs.«01_k».proof.Proof.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F] [Named F]

/-- What the loop carries after `n` trips: the first `4 n` blocks' steps. -/
theorem st1_eq (c : Dev nD) (i : grid0.Coords) (arg3 : Memref sig .tc .vmem S1x4x128x512 .bf16) (harg3 : arg3.IsWhole) (arg4 : Memref sig .tc .vmem S1x8192x512 .bf16) (harg4 : arg4.IsWhole)
    (arg5 : Memref sig .tc .vmem S1x4x80x8192 .bf16) (harg5 : arg5.IsWhole) (arg6 : Memref sig .tc .vmem S1x4x64x512 .bf16) (harg6 : arg6.IsWhole)
    (arg2 : BitVec 32) (v1 v3 v5 v7 : FVec F S128x512 .bf16) (v8 v9 : IVec S512x512 32) (v11 v13 v15 v17 : FVec F S80x512 .f32) (c4_i32 v18 v23 v25 v27 : BitVec 32)
    (x1 : Vec F S1x8192x512 .bf16) (x2 : Vec F S1x4x80x8192 .bf16) (n : ℕ) (hn : n ≤ (k0_t1_loop i).trips) :
    st_k0_t1 (F := F) Variants.none c none i arg3 harg3 arg4 harg4 arg5 harg5 arg6 harg6 arg2 v1 v3 v5 v7 v8 v9 v11 v13 v15 v17 c4_i32 v18 v23 v25 v27
        (harg4.unread x1) (harg5.unread x2) (k0_pay111, k0_pay112, k0_pay113, k0_pay114) n
      = (accAt v1 x1 x2 0 (4 * n), accAt v3 x1 x2 1 (4 * n), accAt v5 x1 x2 2 (4 * n), accAt v7 x1 x2 3 (4 * n)) := by
  induction n with
  | zero => rfl
  | succ n ih =>
    have h := st_k0_t1_succ (F := F) Variants.none c none i arg3 harg3 arg4 harg4 arg5 harg5 arg6 harg6 arg2 v1 v3 v5 v7 v8 v9 v11 v13 v15 v17 c4_i32 v18 v23 v25 v27
      (harg4.unread x1) (harg5.unread x2) (k0_pay111, k0_pay112, k0_pay113, k0_pay114) ⟨n, hn⟩
    rw [ih (Nat.le_of_succ_le hn), trip_eq] at h
    exact h

/-- What the two loops leave, the second making no trip. -/
theorem st2_eq (c : Dev nD) (i : grid0.Coords) (arg3 : Memref sig .tc .vmem S1x4x128x512 .bf16) (harg3 : arg3.IsWhole) (arg4 : Memref sig .tc .vmem S1x8192x512 .bf16) (harg4 : arg4.IsWhole)
    (arg5 : Memref sig .tc .vmem S1x4x80x8192 .bf16) (harg5 : arg5.IsWhole) (arg6 : Memref sig .tc .vmem S1x4x64x512 .bf16) (harg6 : arg6.IsWhole)
    (arg2 : BitVec 32) (v1 v3 v5 v7 : FVec F S128x512 .bf16) (v8 v9 : IVec S512x512 32) (v11 v13 v15 v17 : FVec F S80x512 .f32) (c4_i32 v18 v23 v25 v27 : BitVec 32) (v39 : BitVec 32)
    (x1 : Vec F S1x8192x512 .bf16) (x2 : Vec F S1x4x80x8192 .bf16)
    (init : FVec F S80x512 .f32 × FVec F S80x512 .f32 × FVec F S80x512 .f32 × FVec F S80x512 .f32) :
    st_k0_t2 (F := F) Variants.none c none i arg3 harg3 arg4 harg4 arg5 harg5 arg6 harg6 arg2 v1 v3 v5 v7 v8 v9 v11 v13 v15 v17 c4_i32 v18 v23 v25 v27 v39
        (harg4.unread x1) (harg5.unread x2) init (k0_t2_loop i).trips = init := by
  rw [trips2 i]; rfl

/-- Two of the words the body computes from the point, which nothing here reads. -/
def w18 (i : grid0.Coords) : BitVec 32 := Scalar.divsi (BitVec.ofNat 32 (i 2).val) 4#32
def w23 (i : grid0.Coords) : BitVec 32 :=
  Scalar.subi (Scalar.extui (Scalar.cmpi .sgt (BitVec.ofNat 32 (i 2).val) 0#32)) (Scalar.extui (Scalar.cmpi .slt (BitVec.ofNat 32 (i 2).val) 0#32))

/-- What the two loops carry to the tail. -/
def carried (c : Dev nD) (i : grid0.Coords) (arg3 : Memref sig .tc .vmem S1x4x128x512 .bf16) (harg3 : arg3.IsWhole) (arg4 : Memref sig .tc .vmem S1x8192x512 .bf16) (harg4 : arg4.IsWhole)
    (arg5 : Memref sig .tc .vmem S1x4x80x8192 .bf16) (harg5 : arg5.IsWhole) (arg6 : Memref sig .tc .vmem S1x4x64x512 .bf16) (harg6 : arg6.IsWhole)
    (arg2 : BitVec 32) (v1 v3 v5 v7 : FVec F S128x512 .bf16) (v8 v9 : IVec S512x512 32) (v11 v13 v15 v17 : FVec F S80x512 .f32) (c4_i32 v18 v23 v25 v27 : BitVec 32) (v39 : BitVec 32)
    (x1 : Vec F S1x8192x512 .bf16) (x2 : Vec F S1x4x80x8192 .bf16) : FVec F S80x512 .f32 × FVec F S80x512 .f32 × FVec F S80x512 .f32 × FVec F S80x512 .f32 :=
  st_k0_t2 (F := F) Variants.none c none i arg3 harg3 arg4 harg4 arg5 harg5 arg6 harg6 arg2 v1 v3 v5 v7 v8 v9 v11 v13 v15 v17 c4_i32 v18 v23 v25 v27 v39 (harg4.unread x1) (harg5.unread x2)
    ((st_k0_t1 (F := F) Variants.none c none i arg3 harg3 arg4 harg4 arg5 harg5 arg6 harg6 arg2 v1 v3 v5 v7 v8 v9 v11 v13 v15 v17 c4_i32 v18 v23 v25 v27 (harg4.unread x1) (harg5.unread x2) (k0_pay111, k0_pay112, k0_pay113, k0_pay114) (k0_t1_loop i).trips).1,
     (st_k0_t1 (F := F) Variants.none c none i arg3 harg3 arg4 harg4 arg5 harg5 arg6 harg6 arg2 v1 v3 v5 v7 v8 v9 v11 v13 v15 v17 c4_i32 v18 v23 v25 v27 (harg4.unread x1) (harg5.unread x2) (k0_pay111, k0_pay112, k0_pay113, k0_pay114) (k0_t1_loop i).trips).2.1,
     (st_k0_t1 (F := F) Variants.none c none i arg3 harg3 arg4 harg4 arg5 harg5 arg6 harg6 arg2 v1 v3 v5 v7 v8 v9 v11 v13 v15 v17 c4_i32 v18 v23 v25 v27 (harg4.unread x1) (harg5.unread x2) (k0_pay111, k0_pay112, k0_pay113, k0_pay114) (k0_t1_loop i).trips).2.2.1,
     (st_k0_t1 (F := F) Variants.none c none i arg3 harg3 arg4 harg4 arg5 harg5 arg6 harg6 arg2 v1 v3 v5 v7 v8 v9 v11 v13 v15 v17 c4_i32 v18 v23 v25 v27 (harg4.unread x1) (harg5.unread x2) (k0_pay111, k0_pay112, k0_pay113, k0_pay114) (k0_t1_loop i).trips).2.2.2)
    (k0_t2_loop i).trips

theorem carried_eq (c : Dev nD) (i : grid0.Coords) (arg3 : Memref sig .tc .vmem S1x4x128x512 .bf16) (harg3 : arg3.IsWhole) (arg4 : Memref sig .tc .vmem S1x8192x512 .bf16) (harg4 : arg4.IsWhole)
    (arg5 : Memref sig .tc .vmem S1x4x80x8192 .bf16) (harg5 : arg5.IsWhole) (arg6 : Memref sig .tc .vmem S1x4x64x512 .bf16) (harg6 : arg6.IsWhole)
    (arg2 : BitVec 32) (v1 v3 v5 v7 : FVec F S128x512 .bf16) (v8 v9 : IVec S512x512 32) (v11 v13 v15 v17 : FVec F S80x512 .f32) (c4_i32 v18 v23 v25 v27 : BitVec 32) (v39 : BitVec 32)
    (x1 : Vec F S1x8192x512 .bf16) (x2 : Vec F S1x4x80x8192 .bf16) :
    carried (F := F) c i arg3 harg3 arg4 harg4 arg5 harg5 arg6 harg6 arg2 v1 v3 v5 v7 v8 v9 v11 v13 v15 v17 c4_i32 v18 v23 v25 v27 v39 x1 x2
      = (accAt v1 x1 x2 0 (4 * ((i 2).val / 4)), accAt v3 x1 x2 1 (4 * ((i 2).val / 4)), accAt v5 x1 x2 2 (4 * ((i 2).val / 4)), accAt v7 x1 x2 3 (4 * ((i 2).val / 4))) := by
  unfold carried
  rw [st2_eq, st1_eq _ _ _ _ _ _ _ _ _ _ _ _ _ _ _ _ _ _ _ _ _ _ _ _ _ _ _ _ _ le_rfl, trips1 i]

/-! ## The four stores -/

section
variable (c : Dev nD) (i : grid0.Coords) (arg3 : Memref sig .tc .vmem S1x4x128x512 .bf16) (harg3 : arg3.IsWhole) (arg4 : Memref sig .tc .vmem S1x8192x512 .bf16) (harg4 : arg4.IsWhole)
  (arg5 : Memref sig .tc .vmem S1x4x80x8192 .bf16) (harg5 : arg5.IsWhole) (arg6 : Memref sig .tc .vmem S1x4x64x512 .bf16) (harg6 : arg6.IsWhole)
  (x0 : Vec F S1x4x128x512 .bf16) (x1 : Vec F S1x8192x512 .bf16) (x2 : Vec F S1x4x80x8192 .bf16)

/-- Head `x`'s queries as the body loads them. -/
def qAt (x : Fin 4) : FVec F S128x512 .bf16 :=
  shapeCast S128x512 (View.readAt (Elt F) arg3.view (Rect.unit (s := S1x4x128x512) ![0, x.val, 0, 0] S1x1x128x512.size (qInb x)).toLoadRect (harg3.unread x0))
    shapeCasts_S1x1x128x512_S128x512
/-- What the loops carry, by head. -/
def carriedAt (x : Fin 4) : FVec F S80x512 .f32 :=
  let p := carried (F := F) c i arg3 harg3 arg4 harg4 arg5 harg5 arg6 harg6 (BitVec.ofNat 32 (i 2).val) (qAt arg3 harg3 x0 0) (qAt arg3 harg3 x0 1) (qAt arg3 harg3 x0 2)
    (qAt arg3 harg3 x0 3) (iota .tc S512x512 32 [0] iota_S512x512_d0_w32) (iota .tc S512x512 32 [1] iota_S512x512_d1_w32) k0_pay111 k0_pay112 k0_pay113 k0_pay114
    4#32 (w18 i) (w23 i) 1#32 0#32 (k0_t2_loop i).lb x1 x2
  ![p.1, p.2.1, p.2.2.1, p.2.2.2] x
theorem carriedAt_eq (x : Fin 4) : carriedAt c i arg3 harg3 arg4 harg4 arg5 harg5 arg6 harg6 x0 x1 x2 x = accAt (qAt arg3 harg3 x0 x) x1 x2 x (4 * ((i 2).val / 4)) := by
  unfold carriedAt
  rw [carried_eq]
  fin_cases x <;> rfl

theorem keyLeft {n : Fin 4} (hm : (i 2).val % 4 = n.val) (x : Fin 4) (r : Fin (n.val + 1)) : tailKey i n x r.val = ![0, 512 * (4 * ((i 2).val / 4) + r.val), 128 * x.val] :=
  tailKey_eq i n x ⟨r.val, by omega⟩ hm (Nat.le_of_lt_succ r.isLt)
theorem valLeft {n : Fin 4} (hm : (i 2).val % 4 = n.val) (x : Fin 4) (r : Fin (n.val + 1)) : tailVal i n x r.val = ![0, x.val, 0, 512 * (4 * ((i 2).val / 4) + r.val)] :=
  tailVal_eq i n x ⟨r.val, by omega⟩ hm (Nat.le_of_lt_succ r.isLt)
theorem leftFits {n : Fin 4} (hm : (i 2).val % 4 = n.val) : 4 * ((i 2).val / 4) + n.val < 16 := by
  have h16 : (i 2).val < 16 := (i 2).isLt
  omega

/-- Head `x`'s result as the body computes it with `n` blocks left. -/
def tailAt {n : Fin 4} (hm : (i 2).val % 4 = n.val) (x : Fin 4) : FVec F S1x1x64x512 .bf16 :=
  tail (qAt arg3 harg3 x0 x) (keyAt arg4 harg4 x1 (keyFits (leftFits i hm) (keyLeft i hm x))) (valAt arg5 harg5 x2 (valFits (leftFits i hm) (valLeft i hm x)))
    (carriedAt c i arg3 harg3 arg4 harg4 arg5 harg5 arg6 harg6 x0 x1 x2 x) n.val
/-- It is the head's result at the query block, however many blocks are left. -/
theorem tailAt_eq {n : Fin 4} (hm : (i 2).val % 4 = n.val) (x : Fin 4) :
    tailAt c i arg3 harg3 arg4 harg4 arg5 harg5 arg6 harg6 x0 x1 x2 hm x = headOut (qTile x0 x) x1 x2 x (i 2).val := by
  have hq : qTile x0 x = qAt arg3 harg3 x0 x := qTile_eq arg3 harg3 x0 x (qInb x) rfl
  unfold tailAt
  rw [carriedAt_eq, hq]
  refine (tail_eq n.val (fun r h => keyAt_eq arg4 harg4 x1 (leftFits i hm) (keyLeft i hm x) r h)
    (fun r h => valAt_eq arg5 harg5 x2 (leftFits i hm) (valLeft i hm x) r h)).trans (congrArg (headOut _ x1 x2 x) ?_)
  omega
/-- A run that stores what the four heads compute stores their results. -/
theorem runs_of_tails {n : Fin 4} (hm : (i 2).val % 4 = n.val) (L : { L : List (View.Piece (Elt F) S1x4x64x512 .bf16) // Runs c i arg3 harg3 arg4 harg4 arg5 harg5 arg6 harg6 x0 x1 x2 L })
    (hL : L.1 = quad (tailAt c i arg3 harg3 arg4 harg4 arg5 harg5 arg6 harg6 x0 x1 x2 hm 0) (tailAt c i arg3 harg3 arg4 harg4 arg5 harg5 arg6 harg6 x0 x1 x2 hm 1)
      (tailAt c i arg3 harg3 arg4 harg4 arg5 harg5 arg6 harg6 x0 x1 x2 hm 2) (tailAt c i arg3 harg3 arg4 harg4 arg5 harg5 arg6 harg6 x0 x1 x2 hm 3)) :
    Runs c i arg3 harg3 arg4 harg4 arg5 harg5 arg6 harg6 x0 x1 x2
      (quad (headOut (qTile x0 0) x1 x2 0 (i 2).val) (headOut (qTile x0 1) x1 x2 1 (i 2).val)
        (headOut (qTile x0 2) x1 x2 2 (i 2).val) (headOut (qTile x0 3) x1 x2 3 (i 2).val)) := by
  have h := L.2
  rw [hL] at h
  simpa only [tailAt_eq] using h

set_option maxHeartbeats 4000000 in
/-- The four stores of the body, whatever the point. -/
theorem runs_quad :
    Runs c i arg3 harg3 arg4 harg4 arg5 harg5 arg6 harg6 x0 x1 x2
      (quad (headOut (qTile x0 0) x1 x2 0 (i 2).val) (headOut (qTile x0 1) x1 x2 1 (i 2).val)
        (headOut (qTile x0 2) x1 x2 2 (i 2).val) (headOut (qTile x0 3) x1 x2 3 (i 2).val)) := by
  have run := fun (n : Fin 4) (hm : (i 2).val % 4 = n.val) => runs_of_tails c i arg3 harg3 arg4 harg4 arg5 harg5 arg6 harg6 x0 x1 x2 hm
  by_cases h0 : (i 2).val % 4 = 0
  · exact run 0 h0 ((kernelRuns c i arg3 harg3 arg4 harg4 arg5 harg5 arg6 harg6 x0 x1 x2).2.2.2 fun h => (cond1_iff i).mp h h0) (by unfold kernelRuns; rfl)
  have hc1 := (cond1_iff i).mpr h0
  by_cases h1 : (i 2).val % 4 = 1
  · exact run 1 h1 ((kernelRuns c i arg3 harg3 arg4 harg4 arg5 harg5 arg6 harg6 x0 x1 x2).2.2.1 hc1 fun h => (cond2_iff i h0).mp h h1) (by unfold kernelRuns; rfl)
  have hc2 := (cond2_iff i h0).mpr h1
  by_cases h2 : (i 2).val % 4 = 2
  · exact run 2 h2 ((kernelRuns c i arg3 harg3 arg4 harg4 arg5 harg5 arg6 harg6 x0 x1 x2).2.1 hc1 hc2 fun h => (cond3_iff i h0 h1).mp h h2) (by unfold kernelRuns; rfl)
  exact run 3 (by show (i 2).val % 4 = 3; omega) ((kernelRuns c i arg3 harg3 arg4 harg4 arg5 harg5 arg6 harg6 x0 x1 x2).1 hc1 hc2 ((cond3_iff i h0 h1).mpr h2)) (by unfold kernelRuns; rfl)
end

end Cert.KernelIdeal.Hand

end
-- ==== Proof.Run.lean ====
/-
  The attention call's run, over any values: at every point the body leaves in the output's staging memory the four heads' results
  of the point's query block, and the launch ends with that.
-/
module

public import proofs.«01_k».proof.Proof.Outs
public import Idealize.ShloMosaic.Lib.Pipeline.FrameBody
public import Idealize.ShloMosaic.Lib.WritesUnit
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F] [Named F]

variable (m : (ℓ : Loc nD τ sig) → Buf (Elt F) ℓ) (ρ : Dev nD → PrngReg)

/-- The output's block at query block `n`: head `y 1`'s result at each index. -/
def outBlk (x0 : Vec F S1x4x128x512 .bf16) (x1 : Vec F S1x8192x512 .bf16) (x2 : Vec F S1x4x80x8192 .bf16) (n : ℕ) : Vec F S1x4x64x512 .bf16 :=
  fun y => headOut (qTile x0 (y 1)) x1 x2 (y 1) n (ix4 (0 : Fin 1) (0 : Fin 1) (y 2) (y 3))

/-- Four pieces, one per head, cover the output. -/
theorem read_quad {v : View sig .tc .vmem S1x4x64x512 .bf16} (f : v.ty.Contents (Elt F)) (P : Fin 4 → FVec F S1x1x64x512 .bf16)
    (y : S1x4x64x512.Idx) :
    v.read (Elt F) (v.writes (Elt F) f (quad (P 0) (P 1) (P 2) (P 3))) y = P (y 1) (ix4 (0 : Fin 1) (0 : Fin 1) (y 2) (y 3)) := by
  unfold quad
  have h0 : (y 0).val = 0 := Nat.lt_one_iff.mp (y 0).isLt
  have hx (h : Fin 4) (hy : y 1 = h) : ∀ a : Fin 4, (y a).val = (![0, h.val, 0, 0] : Fin 4 → ℕ) a + ((ix4 (0 : Fin 1) (0 : Fin 1) (y 2) (y 3) : S1x1x64x512.Idx) a).val := by
    intro a
    fin_cases a
    · exact h0
    · exact congrArg Fin.val hy
    · exact (Nat.zero_add _).symm
    · exact (Nat.zero_add _).symm
  obtain ⟨h, hy⟩ : ∃ h : Fin 4, y 1 = h := ⟨_, rfl⟩
  have hn (k : ℕ) (hk : h.val ≠ k) : (y (1 : Fin 4)).val < (![0, k, 0, 0] : Fin 4 → ℕ) 1 ∨ (![0, k, 0, 0] : Fin 4 → ℕ) 1 + S1x1x64x512.size 1 ≤ (y (1 : Fin 4)).val := by
    rw [hy]
    show h.val < k ∨ k + 1 ≤ h.val
    omega
  rw [hy]
  fin_cases h
  · refine (View.read_writes_cons_unit_of_not_mem v f _ _ _ y rfl (1 : Fin 4) (hn 3 (by decide))).trans ?_
    refine (View.read_writes_cons_unit_of_not_mem v f _ _ _ y rfl (1 : Fin 4) (hn 2 (by decide))).trans ?_
    refine (View.read_writes_cons_unit_of_not_mem v f _ _ _ y rfl (1 : Fin 4) (hn 1 (by decide))).trans ?_
    exact View.read_writes_cons_unit_of_mem v f _ _ _ y (ix4 (0 : Fin 1) (0 : Fin 1) (y 2) (y 3)) rfl (hx 0 hy)
  · refine (View.read_writes_cons_unit_of_not_mem v f _ _ _ y rfl (1 : Fin 4) (hn 3 (by decide))).trans ?_
    refine (View.read_writes_cons_unit_of_not_mem v f _ _ _ y rfl (1 : Fin 4) (hn 2 (by decide))).trans ?_
    exact View.read_writes_cons_unit_of_mem v f _ _ _ y (ix4 (0 : Fin 1) (0 : Fin 1) (y 2) (y 3)) rfl (hx 1 hy)
  · refine (View.read_writes_cons_unit_of_not_mem v f _ _ _ y rfl (1 : Fin 4) (hn 3 (by decide))).trans ?_
    exact View.read_writes_cons_unit_of_mem v f _ _ _ y (ix4 (0 : Fin 1) (0 : Fin 1) (y 2) (y 3)) rfl (hx 2 hy)
  · exact View.read_writes_cons_unit_of_mem v f _ _ _ y (ix4 (0 : Fin 1) (0 : Fin 1) (y 2) (y 3)) rfl (hx 3 hy)

/-! ## The proof data and the body obligation -/

/-- The proof data on core `c`: the inputs' blocks stay, the output's block is the four heads' results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t) ((grid0.coords t) 2).val
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d

/-- What the body is called with at point `t`, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d)))
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2]
  rw [show (dats m 0 c).Φ t.succ = (dats m 0 c).Φ t.castSucc from rfl,
    show (dats m 0 c).owesAt () t.succ = (dats m 0 c).owesAt () t.castSucc from rfl,
    show (dats m 0 c).after 0 t = iblk m c 0 t from rfl, show (dats m 0 c).after 1 t = iblk m c 1 t from rfl,
    show (dats m 0 c).after 2 t = iblk m c 2 t from rfl,
    show (dats m 0 c).after 3 t = outBlk (iblk m c 0 t) (iblk m c 1 t) (iblk m c 2 t) ((grid0.coords t) 2).val from rfl]
  iintro ⟨HΦ, HO, ⟨%d0, H0⟩, ⟨%d1, H1⟩, ⟨%d2, H2⟩, ⟨%d3, H3⟩⟩
  iapply (runs_quad c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (iblk m c 0 t) (iblk m c 1 t) (iblk m c 2 t) Set.univ _)
  isplitl [H0]
  · iexact H0
  isplitl [H1]
  · iexact H1
  isplitl [H2]
  · iexact H2
  isplitl [H3]
  · iexists _
    iexact H3
  iintro ⟨H0, H1, H2, ⟨%f, H3⟩⟩
  isplitl [HΦ]
  · iexact HΦ
  isplitl [HO]
  · iexact HO
  isplitl [H0]
  · iexact H0
  isplitl [H1]
  · iexact H1
  isplitl [H2]
  · iexact H2
  unfold owns
  iexists _
  isplitr
  swap
  · iexact H3
  ipureintro
  exact funext fun y => read_quad f (fun h => headOut (qTile (iblk m c 0 t) h) (iblk m c 1 t) (iblk m c 2 t) h ((grid0.coords t) 2).val) y

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation: the triple restated. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- From any memory with zero counters every run of the program ends, with the output's array at what the points left and every counter
    at zero again. -/
theorem run_main :
    θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Hand

end
-- ==== Proof.Frames.lean ====
/-
  The kernel's frame at the ideal instance and at the compiled floats: the two programs differ only in the name of the mask's
  constant, so one run serves both.
-/
module

public import proofs.«01_k».proof.Defs
public import proofs.«01_k».proof.Proof.Run
public import proofs.«01_k».proof.Proof.Gen.Kernel
public import proofs.«01_k».proof.Proof.Gen.Pre_finite

@[expose] public section

set_option maxRecDepth 16384

noncomputable section

namespace Cert.KernelIdeal.Hand

open Cert.KernelIdeal Cert.KernelIdeal.Gen
open Idealize.ShloMosaic Idealize.ShloMosaic.TcCoe Idealize.SL.Sem

section
variable {F : FTy → Type} [FloatOps F] [Named F]
variable (m : (ℓ : Loc nD τ sig) → Buf (Elt F) ℓ) (ρ : Dev nD → PrngReg)

/-- A run ended as the launch's rule says has the arguments as they were. -/
theorem args_of {r} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- Every run ends with the arguments as they were and every counter at zero. -/
theorem run_args :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨args_of m h.1, h.2⟩) (run_main m ρ)
end

theorem frame_kernelIdeal : Cert.quiescent_KernelIdeal := fun m g _ => run_args (F := Ideal) m g
theorem frame_kernelIdeal_finite : Cert.quiescent_KernelIdeal_pre_finite := fun m g _ => run_args (F := Ideal) m g

/-- At the compiled floats a named constant is the number it names. -/
@[reducible] def namedBits : Named Bits := ⟨fun _ _ {φ} b => Scalar.ofBits φ b⟩

attribute [local instance] namedBits in
/-- The two body tables are one function, row by row. -/
theorem defs₀_bits : (Cert.Kernel.defs₀ (F := Bits) : Defs nD τ sig (Elt Bits) Λ₀) = defs₀ (F := Bits) :=
  congrArg Defs.onTc (funext fun l => funext fun p => match l, p with
    | 0, (_, _) => rfl
    | ⟨_ + 1, h⟩, _ => absurd h (Nat.not_lt.2 (Nat.le_add_left _ _)))

attribute [local instance] namedBits in
theorem defs_bits : (Cert.Kernel.defs (F := Bits) : Defs nD τ sig (Elt Bits) (Pipeline.Sig Λ₀ (Fin 1) fun p => (pcfgs (F := Bits) p).Adm)) = defs (F := Bits) :=
  congrArg (Pipeline.defs (pcfgs (F := Bits))) defs₀_bits

set_option maxHeartbeats 4000000 in
attribute [local instance] namedBits in
theorem frame_kernel : Cert.quiescent_Kernel := fun m g _ => by
  have h := run_args (F := Bits) m g
  rw [← defs_bits] at h
  exact h

end Cert.KernelIdeal.Hand

end
-- ==== Proof.Real.lean ====
/-
  Facts about real numbers among the extended reals, and about a quotient of weighted sums: what both sides of the value claim use.
-/
module

public import Idealize.ShloMosaic.Lib.Pointwise
public import Idealize.ShloMosaic.Lib.WordCmp

@[expose] public section

noncomputable section

namespace Cert.Attn

open Idealize.ShloMosaic

/-- A sum of reals is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum whose every term is the real it is said to be. -/
theorem sum_coe {ι : Type} (s : Finset ι) (F : ι → EReal) (f : ι → ℝ) (h : ∀ i, F i = (f i : EReal)) :
    ∑ i ∈ s, F i = ((∑ i ∈ s, f i : ℝ) : EReal) := by
  rw [coe_sum]; exact Finset.sum_congr rfl fun i _ => h i

/-- Division of reals, off zero. -/
theorem div_real (x y : ℝ) (h : y ≠ 0) : Ideal.div (x : EReal) (y : EReal) = ((x / y : ℝ) : EReal) := by
  rw [Ideal.div_coe h, ← EReal.coe_mul, mul_one_div]

/-- A maximum over values none of which is `⊤` and one of which is real is real, and above each of them. -/
theorem fold_max_real {ι : Type} (s : Finset ι) (f : ι → EReal) (ht : ∀ i ∈ s, f i ≠ ⊤) (hb : ∃ i ∈ s, f i ≠ ⊥) :
    ∃ M : ℝ, s.fold max ⊥ f = (M : EReal) := by
  have h1 : s.fold max ⊥ f ≠ ⊤ := by
    rw [← lt_top_iff_ne_top, Finset.fold_max_lt]
    exact ⟨bot_lt_top, fun i hi => lt_top_iff_ne_top.2 (ht i hi)⟩
  have h2 : s.fold max ⊥ f ≠ ⊥ := by
    obtain ⟨i, hi, h⟩ := hb
    intro e
    exact h (le_bot_iff.1 (e ▸ (Finset.le_fold_max _).2 (Or.inr ⟨i, hi, le_rfl⟩)))
  exact ⟨_, (EReal.coe_toReal h1 h2).symm⟩

/-- An extended real whose absolute value is below `⊤` is real. -/
theorem real_of_abs_lt {x : EReal} (h : max x (-x) < ⊤) : x = ((x.toReal : ℝ) : EReal) := by
  rw [EReal.coe_toReal]
  · rintro rfl; simp at h
  · rintro rfl; simp at h

/-- Two small numbers, compared as words. -/
theorem word_sle (a b : ℕ) (ha : a < 2 ^ 31) (hb : b < 2 ^ 31) :
    IntOp.cmpi .sle (BitVec.ofNat 32 a) (BitVec.ofNat 32 b) = if a ≤ b then 1#1 else 0#1 := by
  rw [WordCmp.cmpi_sle_ofNat ha hb]
  by_cases h : a ≤ b <;> simp [h]

theorem select_ite {α : Type} (p : Prop) [Decidable p] (x y : α) : Scalar.select (if p then 1#1 else 0#1) x y = if p then x else y := by
  split <;> rfl

end Cert.Attn

end
-- ==== Proof.Acc.lean ====
/-
  What one head's body computes at the extended reals, when its scores and values are real: the sums of the values weighted by the
  powers of two of the scores, over the keys up to the query, and the quotient of two of them.
-/
module

public import proofs.«01_k».proof.Proof.Steps
public import proofs.«01_k».proof.Proof.Real

@[expose] public section

set_option maxRecDepth 16384

noncomputable section

namespace Cert.KernelIdeal.Hand

open Cert.KernelIdeal Cert.KernelIdeal.Gen Cert.Attn
open Idealize.ShloMosaic Idealize.ShloMosaic.TcCoe

theorem score_at (q : FVec Ideal S128x512 .bf16) (kb : Vec Ideal S1x512x128 .bf16) (kk qq : Fin 512) :
    score q kb (ix2 kk qq) = ∑ r : Fin 128, (show EReal from kb (ix3 0 kk r)) * q (ix2 r qq) := by
  pointwise [score]

theorem masked_at (s : FVec Ideal S512x512 .f32) (kk qq : Fin 512) :
    masked s (ix2 kk qq) = if kk.val ≤ qq.val then s (ix2 kk qq) else ⊥ := by
  pointwise [masked]
  rw [show (Named.named κ "mask" 0xF149F2CA#32 : Ideal .f32) = ⊥ from rfl, word_sle _ _ (by omega) (by omega), select_ite]

theorem accum_at (s : FVec Ideal S512x512 .f32) (vb : Vec Ideal S1x1x80x512 .bf16) (acc : FVec Ideal S80x512 .f32) (d : Fin 80) (qq : Fin 512)
    (w v : Fin 512 → ℝ) (a : ℝ) (hw : ∀ kk, Ideal.exp2 (s (ix2 kk qq)) = (w kk : EReal)) (hv : ∀ kk, vb (ix4 0 0 d kk) = (v kk : EReal))
    (ha : acc (ix2 d qq) = (a : EReal)) : accum s vb acc (ix2 d qq) = ((a + ∑ kk, v kk * w kk : ℝ) : EReal) := by
  pointwise [accum]
  rw [ha, sum_coe Finset.univ _ (fun kk => v kk * w kk) (fun kk => ?_), ← EReal.coe_add]
  rw [EReal.coe_mul, ← hv, ← hw]
  rfl

theorem quot_at (acc : FVec Ideal S80x512 .f32) (d : Fin 64) (qq : Fin 512) :
    quot acc (ix4 0 0 d qq) = Ideal.div (acc (ix2 (Fin.castAdd 16 d) qq)) (acc (ix2 ⟨64, by omega⟩ qq)) := by
  pointwise [quot]
  rfl

theorem dropHead_at (X : FVec Ideal S1x1x128x512 .bf16) (r : Fin 128) (qq : Fin 512) :
    shapeCast S128x512 X shapeCasts_S1x1x128x512_S128x512 (ix2 r qq) = X (ix4 0 0 r qq) := by
  pointwise

theorem qTile_at (x0 : Vec Ideal S1x4x128x512 .bf16) (x : Fin 4) (r : Fin 128) (qq : Fin 512) : qTile x0 x (ix2 r qq) = x0 (ix4 0 x r qq) := by
  refine (dropHead_at _ r qq).trans ?_
  pointwise
theorem kTile_at (x1 : Vec Ideal S1x8192x512 .bf16) (x : Fin 4) (j : Fin 16) (kk : Fin 512) (r : Fin 128) :
    kTile x1 x j (ix3 0 kk r) = x1 (ix3 0 ⟨512 * j.val + kk.val, by omega⟩ ⟨128 * x.val + r.val, by omega⟩) := by
  pointwise [kTile]
theorem vTile_at (x2 : Vec Ideal S1x4x80x8192 .bf16) (x : Fin 4) (j : Fin 16) (d : Fin 80) (kk : Fin 512) :
    vTile x2 x j (ix4 0 0 d kk) = x2 (ix4 0 x d ⟨512 * j.val + kk.val, by omega⟩) := by
  pointwise [vTile]

/-! ## The whole body of one head -/

section
variable (q : FVec Ideal S128x512 .bf16) (x1 : Vec Ideal S1x8192x512 .bf16) (x2 : Vec Ideal S1x4x80x8192 .bf16) (x : Fin 4) (qq : Fin 512)
variable (S : Fin 16 → Fin 512 → ℝ) (V : Fin 16 → Fin 512 → ℝ) (d : Fin 80)
variable (hS : ∀ j kk, score q (kTile x1 x j) (ix2 kk qq) = (S j kk : EReal)) (hV : ∀ j kk, vTile x2 x j (ix4 0 0 d kk) = (V j kk : EReal))

/-- A key's weight for query `512 n + qq`: a power of two up to the query, nothing after it. -/
def weight (n : ℕ) (j : Fin 16) (kk : Fin 512) : ℝ := if 512 * j.val + kk.val ≤ 512 * n + qq.val then Real.rpow 2 (S j kk) else 0

include hS hV in
/-- What is carried after `n` blocks is the weighted sum over them. -/
theorem accAt_at (n : ℕ) : accAt q x1 x2 x n (ix2 d qq) =
    ((∑ j ∈ Finset.range n, ∑ kk, V (Fin.ofNat 16 j) kk * Real.rpow 2 (S (Fin.ofNat 16 j) kk) : ℝ) : EReal) := by
  induction n with
  | zero =>
    rw [Finset.sum_range_zero]
    pointwise [accAt]
    exact EReal.coe_zero.symm
  | succ n ih =>
    rw [Finset.sum_range_succ]
    exact accum_at _ _ _ d qq _ _ _ (fun kk => by rw [hS]; rfl) (fun kk => hV _ kk) ih

include hS hV in
/-- With the masked block on the diagonal, the weighted sum over all keys. -/
theorem last_at (n : Fin 16) : last q x1 x2 x n.val (accAt q x1 x2 x n.val) (ix2 d qq) =
    ((∑ j, ∑ kk, V j kk * weight qq S n.val j kk : ℝ) : EReal) := by
  have hn : (Fin.ofNat 16 n.val : Fin 16) = n := Fin.ext (Nat.mod_eq_of_lt n.isLt)
  have e := accum_at (masked (score q (kTile x1 x (Fin.ofNat 16 n.val)))) (vTile x2 x (Fin.ofNat 16 n.val)) (accAt q x1 x2 x n.val) d qq
    (weight qq S n.val n) (V n) _ (fun kk => by
      rw [masked_at, hS, hn, weight]
      by_cases h : kk.val ≤ qq.val
      · rw [if_pos h, if_pos (by omega)]; rfl
      · rw [if_neg h, if_neg (by omega)]; rfl) (fun kk => by rw [hV, hn]) (accAt_at q x1 x2 x qq S V d hS hV n.val)
  refine e.trans (congrArg _ ?_)
  have h16 : (∑ j : Fin 16, ∑ kk, V j kk * weight qq S n.val j kk) = ∑ j ∈ Finset.range 16, ∑ kk, V (Fin.ofNat 16 j) kk * weight qq S n.val (Fin.ofNat 16 j) kk := by
    rw [← Fin.sum_univ_eq_sum_range (fun j => ∑ kk, V (Fin.ofNat 16 j) kk * weight qq S n.val (Fin.ofNat 16 j) kk) 16]
    exact Finset.sum_congr rfl fun j _ => by rw [show (Fin.ofNat 16 j.val : Fin 16) = j from Fin.ext (Nat.mod_eq_of_lt j.isLt)]
  rw [h16, ← Finset.sum_subset (s₁ := Finset.range (n.val + 1)) (Finset.range_subset_range.2 n.isLt), Finset.sum_range_succ, hn]
  · congr 1
    refine Finset.sum_congr rfl fun j hj => Finset.sum_congr rfl fun kk _ => ?_
    have hj' := Finset.mem_range.1 hj
    rw [weight, if_pos]
    show 512 * (j % 16) + _ ≤ _
    omega
  · intro j hj hj'
    have h1 := Finset.mem_range.1 hj
    have h2 : n.val + 1 ≤ j := by simpa using hj'
    refine Finset.sum_eq_zero fun kk _ => ?_
    rw [weight, if_neg, mul_zero]
    show ¬ 512 * (j % 16) + _ ≤ _
    omega

include hS in
/-- The head's result: the weighted sum of the values by the sum of the weights. -/
theorem headOut_at (d : Fin 64) (hV : ∀ j kk, vTile x2 x j (ix4 0 0 (Fin.castAdd 16 d) kk) = (V j kk : EReal))
    (h1 : ∀ j kk, vTile x2 x j (ix4 0 0 ⟨64, by omega⟩ kk) = ((1 : ℝ) : EReal)) (n : Fin 16) : headOut q x1 x2 x n.val (ix4 0 0 d qq) =
    (((∑ j, ∑ kk, V j kk * weight qq S n.val j kk) / ∑ j, ∑ kk, weight qq S n.val j kk : ℝ) : EReal) := by
  have hpos : (∑ j, ∑ kk, weight qq S n.val j kk) ≠ 0 := by
    have h0 : ∀ j kk, 0 ≤ weight qq S n.val j kk := fun j kk => by
      unfold weight; split
      · exact (Real.rpow_pos_of_pos two_pos _).le
      · exact le_rfl
    refine (lt_of_lt_of_le ?_ (Finset.single_le_sum (f := fun j => ∑ kk, weight qq S n.val j kk) (fun j _ => Finset.sum_nonneg fun kk _ => h0 j kk) (Finset.mem_univ n))).ne'
    refine lt_of_lt_of_le ?_ (Finset.single_le_sum (f := fun kk => weight qq S n.val n kk) (fun kk _ => h0 n kk) (Finset.mem_univ qq))
    show 0 < weight qq S n.val n qq
    rw [weight, if_pos le_rfl]
    exact Real.rpow_pos_of_pos two_pos _
  unfold headOut
  rw [quot_at, last_at q x1 x2 x qq S V (Fin.castAdd 16 d) hS hV, last_at q x1 x2 x qq S (fun _ _ => 1) ⟨64, by omega⟩ hS h1]
  simp only [one_mul]
  exact div_real _ _ hpos
end

end Cert.KernelIdeal.Hand

end
-- ==== Proof.Blocks.lean ====
/-
  Which entries of the arrays each point of the grid reads and writes: batch, group of four heads, and block of 512 queries.
-/
module

public import proofs.«01_k».proof.Proof.Run
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F] [Named F]

/-- The point's batch. -/
def pb (t : Fin cfg0.N) : Fin 2 := ⟨(grid0.coords t 0).val, (grid0.coords t 0).isLt⟩
/-- The point's group of heads. -/
def pg (t : Fin cfg0.N) : Fin 4 := ⟨(grid0.coords t 1).val, (grid0.coords t 1).isLt⟩
/-- The point's block of queries. -/
def pn (t : Fin cfg0.N) : Fin 16 := ⟨(grid0.coords t 2).val, (grid0.coords t 2).isLt⟩
/-- Head `x` of the point's group. -/
def ph (t : Fin cfg0.N) (x : Fin 4) : Fin 16 := ⟨4 * (pg t).val + x.val, by omega⟩
/-- Position `y` of block `n`. -/
def pos (n : Fin 16) (y : Fin 512) : Fin 8192 := ⟨512 * n.val + y.val, by omega⟩
/-- Lane `r` of head `h`. -/
def lane (h : Fin 16) (r : Fin 128) : Fin 2048 := ⟨128 * h.val + r.val, by omega⟩

theorem index_0 : ∀ t : Fin cfg0.N, win0_0.index t = ![(pb t).val, (pg t).val, 0, (pn t).val] := by decide +kernel
theorem index_1 : ∀ t : Fin cfg0.N, win0_1.index t = ![(pb t).val, 0, (pg t).val] := by decide +kernel
theorem index_2 : ∀ t : Fin cfg0.N, win0_2.index t = ![(pb t).val, (pg t).val, 0, 0] := by decide +kernel
theorem index_3 : ∀ t : Fin cfg0.N, win0_3.index t = ![(pb t).val, (pg t).val, 0, (pn t).val] := by decide +kernel

variable (m : (ℓ : Loc nD τ sig) → Buf (Elt F) ℓ)

theorem blk_0 (c : Dev nD) (t : Fin cfg0.N) (x : Fin 4) (r : Fin 128) (y : Fin 512) :
    iblk m c 0 t (ix4 0 x r y) = V m c main_v50 (ix4 (pb t) (ph t x) r (pos (pn t) y)) := by
  blk_ext [iblk, index_0 t]
  all_goals simp only [ph, pos, lane]
  all_goals omega
theorem blk_1 (c : Dev nD) (t : Fin cfg0.N) (x : Fin 4) (s : Fin 8192) (r : Fin 128) :
    iblk m c 1 t (ix3 0 s ⟨128 * x.val + r.val, by omega⟩) = V m c main_v87 (ix3 (pb t) s (lane (ph t x) r)) := by
  blk_ext [iblk, index_1 t]
  all_goals simp only [ph, pos, lane]
  all_goals omega
theorem blk_2 (c : Dev nD) (t : Fin cfg0.N) (x : Fin 4) (d : Fin 80) (s : Fin 8192) :
    iblk m c 2 t (ix4 0 x d s) = V m c main_v95 (ix4 (pb t) (ph t x) d s) := by
  blk_ext [iblk, index_2 t]
  all_goals simp only [ph, pos, lane]
  all_goals omega

/-- The result array is `G` when every point leaves `G`'s block. -/
theorem final_of (c : Dev nD) (G : Buf (Elt F) ((c : Thread nD τ).loc main_v96))
    (h : ∀ (t : Fin cfg0.N) (x : Fin 4) (d : Fin 64) (y : Fin 512),
      headOut (qTile (iblk m c 0 t) x) (iblk m c 1 t) (iblk m c 2 t) x (pn t).val (ix4 0 0 d y) = G (ix4 (pb t) (ph t x) d (pos (pn t) y))) :
    (dats m 0 c).arrAt 3 cfg0.N = G := by
  refine (dats m 0 c).arrAt_eq_of_covers 3 _ (by decide +kernel) fun t hf y => ?_
  blk_simp
  obtain ⟨z, x, d, q, rfl⟩ : ∃ (z : Fin 1) (x : Fin 4) (d : Fin 64) (q : Fin 512), y = ix4 z x d q := ⟨y 0, y 1, y 2, y 3, eq_ix4 y⟩
  refine (h t x d q).trans (congrArg G ?_)
  blk_ext [index_3 t]
  all_goals simp only [ph, pos]
  all_goals omega

end Cert.KernelIdeal.Hand

end
-- ==== Proof.Host.lean ====
/-
  The arrays the attention call reads, as the host operations before it compute them from the arguments: the scaled queries with the
  lanes that meet the keys' decay, the keys with the decay's parts beside them, and the values with a row of ones below them.
-/
module

public import proofs.«01_k».proof.Proof.Gen.KernelIdeal.Frame
public import Idealize.ShloMosaic.Lib.StableHlo.Run
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F] [Named F]

/-- One over the logarithm of two. -/
def l2e : FVec F S_ .f32 := Host.divf (constant S_ .f32 0x3F800000#32) (Host.log (constant S_ .f32 0x40000000#32))
/-- The bound on the scores, from the two norms' gains. -/
def bnd (g g' : FVec F S64 .f32) : FVec F S_ .f32 :=
  mulf (mulf (constant S_ .f32 0x413C5BB7#32) (Host.reduce FloatOps.maximumf (Host.absf g) (constant S_ .f32 0xFF800000#32) reducesTo_S64_S_d0 h_S_))
    (Host.reduce FloatOps.maximumf (Host.absf g') (constant S_ .f32 0xFF800000#32) reducesTo_S64_S_d0 h_S_)

/-- What rounding to the narrower format leaves of an array. -/
def rest {s : Shape} (x : FVec F s .f32) : FVec F s .f32 := subf x (extf .f32 (truncf .bf16 x bitsLt_bf16_f32 : FVec F s .bf16) bitsLt_bf16_f32)

/-! ## The queries -/

def cq (c : FVec F S2x8192x16 .f32) (g g' : FVec F S64 .f32) : FVec F S2x16x8192 .f32 :=
  subf (mulf (transpose S2x16x8192 [0, 2, 1] c transposes_S2x8192x16_S2x16x8192_0_2_1) (broadcastInDim S2x16x8192 ![] bcast_S_S2x16x8192 l2e))
    (broadcastInDim S2x16x8192 ![] bcast_S_S2x16x8192 (bnd g g'))
def spreadQ (y : FVec F S2x16x8192 .f32) : FVec F S2x16x64x8192 .f32 :=
  broadcastInDim S2x16x64x8192 ![0, 1, 2, 3] bcast_S2x16x1x8192_S2x16x64x8192_0_1_2_3 (broadcastInDim S2x16x1x8192 ![0, 1, 3] bcast_S2x16x8192_S2x16x1x8192_0_1_3
    (extf .f32 (truncf .bf16 y bitsLt_bf16_f32 : FVec F S2x16x8192 .bf16) bitsLt_bf16_f32))
def subQ (n : BitVec 32) : IVec S2x16x64x8192 32 := broadcastInDim S2x16x64x8192 ![] bcast_S_S2x16x64x8192 (constantI S_ 32 n)
def tailQ (x : FVec F S2x16x8192 .f32) : FVec F S2x16x64x8192 .f32 :=
  select (cmpi .slt (iotaInDim S2x16x64x8192 32 2) (subQ 3#32)) (broadcastInDim S2x16x64x8192 ![] bcast_S_S2x16x64x8192 (constant S_ .f32 0x3F800000#32))
    (select (cmpi .eq (iotaInDim S2x16x64x8192 32 2) (subQ 3#32)) (spreadQ x)
      (select (cmpi .eq (iotaInDim S2x16x64x8192 32 2) (subQ 4#32)) (spreadQ (rest x))
        (select (cmpi .eq (iotaInDim S2x16x64x8192 32 2) (subQ 5#32)) (spreadQ (rest (rest x)))
          (broadcastInDim S2x16x64x8192 ![] bcast_S_S2x16x64x8192 (constant S_ .f32 0x00000000#32)))))
def headQ (q : FVec F S2x8192x16x64 .f32) : FVec F S2x16x64x8192 .bf16 :=
  truncf .bf16 (transpose S2x16x64x8192 [0, 2, 3, 1] (mulf q (broadcastInDim S2x8192x16x64 ![] bcast_S_S2x8192x16x64 (mulf l2e (constant S_ .f32 0x3E000000#32))))
    transposes_S2x8192x16x64_S2x16x64x8192_0_2_3_1 : FVec F S2x16x64x8192 .f32) bitsLt_bf16_f32
def qAug (q : FVec F S2x8192x16x64 .f32) (c : FVec F S2x8192x16 .f32) (g g' : FVec F S64 .f32) : FVec F S2x16x128x8192 .bf16 :=
  concatenate S2x16x128x8192 2 [⟨S2x16x64x8192, headQ q⟩, ⟨S2x16x64x8192, truncf .bf16 (tailQ (cq c g g')) bitsLt_bf16_f32⟩]
    concatenates_S2x16x64x8192_S2x16x64x8192_S2x16x128x8192_d2

/-! ## The keys -/

def ck (c : FVec F S2x8192x16 .f32) : FVec F S2x8192x16 .f32 :=
  mulf c (broadcastInDim S2x8192x16 ![] bcast_S_S2x8192x16 (Host.negf l2e))
def spreadK (y : FVec F S2x8192x16 .f32) : FVec F S2x8192x16x64 .f32 :=
  broadcastInDim S2x8192x16x64 ![0, 1, 2, 3] bcast_S2x8192x16x1_S2x8192x16x64_0_1_2_3 (broadcastInDim S2x8192x16x1 ![0, 1, 2] bcast_S2x8192x16_S2x8192x16x1_0_1_2
    (extf .f32 (truncf .bf16 y bitsLt_bf16_f32 : FVec F S2x8192x16 .bf16) bitsLt_bf16_f32))
def laneK (n : BitVec 32) : IVec S2x8192x16x64 32 := broadcastInDim S2x8192x16x64 ![] bcast_S_S2x8192x16x64 (constantI S_ 32 n)
def tailK (x : FVec F S2x8192x16 .f32) : FVec F S2x8192x16x64 .f32 :=
  select (cmpi .eq (iotaInDim S2x8192x16x64 32 3) (laneK 0#32)) (spreadK x)
    (select (cmpi .eq (iotaInDim S2x8192x16x64 32 3) (laneK 1#32)) (spreadK (rest x))
      (select (cmpi .eq (iotaInDim S2x8192x16x64 32 3) (laneK 2#32)) (spreadK (rest (rest x)))
        (select (cmpi .slt (iotaInDim S2x8192x16x64 32 3) (laneK 6#32))
          (broadcastInDim S2x8192x16x64 ![] bcast_S_S2x8192x16x64 (constant S_ .f32 0x3F800000#32))
          (broadcastInDim S2x8192x16x64 ![] bcast_S_S2x8192x16x64 (constant S_ .f32 0x00000000#32)))))
def kWide (k : FVec F S2x8192x16x64 .f32) (c : FVec F S2x8192x16 .f32) : FVec F S2x8192x16x128 .bf16 :=
  truncf .bf16 (concatenate S2x8192x16x128 3 [⟨S2x8192x16x64, k⟩, ⟨S2x8192x16x64, tailK (ck c)⟩] concatenates_S2x8192x16x64_S2x8192x16x64_S2x8192x16x128_d3 : FVec F S2x8192x16x128 .f32)
    bitsLt_bf16_f32
def kAug (k : FVec F S2x8192x16x64 .f32) (c : FVec F S2x8192x16 .f32) : FVec F S2x8192x2048 .bf16 :=
  shapeCast S2x8192x2048 (kWide k c) shapeCasts_S2x8192x16x128_S2x8192x2048

/-! ## The values -/

def onesV : FVec F S2x16x16x8192 .f32 :=
  select (cmpi .eq (iotaInDim S2x16x16x8192 32 2) (broadcastInDim S2x16x16x8192 ![] bcast_S_S2x16x16x8192 (constantI S_ 32 0#32)))
    (broadcastInDim S2x16x16x8192 ![] bcast_S_S2x16x16x8192 (constant S_ .f32 0x3F800000#32))
    (broadcastInDim S2x16x16x8192 ![] bcast_S_S2x16x16x8192 (constant S_ .f32 0x00000000#32))
def vAug (v : FVec F S2x8192x16x64 .f32) : FVec F S2x16x80x8192 .bf16 :=
  concatenate S2x16x80x8192 2 [⟨S2x16x64x8192, truncf .bf16 (transpose S2x16x64x8192 [0, 2, 3, 1] v transposes_S2x8192x16x64_S2x16x64x8192_0_2_3_1 : FVec F S2x16x64x8192 .f32) bitsLt_bf16_f32⟩,
    ⟨S2x16x16x8192, truncf .bf16 onesV bitsLt_bf16_f32⟩] concatenates_S2x16x64x8192_S2x16x16x8192_S2x16x80x8192_d2

/-! ## What the region finds -/

variable (m : (ℓ : Loc nD τ sig) → Buf (Elt F) ℓ)

set_option maxHeartbeats 4000000 in
theorem V_q (c : Dev nD) : V m c main_v50 = qAug (m ((c : Thread nD τ).loc main_arg0)) (m ((c : Thread nD τ).loc main_arg3)) (m ((c : Thread nD τ).loc main_arg4)) (m ((c : Thread nD τ).loc main_arg5)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, TRef.ternary, TRef.unary, TRef.toBuf, TRef.ofBuf, cast_eq]
  after_reads_simp
  rfl

set_option maxHeartbeats 4000000 in
theorem V_k (c : Dev nD) : V m c main_v87 = kAug (m ((c : Thread nD τ).loc main_arg1)) (m ((c : Thread nD τ).loc main_arg3)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, TRef.ternary, TRef.unary, TRef.toBuf, TRef.ofBuf, cast_eq]
  after_reads_simp
  rfl

set_option maxHeartbeats 4000000 in
theorem V_v (c : Dev nD) : V m c main_v95 = vAug (m ((c : Thread nD τ).loc main_arg2)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, TRef.ternary, TRef.unary, TRef.toBuf, TRef.ofBuf, cast_eq]
  after_reads_simp
  rfl

end Cert.KernelIdeal.Hand

end
-- ==== Proof.HostReads.lean ====
/-
  The three arrays the attention call reads, entry by entry, at the extended reals and for finite arguments: every entry is the real
  number the layer's text says.
-/
module

public import proofs.«01_k».proof.Proof.Host
public import proofs.«01_k».proof.Proof.Real

@[expose] public section

set_option maxRecDepth 16384

noncomputable section

namespace Cert.KernelIdeal.Hand

open Cert.KernelIdeal Cert.KernelIdeal.Gen Cert.Attn
open Idealize.ShloMosaic Idealize.ShloMosaic.TcCoe

/-- One over the logarithm of two. -/
def invLog2 : ℝ := 1 / Real.log 2

theorem ofBits_two : Ideal.ofBits .f32 0x40000000#32 = ((2 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_scale : ∃ r : ℝ, Ideal.ofBits .f32 0x413C5BB7#32 = (r : EReal) := ⟨_, by simp [Ideal.ofBits, Ideal.ieee, -EReal.coe_mul]; rfl⟩
theorem ofBits_bot : Ideal.ofBits .f32 0xFF800000#32 = ⊥ := by simp [Ideal.ofBits, Ideal.ieee]

theorem l2e_at (i : S_.Idx) : l2e (F := Ideal) i = (invLog2 : EReal) := by
  pointwise [l2e]
  rw [ofBits_two, Ideal.log_coe, if_neg (by norm_num), ← EReal.coe_one, div_real _ _ (Real.log_pos one_lt_two).ne']
  rfl

/-- The bound is a real number when the gains are. -/
theorem bnd_real (g g' : FVec Ideal S64 .f32) (γ γ' : S64.Idx → ℝ) (hg : ∀ i, g i = (γ i : EReal)) (hg' : ∀ i, g' i = (γ' i : EReal)) :
    ∃ B : ℝ, ∀ i, bnd g g' i = (B : EReal) := by
  have habs : ∀ x : ℝ, max (x : EReal) (-x) ≠ ⊤ ∧ max (x : EReal) (-x) ≠ ⊥ := fun x => by
    rw [← EReal.coe_neg]
    rcases max_choice (x : EReal) ((-x : ℝ) : EReal) with h | h <;> rw [h] <;> exact ⟨EReal.coe_ne_top _, EReal.coe_ne_bot _⟩
  obtain ⟨r, hr⟩ := ofBits_scale
  obtain ⟨M, hM⟩ := fold_max_real (Finset.univ : Finset (Fin 64)) (fun k => FloatOps.absf (g (ix1 k))) (fun i _ => by rw [Ideal.absf_def, hg]; exact (habs _).1)
    ⟨0, Finset.mem_univ _, by rw [Ideal.absf_def, hg]; exact (habs _).2⟩
  obtain ⟨M', hM'⟩ := fold_max_real (Finset.univ : Finset (Fin 64)) (fun k => FloatOps.absf (g' (ix1 k))) (fun i _ => by rw [Ideal.absf_def, hg']; exact (habs _).1)
    ⟨0, Finset.mem_univ _, by rw [Ideal.absf_def, hg']; exact (habs _).2⟩
  refine ⟨r * M * M', fun i => ?_⟩
  pointwise [bnd]
  rw [ofBits_bot, hM, hM', hr, ← EReal.coe_mul, ← EReal.coe_mul]

/-- Rounding loses nothing here: what it leaves of a real entry is zero. -/
theorem rest_at {s : Shape} (x : FVec Ideal s .f32) (i : s.Idx) (a : ℝ) (h : x i = (a : EReal)) : rest x i = ((0 : ℝ) : EReal) := by
  pointwise [rest]
  rw [h, ← EReal.coe_sub, sub_self]

/-! ## A lane's number against a literal -/

theorem lane_slt3 (r : Fin 64) : IntOp.cmpi .slt (BitVec.ofNat 32 r.val) 3#32 = if r.val < 3 then 1#1 else 0#1 := by revert r; decide
theorem lane_slt6 (r : Fin 64) : IntOp.cmpi .slt (BitVec.ofNat 32 r.val) 6#32 = if r.val < 6 then 1#1 else 0#1 := by revert r; decide
theorem lane_eq (n : Fin 8) (r : Fin 64) : IntOp.cmpi .eq (BitVec.ofNat 32 r.val) (BitVec.ofNat 32 n.val) = if r.val = n.val then 1#1 else 0#1 := by
  revert n r; decide
theorem lane_eq0 (r : Fin 64) : IntOp.cmpi .eq (BitVec.ofNat 32 r.val) 0#32 = if r.val = 0 then 1#1 else 0#1 := lane_eq 0 r
theorem lane_eq1 (r : Fin 64) : IntOp.cmpi .eq (BitVec.ofNat 32 r.val) 1#32 = if r.val = 1 then 1#1 else 0#1 := lane_eq 1 r
theorem lane_eq2 (r : Fin 64) : IntOp.cmpi .eq (BitVec.ofNat 32 r.val) 2#32 = if r.val = 2 then 1#1 else 0#1 := lane_eq 2 r
theorem lane_eq3 (r : Fin 64) : IntOp.cmpi .eq (BitVec.ofNat 32 r.val) 3#32 = if r.val = 3 then 1#1 else 0#1 := lane_eq 3 r
theorem lane_eq4 (r : Fin 64) : IntOp.cmpi .eq (BitVec.ofNat 32 r.val) 4#32 = if r.val = 4 then 1#1 else 0#1 := lane_eq 4 r
theorem lane_eq5 (r : Fin 64) : IntOp.cmpi .eq (BitVec.ofNat 32 r.val) 5#32 = if r.val = 5 then 1#1 else 0#1 := lane_eq 5 r

/-! ## The queries -/

section
variable (q : FVec Ideal S2x8192x16x64 .f32) (c : FVec Ideal S2x8192x16 .f32) (g g' : FVec Ideal S64 .f32)
variable (qr : S2x8192x16x64.Idx → ℝ) (cr : S2x8192x16.Idx → ℝ) (B : ℝ)

theorem cq_at (hc : ∀ i, c i = (cr i : EReal)) (hB : ∀ i, bnd g g' i = (B : EReal)) (b : Fin 2) (h : Fin 16) (t : Fin 8192) :
    cq c g g' (ix3 b h t) = ((cr (ix3 b t h) * invLog2 - B : ℝ) : EReal) := by
  pointwise [cq]
  rw [hc, hB, l2e_at, ← EReal.coe_mul, ← EReal.coe_sub]

/-- A query's own 64 lanes are its entries, scaled. -/
theorem qAug_head (hq : ∀ i, q i = (qr i : EReal)) (b : Fin 2) (h : Fin 16) (r : Fin 64) (t : Fin 8192) :
    qAug q c g g' (ix4 b h (Fin.castAdd 64 r) t) = ((qr (ix4 b t h r) * (invLog2 * (1 / 8)) : ℝ) : EReal) := by
  pointwise [qAug, headQ]
  refine (dif_pos r.isLt).trans ?_
  rw [hq, l2e_at, ofBits_eighth, ← EReal.coe_mul, ← EReal.coe_mul]
  rfl

/-- The 64 lanes below them: three ones, the query's decay, and zeros. -/
theorem qAug_tail (hc : ∀ i, c i = (cr i : EReal)) (hB : ∀ i, bnd g g' i = (B : EReal)) (b : Fin 2) (h : Fin 16) (r : Fin 64) (t : Fin 8192) :
    qAug q c g g' (ix4 b h (Fin.natAdd 64 r) t) =
      ((if r.val < 3 then 1 else if r.val = 3 then cr (ix3 b t h) * invLog2 - B else 0 : ℝ) : EReal) := by
  have hx := cq_at c g g' cr B hc hB b h t
  have hr := rest_at (cq c g g') (ix3 b h t) _ hx
  have hr' := rest_at (rest (cq c g g')) (ix3 b h t) _ hr
  pointwise [qAug, tailQ, spreadQ, subQ]
  refine (dif_neg (by simp)).trans ?_
  simp only [Fin.val_natAdd, Nat.add_sub_cancel_left]
  rw [lane_slt3, lane_eq3, lane_eq4, lane_eq5]
  simp only [select_ite, hx, hr, hr']
  split_ifs <;> first | rfl | (exfalso; omega) | simp

end
/-! ## The keys -/

section
variable (k : FVec Ideal S2x8192x16x64 .f32) (c : FVec Ideal S2x8192x16 .f32)
variable (kr : S2x8192x16x64.Idx → ℝ) (cr : S2x8192x16.Idx → ℝ)

theorem ck_at (hc : ∀ i, c i = (cr i : EReal)) (b : Fin 2) (t : Fin 8192) (h : Fin 16) :
    ck c (ix3 b t h) = ((cr (ix3 b t h) * -invLog2 : ℝ) : EReal) := by
  pointwise [ck]
  rw [hc, l2e_at, ← EReal.coe_neg, ← EReal.coe_mul]

theorem kWide_head (hk : ∀ i, k i = (kr i : EReal)) (b : Fin 2) (t : Fin 8192) (h : Fin 16) (r : Fin 64) :
    kWide k c (ix4 b t h (Fin.castAdd 64 r)) = ((kr (ix4 b t h r) : ℝ) : EReal) := by
  pointwise [kWide]
  exact (dif_pos r.isLt).trans (hk _)

theorem kWide_tail (hc : ∀ i, c i = (cr i : EReal)) (b : Fin 2) (t : Fin 8192) (h : Fin 16) (r : Fin 64) :
    kWide k c (ix4 b t h (Fin.natAdd 64 r)) =
      ((if r.val = 0 then cr (ix3 b t h) * -invLog2 else if r.val < 3 then 0 else if r.val < 6 then 1 else 0 : ℝ) : EReal) := by
  have hx := ck_at c cr hc b t h
  have hr := rest_at (ck c) (ix3 b t h) _ hx
  have hr' := rest_at (rest (ck c)) (ix3 b t h) _ hr
  pointwise [kWide, tailK, spreadK, laneK]
  refine (dif_neg (by simp)).trans ?_
  simp only [Fin.val_natAdd, Nat.add_sub_cancel_left]
  rw [lane_slt6, lane_eq0, lane_eq1, lane_eq2]
  simp only [select_ite, hx, hr, hr']
  split_ifs <;> first | rfl | (exfalso; omega) | simp

theorem kAug_at (b : Fin 2) (t : Fin 8192) (h : Fin 16) (r : Fin 128) :
    kAug k c (ix3 b t ⟨128 * h.val + r.val, by omega⟩) = kWide k c (ix4 b t h r) := by
  pointwise [kAug]
end
/-! ## The values -/

section
variable (v : FVec Ideal S2x8192x16x64 .f32) (vr : S2x8192x16x64.Idx → ℝ)

theorem vAug_at (hv : ∀ i, v i = (vr i : EReal)) (b : Fin 2) (h : Fin 16) (r : Fin 64) (t : Fin 8192) :
    vAug v (ix4 b h (Fin.castAdd 16 r) t) = ((vr (ix4 b t h r) : ℝ) : EReal) := by
  pointwise [vAug]
  exact (dif_pos r.isLt).trans (hv _)

theorem vAug_one (b : Fin 2) (h : Fin 16) (t : Fin 8192) : vAug v (ix4 b h ⟨64, by omega⟩ t) = ((1 : ℝ) : EReal) := by
  pointwise [vAug, onesV]
  exact EReal.coe_one.symm
end
end Cert.KernelIdeal.Hand

end
-- ==== Proof.Target.lean ====
/-
  The attention with decay as one formula over the real numbers, which the kernel's result and the reference's are both shown to be.
-/
module

public import Idealize.ShloMosaic.Lib.Pointwise

@[expose] public section

noncomputable section

namespace Cert.Attn

open Idealize.ShloMosaic

/-- Queries, keys or values: batch, position, head, entry. -/
abbrev Heads : Type := (⟨4, ![2, 8192, 16, 64]⟩ : Shape).Idx → ℝ
/-- The decay's running sums: batch, position, head. -/
abbrev Decay : Type := (⟨3, ![2, 8192, 16]⟩ : Shape).Idx → ℝ

variable (q k v : Heads) (c : Decay) (b : Fin 2) (h : Fin 16) (d : Fin 64) (t : Fin 8192)

/-- The score of key `s` for query `t`. -/
def sc (s : Fin 8192) : ℝ := (∑ r : Fin 64, q (ix4 b t h r) * k (ix4 b s h r)) / 8 + (c (ix3 b t h) - c (ix3 b s h))
/-- Its weight, before the division: nothing after the query. -/
def wt (s : Fin 8192) : ℝ := if s.val ≤ t.val then Real.exp (sc q k c b h t s) else 0
/-- The result at entry `d`: the weighted mean of the values. -/
def attn : ℝ := (∑ s, v (ix4 b s h d) * wt q k c b h t s) / ∑ s, wt q k c b h t s

theorem wt_nonneg (s : Fin 8192) : 0 ≤ wt q k c b h t s := by
  unfold wt; split
  · exact (Real.exp_pos _).le
  · exact le_rfl
theorem wt_self : 0 < wt q k c b h t t := by rw [wt, if_pos le_rfl]; exact Real.exp_pos _
theorem sum_wt_pos : 0 < ∑ s, wt q k c b h t s :=
  lt_of_lt_of_le (wt_self q k c b h t) (Finset.single_le_sum (f := fun s => wt q k c b h t s) (fun s _ => wt_nonneg q k c b h t s) (Finset.mem_univ t))

/-- Scaling every weight leaves the quotient. -/
theorem attn_of_scaled (w : Fin 8192 → ℝ) (a : ℝ) (ha : a ≠ 0) (hw : ∀ s, w s = wt q k c b h t s * a) :
    (∑ s, v (ix4 b s h d) * w s) / ∑ s, w s = attn q k v c b h d t := by
  have e1 : (∑ s, v (ix4 b s h d) * w s) = (∑ s, v (ix4 b s h d) * wt q k c b h t s) * a := by
    rw [Finset.sum_mul]; exact Finset.sum_congr rfl fun s _ => by rw [hw, mul_assoc]
  have e2 : (∑ s, w s) = (∑ s, wt q k c b h t s) * a := by
    rw [Finset.sum_mul]; exact Finset.sum_congr rfl fun s _ => hw s
  rw [e1, e2, mul_div_mul_right _ _ ha, attn]

/-- The same with each weight divided before the sum. -/
theorem attn_of_divided (w : Fin 8192 → ℝ) (a : ℝ) (ha : a ≠ 0) (hw : ∀ s, w s = wt q k c b h t s * a) :
    (∑ s, v (ix4 b s h d) * (w s / ∑ u, w u)) = attn q k v c b h d t := by
  rw [← attn_of_scaled q k v c b h d t w a ha hw, Finset.sum_div]
  exact Finset.sum_congr rfl fun s _ => (mul_div_assoc _ _ _).symm

/-- A power of two of a score scaled by one over the logarithm of two, less a bound. -/
theorem two_rpow (s B : ℝ) : Real.rpow 2 (s * (1 / Real.log 2) - B) = Real.exp s * Real.rpow 2 (-B) := by
  have h2 : Real.log 2 ≠ 0 := (Real.log_pos one_lt_two).ne'
  have h := Real.rpow_add (x := 2) two_pos (s * (1 / Real.log 2)) (-B)
  have h' : (2 : ℝ) ^ (s * (1 / Real.log 2)) = Real.exp s := by
    rw [Real.rpow_def_of_pos two_pos]; congr 1; field_simp
  rw [h'] at h
  exact h

/-- A sum over all positions, block by block. -/
theorem sum_blocks (f : Fin 8192 → ℝ) : ∑ s, f s = ∑ j : Fin 16, ∑ kk : Fin 512, f ⟨512 * j.val + kk.val, by omega⟩ := by
  rw [Fin.sum_univ_tiles 16 512 rfl f]
  exact Finset.sum_congr rfl fun j _ => Finset.sum_congr rfl fun kk _ => congrArg f (Fin.ext (by show j.val * 512 + kk.val = 512 * j.val + kk.val; omega))

end Cert.Attn

end
-- ==== Proof.KernelValue.lean ====
/-
  The kernel's result, for finite arguments, is the attention with decay: its scores are the attention's, scaled to powers of two and
  lowered by a bound, which leaves the quotient of the weighted sums.
-/
module

public import proofs.«01_k».proof.Proof.Acc
public import proofs.«01_k».proof.Proof.Blocks
public import proofs.«01_k».proof.Proof.HostReads
public import proofs.«01_k».proof.Proof.Target

@[expose] public section

set_option maxRecDepth 16384

noncomputable section

namespace Cert.KernelIdeal.Hand

open Cert.KernelIdeal Cert.KernelIdeal.Gen Cert.Attn
open Idealize.ShloMosaic Idealize.ShloMosaic.TcCoe

/-- The 64 lanes below a key's entries against those below a query's: the two decays, less the bound. -/
theorem tail_sum (a e : ℝ) : (∑ r : Fin 64, (if r.val = 0 then a else if r.val < 3 then 0 else if r.val < 6 then 1 else 0 : ℝ)
    * (if r.val < 3 then 1 else if r.val = 3 then e else 0 : ℝ)) = a + e := by
  have h : ∀ r : Fin 64, (if r.val = 0 then a else if r.val < 3 then 0 else if r.val < 6 then 1 else 0 : ℝ)
      * (if r.val < 3 then 1 else if r.val = 3 then e else 0 : ℝ) = (if r = 0 then a else 0) + (if r = 3 then e else 0) := fun r => by
    simp only [Fin.ext_iff]
    show _ = (if r.val = 0 then a else 0) + (if r.val = 3 then e else 0)
    split_ifs <;> first | (exfalso; omega) | simp
  rw [Finset.sum_congr rfl fun r _ => h r, Finset.sum_add_distrib, Finset.sum_ite_eq', Finset.sum_ite_eq']
  simp

variable (m : (ℓ : Loc nD τ sig) → Buf (Elt Ideal) ℓ) (c : Dev nD)

/-- The arguments are the real arrays given. -/
structure Finite (q k v : Heads) (w : Decay) (γ γ' : S64.Idx → ℝ) : Prop where
  hq : ∀ i, m ((c : Thread nD τ).loc main_arg0) i = (q i : EReal)
  hk : ∀ i, m ((c : Thread nD τ).loc main_arg1) i = (k i : EReal)
  hv : ∀ i, m ((c : Thread nD τ).loc main_arg2) i = (v i : EReal)
  hc : ∀ i, m ((c : Thread nD τ).loc main_arg3) i = (w i : EReal)
  hg : ∀ i, m ((c : Thread nD τ).loc main_arg4) i = (γ i : EReal)
  hg' : ∀ i, m ((c : Thread nD τ).loc main_arg5) i = (γ' i : EReal)

variable (q k v : Heads) (w : Decay) (γ γ' : S64.Idx → ℝ) (B : ℝ)

/-- The kernel's scores: the attention's, scaled and lowered. -/
theorem score_real (H : Finite m c q k v w γ γ') (hB : ∀ i, bnd (F := Ideal) (m ((c : Thread nD τ).loc main_arg4)) (m ((c : Thread nD τ).loc main_arg5)) i = (B : EReal))
    (t : Fin cfg0.N) (x : Fin 4) (y : Fin 512) (j : Fin 16) (kk : Fin 512) :
    score (qTile (iblk m c 0 t) x) (kTile (iblk m c 1 t) x j) (ix2 kk y) =
      ((sc q k w (pb t) (ph t x) (pos (pn t) y) (pos j kk) * (1 / Real.log 2) - B : ℝ) : EReal) := by
  have hQ : ∀ r, qTile (iblk m c 0 t) x (ix2 r y) = qAug (F := Ideal) (m ((c : Thread nD τ).loc main_arg0)) (m ((c : Thread nD τ).loc main_arg3))
      (m ((c : Thread nD τ).loc main_arg4)) (m ((c : Thread nD τ).loc main_arg5)) (ix4 (pb t) (ph t x) r (pos (pn t) y)) := fun r => by
    rw [← V_q]; exact (qTile_at _ x r y).trans (blk_0 m c t x r y)
  have hK : ∀ r, kTile (iblk m c 1 t) x j (ix3 0 kk r) = kWide (F := Ideal) (m ((c : Thread nD τ).loc main_arg1)) (m ((c : Thread nD τ).loc main_arg3))
      (ix4 (pb t) (pos j kk) (ph t x) r) := fun r => by
    rw [← kAug_at, ← V_k]; exact (kTile_at _ x j kk r).trans (blk_1 m c t x (pos j kk) r)
  rw [score_at, Fin.sum_univ_add (a := 64) (b := 64) (fun r : Fin (64 + 64) => (show EReal from kTile (iblk m c 1 t) x j (ix3 0 kk r)) * qTile (iblk m c 0 t) x (ix2 r y))]
  rw [sum_coe Finset.univ _ (fun r => k (ix4 (pb t) (pos j kk) (ph t x) r) * (q (ix4 (pb t) (pos (pn t) y) (ph t x) r) * (invLog2 * (1 / 8)))) fun r => ?_,
    sum_coe Finset.univ _ (fun r : Fin 64 => (if r.val = 0 then w (ix3 (pb t) (pos j kk) (ph t x)) * -invLog2 else if r.val < 3 then 0 else if r.val < 6 then 1 else 0 : ℝ)
      * (if r.val < 3 then 1 else if r.val = 3 then w (ix3 (pb t) (pos (pn t) y) (ph t x)) * invLog2 - B else 0 : ℝ)) fun r => ?_,
    tail_sum, ← EReal.coe_add]
  · congr 1
    unfold sc
    have e : (∑ r : Fin 64, k (ix4 (pb t) (pos j kk) (ph t x) r) * (q (ix4 (pb t) (pos (pn t) y) (ph t x) r) * (invLog2 * (1 / 8))))
        = (∑ r : Fin 64, q (ix4 (pb t) (pos (pn t) y) (ph t x) r) * k (ix4 (pb t) (pos j kk) (ph t x) r)) * (invLog2 * (1 / 8)) := by
      rw [Finset.sum_mul]; exact Finset.sum_congr rfl fun r _ => by ring
    rw [e, show (1 / Real.log 2) = invLog2 from rfl]
    ring
  · show (show EReal from kTile (iblk m c 1 t) x j (ix3 0 kk (Fin.natAdd 64 r))) * _ = _
    rw [EReal.coe_mul]
    refine Ideal.mul_congr ?_ ?_
    · exact (hK _).trans (kWide_tail _ _ w H.hc (pb t) (pos j kk) (ph t x) r)
    · exact (hQ _).trans (qAug_tail _ _ _ _ w B H.hc hB (pb t) (ph t x) r (pos (pn t) y))
  · show (show EReal from kTile (iblk m c 1 t) x j (ix3 0 kk (Fin.castAdd 64 r))) * _ = _
    rw [EReal.coe_mul]
    refine Ideal.mul_congr ?_ ?_
    · exact (hK _).trans (kWide_head _ _ k H.hk (pb t) (pos j kk) (ph t x) r)
    · exact (hQ _).trans (qAug_head _ _ _ _ q H.hq (pb t) (ph t x) r (pos (pn t) y))

/-- The values' block, with the ones below. -/
theorem value_real (H : Finite m c q k v w γ γ') (t : Fin cfg0.N) (x : Fin 4) (j : Fin 16) (d : Fin 64) (kk : Fin 512) :
    vTile (iblk m c 2 t) x j (ix4 0 0 (Fin.castAdd 16 d) kk) = (v (ix4 (pb t) (pos j kk) (ph t x) d) : EReal) :=
  (vTile_at _ x j _ kk).trans ((blk_2 m c t x _ (pos j kk)).trans ((congrFun (V_v m c) _).trans (vAug_at _ v H.hv (pb t) (ph t x) d (pos j kk))))

theorem one_real (t : Fin cfg0.N) (x : Fin 4) (j : Fin 16) (kk : Fin 512) :
    vTile (iblk m c 2 t) x j (ix4 0 0 ⟨64, by omega⟩ kk) = ((1 : ℝ) : EReal) :=
  (vTile_at _ x j _ kk).trans ((blk_2 m c t x _ (pos j kk)).trans ((congrFun (V_v m c) _).trans (vAug_one _ (pb t) (ph t x) (pos j kk))))

/-- The attention as contents of the result array. -/
def result (q k v : Heads) (w : Decay) : S2x16x64x8192.Idx → EReal := fun i => ((attn q k v w (i 0) (i 1) (i 2) (i 3) : ℝ) : EReal)

theorem final_value (H : Finite m c q k v w γ γ') : (dats m 0 c).arrAt 3 cfg0.N = result q k v w := by
  obtain ⟨B, hB⟩ := bnd_real _ _ γ γ' H.hg H.hg'
  refine final_of m c _ fun t x d y => ?_
  rw [headOut_at _ _ _ x y (fun j kk => sc q k w (pb t) (ph t x) (pos (pn t) y) (pos j kk) * (1 / Real.log 2) - B)
    (fun j kk => v (ix4 (pb t) (pos j kk) (ph t x) d)) (score_real m c q k v w γ γ' B H hB t x y) d
    (fun j kk => value_real m c q k v w γ γ' H t x j d kk) (one_real m c t x) (pn t)]
  show _ = ((attn q k v w (pb t) (ph t x) d (pos (pn t) y) : ℝ) : EReal)
  congr 1
  rw [← attn_of_scaled q k v w (pb t) (ph t x) d (pos (pn t) y)
    (fun s => wt q k w (pb t) (ph t x) (pos (pn t) y) s * Real.rpow 2 (-B)) _ (Real.rpow_pos_of_pos two_pos _).ne' (fun s => rfl), sum_blocks, sum_blocks]
  have hw : ∀ j kk, weight y (fun j kk => sc q k w (pb t) (ph t x) (pos (pn t) y) (pos j kk) * (1 / Real.log 2) - B) (pn t).val j kk =
      wt q k w (pb t) (ph t x) (pos (pn t) y) (pos j kk) * Real.rpow 2 (-B) := fun j kk => by
    unfold weight wt
    by_cases h : 512 * j.val + kk.val ≤ 512 * (pn t).val + y.val
    · rw [if_pos h, if_pos (show (pos j kk).val ≤ (pos (pn t) y).val from h), two_rpow]
    · rw [if_neg h, if_neg (show ¬ (pos j kk).val ≤ (pos (pn t) y).val from h), zero_mul]
  simp only [hw]
  rfl

end Cert.KernelIdeal.Hand

end
-- ==== Proof.Finite.lean ====
/-
  The precondition read back: every entry of the six arguments is a real number.
-/
module

public import proofs.«01_k».proof.Defs
public import proofs.«01_k».proof.Proof.Gen.Pre_finite
public import proofs.«01_k».proof.Proof.KernelValue
public import Idealize.ShloMosaic.Lib.ReduceAll

@[expose] public section

set_option maxRecDepth 16384

noncomputable section

namespace Cert.Pre_finite.Hand

open Idealize.ShloMosaic Idealize.ShloMosaic.TcCoe Cert.Attn

instance : Subsingleton Cert.Pre_finite.S_.Idx := ⟨fun a b => funext fun i => i.elim0⟩

theorem ofBits_top : Ideal.ofBits .f32 0x7F800000#32 = ⊤ := by simp [Ideal.ofBits, Ideal.ieee]

/-- An array whose magnitudes all lie below infinity is an array of reals. -/
theorem real_of_all {s : Shape} {axes : List (Fin s.rank)} (x y : FVec Ideal s .f32) (hy : ∀ i, y i = ⊤) {one : IVec Cert.Pre_finite.S_ 1}
    {hr : s.ReducesTo axes Cert.Pre_finite.S_} {hu : 0 < Cert.Pre_finite.S_.numel} {i₀ : Cert.Pre_finite.S_.Idx}
    (h : Host.reduce IntOp.andi (cmpf .olt (Host.absf x) y) one hr hu i₀ = 1#1) (i : s.Idx) : x i = ((x i).toReal : EReal) := by
  have e := Host.reduce_andi_all _ one hr hu i₀ h i
  have e' : FloatOps.cmpf .olt (FloatOps.absf (x i)) (y i) = 1#1 := e
  rw [hy, Ideal.absf_def, Ideal.cmpf_def] at e'
  refine real_of_abs_lt ?_
  by_contra hn
  have e'' : BitVec.ofBool (decide (max (x i) (-(x i)) < ⊤)) = 1#1 := e'
  rw [decide_eq_false hn] at e''
  exact absurd e'' (by decide)

theorem reals (x0 x1 x2 : FVec Ideal Cert.Pre_finite.S2x8192x16x64 .f32) (x3 : FVec Ideal Cert.Pre_finite.S2x8192x16 .f32)
    (x4 x5 : FVec Ideal Cert.Pre_finite.S64 .f32) (i₀ : Cert.Pre_finite.S_.Idx) (h : Cert.Pre_finite.fn (F := Ideal) x0 x1 x2 x3 x4 x5 i₀ = 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) ∧ (∀ i, x5 i = ((x5 i).toReal : EReal)) := by
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  beta_reduce at h0 h1 h2 h3 h4 h5
  exact ⟨real_of_all _ _ (fun _ => ofBits_top) h0, real_of_all _ _ (fun _ => ofBits_top) h1, real_of_all _ _ (fun _ => ofBits_top) h2,
    real_of_all _ _ (fun _ => ofBits_top) h3, real_of_all _ _ (fun _ => ofBits_top) h4, real_of_all _ _ (fun _ => ofBits_top) h5⟩

theorem finite_of_pre (m : (ℓ : Loc Cert.KernelIdeal.nD Cert.KernelIdeal.τ Cert.KernelIdeal.sig) → Buf (Elt Ideal) ℓ) (hp : Cert.Pre_KernelIdeal_finite m)
    (c : Dev Cert.KernelIdeal.nD) : ∃ (q k v : Heads) (w : Decay) (γ γ' : Cert.KernelIdeal.S64.Idx → ℝ),
      Cert.KernelIdeal.Hand.Finite m c q k v w γ γ' := by
  obtain ⟨h0, h1, h2, h3, h4, h5⟩ := reals _ _ _ _ _ _ (fun i => i.elim0) (congrFun (hp c) _)
  exact ⟨_, _, _, _, _, _, h0, h1, h2, h3, h4, h5⟩

end Cert.Pre_finite.Hand

end
-- ==== Proof.RefValue.lean ====
/-
  The reference's result, for finite arguments, is the attention with decay: its softmax lowers every score by the row's maximum and
  divides each weight by their sum, which leaves the quotient of the weighted sums.
-/
module

public import proofs.«01_k».proof.Proof.Gen.ReferenceIdeal.Run
public import proofs.«01_k».proof.Proof.Real
public import proofs.«01_k».proof.Proof.Target
public import proofs.«01_k».proof.Proof.HostReads

@[expose] public section

set_option maxRecDepth 16384

noncomputable section

namespace Cert.ReferenceIdeal.Hand

open Cert.ReferenceIdeal Cert.ReferenceIdeal.Gen Cert.ReferenceIdeal.Value Cert.Attn
open Idealize.ShloMosaic Idealize.ShloMosaic.TcCoe

/-! ## The reference in four stages -/

def keyPos : IVec S8192x8192 32 := broadcastInDim S8192x8192 ![0, 1] bcast_S1x8192_S8192x8192_0_1 (broadcastInDim S1x8192 ![1] bcast_S8192_S1x8192_1 (iotaInDim S8192 32 0))
def qryPos : IVec S8192x8192 32 := broadcastInDim S8192x8192 ![0, 1] bcast_S8192x1_S8192x8192_0_1 (broadcastInDim S8192x1 ![0] bcast_S8192_S8192x1_0 (iotaInDim S8192 32 0))
def upTo : IVec S2x16x8192x8192 1 :=
  broadcastInDim S2x16x8192x8192 ![0, 1, 2, 3] bcast_S1x1x8192x8192_S2x16x8192x8192_0_1_2_3 (broadcastInDim S1x1x8192x8192 ![2, 3] bcast_S8192x8192_S1x1x8192x8192_2_3
    (cmpi .sle keyPos qryPos))
/-- The two decays' difference. -/
def decay (c : FVec Ideal S2x8192x16 .f32) : FVec Ideal S2x16x8192x8192 .f32 :=
  subf (broadcastInDim S2x16x8192x8192 ![0, 1, 2, 3] bcast_S2x16x8192x1_S2x16x8192x8192_0_1_2_3 (broadcastInDim S2x16x8192x1 ![0, 1, 2] bcast_S2x16x8192_S2x16x8192x1_0_1_2
      (transpose S2x16x8192 [0, 2, 1] c transposes_S2x8192x16_S2x16x8192_0_2_1)))
    (broadcastInDim S2x16x8192x8192 ![0, 1, 2, 3] bcast_S2x16x1x8192_S2x16x8192x8192_0_1_2_3 (broadcastInDim S2x16x1x8192 ![0, 1, 3] bcast_S2x16x8192_S2x16x1x8192_0_1_3
      (transpose S2x16x8192 [0, 2, 1] c transposes_S2x8192x16_S2x16x8192_0_2_1)))
/-- The masked scores. -/
def scores (q k : FVec Ideal S2x8192x16x64 .f32) (c : FVec Ideal S2x8192x16 .f32) : FVec Ideal S2x16x8192x8192 .f32 :=
  select upTo (addf (mulf (Host.dotGeneral dot_S2x8192x16x64_S2x8192x16x64_S2x16x8192x8192_3_3_1_1_02_02 none q k)
      (broadcastInDim S2x16x8192x8192 ![] bcast_S_S2x16x8192x8192 (constant S_ .f32 0x3E000000#32))) (decay c))
    (broadcastInDim S2x16x8192x8192 ![] bcast_S_S2x16x8192x8192 (constant S_ .f32 0xFF800000#32))
def rowTop (s : FVec Ideal S2x16x8192x8192 .f32) (z : FVec Ideal S_ .f32) : FVec Ideal S2x16x8192 .f32 :=
  Host.reduce FloatOps.maximumf s z reducesTo_S2x16x8192x8192_S2x16x8192_d3 h_S_
/-- Each row's maximum. -/
def rowMax (s : FVec Ideal S2x16x8192x8192 .f32) (w : BitVec 32) : FVec Ideal S2x16x8192 .f32 :=
  maximumf (broadcastInDim S2x16x8192 ![] bcast_S_S2x16x8192 (constant S_ .f32 w))
    (rowTop s (constant S_ .f32 w))
/-- One number per row, at every entry of the row. -/
def spread (r : FVec Ideal S2x16x8192 .f32) : FVec Ideal S2x16x8192x8192 .f32 :=
  broadcastInDim S2x16x8192x8192 ![0, 1, 2, 3] bcast_S2x16x8192x1_S2x16x8192x8192_0_1_2_3 (broadcastInDim S2x16x8192x1 ![0, 1, 2] bcast_S2x16x8192_S2x16x8192x1_0_1_2 r)
/-- The weights before the division. -/
def expo (s : FVec Ideal S2x16x8192x8192 .f32) (r : FVec Ideal S2x16x8192 .f32) : FVec Ideal S2x16x8192x8192 .f32 := Host.exp (subf s (spread r))
def rowSum (e : FVec Ideal S2x16x8192x8192 .f32) : FVec Ideal S2x16x8192 .f32 :=
  Host.reduceAdd e (constant S_ .f32 0x00000000#32) reducesTo_S2x16x8192x8192_S2x16x8192_d3 h_S_
def out (v : FVec Ideal S2x8192x16x64 .f32) (e : FVec Ideal S2x16x8192x8192 .f32) (z : FVec Ideal S2x16x8192 .f32) : FVec Ideal S2x16x64x8192 .bf16 :=
  truncf .bf16 (transpose S2x16x64x8192 [0, 2, 3, 1] (transpose S2x8192x16x64 [0, 3, 1, 2]
    (Host.dotGeneral dot_S2x8192x16x64_S2x16x8192x8192_S2x16x64x8192_1_3_3_2_02_01 none v (Host.divf e (spread z)) : FVec Ideal S2x16x64x8192 .f32)
    transposes_S2x16x64x8192_S2x8192x16x64_0_3_1_2) transposes_S2x8192x16x64_S2x16x64x8192_0_2_3_1 : FVec Ideal S2x16x64x8192 .f32) bitsLt_bf16_f32

theorem res_eq (m : (ℓ : Loc nD τ sig) → Buf (Elt Ideal) ℓ) (c : Dev nD) : res_main_v32 m c =
    (let s := scores (m ((c : Thread nD τ).loc main_arg0)) (m ((c : Thread nD τ).loc main_arg1)) (m ((c : Thread nD τ).loc main_arg3))
     let e := expo s (rowMax s 0xFF800000#32)
     out (m ((c : Thread nD τ).loc main_arg2)) e (rowSum e)) := rfl

/-! ## The stages at an index -/

/-- A reduction by maximum along the last of four axes, at an index: the maximum of the row. -/
theorem reduce_max_last {n0 n1 n2 n3 : Nat} {u : Shape} (x : (⟨4, ![n0, n1, n2, n3]⟩ : Shape).Idx → EReal) (init : u.Idx → EReal)
    (hr : (⟨4, ![n0, n1, n2, n3]⟩ : Shape).ReducesTo [3] (⟨3, ![n0, n1, n2]⟩ : Shape)) (hu : 0 < u.numel) (a : Fin n0) (b : Fin n1) (c : Fin n2) :
    Host.reduce max x init hr hu (ix3 a b c) = Finset.univ.fold max (init (Shape.Idx.first hu)) fun y => x (ix4 a b c y) := by
  rw [Host.reduce_eq_fold, Shape.ReducesTo.fold_fiber_r4_a3]
  rfl

theorem upTo_at (b : Fin 2) (h : Fin 16) (t s : Fin 8192) : upTo (ix4 b h t s) = if s.val ≤ t.val then 1#1 else 0#1 := by
  pointwise [upTo, keyPos, qryPos]
  exact word_sle _ _ (by omega) (by omega)
theorem decay_at (c : FVec Ideal S2x8192x16 .f32) (b : Fin 2) (h : Fin 16) (t s : Fin 8192) : decay c (ix4 b h t s) = c (ix3 b t h) - c (ix3 b s h) := by
  pointwise [decay]
theorem scores_at (q k : FVec Ideal S2x8192x16x64 .f32) (c : FVec Ideal S2x8192x16 .f32) (b : Fin 2) (h : Fin 16) (t s : Fin 8192) :
    scores q k c (ix4 b h t s) = Scalar.select (upTo (ix4 b h t s))
      ((∑ r, q (ix4 b t h r) * k (ix4 b s h r)) * Ideal.ofBits .f32 0x3E000000#32 + decay c (ix4 b h t s)) (Ideal.ofBits .f32 0xFF800000#32) := by
  pointwise [scores]
theorem rowTop_at (s : FVec Ideal S2x16x8192x8192 .f32) (z : FVec Ideal S_ .f32) (b : Fin 2) (h : Fin 16) (t : Fin 8192) :
    rowTop s z (ix3 b h t) = Finset.univ.fold max (z (Shape.Idx.first h_S_)) fun x => s (ix4 b h t x) :=
  reduce_max_last s z reducesTo_S2x16x8192x8192_S2x16x8192_d3 h_S_ b h t
theorem rowMax_at (s : FVec Ideal S2x16x8192x8192 .f32) (w : BitVec 32) (b : Fin 2) (h : Fin 16) (t : Fin 8192) :
    rowMax s w (ix3 b h t) = max (Ideal.ofBits .f32 w) (Finset.univ.fold max (Ideal.ofBits .f32 w) fun x => s (ix4 b h t x)) := by
  have e : rowTop s (constant S_ .f32 w) (ix3 b h t) = Finset.univ.fold max (Ideal.ofBits .f32 w) fun x => s (ix4 b h t x) :=
    rowTop_at s (constant S_ .f32 w) b h t
  rw [← e]
  rfl
theorem spread_at (r : FVec Ideal S2x16x8192 .f32) (b : Fin 2) (h : Fin 16) (t s : Fin 8192) : spread r (ix4 b h t s) = r (ix3 b h t) := by
  pointwise [spread]
theorem expo_at (s : FVec Ideal S2x16x8192x8192 .f32) (r : FVec Ideal S2x16x8192 .f32) (b : Fin 2) (h : Fin 16) (t x : Fin 8192) :
    expo s r (ix4 b h t x) = Ideal.exp (s (ix4 b h t x) - r (ix3 b h t)) := by
  rw [← spread_at r b h t x]
  pointwise [expo]
theorem rowSum_at (e : FVec Ideal S2x16x8192x8192 .f32) (b : Fin 2) (h : Fin 16) (t : Fin 8192) : rowSum e (ix3 b h t) = ∑ x, e (ix4 b h t x) := by
  pointwise [rowSum]
theorem out_at (v : FVec Ideal S2x8192x16x64 .f32) (e : FVec Ideal S2x16x8192x8192 .f32) (z : FVec Ideal S2x16x8192 .f32)
    (b : Fin 2) (h : Fin 16) (d : Fin 64) (t : Fin 8192) :
    out v e z (ix4 b h d t) = ∑ s, v (ix4 b s h d) * Ideal.div (e (ix4 b h t s)) (z (ix3 b h t)) := by
  pointwise [out, spread]

/-! ## The result, for real arguments -/

variable (Q K W : FVec Ideal S2x8192x16x64 .f32) (C : FVec Ideal S2x8192x16 .f32) (q k v : Heads) (w : Decay)

/-- A score: the attention's up to the query, nothing after it. -/
theorem scores_real (hq : ∀ i, Q i = (q i : EReal)) (hk : ∀ i, K i = (k i : EReal)) (hc : ∀ i, C i = (w i : EReal)) (b : Fin 2) (h : Fin 16) (t s : Fin 8192) :
    scores Q K C (ix4 b h t s) = if s.val ≤ t.val then (sc q k w b h t s : EReal) else ⊥ := by
  have e : (∑ r, Q (ix4 b t h r) * K (ix4 b s h r)) * Ideal.ofBits .f32 0x3E000000#32 + decay C (ix4 b h t s) = (sc q k w b h t s : EReal) := by
    rw [decay_at, hc, hc, sum_coe _ _ (fun r => q (ix4 b t h r) * k (ix4 b s h r)) fun r => by rw [hq, hk, EReal.coe_mul],
      Cert.KernelIdeal.Hand.ofBits_eighth, ← EReal.coe_mul, ← EReal.coe_sub, ← EReal.coe_add, mul_one_div]
    rfl
  rw [scores_at, upTo_at, select_ite, e, Cert.KernelIdeal.Hand.ofBits_bot]

/-- A row's maximum is real: the query attends to itself. -/
theorem rowMax_real (hq : ∀ i, Q i = (q i : EReal)) (hk : ∀ i, K i = (k i : EReal)) (hc : ∀ i, C i = (w i : EReal)) (b : Fin 2) (h : Fin 16) (t : Fin 8192) :
    ∃ M : ℝ, rowMax (scores Q K C) 0xFF800000#32 (ix3 b h t) = (M : EReal) := by
  obtain ⟨M, hM⟩ := fold_max_real Finset.univ (fun x => scores Q K C (ix4 b h t x))
    (fun x _ => by
      show scores Q K C (ix4 b h t x) ≠ ⊤
      rw [scores_real Q K C q k w hq hk hc]; split
      · exact EReal.coe_ne_top _
      · exact bot_ne_top)
    ⟨t, Finset.mem_univ t, by
      show scores Q K C (ix4 b h t t) ≠ ⊥
      rw [scores_real Q K C q k w hq hk hc, if_pos le_rfl]; exact EReal.coe_ne_bot _⟩
  exact ⟨M, by rw [rowMax_at, Cert.KernelIdeal.Hand.ofBits_bot, hM]; exact max_eq_right bot_le⟩

/-- A weight: the attention's, scaled by the row's maximum. -/
theorem expo_real (hq : ∀ i, Q i = (q i : EReal)) (hk : ∀ i, K i = (k i : EReal)) (hc : ∀ i, C i = (w i : EReal)) (R : FVec Ideal S2x16x8192 .f32)
    (b : Fin 2) (h : Fin 16) (t : Fin 8192) (M : ℝ) (hM : R (ix3 b h t) = (M : EReal)) (s : Fin 8192) :
    expo (scores Q K C) R (ix4 b h t s) = ((wt q k w b h t s * Real.exp (-M) : ℝ) : EReal) := by
  rw [expo_at, hM, scores_real Q K C q k w hq hk hc]
  unfold wt
  split
  · rw [← EReal.coe_sub, Ideal.exp_coe, sub_eq_add_neg, Real.exp_add]
  · rw [EReal.bot_sub, Ideal.exp_bot, zero_mul]; exact EReal.coe_zero.symm

/-- The weighted mean of the values, from weights that are the attention's up to a factor. -/
theorem out_real (E : FVec Ideal S2x16x8192x8192 .f32) (hv : ∀ i, W i = (v i : EReal)) (b : Fin 2) (h : Fin 16) (d : Fin 64) (t : Fin 8192) (a : ℝ) (ha : a ≠ 0)
    (he : ∀ s, E (ix4 b h t s) = ((wt q k w b h t s * a : ℝ) : EReal)) : out W E (rowSum E) (ix4 b h d t) = (attn q k v w b h d t : EReal) := by
  have hz : rowSum E (ix3 b h t) = ((∑ s, wt q k w b h t s * a : ℝ) : EReal) := by
    rw [rowSum_at]; exact sum_coe _ _ _ he
  have hn : (∑ s, wt q k w b h t s * a) ≠ 0 := by
    rw [← Finset.sum_mul]; exact mul_ne_zero (sum_wt_pos q k w b h t).ne' ha
  rw [out_at, ← attn_of_divided q k v w b h d t _ _ ha fun _ => rfl]
  refine sum_coe _ _ _ fun s => ?_
  rw [hv, he, hz, div_real _ _ hn, ← EReal.coe_mul]

theorem attn_real (hq : ∀ i, Q i = (q i : EReal)) (hk : ∀ i, K i = (k i : EReal)) (hv : ∀ i, W i = (v i : EReal)) (hc : ∀ i, C i = (w i : EReal))
    (b : Fin 2) (h : Fin 16) (d : Fin 64) (t : Fin 8192) :
    (let s := scores Q K C; let e := expo s (rowMax s 0xFF800000#32); out W e (rowSum e)) (ix4 b h d t) = (attn q k v w b h d t : EReal) := by
  obtain ⟨M, hM⟩ := rowMax_real Q K C q k w hq hk hc b h t
  exact out_real W q k v w _ hv b h d t _ (Real.exp_pos (-M)).ne' (expo_real Q K C q k w hq hk hc _ b h t M hM)

theorem res_real (m : (ℓ : Loc nD τ sig) → Buf (Elt Ideal) ℓ) (c : Dev nD)
    (hq : ∀ i, m ((c : Thread nD τ).loc main_arg0) i = (q i : EReal)) (hk : ∀ i, m ((c : Thread nD τ).loc main_arg1) i = (k i : EReal))
    (hv : ∀ i, m ((c : Thread nD τ).loc main_arg2) i = (v i : EReal)) (hc : ∀ i, m ((c : Thread nD τ).loc main_arg3) i = (w i : EReal))
    (b : Fin 2) (h : Fin 16) (d : Fin 64) (t : Fin 8192) : res_main_v32 m c (ix4 b h d t) = (attn q k v w b h d t : EReal) :=
  (congrFun (res_eq m c) _).trans (attn_real _ _ _ _ q k v w hq hk hv hc b h d t)

end Cert.ReferenceIdeal.Hand

end
-- ==== Proof.Value.lean ====
/-
  The kernel's result is the reference's: both are the attention with decay of the same real arrays.
-/
module

public import proofs.«01_k».proof.Proof.Finite
public import proofs.«01_k».proof.Proof.RefValue
public import proofs.«01_k».proof.Proof.Frames

@[expose] public section

set_option maxRecDepth 16384

noncomputable section

namespace Cert.Hand

open Idealize.ShloMosaic Idealize.SL.Sem Cert.Attn

theorem algebraic : Cert.algebraic_KernelIdeal_ReferenceIdeal_pre_finite := fun m g m' g' hp hag => by
  choose q k v w γ γ' HF using Cert.Pre_finite.Hand.finite_of_pre m hp
  refine ⟨fun c => Cert.KernelIdeal.Hand.result (q c) (k c) (v c) (w c), ?_, ?_⟩
  · exact (θ_run Cert.KernelIdeal.defs _ _).mono (fun r h c => ⟨((h.1 c).1 3).trans (Cert.KernelIdeal.Hand.final_value m c _ _ _ _ _ _ (HF c)),
      Cert.KernelIdeal.Hand.args_of m h.1 c⟩) (Cert.KernelIdeal.Hand.run_main m g)
  · refine (θ_run Cert.ReferenceIdeal.defs _ _).mono (fun r h c => ⟨(h c).1.trans ?_, (h c).2⟩) (Cert.ReferenceIdeal.Value.run (F := Ideal) m' g')
    funext i
    obtain ⟨b, h, d, t, rfl⟩ : ∃ b h d t, i = ix4 b h d t := ⟨i 0, i 1, i 2, i 3, by funext a; fin_cases a <;> rfl⟩
    obtain ⟨e0, e1, e2, e3, -, -⟩ := hag c
    exact Cert.ReferenceIdeal.Hand.res_real _ _ _ _ m' c (fun i => (congrFun e0 i).trans ((HF c).hq i)) (fun i => (congrFun e1 i).trans ((HF c).hk i))
      (fun i => (congrFun e2 i).trans ((HF c).hv i)) (fun i => (congrFun e3 i).trans ((HF c).hc i)) b h d t

end Cert.Hand

end
-- ==== Proof.Rows.lean ====
/-
  The squared-ReLU MLP of one row of the residual, among the extended reals: what the kernels' calls and the references are both shown
  to compute. Sums of extended reals may be regrouped freely, so nothing here asks for finite entries.
-/
module

public import Idealize.ShloMosaic.Lib.Pointwise

@[expose] public section

noncomputable section

namespace Cert.Rows

open Idealize.ShloMosaic

/-- One over the root of a row's mean square, with the small number added under the root. -/
def inv (x : Fin 1024 → EReal) : EReal :=
  Ideal.rsqrt (Ideal.div (∑ j, x j * x j) (Ideal.ofBits .f32 0x44800000#32) + Ideal.ofBits .f32 0x358637BD#32)
/-- The normalised row, times the gains. -/
def normed (x g : Fin 1024 → EReal) (j : Fin 1024) : EReal := x j * inv x * g j
/-- The positive part, squared. -/
def sqRelu (x : EReal) : EReal := max x 0 * max x 0
/-- One inner unit of the MLP for the row `y`. -/
def unit (y : Fin 1024 → EReal) (wu : Fin 1024 → EReal) : EReal := sqRelu (∑ d, y d * wu d)
/-- The row with the MLP of its normalised entries added. -/
def mlpRow (x g : Fin 1024 → EReal) (wu : Fin 1024 → Fin 4096 → EReal) (wd : Fin 4096 → Fin 1024 → EReal) (e : Fin 1024) : EReal :=
  x e + ∑ f, unit (normed x g) (fun d => wu d f) * wd f e
theorem mlpRow_congr {x x' g g' : Fin 1024 → EReal} {wu wu' : Fin 1024 → Fin 4096 → EReal} {wd wd' : Fin 4096 → Fin 1024 → EReal}
    (hx : ∀ j, x j = x' j) (hg : ∀ j, g j = g' j) (hu : ∀ d f, wu d f = wu' d f) (hd : ∀ f j, wd f j = wd' f j) (e : Fin 1024) :
    mlpRow x g wu wd e = mlpRow x' g' wu' wd' e := by
  rw [funext hx, funext hg, funext fun d => funext (hu d), funext fun f => funext (hd f)]
/-- The same, from the normalised entries `y` and the inner units `u` before their square. -/
theorem mlpRow_of {x g y : Fin 1024 → EReal} {u : Fin 4096 → EReal} {wu : Fin 1024 → Fin 4096 → EReal} {wd : Fin 4096 → Fin 1024 → EReal}
    (hy : ∀ d, y d = normed x g d) (hu : ∀ f, u f = max (∑ d, y d * wu d f) 0) (e : Fin 1024) :
    x e + ∑ f, u f * u f * wd f e = mlpRow x g wu wd e := by
  have h : ∀ f, u f * u f = unit (normed x g) (fun d => wu d f) := fun f => by rw [hu, ← funext hy]; rfl
  simp only [h, mlpRow]

/-- Inner unit `f` of the chunk `k`. -/
def lane (k : Fin 4) (f : Fin 1024) : Fin 4096 := ⟨1024 * k.val + f.val, by omega⟩

/-- A sum over the inner units, in four chunks. -/
theorem sum_chunks (F : Fin 4096 → EReal) : ∑ f, F f = ∑ f, F (lane 0 f) + ∑ f, F (lane 1 f) + ∑ f, F (lane 2 f) + ∑ f, F (lane 3 f) := by
  have h : ∑ f, F f = ∑ k : Fin 4, ∑ f : Fin 1024, F (lane k f) := by
    rw [Fin.sum_univ_tiles 4 1024 rfl F]
    exact Finset.sum_congr rfl fun k _ => Finset.sum_congr rfl fun f _ => congrArg F (Fin.ext (by show k.val * 1024 + f.val = 1024 * k.val + f.val; omega))
  rw [h, Fin.sum_univ_four]

/-- Adding the chunks one after another to the row. -/
theorem mlpRow_chunks (x g : Fin 1024 → EReal) (wu : Fin 1024 → Fin 4096 → EReal) (wd : Fin 4096 → Fin 1024 → EReal) (e : Fin 1024)
    (c : Fin 4 → EReal) (hc : ∀ k, c k = ∑ f, unit (normed x g) (fun d => wu d (lane k f)) * wd (lane k f) e) :
    x e + c 0 + c 1 + c 2 + c 3 = mlpRow x g wu wd e := by
  rw [mlpRow, sum_chunks, hc, hc, hc, hc]
  simp only [add_assoc]

end Cert.Rows

end
-- ==== Proof.MlpBody.lean ====
/-
  What the body of the MLP call computes, entry by entry: the residual with the projected attention added, its normalised row, and the
  four chunks of inner units added one after another.
-/
module

public import proofs.«01_k».proof.Proof.Rows
public import proofs.«01_k».proof.Proof.Gen.MlpIdeal.Frame
public import Idealize.ShloMosaic.Lib.Pipeline.Value
public import Idealize.ShloMosaic.Lib.Pointwise

@[expose] public section

set_option maxRecDepth 16384

noncomputable section

namespace Cert.MlpIdeal.Hand

open Cert.MlpIdeal Cert.MlpIdeal.Gen Cert.Rows
open Idealize.ShloMosaic Idealize.ShloMosaic.TcCoe

/-- One chunk of inner units: up, positive part, square, down. -/
def chunk (y : FVec Ideal S512x1024 .bf16) (a b : Vec Ideal S1x1024x1024 .bf16) : FVec Ideal S512x1024 .f32 :=
  have s : FVec Ideal S512x1024 .f32 := maximumf
    (matmul dot_S512x1024_S1024x1024_S512x1024_1_0_0_1_n_n none y (shapeCast S1024x1024 a shapeCasts_S1x1024x1024_S1024x1024 : FVec Ideal S1024x1024 .bf16) (constant S512x1024 .f32 0x00000000#32))
    (broadcast S512x1024 (Scalar.ofBits .f32 0x00000000#32))
  matmul dot_S512x1024_S1024x1024_S512x1024_1_0_0_1_n_n none (truncf .bf16 (mulf s s) bitsLt_bf16_f32 : FVec Ideal S512x1024 .bf16)
    (shapeCast S1024x1024 b shapeCasts_S1x1024x1024_S1024x1024 : FVec Ideal S1024x1024 .bf16) (constant S512x1024 .f32 0x00000000#32)

/-- A block's rows, normalised. -/
def norm (x : FVec Ideal S512x1024 .f32) (g : Vec Ideal S1x1024 .f32) : FVec Ideal S512x1024 .bf16 :=
  truncf .bf16 (mulf (mulf x (broadcastTo S512x1024 (rsqrt (addf (divf
      (shapeCast S512x1 (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)) bitsLt_bf16_f32

theorem pay2_eq (o : Vec Ideal S1x1024x512 .bf16) (w : Vec Ideal S1x1024x1024 .bf16) (h : Vec Ideal S512x1024 .f32) (g : Vec Ideal S1x1024 .f32) :
    k0_pay2 o w h g = norm (k0_pay1 o w h) g := rfl
theorem pay3_eq (o : Vec Ideal S1x1024x512 .bf16) (w : Vec Ideal S1x1024x1024 .bf16) (h : Vec Ideal S512x1024 .f32) (g : Vec Ideal S1x1024 .f32)
    (a b : Vec Ideal S1x1024x1024 .bf16) : k0_pay3 o w h g a b = addf (k0_pay1 o w h) (chunk (k0_pay2 o w h g) a b) := rfl
theorem pay4_eq (y : FVec Ideal S512x1024 .bf16) (x : FVec Ideal S512x1024 .f32) (a1 b1 a2 b2 a3 b3 : Vec Ideal S1x1024x1024 .bf16) :
    k0_pay4 y x a1 b1 a2 b2 a3 b3 = addf (addf (addf x (chunk y a1 b1)) (chunk y a2 b2)) (chunk y a3 b3) := rfl

theorem pay1_at (o : Vec Ideal S1x1024x512 .bf16) (w : Vec Ideal S1x1024x1024 .bf16) (h : Vec Ideal S512x1024 .f32) (r : Fin 512) (e : Fin 1024) :
    k0_pay1 o w h (ix2 r e) = h (ix2 r e) + ∑ d : Fin 1024, (show EReal from o (ix3 0 d r)) * w (ix3 0 d e) := by
  pointwise [k0_pay1]
theorem norm_at (x : FVec Ideal S512x1024 .f32) (g : Vec Ideal S1x1024 .f32) (r : Fin 512) (e : Fin 1024) :
    norm x g (ix2 r e) = normed (fun j => x (ix2 r j)) (fun j => g (ix2 0 j)) e := by
  pointwise [norm]
  rfl
theorem chunk_at (y : FVec Ideal S512x1024 .bf16) (a b : Vec Ideal S1x1024x1024 .bf16) (r : Fin 512) (e : Fin 1024) :
    chunk y a b (ix2 r e) = ∑ f : Fin 1024, unit (fun d => y (ix2 r d)) (fun d => a (ix3 0 d f)) * b (ix3 0 f e) := by
  pointwise [chunk]
  rfl

/-! ## The pieces of the weights -/

theorem ld_up (x : Vec Ideal S1x1024x4096 .bf16) (k : Fin 4) (o : Nat) (ho : o = 1024 * k.val)
    (inb : ∀ a, (![0, 0, o] : Fin 3 → Nat) a + S1x1024x1024.size a ≤ S1x1024x4096.size a) (d f : Fin 1024) :
    View.ld x (Rect.unit (s := S1x1024x4096) ![0, 0, o] S1x1024x1024.size inb) (ix3 0 d f) = x (ix3 0 d (lane k f)) := by
  subst ho
  rw [View.ld_unit]
  refine congrArg x (funext fun a => Fin.ext ?_)
  fin_cases a
  · rfl
  · show 0 + d.val = d.val; omega
  · rfl
theorem ld_down (x : Vec Ideal S1x4096x1024 .bf16) (k : Fin 4) (o : Nat) (ho : o = 1024 * k.val)
    (inb : ∀ a, (![0, o, 0] : Fin 3 → Nat) a + S1x1024x1024.size a ≤ S1x4096x1024.size a) (f e : Fin 1024) :
    View.ld x (Rect.unit (s := S1x4096x1024) ![0, o, 0] S1x1024x1024.size inb) (ix3 0 f e) = x (ix3 0 (lane k f) e) := by
  subst ho
  rw [View.ld_unit]
  refine congrArg x (funext fun a => Fin.ext ?_)
  fin_cases a
  · rfl
  · rfl
  · show 0 + e.val = e.val; omega

/-- The four chunks, added to a block, are the MLP of each of its rows. -/
theorem chunks_at (x : FVec Ideal S512x1024 .f32) (g : Vec Ideal S1x1024 .f32) (a b : Fin 4 → Vec Ideal S1x1024x1024 .bf16)
    (wu : Fin 1024 → Fin 4096 → EReal) (wd : Fin 4096 → Fin 1024 → EReal) (ha : ∀ k d f, a k (ix3 0 d f) = wu d (lane k f))
    (hb : ∀ k f e, b k (ix3 0 f e) = wd (lane k f) e) (r : Fin 512) (e : Fin 1024) :
    addf (addf (addf (addf x (chunk (norm x g) (a 0) (b 0))) (chunk (norm x g) (a 1) (b 1))) (chunk (norm x g) (a 2) (b 2))) (chunk (norm x g) (a 3) (b 3)) (ix2 r e)
      = mlpRow (fun j => x (ix2 r j)) (fun j => g (ix2 0 j)) wu wd e := by
  refine mlpRow_chunks (fun j => x (ix2 r j)) (fun j => g (ix2 0 j)) wu wd e (fun k => chunk (norm x g) (a k) (b k) (ix2 r e)) fun k => ?_
  rw [chunk_at]
  refine Finset.sum_congr rfl fun f _ => ?_
  rw [hb, funext (fun d => ha k d f), funext (fun d => norm_at x g r d)]

/-- What a point leaves of its block of rows. -/
theorem out_at (x0 : Vec Ideal S512x1024 .f32) (x1 : Vec Ideal S1x1024x512 .bf16) (x2 : Vec Ideal S1x1024x1024 .bf16) (x3 : Vec Ideal S1x1024 .f32)
    (x4 : Vec Ideal S1x1024x4096 .bf16) (x5 : Vec Ideal S1x4096x1024 .bf16) (r : Fin 512) (e : Fin 1024) :
    out0_6 x0 x1 x2 x3 x4 x5 (ix2 r e) = mlpRow (fun j => x0 (ix2 r j) + ∑ d : Fin 1024, (show EReal from x1 (ix3 0 d r)) * x2 (ix3 0 d j))
      (fun j => x3 (ix2 0 j)) (fun d f => x4 (ix3 0 d f)) (fun f j => x5 (ix3 0 f j)) e := by
  have z3 : (![0, 0, 0] : Fin 3 → Nat) = fun _ => 0 := by decide
  have z2 : (![0, 0] : Fin 2 → Nat) = fun _ => 0 := by decide
  rw [out0_6, View.canon_unit_zero z2, View.ld_unit_zero (S := S1x1024x512) z3, View.ld_unit_zero (S := S1x1024x1024) z3,
    View.ld_unit_zero (S := S512x1024) z2, View.ld_unit_zero (S := S1x1024) z2, pay4_eq, pay3_eq, pay2_eq]
  refine (chunks_at (k0_pay1 x1 x2 x0) x3
    ![View.ld x4 r0_4, View.ld x4 r0_6, View.ld x4 r0_8, View.ld x4 r0_10] ![View.ld x5 r0_5, View.ld x5 r0_7, View.ld x5 r0_9, View.ld x5 r0_11]
    (fun d f => x4 (ix3 0 d f)) (fun f j => x5 (ix3 0 f j)) (fun k d f => ?_) (fun k f j => ?_) r e).trans ?_
  · fin_cases k
    exacts [ld_up x4 0 0 rfl _ d f, ld_up x4 1 1024 rfl _ d f, ld_up x4 2 2048 rfl _ d f, ld_up x4 3 3072 rfl _ d f]
  · fin_cases k
    exacts [ld_down x5 0 0 rfl _ f j, ld_down x5 1 1024 rfl _ f j, ld_down x5 2 2048 rfl _ f j, ld_down x5 3 3072 rfl _ f j]
  · rw [funext fun j => pay1_at x1 x2 x0 r j]

end Cert.MlpIdeal.Hand

end
-- ==== Proof.MlpBlocks.lean ====
/-
  Which entries of the arrays each point of the MLP call's grid reads and writes, and what the arrays hold when the call begins.
-/
module

public import proofs.«01_k».proof.Proof.MlpBody
public import Idealize.ShloMosaic.Lib.Pipeline.ValueKit
public import Idealize.ShloMosaic.Lib.StableHlo.Run
public import Idealize.ShloMosaic.Lib.StableHlo.RunRead

@[expose] public section

set_option maxRecDepth 16384

noncomputable section

namespace Cert.MlpIdeal.Hand

open Cert.MlpIdeal Cert.MlpIdeal.Gen Cert.Rows
open Idealize.ShloMosaic Idealize.ShloMosaic.TcCoe Idealize.ShloMosaic.StableHlo
open Idealize.ShloMosaic.Pipeline (Dat)

/-- The batch of point `t`. -/
def pb (t : Fin cfg0.N) : Fin 2 := ⟨t.val / 16, by have := t.isLt; have h : cfg0.N = 32 := (by decide); omega⟩
/-- Row `r` of point `t`, within its batch. -/
def pos (t : Fin cfg0.N) (r : Fin 512) : Fin 8192 := ⟨512 * (t.val % 16) + r.val, by omega⟩
/-- Row `r` of point `t`, both batches together. -/
def row (t : Fin cfg0.N) (r : Fin 512) : Fin 16384 := ⟨512 * t.val + r.val, by have := t.isLt; have h : cfg0.N = 32 := (by decide); omega⟩

theorem index_0 : ∀ t : Fin cfg0.N, win0_0.index t = ![t.val, 0] := by decide +kernel
theorem index_1 : ∀ t : Fin cfg0.N, win0_1.index t = ![(pb t).val, 0, t.val % 16] := by decide +kernel
theorem index_2 : ∀ t : Fin cfg0.N, win0_2.index t = ![1, 0, 0] := by decide +kernel
theorem index_3 : ∀ t : Fin cfg0.N, win0_3.index t = ![0, 0] := by decide +kernel
theorem index_4 : ∀ t : Fin cfg0.N, win0_4.index t = ![3, 0, 0] := by decide +kernel
theorem index_5 : ∀ t : Fin cfg0.N, win0_5.index t = ![3, 0, 0] := by decide +kernel
theorem index_6 : ∀ t : Fin cfg0.N, win0_6.index t = ![t.val, 0] := by decide +kernel

variable (m : (ℓ : Loc nD τ sig) → Buf (Elt Ideal) ℓ)

theorem blk_0 (c : Dev nD) (t : Fin cfg0.N) (r : Fin 512) (e : Fin 1024) : iblk m c 0 t (ix2 r e) = V m c main_v5 (ix2 (row t r) e) := by
  blk_ext [iblk, index_0 t]
  all_goals simp only [row]
  all_goals omega
theorem blk_1 (c : Dev nD) (t : Fin cfg0.N) (d : Fin 1024) (r : Fin 512) : iblk m c 1 t (ix3 0 d r) = V m c main_v1 (ix3 (pb t) d (pos t r)) := by
  blk_ext [iblk, index_1 t]
  all_goals simp only [pos]
  all_goals omega
theorem blk_2 (c : Dev nD) (t : Fin cfg0.N) (d e : Fin 1024) : iblk m c 2 t (ix3 0 d e) = V m c main_v2 (ix3 1 d e) := by
  blk_ext [iblk, index_2 t]
theorem blk_3 (c : Dev nD) (t : Fin cfg0.N) (e : Fin 1024) : iblk m c 3 t (ix2 0 e) = V m c main_v8 (ix2 0 e) := by
  blk_ext [iblk, index_3 t]
theorem blk_4 (c : Dev nD) (t : Fin cfg0.N) (d : Fin 1024) (f : Fin 4096) : iblk m c 4 t (ix3 0 d f) = V m c main_v3 (ix3 3 d f) := by
  blk_ext [iblk, index_4 t]
theorem blk_5 (c : Dev nD) (t : Fin cfg0.N) (f : Fin 4096) (e : Fin 1024) : iblk m c 5 t (ix3 0 f e) = V m c main_v4 (ix3 3 f e) := by
  blk_ext [iblk, index_5 t]

/-! ## What the arrays hold when the call begins -/

set_option maxHeartbeats 4000000 in
theorem V_0 (c : Dev nD) : V m c main_v5 = shapeCast S16384x1024 (m ((c : Thread nD τ).loc main_arg0)) shapeCasts_S2x8192x1024_S16384x1024 := by
  unfold V
  simp only [hostOps0]
  after_reads_simp
  rfl
set_option maxHeartbeats 4000000 in
theorem V_1 (c : Dev nD) : V m c main_v1 = (truncf .bf16 (transpose S2x1024x8192 [0, 2, 1] (m ((c : Thread nD τ).loc main_arg1) : FVec Ideal S2x8192x1024 .f32)
    transposes_S2x8192x1024_S2x1024x8192_0_2_1 : FVec Ideal S2x1024x8192 .f32) bitsLt_bf16_f32 : FVec Ideal S2x1024x8192 .bf16) := by
  unfold V
  simp only [hostOps0]
  after_reads_simp
set_option maxHeartbeats 4000000 in
theorem V_2 (c : Dev nD) : V m c main_v2 = (truncf .bf16 (m ((c : Thread nD τ).loc main_arg2) : FVec Ideal S2x1024x1024 .f32) bitsLt_bf16_f32 : FVec Ideal S2x1024x1024 .bf16) := by
  unfold V
  simp only [hostOps0]
  after_reads_simp
set_option maxHeartbeats 4000000 in
theorem V_3 (c : Dev nD) : V m c main_v8 = shapeCast S1x1024 (shapeCast S1024 (extractStridedSlice S1x1024 ![3, 0] (m ((c : Thread nD τ).loc main_arg3)) slices_S4x1024_S1x1024_3_0)
    shapeCasts_S1x1024_S1024) shapeCasts_S1024_S1x1024 := by
  unfold V
  simp only [hostOps0]
  after_reads_simp
  rfl
set_option maxHeartbeats 4000000 in
theorem V_4 (c : Dev nD) : V m c main_v3 = (truncf .bf16 (m ((c : Thread nD τ).loc main_arg4) : FVec Ideal S4x1024x4096 .f32) bitsLt_bf16_f32 : FVec Ideal S4x1024x4096 .bf16) := by
  unfold V
  simp only [hostOps0]
  after_reads_simp
set_option maxHeartbeats 4000000 in
theorem V_5 (c : Dev nD) : V m c main_v4 = (truncf .bf16 (m ((c : Thread nD τ).loc main_arg5) : FVec Ideal S4x4096x1024 .f32) bitsLt_bf16_f32 : FVec Ideal S4x4096x1024 .bf16) := by
  unfold V
  simp only [hostOps0]
  after_reads_simp

/-- The residual's rows, both batches together, at row `r` of point `t`. -/
theorem rows_at (X : Vec Ideal S2x8192x1024 .f32) (t : Fin cfg0.N) (r : Fin 512) (e : Fin 1024) :
    shapeCast S16384x1024 X shapeCasts_S2x8192x1024_S16384x1024 (ix2 (row t r) e) = X (ix3 (pb t) (pos t r) e) := by
  have h : ∀ i : Fin 16384, shapeCast S16384x1024 X shapeCasts_S2x8192x1024_S16384x1024 (ix2 i e) = X (ix3 ⟨i.val / 8192, by omega⟩ ⟨i.val % 8192, by omega⟩ e) := fun i => by
    pointwise
  refine (h _).trans (congrArg₂ (fun a b => X (ix3 a b e)) (Fin.ext ?_) (Fin.ext ?_))
  · show (512 * t.val + r.val) / 8192 = t.val / 16
    omega
  · show (512 * t.val + r.val) % 8192 = 512 * (t.val % 16) + r.val
    omega
theorem gains_at (g : Vec Ideal S4x1024 .f32) (e : Fin 1024) :
    shapeCast S1x1024 (shapeCast S1024 (extractStridedSlice S1x1024 ![3, 0] g slices_S4x1024_S1x1024_3_0) shapeCasts_S1x1024_S1024) shapeCasts_S1024_S1x1024 (ix2 0 e)
      = g (ix2 3 e) := by
  pointwise
theorem turned_at (o : FVec Ideal S2x8192x1024 .f32) (b : Fin 2) (d : Fin 1024) (p : Fin 8192) :
    (truncf .bf16 (transpose S2x1024x8192 [0, 2, 1] o transposes_S2x8192x1024_S2x1024x8192_0_2_1 : FVec Ideal S2x1024x8192 .f32) bitsLt_bf16_f32 : FVec Ideal S2x1024x8192 .bf16)
      (ix3 b d p) = o (ix3 b p d) := by
  pointwise

/-! ## The result array -/

/-- The layer's second half at batch `b`, position `p`: the residual with the projected attention added, and the MLP of that row. -/
def layer (h o : S2x8192x1024.Idx → EReal) (wo : S2x1024x1024.Idx → EReal) (g : S4x1024.Idx → EReal) (wu : S4x1024x4096.Idx → EReal) (wd : S4x4096x1024.Idx → EReal)
    (b : Fin 2) (p : Fin 8192) (e : Fin 1024) : EReal :=
  mlpRow (fun j => h (ix3 b p j) + ∑ d : Fin 1024, o (ix3 b p d) * wo (ix3 1 d j)) (fun j => g (ix2 3 j)) (fun d f => wu (ix3 3 d f)) (fun f j => wd (ix3 3 f j)) e
/-- The same as contents of the result array, whose rows are both batches together. -/
def result (h o : S2x8192x1024.Idx → EReal) (wo : S2x1024x1024.Idx → EReal) (g : S4x1024.Idx → EReal) (wu : S4x1024x4096.Idx → EReal) (wd : S4x4096x1024.Idx → EReal) :
    S16384x1024.Idx → EReal := fun i => layer h o wo g wu wd ⟨(i 0).val / 8192, by have := (i 0).isLt; have h : S16384x1024.size 0 = 16384 := rfl; omega⟩ ⟨(i 0).val % 8192, by omega⟩ (i 1)

theorem result_at (h o : S2x8192x1024.Idx → EReal) (wo : S2x1024x1024.Idx → EReal) (g : S4x1024.Idx → EReal) (wu : S4x1024x4096.Idx → EReal)
    (wd : S4x4096x1024.Idx → EReal) (p : Fin 16384) (e : Fin 1024) : result h o wo g wu wd (ix2 p e) =
      mlpRow (fun j => h (ix3 ⟨p.val / 8192, by omega⟩ ⟨p.val % 8192, by omega⟩ j)
          + ∑ d : Fin 1024, o (ix3 ⟨p.val / 8192, by omega⟩ ⟨p.val % 8192, by omega⟩ d) * wo (ix3 1 d j))
        (fun j => g (ix2 3 j)) (fun d f => wu (ix3 3 d f)) (fun f j => wd (ix3 3 f j)) e := rfl
theorem result_row (h o : S2x8192x1024.Idx → EReal) (wo : S2x1024x1024.Idx → EReal) (g : S4x1024.Idx → EReal) (wu : S4x1024x4096.Idx → EReal)
    (wd : S4x4096x1024.Idx → EReal) (t : Fin cfg0.N) (r : Fin 512) (e : Fin 1024) :
    result h o wo g wu wd (ix2 (row t r) e) = layer h o wo g wu wd (pb t) (pos t r) e := by
  refine congrArg₂ (fun a b => layer h o wo g wu wd a b e) (Fin.ext ?_) (Fin.ext ?_)
  · show (512 * t.val + r.val) / 8192 = t.val / 16
    omega
  · show (512 * t.val + r.val) % 8192 = 512 * (t.val % 16) + r.val
    omega

/-- The result array is `G` when every point leaves `G`'s block. -/
theorem final_of (c : Dev nD) (G : Buf (Elt Ideal) ((c : Thread nD τ).loc main_v9))
    (h : ∀ (t : Fin cfg0.N) (r : Fin 512) (e : Fin 1024),
      out0_6 (iblk m c 0 t) (iblk m c 1 t) (iblk m c 2 t) (iblk m c 3 t) (iblk m c 4 t) (iblk m c 5 t) (ix2 r e) = G (ix2 (row t r) e)) :
    (dats m 0 c).arrAt 6 cfg0.N = G := by
  refine (dats m 0 c).arrAt_eq_of_covers 6 _ (by decide +kernel) fun t hf y => ?_
  blk_simp
  rw [after0_6]
  obtain ⟨r, e, rfl⟩ : ∃ (r : Fin 512) (e : Fin 1024), y = ix2 r e := ⟨y 0, y 1, eq_ix2 y⟩
  refine (h t r e).trans (congrArg G ?_)
  blk_ext [index_6 t]
  all_goals simp only [row]
  all_goals omega

theorem block_value (c : Dev nD) (t : Fin cfg0.N) (r : Fin 512) (e : Fin 1024) :
    out0_6 (iblk m c 0 t) (iblk m c 1 t) (iblk m c 2 t) (iblk m c 3 t) (iblk m c 4 t) (iblk m c 5 t) (ix2 r e)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (pb t) (pos t r) e := by
  have e0 : ∀ j, iblk m c 0 t (ix2 r j) = (m ((c : Thread nD τ).loc main_arg0) : S2x8192x1024.Idx → EReal) (ix3 (pb t) (pos t r) j) := fun j => by
    rw [blk_0, V_0]; exact rows_at _ t r j
  have e1 : ∀ d, iblk m c 1 t (ix3 0 d r) = (m ((c : Thread nD τ).loc main_arg1) : S2x8192x1024.Idx → EReal) (ix3 (pb t) (pos t r) d) := fun d => by
    rw [blk_1, V_1]; exact turned_at _ _ d _
  have e2 : ∀ d j, iblk m c 2 t (ix3 0 d j) = (m ((c : Thread nD τ).loc main_arg2) : S2x1024x1024.Idx → EReal) (ix3 1 d j) := fun d j => by
    rw [blk_2, V_2]; rfl
  have e3 : ∀ j, iblk m c 3 t (ix2 0 j) = (m ((c : Thread nD τ).loc main_arg3) : S4x1024.Idx → EReal) (ix2 3 j) := fun j => by
    rw [blk_3, V_3]; exact gains_at _ j
  have e4 : ∀ d f, iblk m c 4 t (ix3 0 d f) = (m ((c : Thread nD τ).loc main_arg4) : S4x1024x4096.Idx → EReal) (ix3 3 d f) := fun d f => by
    rw [blk_4, V_4]; rfl
  have e5 : ∀ f j, iblk m c 5 t (ix3 0 f j) = (m ((c : Thread nD τ).loc main_arg5) : S4x4096x1024.Idx → EReal) (ix3 3 f j) := fun f j => by
    rw [blk_5, V_5]; rfl
  refine (out_at _ _ _ _ _ _ r e).trans ?_
  refine mlpRow_congr (fun j => ?_) e3 e4 e5 e
  rw [e0, Finset.sum_congr rfl fun d _ => Ideal.mul_congr (e1 d) (e2 d j)]

theorem final_value (c : Dev nD) : (dats m 0 c).arrAt 6 cfg0.N = result (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) :=
  final_of m c _ fun t r e => (block_value m c t r e).trans (result_row _ _ _ _ _ _ t r e).symm

end Cert.MlpIdeal.Hand

end
-- ==== Proof.MlpRef.lean ====
/-
  The reference of the MLP call, read at an index: the same formula of the row.
-/
module

public import proofs.«01_k».proof.Proof.Rows
public import proofs.«01_k».proof.Proof.Gen.MlpReferenceIdeal.Run
public import Idealize.ShloMosaic.Lib.Pointwise

@[expose] public section

set_option maxRecDepth 16384

noncomputable section

namespace Cert.MlpReferenceIdeal.Hand

open Cert.MlpReferenceIdeal Cert.MlpReferenceIdeal.Gen Cert.MlpReferenceIdeal.Value Cert.Rows
open Idealize.ShloMosaic Idealize.ShloMosaic.TcCoe

/-! ## The reference in stages -/

/-- The residual with the projected attention added. -/
def mixed (h o : FVec Ideal S2x8192x1024 .f32) (w : FVec Ideal S2x1024x1024 .f32) : FVec Ideal S2x8192x1024 .f32 :=
  addf h (Host.dotGeneral dot_S2x8192x1024_S1024x1024_S2x8192x1024_2_0_01_1_n_n none o
    (shapeCast S1024x1024 (extractStridedSlice S1x1024x1024 ![1, 0, 0] w slices_S2x1024x1024_S1x1024x1024_1_0_0) shapeCasts_S1x1024x1024_S1024x1024))
/-- Its rows, normalised. -/
def norm (x : FVec Ideal S2x8192x1024 .f32) (g : FVec Ideal S4x1024 .f32) : FVec Ideal S2x8192x1024 .f32 :=
  mulf (mulf x (broadcastInDim S2x8192x1024 ![0, 1, 2] bcast_S2x8192x1_S2x8192x1024_0_1_2 (Host.rsqrt (addf (Host.divf
      (broadcastInDim S2x8192x1 ![0, 1] bcast_S2x8192_S2x8192x1_0_1 (Host.reduceAdd (mulf x x) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2
      (shapeCast S1024 (extractStridedSlice S1x1024 ![3, 0] g slices_S4x1024_S1x1024_3_0) shapeCasts_S1x1024_S1024)))
/-- The inner units before their square. -/
def units (y : FVec Ideal S2x8192x1024 .f32) (w : FVec Ideal S4x1024x4096 .f32) : FVec Ideal S2x8192x4096 .f32 :=
  maximumf (Host.dotGeneral dot_S2x8192x1024_S1024x4096_S2x8192x4096_2_0_01_1_n_n none y
    (shapeCast S1024x4096 (extractStridedSlice S1x1024x4096 ![3, 0, 0] w slices_S4x1024x4096_S1x1024x4096_3_0_0) shapeCasts_S1x1024x4096_S1024x4096))
    (broadcastInDim S2x8192x4096 ![] bcast_S_S2x8192x4096 (constant S_ .f32 0x00000000#32))
/-- The MLP's result, added. -/
def down (x : FVec Ideal S2x8192x1024 .f32) (u : FVec Ideal S2x8192x4096 .f32) (w : FVec Ideal S4x4096x1024 .f32) : FVec Ideal S2x8192x1024 .f32 :=
  addf x (Host.dotGeneral dot_S2x8192x4096_S4096x1024_S2x8192x1024_2_0_01_1_n_n none (mulf u u)
    (shapeCast S4096x1024 (extractStridedSlice S1x4096x1024 ![3, 0, 0] w slices_S4x4096x1024_S1x4096x1024_3_0_0) shapeCasts_S1x4096x1024_S4096x1024))

theorem res_eq (m : (ℓ : Loc nD τ sig) → Buf (Elt Ideal) ℓ) (c : Dev nD) : res_main_v28 m c =
    (let x := mixed (m ((c : Thread nD τ).loc main_arg0)) (m ((c : Thread nD τ).loc main_arg1)) (m ((c : Thread nD τ).loc main_arg2))
     shapeCast S16384x1024 (down x (units (norm x (m ((c : Thread nD τ).loc main_arg3))) (m ((c : Thread nD τ).loc main_arg4))) (m ((c : Thread nD τ).loc main_arg5)))
       shapeCasts_S2x8192x1024_S16384x1024) := rfl

/-! ## The stages at an index -/

theorem mixed_at (h o : FVec Ideal S2x8192x1024 .f32) (w : FVec Ideal S2x1024x1024 .f32) (b : Fin 2) (p : Fin 8192) (e : Fin 1024) :
    mixed h o w (ix3 b p e) = h (ix3 b p e) + ∑ d : Fin 1024, (show EReal from o (ix3 b p d)) * w (ix3 1 d e) := by
  pointwise [mixed]
theorem norm_at (x : FVec Ideal S2x8192x1024 .f32) (g : FVec Ideal S4x1024 .f32) (b : Fin 2) (p : Fin 8192) (e : Fin 1024) :
    norm x g (ix3 b p e) = normed (fun j => x (ix3 b p j)) (fun j => g (ix2 3 j)) e := by
  pointwise [norm]
  rfl
theorem units_at (y : FVec Ideal S2x8192x1024 .f32) (w : FVec Ideal S4x1024x4096 .f32) (b : Fin 2) (p : Fin 8192) (f : Fin 4096) :
    units y w (ix3 b p f) = max (∑ d, (show EReal from y (ix3 b p d)) * w (ix3 3 d f)) 0 := by
  pointwise [units]
theorem down_at (x : FVec Ideal S2x8192x1024 .f32) (u : FVec Ideal S2x8192x4096 .f32) (w : FVec Ideal S4x4096x1024 .f32) (b : Fin 2) (p : Fin 8192) (e : Fin 1024) :
    down x u w (ix3 b p e) = x (ix3 b p e) + ∑ f, (show EReal from u (ix3 b p f)) * u (ix3 b p f) * w (ix3 3 f e) := by
  pointwise [down]

/-- The whole of it, at a row. -/
theorem row_at (x : FVec Ideal S2x8192x1024 .f32) (g : FVec Ideal S4x1024 .f32) (wu : FVec Ideal S4x1024x4096 .f32) (wd : FVec Ideal S4x4096x1024 .f32)
    (b : Fin 2) (p : Fin 8192) (e : Fin 1024) : down x (units (norm x g) wu) wd (ix3 b p e)
      = mlpRow (fun j => x (ix3 b p j)) (fun j => g (ix2 3 j)) (fun d f => wu (ix3 3 d f)) (fun f j => wd (ix3 3 f j)) e :=
  (down_at _ _ _ b p e).trans (mlpRow_of (y := fun d => norm x g (ix3 b p d)) (u := fun f => units (norm x g) wu (ix3 b p f))
    (wu := fun d f => wu (ix3 3 d f)) (wd := fun f j => wd (ix3 3 f j)) (norm_at x g b p) (units_at (norm x g) wu b p) e)

theorem flat_at (x : FVec Ideal S2x8192x1024 .f32) (i : Fin 16384) (e : Fin 1024) :
    shapeCast S16384x1024 x shapeCasts_S2x8192x1024_S16384x1024 (ix2 i e) = x (ix3 ⟨i.val / 8192, by omega⟩ ⟨i.val % 8192, by omega⟩ e) := by
  pointwise

theorem res_at (m : (ℓ : Loc nD τ sig) → Buf (Elt Ideal) ℓ) (c : Dev nD) (i : Fin 16384) (e : Fin 1024) :
    res_main_v28 m c (ix2 i e) = mlpRow (fun j => mixed (m ((c : Thread nD τ).loc main_arg0)) (m ((c : Thread nD τ).loc main_arg1)) (m ((c : Thread nD τ).loc main_arg2))
        (ix3 ⟨i.val / 8192, by omega⟩ ⟨i.val % 8192, by omega⟩ j))
      (fun j => (m ((c : Thread nD τ).loc main_arg3) : S4x1024.Idx → EReal) (ix2 3 j)) (fun d f => (m ((c : Thread nD τ).loc main_arg4) : S4x1024x4096.Idx → EReal) (ix3 3 d f))
      (fun f j => (m ((c : Thread nD τ).loc main_arg5) : S4x4096x1024.Idx → EReal) (ix3 3 f j)) e := by
  rw [res_eq]
  exact (flat_at _ i e).trans (row_at _ _ _ _ _ _ e)

end Cert.MlpReferenceIdeal.Hand

end
-- ==== Proof.MlpValue.lean ====
/-
  The MLP call's result is its reference's: both are, row by row, the residual with the projected attention added and the MLP of that row.
-/
module

public import proofs.«01_k».proof.Defs
public import proofs.«01_k».proof.Proof.MlpBlocks
public import proofs.«01_k».proof.Proof.MlpRef
public import proofs.«01_k».proof.Proof.Gen.Mlp.Frame
public import proofs.«01_k».proof.Proof.Gen.MlpIdeal.Value

@[expose] public section

set_option maxRecDepth 16384

noncomputable section

namespace Cert.Hand

open Idealize.ShloMosaic Idealize.SL.Sem Cert.Rows

theorem frame_mlp : Cert.quiescent_Mlp := fun m ρ _ => Cert.Mlp.Gen.frame m ρ
theorem frame_mlpIdeal : Cert.quiescent_MlpIdeal := fun m ρ _ => Cert.MlpIdeal.Gen.frame m ρ
theorem frame_mlpReferenceIdeal : Cert.quiescent_MlpReferenceIdeal := fun m g _ =>
  (θ_run Cert.MlpReferenceIdeal.defs _ _).mono (fun r h => ⟨fun c => (h c).2, Idealize.ShloMosaic.sem_eq_zero_of_no_sems (by decide) r.2⟩)
    (Cert.MlpReferenceIdeal.Value.run (F := Ideal) m g)

theorem algebraic_mlp : Cert.algebraic_MlpIdeal_MlpReferenceIdeal := fun m g m' g' hp hag => by
  refine ⟨fun c => Cert.MlpIdeal.Hand.result (m (c.tc.loc Cert.MlpIdeal.main_arg0)) (m (c.tc.loc Cert.MlpIdeal.main_arg1)) (m (c.tc.loc Cert.MlpIdeal.main_arg2))
    (m (c.tc.loc Cert.MlpIdeal.main_arg3)) (m (c.tc.loc Cert.MlpIdeal.main_arg4)) (m (c.tc.loc Cert.MlpIdeal.main_arg5)), ?_, ?_⟩
  · exact (θ_run Cert.MlpIdeal.defs _ _).mono (fun r h c => ⟨(h c).1.trans (Cert.MlpIdeal.Hand.final_value m c), (h c).2⟩)
      (Cert.MlpIdeal.Value.run_blocks m g)
  · refine (θ_run Cert.MlpReferenceIdeal.defs _ _).mono (fun r h c => ⟨(h c).1.trans ?_, (h c).2⟩) (Cert.MlpReferenceIdeal.Value.run (F := Ideal) m' g')
    funext i
    obtain ⟨p, e, rfl⟩ : ∃ (p : Fin 16384) (e : Fin 1024), i = ix2 p e := ⟨i 0, i 1, eq_ix2 i⟩
    obtain ⟨e0, e1, e2, e3, e4, e5⟩ := hag c
    refine (Cert.MlpReferenceIdeal.Hand.res_at m' c p e).trans (Eq.trans ?_ (Cert.MlpIdeal.Hand.result_at _ _ _ _ _ _ p e).symm)
    refine mlpRow_congr (fun j => ?_) (fun j => congrFun e3 _) (fun d f => congrFun e4 _) (fun f j => congrFun e5 _) e
    refine (Cert.MlpReferenceIdeal.Hand.mixed_at _ _ _ _ _ j).trans ?_
    exact congrArg₂ (· + ·) (congrFun e0 _) (Finset.sum_congr rfl fun d _ => Ideal.mul_congr (congrFun e1 _) (congrFun e2 _))

end Cert.Hand

end
-- ==== Proof.Trail.lean ====
/-
  Trailing sums of a sequence of rows that begins with zeros, and the pooling step built on them: every position takes the mean of the
  last few rows (of as many as there are, at the start), less its own row, through a matrix for each quarter of the columns.
-/
module

public import proofs.«01_k».proof.Proof.Rows
public import Mathlib.Algebra.BigOperators.Intervals

@[expose] public section

noncomputable section

namespace Cert.Trail

open Idealize.ShloMosaic

/-- A column of positions, after sixteen zeros. -/
def stream (f : Fin 8192 → EReal) (q : ℕ) : EReal := if h : 16 ≤ q ∧ q < 8208 then f ⟨q - 16, by omega⟩ else 0
theorem stream_zero (f : Fin 8192 → EReal) (q : ℕ) (h : q < 16) : stream f q = 0 := dif_neg (by omega)
theorem stream_at (f : Fin 8192 → EReal) (q : ℕ) (p : Fin 8192) (h : q = p.val + 16) : stream f q = f p := by
  rw [stream, dif_pos (by omega)]
  exact congrArg f (Fin.ext (by show q - 16 = p.val; omega))

/-- The last `w` entries up to `q`, added. -/
def trail (z : ℕ → EReal) (w q : ℕ) : EReal := ∑ j ∈ Finset.range w, z (q - j)
theorem trail_one (z : ℕ → EReal) (q : ℕ) : trail z 1 q = z q := by simp [trail]
theorem trail_succ (z : ℕ → EReal) (w q : ℕ) : trail z (w + 1) q = trail z w q + z (q - w) := Finset.sum_range_succ _ w
theorem trail_double (z : ℕ → EReal) (w q : ℕ) : trail z w q + trail z w (q - w) = trail z (w + w) q := by
  rw [trail, trail, trail, Finset.sum_range_add]
  simp only [Nat.sub_sub]

/-- Doubling a window: a buffer holding trailing sums of `w` entries, added to itself moved down by `w`. -/
theorem double_of (z : ℕ → EReal) (o w : ℕ) (b : Fin 528 → EReal) (h : ∀ r : Fin 528, w ≤ r.val + 1 → b r = trail z w (o + r.val))
    (r s : Fin 528) (hs : s.val + w = r.val) (hr : w + w ≤ r.val + 1) : b r + b s = trail z (w + w) (o + r.val) := by
  rw [h r (by omega), h s (by omega), ← trail_double, show o + s.val = o + r.val - w by omega]

/-- The window of each quarter of the columns. -/
def win (k : Fin 4) : ℕ := 2 * 2 ^ k.val
/-- Column `d` of quarter `k`. -/
def col (k : Fin 4) (d : Fin 256) : Fin 1024 := ⟨256 * k.val + d.val, by omega⟩
/-- How many rows the window of width `w` holds at position `p`. -/
def count (w : BitVec 32) (p : ℕ) : EReal := FloatOps.sitofp (F := Ideal) .f32 (IntOp.minsi (BitVec.ofNat 32 p + 1#32) w)

/-- The mean of the last rows less the row itself. -/
def pooled (f : Fin 8192 → Fin 1024 → EReal) (k : Fin 4) (p : Fin 8192) (d : Fin 256) : EReal :=
  Ideal.div (trail (stream fun q => f q (col k d)) (win k) (p.val + 16)) (count (BitVec.ofNat 32 (win k)) p.val) - f p (col k d)
/-- The pooling step's row `p`: the row `x`, and the pooled rows `f` through their quarter's matrix, scaled. -/
def mixRow (x : Fin 1024 → EReal) (f : Fin 8192 → Fin 1024 → EReal) (wp : Fin 4 → Fin 256 → Fin 256 → EReal) (s : Fin 1024 → EReal)
    (k : Fin 4) (p : Fin 8192) (d : Fin 256) : EReal :=
  x (col k d) + (∑ i, pooled f k p i * wp k i d) * s (col k d)
/-- Column `e`'s quarter, and its place there. -/
def quarter (e : Fin 1024) : Fin 4 := ⟨e.val / 256, by omega⟩
def place (e : Fin 1024) : Fin 256 := ⟨e.val % 256, by omega⟩
theorem col_eq (e : Fin 1024) : col (quarter e) (place e) = e := Fin.ext (by show 256 * (e.val / 256) + e.val % 256 = e.val; omega)

/-- The same by columns. -/
def mixed (x : Fin 1024 → EReal) (f : Fin 8192 → Fin 1024 → EReal) (wp : Fin 4 → Fin 256 → Fin 256 → EReal) (s : Fin 1024 → EReal)
    (p : Fin 8192) (e : Fin 1024) : EReal := mixRow x f wp s (quarter e) p (place e)

/-- Four pieces of 256 columns side by side, read at a column. -/
theorem pick {α : Type} (a b c d : Fin 256 → α) (k : Fin 4) (i : Fin 256) :
    (if h : (col k i).val < 256 then a ⟨(col k i).val, h⟩ else if h : (col k i).val - 256 < 256 then b ⟨(col k i).val - 256, h⟩
      else if h : (col k i).val - 256 - 256 < 256 then c ⟨(col k i).val - 256 - 256, h⟩ else d ⟨(col k i).val - 256 - 256 - 256, by omega⟩) = ![a, b, c, d] k i := by
  have hv : (col k i).val = 256 * k.val + i.val := rfl
  split_ifs with h1 h2 h3
  · obtain rfl : k = 0 := Fin.ext (by show k.val = 0; omega)
    exact congrArg a (Fin.ext (by show (col 0 i).val = i.val; rw [hv]; simp))
  · obtain rfl : k = 1 := Fin.ext (by show k.val = 1; omega)
    exact congrArg b (Fin.ext (by show (col 1 i).val - 256 = i.val; rw [hv]; simp))
  · obtain rfl : k = 2 := Fin.ext (by show k.val = 2; omega)
    exact congrArg c (Fin.ext (by show (col 2 i).val - 256 - 256 = i.val; rw [hv]; show 256 * 2 + i.val - 256 - 256 = i.val; omega))
  · obtain rfl : k = 3 := Fin.ext (by show k.val = 3; omega)
    exact congrArg d (Fin.ext (by show (col 3 i).val - 256 - 256 - 256 = i.val; rw [hv]; show 256 * 3 + i.val - 256 - 256 - 256 = i.val; omega))
theorem quarter_col (k : Fin 4) (d : Fin 256) : quarter (col k d) = k := Fin.ext (by show (256 * k.val + d.val) / 256 = k.val; omega)
theorem place_col (k : Fin 4) (d : Fin 256) : place (col k d) = d := Fin.ext (by show (256 * k.val + d.val) % 256 = d.val; omega)

/-- The same trailing sum, its column, window and place written otherwise. -/
theorem trail_to (f : Fin 8192 → Fin 1024 → EReal) (k : Fin 4) (i : Fin 256) (e : Fin 1024) (w q q' : ℕ) (he : e.val = 256 * k.val + i.val) (hw : w = win k)
    (hq : q = q') : trail (stream fun p => f p e) w q = trail (stream fun p => f p (col k i)) (win k) q' := by
  obtain rfl : e = col k i := Fin.ext he
  rw [hw, hq]

end Cert.Trail

end
-- ==== Proof.PoolBody.lean ====
/-
  What the body of the pooling call computes, entry by entry: the buffer of normalised rows with the rows before it, its trailing sums by
  repeated doubling, and each quarter of the columns through its matrix.
-/
module

public import proofs.«01_k».proof.Proof.Trail
public import proofs.«01_k».proof.Proof.Gen.PoolMlpIdeal.Frame
public import Idealize.ShloMosaic.Lib.Pipeline.Value
public import Idealize.ShloMosaic.Lib.Pointwise
public import Idealize.ShloMosaic.Lib.WordCmp

@[expose] public section

set_option maxRecDepth 16384

noncomputable section

namespace Cert.PoolMlpIdeal.Hand

open Cert.PoolMlpIdeal Cert.PoolMlpIdeal.Gen Cert.Rows Cert.Trail
open Idealize.ShloMosaic Idealize.ShloMosaic.TcCoe

/-! ## The normalised rows -/

/-- The sixteen rows before a block, normalised. -/
def halo (v : Vec Ideal S1x16x1024 .f32) (g : Vec Ideal S1x1024 .f32) : FVec Ideal S16x1024 .f32 :=
  have x : FVec Ideal S16x1024 .f32 := shapeCast S16x1024 v shapeCasts_S1x16x1024_S16x1024
  mulf (mulf x (broadcastTo S16x1024 (rsqrt (addf (divf
      (shapeCast S16x1 (multiReduction .add [1] S16 (mulf x x) 0x00000000#32 reduces_S16x1024_S16 (.inl rfl) rfl) shapeCasts_S16_S16x1)
      (broadcast S16x1 (Scalar.ofBits .f32 0x44800000#32))) (broadcast S16x1 (Scalar.ofBits .f32 0x358637BD#32)))) broadcasts_S16x1_S16x1024))
    (broadcastTo S16x1024 (shapeCast S1x1024 g shapeCasts_S1x1024_S1x1024) broadcasts_S1x1024_S16x1024)
/-- The first rows of the buffer: those before the block, or zeros at a batch's start. -/
def top (a : BitVec 32) (v : Vec Ideal S1x16x1024 .f32) (g : Vec Ideal S1x1024 .f32) : FVec Ideal S16x1024 .f32 :=
  Scalar.select (Scalar.cmpi .sgt a 0#32) (halo v g) (broadcast S16x1024 (Scalar.ofBits .f32 0x00000000#32))
/-- The buffer: those rows, and the block's own. -/
def buf (t : FVec Ideal S16x1024 .f32) (x : FVec Ideal S512x1024 .f32) : FVec Ideal S528x1024 .f32 :=
  concatenate S528x1024 0 [⟨S16x1024, t⟩, ⟨S512x1024, x⟩] concatenates_S16x1024_S512x1024_S528x1024_d0

theorem pay5_eq (i : grid0.Coords) (x : Vec Ideal S1x512x1024 .f32) (v : Vec Ideal S1x16x1024 .f32) (g : Vec Ideal S1x1024 .f32) :
    k0_pay5 i x v g = (have b := buf (top (BitVec.ofNat 32 (i 1).val) v g) (k0_pay4 x g)
      addf b (dynamicRotate 0 1#32 none b rotates_S528x1024_d0)) := rfl

theorem pay4_at (x : Vec Ideal S1x512x1024 .f32) (g : Vec Ideal S1x1024 .f32) (r : Fin 512) (e : Fin 1024) :
    k0_pay4 x g (ix2 r e) = normed (fun j => x (ix3 0 r j)) (fun j => g (ix2 0 j)) e := by
  pointwise [k0_pay4, k0_pay1, k0_pay2]
  rfl
theorem halo_at (v : Vec Ideal S1x16x1024 .f32) (g : Vec Ideal S1x1024 .f32) (r : Fin 16) (e : Fin 1024) :
    halo v g (ix2 r e) = normed (fun j => v (ix3 0 r j)) (fun j => g (ix2 0 j)) e := by
  pointwise [halo]
  rfl
theorem top_first (v : Vec Ideal S1x16x1024 .f32) (g : Vec Ideal S1x1024 .f32) (r : Fin 16) (e : Fin 1024) :
    top (BitVec.ofNat 32 0) v g (ix2 r e) = 0 := by
  have h : top (BitVec.ofNat 32 0) v g = broadcast S16x1024 (Scalar.ofBits .f32 0x00000000#32) := rfl
  rw [h]
  pointwise
theorem top_later (n : ℕ) (hn : 0 < n) (hn' : n < 2 ^ 31) (v : Vec Ideal S1x16x1024 .f32) (g : Vec Ideal S1x1024 .f32) (r : Fin 16) (e : Fin 1024) :
    top (BitVec.ofNat 32 n) v g (ix2 r e) = normed (fun j => v (ix3 0 r j)) (fun j => g (ix2 0 j)) e := by
  have h : Scalar.cmpi .sgt (BitVec.ofNat 32 n) 0#32 = 1#1 := by
    show IntOp.cmpi .sgt (BitVec.ofNat 32 n) (BitVec.ofNat 32 0) = 1#1
    rw [WordCmp.cmpi_sgt_ofNat hn' (by decide)]
    simp [hn]
  rw [top, h]
  exact halo_at v g r e
theorem buf_at (t : FVec Ideal S16x1024 .f32) (x : FVec Ideal S512x1024 .f32) (r : Fin 528) (e : Fin 1024) :
    buf t x (ix2 r e) = if h : r.val < 16 then t (ix2 ⟨r.val, h⟩ e) else x (ix2 ⟨r.val - 16, by omega⟩ e) := by
  pointwise [buf]

/-! ## The trailing sums -/

/-- The row `n` above, going round the end. -/
def up (n : ℕ) (hn : n < 528) (r : Fin 528) : Fin 528 := ⟨(r.val + 528 - n) % 528, by omega⟩
theorem up_val (n : ℕ) (hn : n < 528) (r : Fin 528) (h : n ≤ r.val) : (up n hn r).val + n = r.val := by
  show (r.val + 528 - n) % 528 + n = r.val
  omega

theorem pair_at (b : FVec Ideal S528x1024 .f32) (r : Fin 528) (e : Fin 1024) :
    addf b (dynamicRotate 0 1#32 none b rotates_S528x1024_d0) (ix2 r e) = (show EReal from b (ix2 r e)) + b (ix2 (up 1 (by decide) r) e) := by
  pointwise
  rfl
theorem pay7_at (b : FVec Ideal S528x1024 .f32) (r : Fin 528) (e : Fin 768) :
    k0_pay7 b (ix2 r e) = (show EReal from b (ix2 r ⟨256 + e.val, by omega⟩)) + b (ix2 (up 2 (by decide) r) ⟨256 + e.val, by omega⟩) := by
  pointwise [k0_pay7]
  rfl
theorem pay8_at (b : FVec Ideal S528x1024 .f32) (r : Fin 528) (e : Fin 512) :
    k0_pay8 b (ix2 r e) = (show EReal from k0_pay7 b (ix2 r ⟨256 + e.val, by omega⟩)) + k0_pay7 b (ix2 (up 4 (by decide) r) ⟨256 + e.val, by omega⟩) := by
  pointwise [k0_pay8]
  rfl
theorem pay10_at (b : FVec Ideal S528x1024 .f32) (r : Fin 512) (e : Fin 256) :
    k0_pay10 b (ix2 r e) = (show EReal from k0_pay8 b (ix2 ⟨16 + r.val, by omega⟩ ⟨256 + e.val, by omega⟩))
      + k0_pay8 b (ix2 (up 8 (by decide) ⟨16 + r.val, by omega⟩) ⟨256 + e.val, by omega⟩) := by
  pointwise [k0_pay10]
  rfl

/-- Each doubling of the window, from a buffer whose column `e` holds the entries `z e` from `o` on. -/
theorem twos (b : FVec Ideal S528x1024 .f32) (z : Fin 1024 → ℕ → EReal) (o : ℕ) (hb : ∀ r e, b (ix2 r e) = z e (o + r.val)) (e : Fin 1024) (r : Fin 528)
    (hr : 2 ≤ r.val + 1) : addf b (dynamicRotate 0 1#32 none b rotates_S528x1024_d0) (ix2 r e) = trail (z e) 2 (o + r.val) :=
  (pair_at b r e).trans (double_of (z e) o 1 (fun r => b (ix2 r e)) (fun r _ => (hb r e).trans (trail_one _ _).symm) r (up 1 (by decide) r)
    (up_val 1 (by decide) r (by omega)) hr)
theorem fours (b : FVec Ideal S528x1024 .f32) (z : Fin 1024 → ℕ → EReal) (o : ℕ) (hb : ∀ e (r : Fin 528), 2 ≤ r.val + 1 → b (ix2 r e) = trail (z e) 2 (o + r.val))
    (e : Fin 768) (r : Fin 528) (hr : 4 ≤ r.val + 1) : k0_pay7 b (ix2 r e) = trail (z ⟨256 + e.val, by omega⟩) 4 (o + r.val) :=
  (pay7_at b r e).trans (double_of (z ⟨256 + e.val, by omega⟩) o 2 (fun r => b (ix2 r ⟨256 + e.val, by omega⟩)) (fun r h => hb _ r h) r (up 2 (by decide) r)
    (up_val 2 (by decide) r (by omega)) hr)
theorem eights (b : FVec Ideal S528x1024 .f32) (z : Fin 1024 → ℕ → EReal) (o : ℕ) (hb : ∀ e (r : Fin 528), 2 ≤ r.val + 1 → b (ix2 r e) = trail (z e) 2 (o + r.val))
    (e : Fin 512) (r : Fin 528) (hr : 8 ≤ r.val + 1) : k0_pay8 b (ix2 r e) = trail (z ⟨256 + (256 + e.val), by omega⟩) 8 (o + r.val) :=
  (pay8_at b r e).trans (double_of (z ⟨256 + (256 + e.val), by omega⟩) o 4 (fun r => k0_pay7 b (ix2 r ⟨256 + e.val, by omega⟩))
    (fun r h => fours b z o hb _ r h) r (up 4 (by decide) r) (up_val 4 (by decide) r (by omega)) hr)
theorem sixteens (b : FVec Ideal S528x1024 .f32) (z : Fin 1024 → ℕ → EReal) (o : ℕ) (hb : ∀ e (r : Fin 528), 2 ≤ r.val + 1 → b (ix2 r e) = trail (z e) 2 (o + r.val))
    (e : Fin 256) (r : Fin 512) : k0_pay10 b (ix2 r e) = trail (z ⟨256 + (256 + (256 + e.val)), by omega⟩) 16 (o + (16 + r.val)) :=
  (pay10_at b r e).trans (double_of (z ⟨256 + (256 + (256 + e.val)), by omega⟩) o 8 (fun r => k0_pay8 b (ix2 r ⟨256 + e.val, by omega⟩))
    (fun r h => eights b z o hb _ r h) ⟨16 + r.val, by omega⟩ (up 8 (by decide) _) (up_val 8 (by decide) _ (by show 8 ≤ 16 + r.val; omega)) (by show 8 + 8 ≤ 16 + r.val + 1; omega))

/-- A slice from row sixteen on, first quarter of what is left. -/
theorem from16_1024 (b : FVec Ideal S528x1024 .f32) (r : Fin 512) (e : Fin 256) :
    (extractStridedSlice S512x256 ![16, 0] b slices_S528x1024_o16_0_S512x256 : FVec Ideal S512x256 .f32) (ix2 r e) = b (ix2 ⟨16 + r.val, by omega⟩ ⟨e.val, by omega⟩) := by
  pointwise
theorem from16_768 (b : FVec Ideal S528x768 .f32) (r : Fin 512) (e : Fin 256) :
    (extractStridedSlice S512x256 ![16, 0] b slices_S528x768_o16_0_S512x256 : FVec Ideal S512x256 .f32) (ix2 r e) = b (ix2 ⟨16 + r.val, by omega⟩ ⟨e.val, by omega⟩) := by
  pointwise
theorem from16_512 (b : FVec Ideal S528x512 .f32) (r : Fin 512) (e : Fin 256) :
    (extractStridedSlice S512x256 ![16, 0] b slices_S528x512_o16_0_S512x256 : FVec Ideal S512x256 .f32) (ix2 r e) = b (ix2 ⟨16 + r.val, by omega⟩ ⟨e.val, by omega⟩) := by
  pointwise

/-! ## One quarter of the columns -/

/-- The quarter whose columns start at `o`: trailing sums over their counts, less the rows, through the matrix, scaled and added. -/
def group (o : Nat) (hs : S512x1024.Slices ![0, o] S512x256) (hs' : S1x1024.Slices ![0, o] S1x256) (w : BitVec 32) (a : BitVec 32)
    (x : FVec Ideal S512x1024 .f32) (s : FVec Ideal S1x1024 .f32) (y : FVec Ideal S512x1024 .f32) (t : FVec Ideal S512x256 .f32)
    (m : Vec Ideal S1x1x256x256 .bf16) : FVec Ideal S512x256 .f32 :=
  addf (extractStridedSlice S512x256 ![0, o] x hs : FVec Ideal S512x256 .f32)
    (mulf (matmul dot_S512x256_S256x256_S512x256_1_0_0_1_n_n none
        (truncf .bf16 (subf (divf t (broadcastTo S512x256 (sitofp .f32 (minsi (addi (k0_pay11 a) (broadcast S512x1 1#32)) (broadcast S512x1 w)) : FVec Ideal S512x1 .f32)
          broadcasts_S512x1_S512x256)) (extractStridedSlice S512x256 ![0, o] y hs : FVec Ideal S512x256 .f32)) bitsLt_bf16_f32 : FVec Ideal S512x256 .bf16)
        (shapeCast S256x256 m shapeCasts_S1x1x256x256_S256x256 : FVec Ideal S256x256 .bf16) (constant S512x256 .f32 0x00000000#32))
      (broadcastTo S512x256 (extractStridedSlice S1x256 ![0, o] s hs' : FVec Ideal S1x256 .f32) broadcasts_S1x256_S512x256))

theorem group0_eq (a : BitVec 32) (x : FVec Ideal S512x1024 .f32) (s : FVec Ideal S1x1024 .f32) (y : FVec Ideal S512x1024 .f32) (t : FVec Ideal S512x256 .f32)
    (m : Vec Ideal S1x1x256x256 .bf16) : k0_pay12 a x s y t m = group 0 slices_S512x1024_o0_0_S512x256 slices_S1x1024_o0_0_S1x256 2#32 a x s y t m := rfl
theorem group1_eq (a : BitVec 32) (x : FVec Ideal S512x1024 .f32) (s : FVec Ideal S1x1024 .f32) (y : FVec Ideal S512x1024 .f32) (b : FVec Ideal S528x1024 .f32)
    (m : Vec Ideal S1x1x256x256 .bf16) : k0_pay15 s (k0_pay13 x) (k0_pay14 a y b) m = group 256 slices_S512x1024_o0_256_S512x256 slices_S1x1024_o0_256_S1x256 4#32 a x s y
      (extractStridedSlice S512x256 ![16, 0] (k0_pay7 b) slices_S528x768_o16_0_S512x256) m := rfl
theorem group2_eq (a : BitVec 32) (x : FVec Ideal S512x1024 .f32) (s : FVec Ideal S1x1024 .f32) (y : FVec Ideal S512x1024 .f32) (t : FVec Ideal S512x256 .f32)
    (m : Vec Ideal S1x1x256x256 .bf16) : k0_pay16 x s y t (k0_pay11 a) m = group 512 slices_S512x1024_o0_512_S512x256 slices_S1x1024_o0_512_S1x256 8#32 a x s y t m := rfl
theorem group3_eq (a : BitVec 32) (x : FVec Ideal S512x1024 .f32) (s : FVec Ideal S1x1024 .f32) (y : FVec Ideal S512x1024 .f32) (t : FVec Ideal S512x256 .f32)
    (m : Vec Ideal S1x1x256x256 .bf16) : k0_pay17 x s y t (k0_pay11 a) m = group 768 slices_S512x1024_o0_768_S512x256 slices_S1x1024_o0_768_S1x256 16#32 a x s y t m := rfl

/-- The words that count positions: block `n`'s row `r` is position `512 n + r`. -/
theorem word_pos (n r : ℕ) : BitVec.ofNat 32 n * 512#32 + BitVec.ofNat 32 r = BitVec.ofNat 32 (512 * n + r) := by
  rw [Nat.mul_comm, BitVec.ofNat_add, BitVec.ofNat_mul]

theorem group_at (o : Nat) (hs : S512x1024.Slices ![0, o] S512x256) (hs' : S1x1024.Slices ![0, o] S1x256) (w : BitVec 32) (n : ℕ)
    (x : FVec Ideal S512x1024 .f32) (s : FVec Ideal S1x1024 .f32) (y : FVec Ideal S512x1024 .f32) (t : FVec Ideal S512x256 .f32)
    (m : Vec Ideal S1x1x256x256 .bf16) (ho : o + 256 ≤ 1024) (r : Fin 512) (d : Fin 256) : group o hs hs' w (BitVec.ofNat 32 n) x s y t m (ix2 r d)
      = (show EReal from x (ix2 r ⟨o + d.val, by omega⟩))
        + (∑ i : Fin 256, (Ideal.div (t (ix2 r i)) (count w (512 * n + r.val)) - (show EReal from y (ix2 r ⟨o + i.val, by omega⟩))) * m (ix4 0 0 i d)) * s (ix2 0 ⟨o + d.val, by omega⟩) := by
  unfold Trail.count
  rw [← word_pos]
  pointwise [group, k0_pay11]
  rfl

theorem group_mix (k : Fin 4) (o : Nat) (hs : S512x1024.Slices ![0, o] S512x256) (hs' : S1x1024.Slices ![0, o] S1x256) (w : BitVec 32) (ho : o = 256 * k.val)
    (hw : w = BitVec.ofNat 32 (win k)) (n : ℕ)
    (x : FVec Ideal S512x1024 .f32) (s : FVec Ideal S1x1024 .f32) (y : FVec Ideal S512x1024 .f32) (t : FVec Ideal S512x256 .f32)
    (m : Vec Ideal S1x1x256x256 .bf16) (r : Fin 512) (p : Fin 8192) (hp : p.val = 512 * n + r.val) (f : Fin 8192 → Fin 1024 → EReal)
    (wp : Fin 4 → Fin 256 → Fin 256 → EReal) (hy : ∀ e, y (ix2 r e) = f p e) (ht : ∀ i, t (ix2 r i) = trail (stream fun q => f q (col k i)) (win k) (p.val + 16))
    (hm : ∀ i d, m (ix4 0 0 i d) = wp k i d) (d : Fin 256) :
    group o hs hs' w (BitVec.ofNat 32 n) x s y t m (ix2 r d) = mixRow (fun j => x (ix2 r j)) f wp (fun j => s (ix2 0 j)) k p d := by
  subst ho hw
  rw [group_at _ _ _ _ _ _ _ _ _ _ (by omega), ← hp]
  refine congrArg₂ (· + ·) rfl (Ideal.mul_congr (Finset.sum_congr rfl fun i _ => Ideal.mul_congr ?_ (hm i d)) rfl)
  rw [ht]
  exact congrArg (_ - ·) (hy (col k i))

theorem pay18_at (v0 v1 v2 v3 : FVec Ideal S512x256 .f32) (r : Fin 512) (k : Fin 4) (d : Fin 256) :
    k0_pay18 v0 v1 v2 v3 (ix2 r (col k d)) = ![fun i => v0 (ix2 r i), fun i => v1 (ix2 r i), fun i => v2 (ix2 r i), fun i => v3 (ix2 r i)] k d := by
  rw [← pick]
  pointwise [k0_pay18]

end Cert.PoolMlpIdeal.Hand

end
-- ==== Proof.PoolTail.lean ====
/-
  What a point of the pooling call leaves in its two result blocks: the MLP of each pooled row, and the block's last normalised rows.
-/
module

public import proofs.«01_k».proof.Proof.PoolBody

@[expose] public section

set_option maxRecDepth 16384

noncomputable section

namespace Cert.PoolMlpIdeal.Hand

open Cert.PoolMlpIdeal Cert.PoolMlpIdeal.Gen Cert.Rows Cert.Trail
open Idealize.ShloMosaic Idealize.ShloMosaic.TcCoe

/-- One chunk of inner units: up, positive part, square, down. -/
def chunk (y : FVec Ideal S512x1024 .bf16) (a b : Vec Ideal S1x1024x1024 .bf16) : FVec Ideal S512x1024 .f32 :=
  have s : FVec Ideal S512x1024 .f32 := maximumf
    (matmul dot_S512x1024_S1024x1024_S512x1024_1_0_0_1_n_n none y (shapeCast S1024x1024 a shapeCasts_S1x1024x1024_S1024x1024 : FVec Ideal S1024x1024 .bf16) (constant S512x1024 .f32 0x00000000#32))
    (broadcast S512x1024 (Scalar.ofBits .f32 0x00000000#32))
  matmul dot_S512x1024_S1024x1024_S512x1024_1_0_0_1_n_n none (truncf .bf16 (mulf s s) bitsLt_bf16_f32 : FVec Ideal S512x1024 .bf16)
    (shapeCast S1024x1024 b shapeCasts_S1x1024x1024_S1024x1024 : FVec Ideal S1024x1024 .bf16) (constant S512x1024 .f32 0x00000000#32)

/-- A block's rows, normalised. -/
def norm (x : FVec Ideal S512x1024 .f32) (g : Vec Ideal S1x1024 .f32) : FVec Ideal S512x1024 .bf16 :=
  truncf .bf16 (mulf (mulf x (broadcastTo S512x1024 (rsqrt (addf (divf
      (shapeCast S512x1 (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)) bitsLt_bf16_f32

theorem tail_eq (v0 v1 v2 v3 : FVec Ideal S512x256 .f32) (g : Vec Ideal S1x1024 .f32) (a0 b0 a1 b1 a2 b2 a3 b3 : Vec Ideal S1x1024x1024 .bf16) :
    k0_pay23 (k0_pay20 v0 v1 v2 v3 g) (k0_pay21 v0 v1 v2 v3 g a0 b0) (k0_pay22 v0 v1 v2 v3 g a1) b1 a2 b2 a3 b3
      = (have x := k0_pay18 v0 v1 v2 v3
         shapeCast S1x512x1024 (addf (addf (addf (addf x (chunk (norm x g) a0 b0)) (chunk (norm x g) a1 b1)) (chunk (norm x g) a2 b2)) (chunk (norm x g) a3 b3))
           shapeCasts_S512x1024_S1x512x1024) := rfl

theorem norm_at (x : FVec Ideal S512x1024 .f32) (g : Vec Ideal S1x1024 .f32) (r : Fin 512) (e : Fin 1024) :
    norm x g (ix2 r e) = normed (fun j => x (ix2 r j)) (fun j => g (ix2 0 j)) e := by
  pointwise [norm]
  rfl
theorem chunk_at (y : FVec Ideal S512x1024 .bf16) (a b : Vec Ideal S1x1024x1024 .bf16) (r : Fin 512) (e : Fin 1024) :
    chunk y a b (ix2 r e) = ∑ f : Fin 1024, unit (fun d => y (ix2 r d)) (fun d => a (ix3 0 d f)) * b (ix3 0 f e) := by
  pointwise [chunk]
  rfl

/-! ## The pieces of the weights -/

theorem ld_up (x : Vec Ideal S1x1024x4096 .bf16) (k : Fin 4) (o : Nat) (ho : o = 1024 * k.val)
    (inb : ∀ a, (![0, 0, o] : Fin 3 → Nat) a + S1x1024x1024.size a ≤ S1x1024x4096.size a) (d f : Fin 1024) :
    View.ld x (Rect.unit (s := S1x1024x4096) ![0, 0, o] S1x1024x1024.size inb) (ix3 0 d f) = x (ix3 0 d (lane k f)) := by
  subst ho
  rw [View.ld_unit]
  refine congrArg x (funext fun a => Fin.ext ?_)
  fin_cases a
  · rfl
  · show 0 + d.val = d.val; omega
  · rfl
theorem ld_down (x : Vec Ideal S1x4096x1024 .bf16) (k : Fin 4) (o : Nat) (ho : o = 1024 * k.val)
    (inb : ∀ a, (![0, o, 0] : Fin 3 → Nat) a + S1x1024x1024.size a ≤ S1x4096x1024.size a) (f e : Fin 1024) :
    View.ld x (Rect.unit (s := S1x4096x1024) ![0, o, 0] S1x1024x1024.size inb) (ix3 0 f e) = x (ix3 0 (lane k f) e) := by
  subst ho
  rw [View.ld_unit]
  refine congrArg x (funext fun a => Fin.ext ?_)
  fin_cases a
  · rfl
  · rfl
  · show 0 + e.val = e.val; omega

/-- The four chunks, added to a block, are the MLP of each of its rows. -/
theorem chunks_at (x : FVec Ideal S512x1024 .f32) (g : Vec Ideal S1x1024 .f32) (a b : Fin 4 → Vec Ideal S1x1024x1024 .bf16)
    (wu : Fin 1024 → Fin 4096 → EReal) (wd : Fin 4096 → Fin 1024 → EReal) (ha : ∀ k d f, a k (ix3 0 d f) = wu d (lane k f))
    (hb : ∀ k f e, b k (ix3 0 f e) = wd (lane k f) e) (r : Fin 512) (e : Fin 1024) :
    addf (addf (addf (addf x (chunk (norm x g) (a 0) (b 0))) (chunk (norm x g) (a 1) (b 1))) (chunk (norm x g) (a 2) (b 2))) (chunk (norm x g) (a 3) (b 3)) (ix2 r e)
      = mlpRow (fun j => x (ix2 r j)) (fun j => g (ix2 0 j)) wu wd e := by
  refine mlpRow_chunks (fun j => x (ix2 r j)) (fun j => g (ix2 0 j)) wu wd e (fun k => chunk (norm x g) (a k) (b k) (ix2 r e)) fun k => ?_
  rw [chunk_at]
  refine Finset.sum_congr rfl fun f _ => ?_
  rw [hb, funext (fun d => ha k d f), funext (fun d => norm_at x g r d)]

/-- The matrix of one quarter. -/
theorem ld_mat (x : Vec Ideal S1x4x256x256 .bf16) (k : Fin 4) (o : Nat) (ho : o = k.val)
    (inb : ∀ a, (![0, o, 0, 0] : Fin 4 → Nat) a + S1x1x256x256.size a ≤ S1x4x256x256.size a) (i d : Fin 256) :
    View.ld x (Rect.unit (s := S1x4x256x256) ![0, o, 0, 0] S1x1x256x256.size inb) (ix4 0 0 i d) = x (ix4 0 k i d) := by
  subst ho
  rw [View.ld_unit]
  refine congrArg x (funext fun a => Fin.ext ?_)
  fin_cases a
  · rfl
  · rfl
  · show 0 + i.val = i.val; omega
  · show 0 + d.val = d.val; omega

theorem unflat_at (x : FVec Ideal S512x1024 .f32) (r : Fin 512) (e : Fin 1024) :
    shapeCast S1x512x1024 x shapeCasts_S512x1024_S1x512x1024 (ix3 0 r e) = x (ix2 r e) := by
  pointwise
theorem flat_at (x : Vec Ideal S1x512x1024 .f32) (r : Fin 512) (e : Fin 1024) : k0_pay1 x (ix2 r e) = x (ix3 0 r e) := by
  pointwise [k0_pay1]
theorem scale_at (x : Vec Ideal S1x1024 .f32) (e : Fin 1024) : k0_pay3 x (ix2 0 e) = x (ix2 0 e) := by
  pointwise [k0_pay3]

section Point

variable (i : grid0.Coords) (n : ℕ) (hi : (i 1).val = n) (x0 : Vec Ideal S1x512x1024 .f32) (x1 : Vec Ideal S1x16x1024 .f32) (x2 : Vec Ideal S1x1024 .f32)
  (x3 : Vec Ideal S1x4x256x256 .bf16) (x4 x5 : Vec Ideal S1x1024 .f32) (x6 : Vec Ideal S1x1024x4096 .bf16) (x7 : Vec Ideal S1x4096x1024 .bf16)
  (f : Fin 8192 → Fin 1024 → EReal)
  (hb : ∀ (r : Fin 528) (e : Fin 1024), buf (top (BitVec.ofNat 32 n) x1 x2) (k0_pay4 x0 x2) (ix2 r e) = stream (fun q => f q e) (512 * n + r.val))
include hi hb

omit hi in
/-- The block's own rows are the normalised rows from position `512 n` on. -/
theorem own_at (r : Fin 512) (p : Fin 8192) (hp : p.val = 512 * n + r.val) (e : Fin 1024) : k0_pay4 x0 x2 (ix2 r e) = f p e := by
  have h := hb ⟨16 + r.val, by omega⟩ e
  rw [buf_at, dif_neg (by show ¬ 16 + r.val < 16; omega), stream_at _ _ p (by show 512 * n + (16 + r.val) = p.val + 16; omega)] at h
  refine (congrArg (fun q => k0_pay4 x0 x2 (ix2 q e)) (Fin.ext ?_)).trans h
  show r.val = 16 + r.val - 16
  omega

/-- The four quarters, row by row. -/
theorem quarters_at (wp : Fin 4 → Fin 256 → Fin 256 → EReal) (hm : ∀ k i d, x3 (ix4 0 k i d) = wp k i d)
    (r : Fin 512) (p : Fin 8192) (hp : p.val = 512 * n + r.val) (e : Fin 1024) :
    k0_pay18 (k0_pay29 i x0 x1 x2 x3 x4 x5 x6 x7) (k0_pay30 i x0 x1 x2 x3 x4 x5 x6 x7) (k0_pay31 i x0 x1 x2 x3 x4 x5 x6 x7) (k0_pay32 i x0 x1 x2 x3 x4 x5 x6 x7) (ix2 r e)
      = mixed (fun j => x0 (ix3 0 r j)) f wp (fun j => x4 (ix2 0 j)) p e := by
  have z3 : (![0, 0, 0] : Fin 3 → Nat) = fun _ => 0 := by decide
  have z2 : (![0, 0] : Fin 2 → Nat) = fun _ => 0 := by decide
  obtain ⟨k, d, rfl⟩ : ∃ (k : Fin 4) (d : Fin 256), e = col k d := ⟨quarter e, place e, (col_eq e).symm⟩
  have h2 : ∀ e (r : Fin 528), 2 ≤ r.val + 1 → k0_pay5 i x0 x1 x2 (ix2 r e) = trail (stream fun q => f q e) 2 (512 * n + r.val) := fun e r h => by
    rw [pay5_eq, hi]
    exact twos _ (fun e => stream fun q => f q e) (512 * n) hb e r h
  have hy := own_at n x0 x1 x2 f hb r p hp
  have hx : (fun j => k0_pay1 x0 (ix2 r j)) = fun j => x0 (ix3 0 r j) := funext fun j => flat_at x0 r j
  have hs : (fun j => k0_pay3 x4 (ix2 0 j)) = fun j => x4 (ix2 0 j) := funext fun j => scale_at x4 j
  rw [pay18_at, mixed, quarter_col, place_col]
  unfold k0_pay29 k0_pay30 k0_pay31 k0_pay32 k0_pay28 k0_pay27 k0_pay26 k0_pay25 k0_pay24
  rw [View.ld_unit_zero (S := S1x512x1024) z3, View.ld_unit_zero (S := S1x16x1024) z3, View.ld_unit_zero (S := S1x1024) z2, View.ld_unit_zero (S := S1x1024) z2, hi]
  simp only [group0_eq, group1_eq, group2_eq, group3_eq]
  rw [← hx, ← hs]
  fin_cases k
  · refine group_mix 0 _ _ _ _ rfl rfl n _ _ _ _ _ r p hp f wp hy (fun i => ?_) (fun i d => ?_) d
    · refine (from16_1024 _ r i).trans ((h2 ⟨i.val, by omega⟩ ⟨16 + r.val, by omega⟩ (by show 2 ≤ 16 + r.val + 1; omega)).trans ?_)
      exact trail_to f 0 i _ _ _ _ (by show i.val = 256 * 0 + i.val; omega) rfl (by show 512 * n + (16 + r.val) = p.val + 16; omega)
    · exact (ld_mat x3 0 0 rfl _ i d).trans (hm 0 i d)
  · refine group_mix 1 _ _ _ _ rfl rfl n _ _ _ _ _ r p hp f wp hy (fun i => ?_) (fun i d => ?_) d
    · refine (from16_768 _ r i).trans ((fours _ (fun e => stream fun q => f q e) (512 * n) h2 ⟨i.val, by omega⟩ ⟨16 + r.val, by omega⟩ (by show 4 ≤ 16 + r.val + 1; omega)).trans ?_)
      exact trail_to f 1 i _ _ _ _ (by show 256 + i.val = 256 * 1 + i.val; omega) rfl (by show 512 * n + (16 + r.val) = p.val + 16; omega)
    · exact (ld_mat x3 1 1 rfl _ i d).trans (hm 1 i d)
  · refine group_mix 2 _ _ _ _ rfl rfl n _ _ _ _ _ r p hp f wp hy (fun i => ?_) (fun i d => ?_) d
    · refine (from16_512 _ r i).trans ((eights _ (fun e => stream fun q => f q e) (512 * n) h2 ⟨i.val, by omega⟩ ⟨16 + r.val, by omega⟩ (by show 8 ≤ 16 + r.val + 1; omega)).trans ?_)
      exact trail_to f 2 i _ _ _ _ (by show 256 + (256 + i.val) = 256 * 2 + i.val; omega) rfl (by show 512 * n + (16 + r.val) = p.val + 16; omega)
    · exact (ld_mat x3 2 2 rfl _ i d).trans (hm 2 i d)
  · refine group_mix 3 _ _ _ _ rfl rfl n _ _ _ _ _ r p hp f wp hy (fun i => ?_) (fun i d => ?_) d
    · refine (sixteens _ (fun e => stream fun q => f q e) (512 * n) h2 i r).trans ?_
      exact trail_to f 3 i _ _ _ _ (by show 256 + (256 + (256 + i.val)) = 256 * 3 + i.val; omega) rfl (by show 512 * n + (16 + r.val) = p.val + 16; omega)
    · exact (ld_mat x3 3 3 rfl _ i d).trans (hm 3 i d)

/-- What the point leaves of its block of rows. -/
theorem out8_at (wp : Fin 4 → Fin 256 → Fin 256 → EReal) (hm : ∀ k i d, x3 (ix4 0 k i d) = wp k i d)
    (r : Fin 512) (p : Fin 8192) (hp : p.val = 512 * n + r.val) (e : Fin 1024) : out0_8 i x0 x1 x2 x3 x4 x5 x6 x7 (ix3 0 r e)
      = mlpRow (mixed (fun j => x0 (ix3 0 r j)) f wp (fun j => x4 (ix2 0 j)) p) (fun j => x5 (ix2 0 j)) (fun d f => x6 (ix3 0 d f)) (fun f j => x7 (ix3 0 f j)) e := by
  have z3 : (![0, 0, 0] : Fin 3 → Nat) = fun _ => 0 := by decide
  have z2 : (![0, 0] : Fin 2 → Nat) = fun _ => 0 := by decide
  rw [out0_8, View.canon_unit_zero z3, View.ld_unit_zero (S := S1x1024) z2, tail_eq]
  refine (unflat_at _ r e).trans ?_
  refine (chunks_at _ x5
    ![View.ld x6 r0_7, View.ld x6 r0_9, View.ld x6 r0_11, View.ld x6 r0_13] ![View.ld x7 r0_8, View.ld x7 r0_10, View.ld x7 r0_12, View.ld x7 r0_14]
    (fun d f => x6 (ix3 0 d f)) (fun f j => x7 (ix3 0 f j)) (fun k d f => ?_) (fun k f j => ?_) r e).trans ?_
  · fin_cases k
    exacts [ld_up x6 0 0 rfl _ d f, ld_up x6 1 1024 rfl _ d f, ld_up x6 2 2048 rfl _ d f, ld_up x6 3 3072 rfl _ d f]
  · fin_cases k
    exacts [ld_down x7 0 0 rfl _ f j, ld_down x7 1 1024 rfl _ f j, ld_down x7 2 2048 rfl _ f j, ld_down x7 3 3072 rfl _ f j]
  · exact mlpRow_congr (fun j => quarters_at i n hi x0 x1 x2 x3 x4 x5 x6 x7 f hb wp hm r p hp j) (fun _ => rfl) (fun _ _ => rfl) (fun _ _ => rfl) e

omit hi in
/-- What the point leaves of the last normalised rows. -/
theorem out9_at (r : Fin 16) (p : Fin 8192) (hp : p.val = 512 * n + (496 + r.val)) (e : Fin 1024) : out0_9 i x0 x1 x2 x3 x4 x5 x6 x7 (ix3 0 r e) = f p e := by
  have z3 : (![0, 0, 0] : Fin 3 → Nat) = fun _ => 0 := by decide
  have z2 : (![0, 0] : Fin 2 → Nat) = fun _ => 0 := by decide
  have h : ∀ y : FVec Ideal S512x1024 .f32, k0_pay19 y (ix3 0 r e) = y (ix2 ⟨496 + r.val, by omega⟩ e) := fun y => by pointwise [k0_pay19]
  rw [out0_9, View.canon_unit_zero z3]
  unfold k0_pay26
  rw [View.ld_unit_zero (S := S1x512x1024) z3, View.ld_unit_zero (S := S1x1024) z2]
  exact (h _).trans (own_at n x0 x1 x2 f hb ⟨496 + r.val, by omega⟩ p hp e)

end Point

end Cert.PoolMlpIdeal.Hand

end
-- ==== Proof.PoolBlocks.lean ====
/-
  Which entries of the arrays each point of the pooling call's grid reads and writes, what the arrays hold when the call begins, and what
  its two results hold at the end.
-/
module

public import proofs.«01_k».proof.Proof.PoolTail
public import Idealize.ShloMosaic.Lib.Pipeline.ValueKit
public import Idealize.ShloMosaic.Lib.StableHlo.Run
public import Idealize.ShloMosaic.Lib.StableHlo.RunRead

@[expose] public section

set_option maxRecDepth 16384

noncomputable section

namespace Cert.PoolMlpIdeal.Hand

open Cert.PoolMlpIdeal Cert.PoolMlpIdeal.Gen Cert.Rows Cert.Trail
open Idealize.ShloMosaic Idealize.ShloMosaic.TcCoe Idealize.ShloMosaic.StableHlo
open Idealize.ShloMosaic.Pipeline (Dat)

/-- The batch of point `t`. -/
def pb (t : Fin cfg0.N) : Fin 2 := ⟨t.val / 16, by have := t.isLt; have h : cfg0.N = 32 := (by decide); omega⟩
/-- Row `r` of point `t`, within its batch. -/
def pos (t : Fin cfg0.N) (r : Fin 512) : Fin 8192 := ⟨512 * (t.val % 16) + r.val, by omega⟩

theorem coords_1 : ∀ t : Fin cfg0.N, (grid0.coords t 1).val = t.val % 16 := by decide +kernel
theorem index_0 : ∀ t : Fin cfg0.N, win0_0.index t = ![(pb t).val, t.val % 16, 0] := by decide +kernel
theorem index_1 : ∀ t : Fin cfg0.N, win0_1.index t = ![(pb t).val, 32 * (t.val % 16) - 1, 0] := by decide +kernel
theorem index_2 : ∀ t : Fin cfg0.N, win0_2.index t = ![0, 0] := by decide +kernel
theorem index_3 : ∀ t : Fin cfg0.N, win0_3.index t = ![0, 0, 0, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![0, 0, 0] := by decide +kernel
theorem index_7 : ∀ t : Fin cfg0.N, win0_7.index t = ![0, 0, 0] := by decide +kernel
theorem index_8 : ∀ t : Fin cfg0.N, win0_8.index t = ![(pb t).val, t.val % 16, 0] := by decide +kernel
theorem index_9 : ∀ t : Fin cfg0.N, win0_9.index t = ![(pb t).val, 0, 0] := by decide +kernel
/-- The last rows are written back after each batch's last point. -/
theorem flush_9 : ∀ t : Fin cfg0.N, (cfg0.win 9).flush t = true → t.val % 16 = 15 := by decide +kernel

variable (m : (ℓ : Loc nD τ sig) → Buf (Elt Ideal) ℓ)

theorem blk_0 (c : Dev nD) (t : Fin cfg0.N) (r : Fin 512) (e : Fin 1024) : iblk m c 0 t (ix3 0 r e) = V m c main_arg0 (ix3 (pb t) (pos t r) e) := by
  blk_ext [iblk, index_0 t]
  all_goals simp only [pos]
  all_goals omega
theorem blk_1 (c : Dev nD) (t : Fin cfg0.N) (h : 0 < t.val % 16) (r : Fin 16) (e : Fin 1024) :
    iblk m c 1 t (ix3 0 r e) = V m c main_arg0 (ix3 (pb t) ⟨512 * (t.val % 16) + r.val - 16, by omega⟩ e) := by
  blk_ext [iblk, index_1 t]
  all_goals omega
theorem blk_2 (c : Dev nD) (t : Fin cfg0.N) (e : Fin 1024) : iblk m c 2 t (ix2 0 e) = V m c main_v5 (ix2 0 e) := by
  blk_ext [iblk, index_2 t]
theorem blk_3 (c : Dev nD) (t : Fin cfg0.N) (k : Fin 4) (i d : Fin 256) : iblk m c 3 t (ix4 0 k i d) = V m c main_v0 (ix4 0 k i d) := by
  blk_ext [iblk, index_3 t]
theorem blk_4 (c : Dev nD) (t : Fin cfg0.N) (e : Fin 1024) : iblk m c 4 t (ix2 0 e) = V m c main_v8 (ix2 0 e) := by
  blk_ext [iblk, index_4 t]
theorem blk_5 (c : Dev nD) (t : Fin cfg0.N) (e : Fin 1024) : iblk m c 5 t (ix2 0 e) = V m c main_v11 (ix2 0 e) := by
  blk_ext [iblk, index_5 t]
theorem blk_6 (c : Dev nD) (t : Fin cfg0.N) (d : Fin 1024) (f : Fin 4096) : iblk m c 6 t (ix3 0 d f) = V m c main_v1 (ix3 0 d f) := by
  blk_ext [iblk, index_6 t]
theorem blk_7 (c : Dev nD) (t : Fin cfg0.N) (f : Fin 4096) (e : Fin 1024) : iblk m c 7 t (ix3 0 f e) = V m c main_v2 (ix3 0 f e) := by
  blk_ext [iblk, index_7 t]

/-! ## What the arrays hold when the call begins -/

set_option maxHeartbeats 4000000 in
theorem V_2 (c : Dev nD) : V m c main_v5 = shapeCast S1x1024 (shapeCast S1024 (extractStridedSlice S1x1024 ![0, 0] (m ((c : Thread nD τ).loc main_arg1)) slices_S2x1024_S1x1024_0_0)
    shapeCasts_S1x1024_S1024) shapeCasts_S1024_S1x1024 := by
  unfold V
  simp only [hostOps0]
  after_reads_simp
  rfl
set_option maxHeartbeats 4000000 in
theorem V_3 (c : Dev nD) : V m c main_v0 = (truncf .bf16 (m ((c : Thread nD τ).loc main_arg2) : FVec Ideal S2x4x256x256 .f32) bitsLt_bf16_f32 : FVec Ideal S2x4x256x256 .bf16) := by
  unfold V
  simp only [hostOps0]
  after_reads_simp
set_option maxHeartbeats 4000000 in
theorem V_4 (c : Dev nD) : V m c main_v8 = shapeCast S1x1024 (shapeCast S1024 (extractStridedSlice S1x1024 ![0, 0] (m ((c : Thread nD τ).loc main_arg3)) slices_S2x1024_S1x1024_0_0)
    shapeCasts_S1x1024_S1024) shapeCasts_S1024_S1x1024 := by
  unfold V
  simp only [hostOps0]
  after_reads_simp
  rfl
set_option maxHeartbeats 4000000 in
theorem V_5 (c : Dev nD) : V m c main_v11 = shapeCast S1x1024 (shapeCast S1024 (extractStridedSlice S1x1024 ![0, 0] (m ((c : Thread nD τ).loc main_arg4)) slices_S4x1024_S1x1024_0_0)
    shapeCasts_S1x1024_S1024) shapeCasts_S1024_S1x1024 := by
  unfold V
  simp only [hostOps0]
  after_reads_simp
  rfl
set_option maxHeartbeats 4000000 in
theorem V_6 (c : Dev nD) : V m c main_v1 = (truncf .bf16 (m ((c : Thread nD τ).loc main_arg5) : FVec Ideal S4x1024x4096 .f32) bitsLt_bf16_f32 : FVec Ideal S4x1024x4096 .bf16) := by
  unfold V
  simp only [hostOps0]
  after_reads_simp
set_option maxHeartbeats 4000000 in
theorem V_7 (c : Dev nD) : V m c main_v2 = (truncf .bf16 (m ((c : Thread nD τ).loc main_arg6) : FVec Ideal S4x4096x1024 .f32) bitsLt_bf16_f32 : FVec Ideal S4x4096x1024 .bf16) := by
  unfold V
  simp only [hostOps0]
  after_reads_simp

theorem gains2_at (g : Vec Ideal S2x1024 .f32) (e : Fin 1024) :
    shapeCast S1x1024 (shapeCast S1024 (extractStridedSlice S1x1024 ![0, 0] g slices_S2x1024_S1x1024_0_0) shapeCasts_S1x1024_S1024) shapeCasts_S1024_S1x1024 (ix2 0 e)
      = g (ix2 0 e) := by
  pointwise
theorem gains4_at (g : Vec Ideal S4x1024 .f32) (e : Fin 1024) :
    shapeCast S1x1024 (shapeCast S1024 (extractStridedSlice S1x1024 ![0, 0] g slices_S4x1024_S1x1024_0_0) shapeCasts_S1x1024_S1024) shapeCasts_S1024_S1x1024 (ix2 0 e)
      = g (ix2 0 e) := by
  pointwise

/-! ## The result arrays -/

/-- The normalised row at batch `b`, position `p`. -/
def xn (x : S2x8192x1024.Idx → EReal) (g : S2x1024.Idx → EReal) (b : Fin 2) (p : Fin 8192) : Fin 1024 → EReal :=
  normed (fun j => x (ix3 b p j)) (fun j => g (ix2 0 j))
/-- The layer at batch `b`, position `p`: the pooling step, and the MLP of that row. -/
def layer (x : S2x8192x1024.Idx → EReal) (g : S2x1024.Idx → EReal) (wp : S2x4x256x256.Idx → EReal) (s : S2x1024.Idx → EReal) (gm : S4x1024.Idx → EReal)
    (wu : S4x1024x4096.Idx → EReal) (wd : S4x4096x1024.Idx → EReal) (b : Fin 2) (p : Fin 8192) (e : Fin 1024) : EReal :=
  mlpRow (mixed (fun j => x (ix3 b p j)) (xn x g b) (fun k i d => wp (ix4 0 k i d)) (fun j => s (ix2 0 j)) p)
    (fun j => gm (ix2 0 j)) (fun d f => wu (ix3 0 d f)) (fun f j => wd (ix3 0 f j)) e
/-- The same as contents of the first result. -/
def result (x : S2x8192x1024.Idx → EReal) (g : S2x1024.Idx → EReal) (wp : S2x4x256x256.Idx → EReal) (s : S2x1024.Idx → EReal) (gm : S4x1024.Idx → EReal)
    (wu : S4x1024x4096.Idx → EReal) (wd : S4x4096x1024.Idx → EReal) : S2x8192x1024.Idx → EReal := fun i => layer x g wp s gm wu wd (i 0) (i 1) (i 2)
/-- The second result: each batch's last sixteen normalised rows. -/
def last (x : S2x8192x1024.Idx → EReal) (g : S2x1024.Idx → EReal) : S2x16x1024.Idx → EReal :=
  fun i => xn x g (i 0) ⟨8176 + (i 1).val, by have := (i 1).isLt; have h : S2x16x1024.size 1 = 16 := rfl; omega⟩ (i 2)

theorem final_8_of (c : Dev nD) (G : Buf (Elt Ideal) ((c : Thread nD τ).loc main_v12_0))
    (h : ∀ (t : Fin cfg0.N) (r : Fin 512) (e : Fin 1024), out0_8 (grid0.coords t) (iblk m c 0 t) (iblk m c 1 t) (iblk m c 2 t) (iblk m c 3 t) (iblk m c 4 t)
      (iblk m c 5 t) (iblk m c 6 t) (iblk m c 7 t) (ix3 0 r e) = G (ix3 (pb t) (pos t r) e)) :
    (dats m 0 c).arrAt 8 cfg0.N = G := by
  refine (dats m 0 c).arrAt_eq_of_covers 8 _ (by decide +kernel) fun t hf y => ?_
  blk_simp
  rw [after0_8]
  obtain ⟨r, e, rfl⟩ : ∃ (r : Fin 512) (e : Fin 1024), y = ix3 0 r e := ⟨y 1, y 2, by rw [eq_ix3 y]; exact congrArg (ix3 · _ _) (Subsingleton.elim _ _)⟩
  refine (h t r e).trans (congrArg G ?_)
  blk_ext [index_8 t]
  all_goals simp only [pos]
  all_goals omega
theorem final_9_of (c : Dev nD) (G : Buf (Elt Ideal) ((c : Thread nD τ).loc main_v12_1))
    (h : ∀ (t : Fin cfg0.N) (ht : t.val % 16 = 15) (r : Fin 16) (e : Fin 1024), out0_9 (grid0.coords t) (iblk m c 0 t) (iblk m c 1 t) (iblk m c 2 t) (iblk m c 3 t) (iblk m c 4 t)
      (iblk m c 5 t) (iblk m c 6 t) (iblk m c 7 t) (ix3 0 r e) = G (ix3 (pb t) r e)) :
    (dats m 0 c).arrAt 9 cfg0.N = G := by
  refine (dats m 0 c).arrAt_eq_of_covers 9 _ (by decide +kernel) fun t hf y => ?_
  have ht := flush_9 t hf
  blk_simp
  rw [after0_9]
  obtain ⟨r, e, rfl⟩ : ∃ (r : Fin 16) (e : Fin 1024), y = ix3 0 r e := ⟨y 1, y 2, by rw [eq_ix3 y]; exact congrArg (ix3 · _ _) (Subsingleton.elim _ _)⟩
  refine (h t ht r e).trans (congrArg G ?_)
  blk_ext [index_9 t]

/-! ## What each point leaves -/

section Point

variable (c : Dev nD) (t : Fin cfg0.N)

theorem own_row (r : Fin 512) (e : Fin 1024) : iblk m c 0 t (ix3 0 r e) = (m ((c : Thread nD τ).loc main_arg0) : S2x8192x1024.Idx → EReal) (ix3 (pb t) (pos t r) e) := by
  rw [blk_0, V_main_arg0]
theorem gain (e : Fin 1024) : iblk m c 2 t (ix2 0 e) = (m ((c : Thread nD τ).loc main_arg1) : S2x1024.Idx → EReal) (ix2 0 e) := by
  rw [blk_2, V_2]; exact gains2_at _ e

/-- The buffer holds the batch's normalised rows after sixteen zeros, from `512` times the block's number on. -/
theorem buf_stream (r : Fin 528) (e : Fin 1024) :
    buf (top (BitVec.ofNat 32 (t.val % 16)) (iblk m c 1 t) (iblk m c 2 t)) (k0_pay4 (iblk m c 0 t) (iblk m c 2 t)) (ix2 r e)
      = stream (fun q => xn (m ((c : Thread nD τ).loc main_arg0)) (m ((c : Thread nD τ).loc main_arg1)) (pb t) q e) (512 * (t.val % 16) + r.val) := by
  rw [buf_at]
  split
  · rename_i h
    by_cases h0 : t.val % 16 = 0
    · rw [h0, top_first, stream_zero _ _ (by omega)]
    · rw [top_later _ (by omega) (by omega), stream_at _ _ ⟨512 * (t.val % 16) + r.val - 16, by omega⟩ (by show 512 * (t.val % 16) + r.val = 512 * (t.val % 16) + r.val - 16 + 16; omega)]
      rw [xn]
      exact congrArg₂ (fun a b => normed a b e) (funext fun j => by rw [blk_1 m c t (by omega), V_main_arg0]) (funext fun j => gain m c t j)
  · rename_i h
    rw [pay4_at, stream_at _ _ (pos t ⟨r.val - 16, by omega⟩) (by show 512 * (t.val % 16) + r.val = 512 * (t.val % 16) + (r.val - 16) + 16; omega), xn]
    exact congrArg₂ (fun a b => normed a b e) (funext fun j => own_row m c t _ j) (funext fun j => gain m c t j)

theorem block_8 (r : Fin 512) (e : Fin 1024) :
    out0_8 (grid0.coords t) (iblk m c 0 t) (iblk m c 1 t) (iblk m c 2 t) (iblk m c 3 t) (iblk m c 4 t) (iblk m c 5 t) (iblk m c 6 t) (iblk m c 7 t) (ix3 0 r e)
      = layer (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (pb t) (pos t r) e := by
  have e3 : ∀ k i d, iblk m c 3 t (ix4 0 k i d) = (m ((c : Thread nD τ).loc main_arg2) : S2x4x256x256.Idx → EReal) (ix4 0 k i d) := fun k i d => by
    rw [blk_3, V_3]; rfl
  have e4 : ∀ j, iblk m c 4 t (ix2 0 j) = (m ((c : Thread nD τ).loc main_arg3) : S2x1024.Idx → EReal) (ix2 0 j) := fun j => by
    rw [blk_4, V_4]; exact gains2_at _ j
  have e5 : ∀ j, iblk m c 5 t (ix2 0 j) = (m ((c : Thread nD τ).loc main_arg4) : S4x1024.Idx → EReal) (ix2 0 j) := fun j => by
    rw [blk_5, V_5]; exact gains4_at _ j
  have e6 : ∀ d f, iblk m c 6 t (ix3 0 d f) = (m ((c : Thread nD τ).loc main_arg5) : S4x1024x4096.Idx → EReal) (ix3 0 d f) := fun d f => by
    rw [blk_6, V_6]; rfl
  have e7 : ∀ f j, iblk m c 7 t (ix3 0 f j) = (m ((c : Thread nD τ).loc main_arg6) : S4x4096x1024.Idx → EReal) (ix3 0 f j) := fun f j => by
    rw [blk_7, V_7]; rfl
  refine (out8_at _ (t.val % 16) (coords_1 t) _ _ _ _ _ _ _ _ _ (buf_stream m c t) _ e3 r (pos t r) rfl e).trans ?_
  refine mlpRow_congr (fun j => ?_) e5 e6 e7 e
  exact congrArg₂ (fun a s => mixed a (xn (m ((c : Thread nD τ).loc main_arg0)) (m ((c : Thread nD τ).loc main_arg1)) (pb t))
    (fun k i d => (m ((c : Thread nD τ).loc main_arg2) : S2x4x256x256.Idx → EReal) (ix4 0 k i d)) s (pos t r) j) (funext fun j => own_row m c t r j) (funext e4)

theorem block_9 (ht : t.val % 16 = 15) (r : Fin 16) (e : Fin 1024) :
    out0_9 (grid0.coords t) (iblk m c 0 t) (iblk m c 1 t) (iblk m c 2 t) (iblk m c 3 t) (iblk m c 4 t) (iblk m c 5 t) (iblk m c 6 t) (iblk m c 7 t) (ix3 0 r e)
      = last (m ((c : Thread nD τ).loc main_arg0)) (m ((c : Thread nD τ).loc main_arg1)) (ix3 (pb t) r e) :=
  out9_at _ (t.val % 16) _ _ _ _ _ _ _ _ _ (buf_stream m c t) r ⟨8176 + r.val, by omega⟩ (by show 8176 + r.val = 512 * (t.val % 16) + (496 + r.val); omega) e

end Point

theorem final_8 (c : Dev nD) : (dats m 0 c).arrAt 8 cfg0.N = result (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) := final_8_of m c _ fun t r e => block_8 m c t r e
theorem final_9 (c : Dev nD) : (dats m 0 c).arrAt 9 cfg0.N = last (m ((c : Thread nD τ).loc main_arg0)) (m ((c : Thread nD τ).loc main_arg1)) :=
  final_9_of m c _ fun t ht r e => block_9 m c t ht r e

end Cert.PoolMlpIdeal.Hand

end
-- ==== Proof.PoolRef.lean ====
/-
  The reference of the pooling call, read at an index: the trailing sums as chains of shifted slices, each quarter of the columns through
  its matrix, and the MLP of every row.
-/
module

public import proofs.«01_k».proof.Proof.Trail
public import proofs.«01_k».proof.Proof.Gen.PoolMlpReferenceIdeal.Run
public import Idealize.ShloMosaic.Lib.Pointwise

@[expose] public section

set_option maxRecDepth 16384

noncomputable section

namespace Cert.PoolMlpReferenceIdeal.Hand

open Cert.PoolMlpReferenceIdeal Cert.PoolMlpReferenceIdeal.Gen Cert.PoolMlpReferenceIdeal.Value Cert.Rows Cert.Trail
open Idealize.ShloMosaic Idealize.ShloMosaic.TcCoe Idealize.ShloMosaic.StableHlo

/-! ## The reference in stages -/

/-- Rows times one over their root mean square, times gains. -/
def scaled (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf
      (broadcastInDim S2x8192x1 ![0, 1] bcast_S2x8192_S2x8192x1_0_1 (Host.reduceAdd (mulf x x) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))
/-- The first of two rows of gains. -/
def first2 (g : FVec Ideal S2x1024 .f32) : FVec Ideal S1024 .f32 := shapeCast S1024 (extractStridedSlice S1x1024 ![0, 0] g slices_S2x1024_S1x1024_0_0) shapeCasts_S1x1024_S1024
/-- The first of four. -/
def first4 (g : FVec Ideal S4x1024 .f32) : FVec Ideal S1024 .f32 := shapeCast S1024 (extractStridedSlice S1x1024 ![0, 0] g slices_S4x1024_S1x1024_0_0) shapeCasts_S1x1024_S1024
/-- The rows after fifteen zeros. -/
def ext (y : FVec Ideal S2x8192x1024 .f32) : FVec Ideal S2x8207x1024 .f32 :=
  concatenate S2x8207x1024 1 [⟨S2x15x1024, (broadcastInDim S2x15x1024 ![] bcast_S_S2x15x1024 (constant S_ .f32 0x00000000#32))⟩, ⟨S2x8192x1024, y⟩] concatenates_S2x15x1024_S2x8192x1024_S2x8207x1024_d1

/-- A shifted slice of the columns from `o` on lies inside. -/
theorem slices_of (o : Nat) (ho : o + 256 ≤ 1024) (n : ℕ) : S2x8207x1024.Slices ![0, 14 - n, o] S2x8192x256 := by
  refine ⟨rfl, fun a => ?_⟩
  fin_cases a
  · show 0 + 2 ≤ 2; omega
  · show 14 - n + 8192 ≤ 8207; omega
  · show o + 256 ≤ 1024; omega

/-- The rows and `n` shifted slices, added one after another. -/
def total (o : Nat) (ho : o + 256 ≤ 1024) (hs : S2x8192x1024.Slices ![0, 0, o] S2x8192x256) (y : FVec Ideal S2x8192x1024 .f32) : ℕ → FVec Ideal S2x8192x256 .f32
  | 0 => extractStridedSlice S2x8192x256 ![0, 0, o] y hs
  | n + 1 => addf (total o ho hs y n) (extractStridedSlice S2x8192x256 ![0, 14 - n, o] (ext y) (slices_of o ho n))

/-- One quarter: the sums over their counts, less the rows, through its matrix. -/
def group (o : Nat) (ho : o + 256 ≤ 1024) (hs : S2x8192x1024.Slices ![0, 0, o] S2x8192x256) (w : BitVec 32) (n : ℕ) (y : FVec Ideal S2x8192x1024 .f32)
    (m : FVec Ideal S256x256 .f32) : FVec Ideal S2x8192x256 .f32 :=
  Host.dotGeneral dot_S2x8192x256_S256x256_S2x8192x256_2_0_01_1_n_n none
    (subf (Host.divf (total o ho hs y n)
      (broadcastInDim S2x8192x256 ![0, 1, 2] bcast_S1x8192x1_S2x8192x256_0_1_2 (broadcastInDim S1x8192x1 ![1] bcast_S8192_S1x8192x1_1
        (sitofp .f32 (minsi (addi (iotaInDim S8192 32 0) (broadcastInDim S8192 ![] bcast_S_S8192 (constantI S_ 32 1#32))) (broadcastInDim S8192 ![] bcast_S_S8192 (constantI S_ 32 w)))))))
      (extractStridedSlice S2x8192x256 ![0, 0, o] y hs)) m
/-- The matrix of a quarter. -/
def mat (k : Nat) (hk : S2x4x256x256.Slices ![0, k, 0, 0] S1x1x256x256) (wp : FVec Ideal S2x4x256x256 .f32) : FVec Ideal S256x256 .f32 :=
  shapeCast S256x256 (extractStridedSlice S1x1x256x256 ![0, k, 0, 0] wp hk) shapeCasts_S1x1x256x256_S256x256
/-- The four quarters side by side. -/
def groups (y : FVec Ideal S2x8192x1024 .f32) (wp : FVec Ideal S2x4x256x256 .f32) : FVec Ideal S2x8192x1024 .f32 :=
  concatenate S2x8192x1024 2 [
    ⟨S2x8192x256, group 0 (by decide) slices_S2x8192x1024_S2x8192x256_0_0_0 2#32 1 y (mat 0 slices_S2x4x256x256_S1x1x256x256_0_0_0_0 wp)⟩,
    ⟨S2x8192x256, group 256 (by decide) slices_S2x8192x1024_S2x8192x256_0_0_256 4#32 3 y (mat 1 slices_S2x4x256x256_S1x1x256x256_0_1_0_0 wp)⟩,
    ⟨S2x8192x256, group 512 (by decide) slices_S2x8192x1024_S2x8192x256_0_0_512 8#32 7 y (mat 2 slices_S2x4x256x256_S1x1x256x256_0_2_0_0 wp)⟩,
    ⟨S2x8192x256, group 768 (by decide) slices_S2x8192x1024_S2x8192x256_0_0_768 16#32 15 y (mat 3 slices_S2x4x256x256_S1x1x256x256_0_3_0_0 wp)⟩]
    concatenates_S2x8192x256_S2x8192x256_S2x8192x256_S2x8192x256_S2x8192x1024_d2
/-- The pooling step: the quarters, scaled, added to the rows. -/
def pool (x q : FVec Ideal S2x8192x1024 .f32) (s : FVec Ideal S1024 .f32) : FVec Ideal S2x8192x1024 .f32 :=
  addf x (mulf q (broadcastInDim S2x8192x1024 ![0, 1, 2] bcast_S1x1x1024_S2x8192x1024_0_1_2 (broadcastInDim S1x1x1024 ![2] bcast_S1024_S1x1x1024_2 s)))
/-- The inner units before their square. -/
def units (y : FVec Ideal S2x8192x1024 .f32) (w : FVec Ideal S4x1024x4096 .f32) : FVec Ideal S2x8192x4096 .f32 :=
  maximumf (Host.dotGeneral dot_S2x8192x1024_S1024x4096_S2x8192x4096_2_0_01_1_n_n none y
    (shapeCast S1024x4096 (extractStridedSlice S1x1024x4096 ![0, 0, 0] w slices_S4x1024x4096_S1x1024x4096_0_0_0) shapeCasts_S1x1024x4096_S1024x4096))
    (broadcastInDim S2x8192x4096 ![] bcast_S_S2x8192x4096 (constant S_ .f32 0x00000000#32))
/-- The MLP's result, added. -/
def down (x : FVec Ideal S2x8192x1024 .f32) (u : FVec Ideal S2x8192x4096 .f32) (w : FVec Ideal S4x4096x1024 .f32) : FVec Ideal S2x8192x1024 .f32 :=
  addf x (Host.dotGeneral dot_S2x8192x4096_S4096x1024_S2x8192x1024_2_0_01_1_n_n none (mulf u u)
    (shapeCast S4096x1024 (extractStridedSlice S1x4096x1024 ![0, 0, 0] w slices_S4x4096x1024_S1x4096x1024_0_0_0) shapeCasts_S1x4096x1024_S4096x1024))

section Stages

variable (V0 : Valuation τ sig (Elt Ideal))

theorem v14_eq : res_main_v14 V0 = scaled (V0 (Proc.devRef .tc main_arg0)) (first2 (V0 (Proc.devRef .tc main_arg1))) := rfl
theorem v126_eq : res_main_v126 V0 = groups (res_main_v14 V0) (V0 (Proc.devRef .tc main_arg2)) := rfl
theorem v132_eq : res_main_v132 V0 = pool (V0 (Proc.devRef .tc main_arg0)) (res_main_v126 V0) (first2 (V0 (Proc.devRef .tc main_arg3))) := rfl
theorem v153_eq : res_main_v153 V0 = units (scaled (res_main_v132 V0) (first4 (V0 (Proc.devRef .tc main_arg4)))) (V0 (Proc.devRef .tc main_arg5)) := rfl

end Stages

/-! ## The stages at an index -/

theorem first2_at (g : FVec Ideal S2x1024 .f32) (e : Fin 1024) : first2 g (ix1 e) = g (ix2 0 e) := by
  pointwise [first2]
theorem first4_at (g : FVec Ideal S4x1024 .f32) (e : Fin 1024) : first4 g (ix1 e) = g (ix2 0 e) := by
  pointwise [first4]
theorem scaled_at (x : FVec Ideal S2x8192x1024 .f32) (g : FVec Ideal S1024 .f32) (b : Fin 2) (p : Fin 8192) (e : Fin 1024) :
    scaled x g (ix3 b p e) = normed (fun j => x (ix3 b p j)) (fun j => g (ix1 j)) e := by
  pointwise [scaled]
  rfl
theorem ext_at (y : FVec Ideal S2x8192x1024 .f32) (b : Fin 2) (q : Fin 8207) (e : Fin 1024) :
    ext y (ix3 b q e) = stream (fun p => y (ix3 b p e)) (q.val + 1) := by
  have h : ext y (ix3 b q e) = if h : q.val < 15 then 0 else y (ix3 b ⟨q.val - 15, by omega⟩ e) := by
    pointwise [ext]
  rw [h]
  split
  · rw [stream_zero _ _ (by omega)]
  · rw [stream_at _ _ ⟨q.val - 15, by omega⟩ (by show q.val + 1 = q.val - 15 + 16; omega)]
theorem total_at (o : Nat) (ho : o + 256 ≤ 1024) (hs : S2x8192x1024.Slices ![0, 0, o] S2x8192x256) (y : FVec Ideal S2x8192x1024 .f32) (n : ℕ) (hn : n ≤ 15)
    (b : Fin 2) (p : Fin 8192) (d : Fin 256) :
    total o ho hs y n (ix3 b p d) = trail (stream fun q => y (ix3 b q ⟨o + d.val, by omega⟩)) (n + 1) (p.val + 16) := by
  induction n with
  | zero =>
    have h : total o ho hs y 0 (ix3 b p d) = y (ix3 b p ⟨o + d.val, by omega⟩) := by pointwise [total]
    rw [h, trail_one, stream_at _ _ p rfl]
  | succ n ih =>
    have h : total o ho hs y (n + 1) (ix3 b p d) = total o ho hs y n (ix3 b p d) + ext y (ix3 b ⟨14 - n + p.val, by omega⟩ ⟨o + d.val, by omega⟩) := by
      have h' : total o ho hs y (n + 1) = addf (total o ho hs y n) (extractStridedSlice S2x8192x256 ![0, 14 - n, o] (ext y) (slices_of o ho n)) := rfl
      rw [h']
      pointwise
    rw [h, ih (by omega), trail_succ _ (n + 1), ext_at]
    congr 2
    show 14 - n + p.val + 1 = p.val + 16 - (n + 1)
    omega
theorem mat_at (k : Fin 4) (hk : S2x4x256x256.Slices ![0, k.val, 0, 0] S1x1x256x256) (wp : FVec Ideal S2x4x256x256 .f32) (i d : Fin 256) :
    mat k.val hk wp (ix2 i d) = wp (ix4 0 k i d) := by
  pointwise [mat]
theorem group_at (o : Nat) (ho : o + 256 ≤ 1024) (hs : S2x8192x1024.Slices ![0, 0, o] S2x8192x256) (w : BitVec 32) (n : ℕ) (y : FVec Ideal S2x8192x1024 .f32)
    (m : FVec Ideal S256x256 .f32) (b : Fin 2) (p : Fin 8192) (d : Fin 256) : group o ho hs w n y m (ix3 b p d)
      = ∑ i : Fin 256, (Ideal.div (total o ho hs y n (ix3 b p i)) (count w p.val) - (show EReal from y (ix3 b p ⟨o + i.val, by omega⟩))) * m (ix2 i d) := by
  unfold Trail.count
  pointwise [group]
  rfl
/-- One quarter of the pooled rows through its matrix. -/
theorem group_mix (k : Fin 4) (o : Nat) (ho : o + 256 ≤ 1024) (hs : S2x8192x1024.Slices ![0, 0, o] S2x8192x256) (w : BitVec 32) (n : ℕ) (hk : o = 256 * k.val)
    (hn : n + 1 = win k) (hn' : n ≤ 15) (hw : w = BitVec.ofNat 32 (win k)) (y : FVec Ideal S2x8192x1024 .f32) (m : FVec Ideal S256x256 .f32)
    (wp : Fin 4 → Fin 256 → Fin 256 → EReal) (hm : ∀ i d, m (ix2 i d) = wp k i d) (b : Fin 2) (p : Fin 8192) (d : Fin 256) :
    group o ho hs w n y m (ix3 b p d) = ∑ i, pooled (fun q e => y (ix3 b q e)) k p i * wp k i d := by
  subst hk hw
  rw [group_at]
  refine Finset.sum_congr rfl fun i _ => Ideal.mul_congr ?_ (hm i d)
  rw [total_at _ _ _ _ _ hn', hn]
  rfl
theorem groups_at (y : FVec Ideal S2x8192x1024 .f32) (wp : FVec Ideal S2x4x256x256 .f32) (b : Fin 2) (p : Fin 8192) (k : Fin 4) (d : Fin 256) :
    groups y wp (ix3 b p (col k d)) = ∑ i, pooled (fun q e => y (ix3 b q e)) k p i * wp (ix4 0 k i d) := by
  have h : ∀ v0 v1 v2 v3 : FVec Ideal S2x8192x256 .f32, concatenate S2x8192x1024 2 [⟨S2x8192x256, v0⟩, ⟨S2x8192x256, v1⟩, ⟨S2x8192x256, v2⟩, ⟨S2x8192x256, v3⟩]
      concatenates_S2x8192x256_S2x8192x256_S2x8192x256_S2x8192x256_S2x8192x1024_d2 (ix3 b p (col k d))
      = ![fun i => v0 (ix3 b p i), fun i => v1 (ix3 b p i), fun i => v2 (ix3 b p i), fun i => v3 (ix3 b p i)] k d := fun v0 v1 v2 v3 => by
    rw [← pick]
    pointwise
  refine (h _ _ _ _).trans ?_
  fin_cases k
  · exact group_mix 0 _ _ _ _ 1 rfl rfl (by decide) rfl y _ (fun k i d => wp (ix4 0 k i d)) (fun i d => mat_at 0 _ wp i d) b p d
  · exact group_mix 1 _ _ _ _ 3 rfl rfl (by decide) rfl y _ (fun k i d => wp (ix4 0 k i d)) (fun i d => mat_at 1 _ wp i d) b p d
  · exact group_mix 2 _ _ _ _ 7 rfl rfl (by decide) rfl y _ (fun k i d => wp (ix4 0 k i d)) (fun i d => mat_at 2 _ wp i d) b p d
  · exact group_mix 3 _ _ _ _ 15 rfl rfl (by decide) rfl y _ (fun k i d => wp (ix4 0 k i d)) (fun i d => mat_at 3 _ wp i d) b p d
theorem pool_at (x y : FVec Ideal S2x8192x1024 .f32) (s : FVec Ideal S1024 .f32) (wp : FVec Ideal S2x4x256x256 .f32) (b : Fin 2) (p : Fin 8192) (e : Fin 1024) :
    pool x (groups y wp) s (ix3 b p e) = mixed (fun j => x (ix3 b p j)) (fun q e => y (ix3 b q e)) (fun k i d => wp (ix4 0 k i d)) (fun j => s (ix1 j)) p e := by
  have h : ∀ q : FVec Ideal S2x8192x1024 .f32, pool x q s (ix3 b p e) = (show EReal from x (ix3 b p e)) + q (ix3 b p e) * s (ix1 e) := fun q => by pointwise [pool]
  obtain ⟨k, d, rfl⟩ : ∃ (k : Fin 4) (d : Fin 256), e = col k d := ⟨quarter e, place e, (col_eq e).symm⟩
  rw [h, groups_at, mixed, quarter_col, place_col]
  rfl
theorem units_at (y : FVec Ideal S2x8192x1024 .f32) (w : FVec Ideal S4x1024x4096 .f32) (b : Fin 2) (p : Fin 8192) (f : Fin 4096) :
    units y w (ix3 b p f) = max (∑ d, (show EReal from y (ix3 b p d)) * w (ix3 0 d f)) 0 := by
  pointwise [units]
theorem down_at (x : FVec Ideal S2x8192x1024 .f32) (u : FVec Ideal S2x8192x4096 .f32) (w : FVec Ideal S4x4096x1024 .f32) (b : Fin 2) (p : Fin 8192) (e : Fin 1024) :
    down x u w (ix3 b p e) = x (ix3 b p e) + ∑ f, (show EReal from u (ix3 b p f)) * u (ix3 b p f) * w (ix3 0 f e) := by
  pointwise [down]

/-- The MLP, at a row. -/
theorem row_at (x : FVec Ideal S2x8192x1024 .f32) (g : FVec Ideal S4x1024 .f32) (wu : FVec Ideal S4x1024x4096 .f32) (wd : FVec Ideal S4x4096x1024 .f32)
    (b : Fin 2) (p : Fin 8192) (e : Fin 1024) : down x (units (scaled x (first4 g)) wu) wd (ix3 b p e)
      = mlpRow (fun j => x (ix3 b p j)) (fun j => g (ix2 0 j)) (fun d f => wu (ix3 0 d f)) (fun f j => wd (ix3 0 f j)) e := by
  have hg : (fun j => first4 g (ix1 j)) = fun j => g (ix2 0 j) := funext fun j => first4_at g j
  have hu : ∀ f, units (scaled x (first4 g)) wu (ix3 b p f) = max (∑ d, normed (fun j => x (ix3 b p j)) (fun j => g (ix2 0 j)) d * wu (ix3 0 d f)) 0 := fun f => by
    rw [units_at, ← hg]; exact congrArg (max · 0) (Finset.sum_congr rfl fun d _ => Ideal.mul_congr (scaled_at x _ b p d) rfl)
  rw [down_at]
  refine congrArg (x (ix3 b p e) + ·) (Finset.sum_congr rfl fun f _ => ?_)
  exact Ideal.mul_congr (Ideal.mul_congr (hu f) (hu f)) rfl

/-- The normalised rows. -/
theorem xn_at (x : FVec Ideal S2x8192x1024 .f32) (g : FVec Ideal S2x1024 .f32) (b : Fin 2) (p : Fin 8192) (e : Fin 1024) :
    scaled x (first2 g) (ix3 b p e) = normed (fun j => x (ix3 b p j)) (fun j => g (ix2 0 j)) e := by
  rw [scaled_at, funext fun j => first2_at g j]

/-- The whole of it, at a row. -/
theorem layer_at (x : FVec Ideal S2x8192x1024 .f32) (g : FVec Ideal S2x1024 .f32) (wp : FVec Ideal S2x4x256x256 .f32) (s : FVec Ideal S2x1024 .f32)
    (gm : FVec Ideal S4x1024 .f32) (wu : FVec Ideal S4x1024x4096 .f32) (wd : FVec Ideal S4x4096x1024 .f32) (b : Fin 2) (p : Fin 8192) (e : Fin 1024) :
    (let h := pool x (groups (scaled x (first2 g)) wp) (first2 s)
     down h (units (scaled h (first4 gm)) wu) wd) (ix3 b p e)
      = mlpRow (mixed (fun j => x (ix3 b p j)) (fun q => normed (fun j => x (ix3 b q j)) (fun j => g (ix2 0 j))) (fun k i d => wp (ix4 0 k i d)) (fun j => s (ix2 0 j)) p)
          (fun j => gm (ix2 0 j)) (fun d f => wu (ix3 0 d f)) (fun f j => wd (ix3 0 f j)) e := by
  refine (row_at _ gm wu wd b p e).trans (mlpRow_congr (fun j => ?_) (fun _ => rfl) (fun _ _ => rfl) (fun _ _ => rfl) e)
  rw [pool_at, funext fun j => first2_at s j, funext fun q => funext fun e => xn_at x g b q e]

/-- Each batch's last rows. -/
theorem last_at (y : FVec Ideal S2x8192x1024 .f32) (b : Fin 2) (r : Fin 16) (e : Fin 1024) :
    (extractStridedSlice S2x16x1024 ![0, 8176, 0] y slices_S2x8192x1024_S2x16x1024_0_8176_0 : FVec Ideal S2x16x1024 .f32) (ix3 b r e) = y (ix3 b ⟨8176 + r.val, by omega⟩ e) := by
  pointwise

end Cert.PoolMlpReferenceIdeal.Hand

end
-- ==== Proof.PoolValue.lean ====
/-
  The pooling call's two results are its reference's: row by row the pooling step and the MLP of that row, and each batch's last normalised
  rows.
-/
module

public import proofs.«01_k».proof.Defs
public import proofs.«01_k».proof.Proof.PoolBlocks
public import proofs.«01_k».proof.Proof.PoolRef
public import proofs.«01_k».proof.Proof.Gen.PoolMlp.Frame
public import proofs.«01_k».proof.Proof.Gen.PoolMlpIdeal.Value

@[expose] public section

set_option maxRecDepth 16384

noncomputable section

namespace Cert.Hand

open Idealize.ShloMosaic Idealize.SL.Sem Cert.Rows Cert.Trail

theorem frame_pool : Cert.quiescent_PoolMlp := fun m ρ _ => Cert.PoolMlp.Gen.frame m ρ
theorem frame_poolIdeal : Cert.quiescent_PoolMlpIdeal := fun m ρ _ => Cert.PoolMlpIdeal.Gen.frame m ρ
theorem frame_poolReferenceIdeal : Cert.quiescent_PoolMlpReferenceIdeal := fun m g _ =>
  (θ_run Cert.PoolMlpReferenceIdeal.defs _ _).mono (fun r h => ⟨fun c => (h c).2.2, Idealize.ShloMosaic.sem_eq_zero_of_no_sems (by decide) r.2⟩)
    (Cert.PoolMlpReferenceIdeal.Value.run (F := Ideal) m g)

theorem algebraic_pool : Cert.algebraic_PoolMlpIdeal_PoolMlpReferenceIdeal := fun m g m' g' hp hag => by
  refine ⟨fun c => Cert.PoolMlpIdeal.Hand.result (m (c.tc.loc Cert.PoolMlpIdeal.main_arg0)) (m (c.tc.loc Cert.PoolMlpIdeal.main_arg1))
      (m (c.tc.loc Cert.PoolMlpIdeal.main_arg2)) (m (c.tc.loc Cert.PoolMlpIdeal.main_arg3)) (m (c.tc.loc Cert.PoolMlpIdeal.main_arg4))
      (m (c.tc.loc Cert.PoolMlpIdeal.main_arg5)) (m (c.tc.loc Cert.PoolMlpIdeal.main_arg6)),
    fun c => Cert.PoolMlpIdeal.Hand.last (m (c.tc.loc Cert.PoolMlpIdeal.main_arg0)) (m (c.tc.loc Cert.PoolMlpIdeal.main_arg1)), ?_, ?_⟩
  · exact (θ_run Cert.PoolMlpIdeal.defs _ _).mono
      (fun r h c => ⟨(h c).1.trans (Cert.PoolMlpIdeal.Hand.final_8 m c), (h c).2.1.trans (Cert.PoolMlpIdeal.Hand.final_9 m c), (h c).2.2⟩)
      (Cert.PoolMlpIdeal.Value.run_blocks m g)
  · refine (θ_run Cert.PoolMlpReferenceIdeal.defs _ _).mono (fun r h c => ⟨(h c).1.trans ?_, (h c).2.1.trans ?_, (h c).2.2⟩)
      (Cert.PoolMlpReferenceIdeal.Value.run (F := Ideal) m' g')
    · obtain ⟨e0, e1, e2, e3, e4, e5, e6⟩ := hag c
      funext i
      obtain ⟨b, p, e, rfl⟩ : ∃ (b : Fin 2) (p : Fin 8192) (e : Fin 1024), i = ix3 b p e := ⟨i 0, i 1, i 2, eq_ix3 i⟩
      beta_reduce
      rw [← e0, ← e1, ← e2, ← e3, ← e4, ← e5, ← e6, Cert.PoolMlpReferenceIdeal.Hand.v153_eq, Cert.PoolMlpReferenceIdeal.Hand.v132_eq,
        Cert.PoolMlpReferenceIdeal.Hand.v126_eq, Cert.PoolMlpReferenceIdeal.Hand.v14_eq]
      exact Cert.PoolMlpReferenceIdeal.Hand.layer_at _ _ _ _ _ _ _ b p e
    · obtain ⟨e0, e1, -⟩ := hag c
      funext i
      obtain ⟨b, r, e, rfl⟩ : ∃ (b : Fin 2) (r : Fin 16) (e : Fin 1024), i = ix3 b r e := ⟨i 0, i 1, i 2, eq_ix3 i⟩
      beta_reduce
      rw [← e0, ← e1, Cert.PoolMlpReferenceIdeal.Hand.v14_eq]
      exact (Cert.PoolMlpReferenceIdeal.Hand.last_at _ b r e).trans (Cert.PoolMlpReferenceIdeal.Hand.xn_at _ _ b _ e)

end Cert.Hand

end
-- ==== Proof.KvRows.lean ====
/-
  The shared keys, values and gates of one row of the residual, among the extended reals: what the kernel's call and its reference
  are both shown to compute.
-/
module

public import proofs.«01_k».proof.Proof.Rows

@[expose] public section

noncomputable section

namespace Cert.Rows

open Idealize.ShloMosaic

/-- A head's 64 entries over the root of their mean square, times the gains. -/
def headed (y g : Fin 64 → EReal) (e : Fin 64) : EReal :=
  y e * Ideal.rsqrt (Ideal.div (∑ x, y x * y x) (Ideal.ofBits .f32 0x42800000#32) + Ideal.ofBits .f32 0x358637BD#32) * g e
/-- The normalised row through a matrix, at column `d`. -/
def proj {n : Nat} (x g : Fin 1024 → EReal) (w : Fin 1024 → Fin n → EReal) (d : Fin n) : EReal := ∑ j, normed x g j * w j d
/-- The column of the head of `d` at the head's entry `e`. -/
def sib (d : Fin 1024) (e : Fin 64) : Fin 1024 := ⟨d.val / 64 * 64 + e.val, by omega⟩
theorem sib_self (d : Fin 1024) : sib d ⟨d.val % 64, Nat.mod_lt _ (by decide)⟩ = d :=
  Fin.ext (by show d.val / 64 * 64 + d.val % 64 = d.val; omega)
/-- The key's entry `d`: the projection's head, normalised. -/
def keyRow (x g : Fin 1024 → EReal) (w : Fin 1024 → Fin 1024 → EReal) (gk : Fin 64 → EReal) (d : Fin 1024) : EReal :=
  headed (fun e => proj x g w (sib d e)) gk ⟨d.val % 64, Nat.mod_lt _ (by decide)⟩
/-- The logarithm of the logistic function, as both sides compute it. -/
def gate (z : EReal) : EReal := -(max (-z) 0 + Ideal.log1p (Ideal.exp (-max z (-z))))

theorem proj_congr {n : Nat} {x x' g g' : Fin 1024 → EReal} {w w' : Fin 1024 → Fin n → EReal} (hx : ∀ j, x j = x' j) (hg : ∀ j, g j = g' j)
    (hw : ∀ j d, w j d = w' j d) (d : Fin n) : proj x g w d = proj x' g' w' d := by
  rw [funext hx, funext hg, funext fun j => funext (hw j)]
theorem keyRow_congr {x x' g g' : Fin 1024 → EReal} {w w' : Fin 1024 → Fin 1024 → EReal} {k k' : Fin 64 → EReal} (hx : ∀ j, x j = x' j) (hg : ∀ j, g j = g' j)
    (hw : ∀ j d, w j d = w' j d) (hk : ∀ e, k e = k' e) (d : Fin 1024) : keyRow x g w k d = keyRow x' g' w' k' d := by
  rw [funext hx, funext hg, funext fun j => funext (hw j), funext hk]

end Cert.Rows

end
-- ==== Proof.KvOuts.lean ====
/-
  What a point of the shared keys' call leaves in its three blocks of keys, values and gates. The kernel distinguishes a batch's first
  point, which clears the running sum of the gates; these three blocks are the same in both cases.
-/
module

public import proofs.«01_k».proof.Proof.Gen.SharedKvIdeal.Frame
public import Idealize.ShloMosaic.Lib.Pipeline.Value
public import Idealize.ShloMosaic.Lib.Pointwise

@[expose] public section

set_option maxRecDepth 16384

noncomputable section

namespace Cert.SharedKvIdeal.Hand

open Cert.SharedKvIdeal Cert.SharedKvIdeal.Gen
open Idealize.ShloMosaic Idealize.ShloMosaic.TcCoe

variable (m : (ℓ : Loc nD τ sig) → Buf (Elt Ideal) ℓ)

set_option maxHeartbeats 8000000 in
theorem outs_eq (c : Dev nD) (t : Fin cfg0.N) :
    (outsAt0 m c t.val t.isLt).1 = k0_pay11 (k0_pay3 (iblk m c 0 t) (iblk m c 1 t) (iblk m c 2 t)) (iblk m c 4 t)
    ∧ (outsAt0 m c t.val t.isLt).2.1 = k0_pay12 (k0_pay4 (iblk m c 0 t) (iblk m c 1 t) (iblk m c 3 t))
    ∧ (outsAt0 m c t.val t.isLt).2.2.1 = k0_pay13 (k0_pay6 (iblk m c 0 t) (iblk m c 1 t) (iblk m c 5 t) (iblk m c 6 t))
        (k0_pay7 (iblk m c 0 t) (iblk m c 1 t) (iblk m c 5 t) (iblk m c 6 t)) := by
  have z3 : (![0, 0, 0] : Fin 3 → Nat) = fun _ => 0 := by decide
  have z2 : (![0, 0] : Fin 2 → Nat) = fun _ => 0 := by decide
  by_cases h0 : t.val % 16 = 0
  · rw [outsAt0_A m c t h0]
    refine ⟨?_, ?_, ?_⟩
    all_goals
      dsimp only
      first | unfold out0_A_9 | unfold out0_A_10 | unfold out0_A_11
      rw [View.read_writes_eq_canon]
      on_goal 2 => first | apply cover0_A_9 | apply cover0_A_10 | apply cover0_A_11
      unfold kernelRun0_A
      dsimp only
      sl_unfold_words
      rw [View.canon_unit_zero z3]
      simp only [View.readAt_eq_ld, Memref.IsWhole.read_unread, View.ld_unit_zero (S := S512x1024) z2, View.ld_unit_zero (S := S1x1024) z2,
        View.ld_unit_zero (S := S1024x1024) z2, View.ld_unit_zero (S := S16x64x1) z3, View.ld_unit_zero (S := S1024x128) z2, View.ld_unit_zero (S := S1x128) z2]
  · rw [outsAt0_B m c t h0]
    refine ⟨?_, ?_, ?_⟩
    all_goals
      dsimp only
      first | unfold out0_B_9 | unfold out0_B_10 | unfold out0_B_11
      rw [View.read_writes_eq_canon]
      on_goal 2 => first | apply cover0_B_9 | apply cover0_B_10 | apply cover0_B_11
      unfold kernelRun0_B
      dsimp only
      sl_unfold_words
      rw [View.canon_unit_zero z3]
      simp only [View.readAt_eq_ld, Memref.IsWhole.read_unread, View.ld_unit_zero (S := S512x1024) z2, View.ld_unit_zero (S := S1x1024) z2,
        View.ld_unit_zero (S := S1024x1024) z2, View.ld_unit_zero (S := S16x64x1) z3, View.ld_unit_zero (S := S1024x128) z2, View.ld_unit_zero (S := S1x128) z2]

end Cert.SharedKvIdeal.Hand

end
-- ==== Proof.KvBody.lean ====
/-
  What the body of the shared keys' call stores, read at an index: a key, a value or a gate of one row of the residual.
-/
module

public import proofs.«01_k».proof.Proof.KvRows
public import proofs.«01_k».proof.Proof.KvOuts

@[expose] public section

set_option maxRecDepth 16384

noncomputable section

namespace Cert.SharedKvIdeal.Hand

open Cert.SharedKvIdeal Cert.SharedKvIdeal.Gen Cert.Rows
open Idealize.ShloMosaic Idealize.ShloMosaic.TcCoe

variable (x0 : Vec Ideal S512x1024 .f32) (x1 : Vec Ideal S1x1024 .f32)

theorem normed_at (r : Fin 512) (e : Fin 1024) : k0_pay2 x0 x1 (ix2 r e) = normed (fun j => x0 (ix2 r j)) (fun j => x1 (ix2 0 j)) e := by
  pointwise [k0_pay2]
  rfl
/-- A product's factors the other way round, the row's in their normalised form. -/
theorem swapped {n : Nat} (r : Fin 512) (w : Fin 1024 → Fin n → EReal) (d : Fin n) :
    ∑ j, w j d * (show EReal from k0_pay2 x0 x1 (ix2 r j)) = proj (fun j => x0 (ix2 r j)) (fun j => x1 (ix2 0 j)) w d :=
  Finset.sum_congr rfl fun j _ => (mul_comm _ _).trans (Ideal.mul_congr (normed_at x0 x1 r j) rfl)

theorem heads_at (x2 : Vec Ideal S1024x1024 .bf16) (h : Fin 16) (e : Fin 64) (r : Fin 512) :
    k0_pay3 x0 x1 x2 (ix3 h e r) = proj (fun j => x0 (ix2 r j)) (fun j => x1 (ix2 0 j)) (fun j (d : Fin 1024) => x2 (ix2 d j)) ⟨h.val * 64 + e.val, by omega⟩ := by
  refine Eq.trans ?_ (swapped x0 x1 r (fun j (d : Fin 1024) => x2 (ix2 d j)) _)
  pointwise [k0_pay3]
theorem values_at (x3 : Vec Ideal S1024x1024 .bf16) (d : Fin 1024) (r : Fin 512) :
    k0_pay12 (k0_pay4 x0 x1 x3) (ix3 0 d r) = proj (fun j => x0 (ix2 r j)) (fun j => x1 (ix2 0 j)) (fun j (d : Fin 1024) => x3 (ix2 d j)) d := by
  refine Eq.trans ?_ (swapped x0 x1 r (fun j (d : Fin 1024) => x3 (ix2 d j)) _)
  pointwise [k0_pay12, k0_pay4]
theorem scaled_at (y : FVec Ideal S16x64x512 .f32) (g : Vec Ideal S16x64x1 .f32) (d : Fin 1024) (r : Fin 512) :
    k0_pay11 y g (ix3 0 d r) = headed (fun e => y (ix3 ⟨d.val / 64, by omega⟩ e r)) (fun e => g (ix3 ⟨d.val / 64, by omega⟩ e 0)) ⟨d.val % 64, Nat.mod_lt _ (by decide)⟩ := by
  pointwise [k0_pay11, k0_pay8]
  rfl
theorem keys_at (x2 : Vec Ideal S1024x1024 .bf16) (x4 : Vec Ideal S16x64x1 .f32) (g : Fin 64 → EReal) (hg : ∀ h e, x4 (ix3 h e 0) = g e) (d : Fin 1024) (r : Fin 512) :
    k0_pay11 (k0_pay3 x0 x1 x2) x4 (ix3 0 d r)
      = keyRow (fun j => x0 (ix2 r j)) (fun j => x1 (ix2 0 j)) (fun j (d : Fin 1024) => x2 (ix2 d j)) g d := by
  refine (scaled_at _ _ d r).trans ?_
  rw [funext fun e => hg ⟨d.val / 64, by omega⟩ e, funext fun e => heads_at x0 x1 x2 ⟨d.val / 64, by omega⟩ e r]
  rfl

/-- The gate's argument. -/
theorem arg_at (x5 : Vec Ideal S1024x128 .bf16) (x6 : Vec Ideal S1x128 .f32) (r : Fin 512) (d : Fin 128) :
    k0_pay5 x0 x1 x5 x6 (ix2 r d) = proj (fun j => x0 (ix2 r j)) (fun j => x1 (ix2 0 j)) (fun j (d : Fin 128) => x5 (ix2 j d)) d + x6 (ix2 0 d) := by
  refine Eq.trans ?_ (congrArg (· + (x6 (ix2 0 d) : EReal)) (Finset.sum_congr rfl fun j _ => Ideal.mul_congr (normed_at x0 x1 r j) rfl))
  pointwise [k0_pay5]
theorem lane_slt (d : Fin 16) : IntOp.cmpi .slt (BitVec.ofNat 32 d.val) 16#32 = 1#1 := by revert d; decide
theorem gated_at (a b : FVec Ideal S512x128 .f32) (d : Fin 16) (r : Fin 512) :
    k0_pay13 a b (ix3 0 d r) = -((show EReal from a (ix2 r (Fin.castLE (by decide) d))) + Ideal.log1p (Ideal.exp (b (ix2 r (Fin.castLE (by decide) d))))) := by
  have h : k0_pay13 a b (ix3 0 d r) = Scalar.select (IntOp.cmpi .slt (BitVec.ofNat 32 d.val) 16#32)
      (0 - ((show EReal from a (ix2 r (Fin.castLE (by decide) d))) + Ideal.log1p (Ideal.exp (b (ix2 r (Fin.castLE (by decide) d)))))) (0 : EReal) := by
    pointwise [k0_pay13, k0_pay10]
    rfl
  rw [h, lane_slt]
  exact zero_sub _
theorem gates_at (x5 : Vec Ideal S1024x128 .bf16) (x6 : Vec Ideal S1x128 .f32) (d : Fin 16) (r : Fin 512) :
    k0_pay13 (k0_pay6 x0 x1 x5 x6) (k0_pay7 x0 x1 x5 x6) (ix3 0 d r)
      = gate (proj (fun j => x0 (ix2 r j)) (fun j => x1 (ix2 0 j)) (fun j (d : Fin 128) => x5 (ix2 j d)) (Fin.castLE (by decide) d) + x6 (ix2 0 (Fin.castLE (by decide) d))) := by
  have h6 (e : Fin 128) : k0_pay6 x0 x1 x5 x6 (ix2 r e) = max (0 - (show EReal from k0_pay5 x0 x1 x5 x6 (ix2 r e))) 0 := by
    pointwise [k0_pay6]
  have h7 (e : Fin 128) : k0_pay7 x0 x1 x5 x6 (ix2 r e) = 0 - max (show EReal from k0_pay5 x0 x1 x5 x6 (ix2 r e)) (-(show EReal from k0_pay5 x0 x1 x5 x6 (ix2 r e))) := by
    pointwise [k0_pay7]
    rfl
  rw [gated_at, h6, h7, arg_at, zero_sub, zero_sub]
  rfl

end Cert.SharedKvIdeal.Hand

end
-- ==== Proof.KvBlocks.lean ====
/-
  Which entries of the arrays each point of the shared keys' grid reads and writes, what the arrays hold when the call begins, and what
  the three result arrays hold at the end.
-/
module

public import proofs.«01_k».proof.Proof.KvBody
public import Idealize.ShloMosaic.Lib.Pipeline.ValueKit
public import Idealize.ShloMosaic.Lib.StableHlo.Run
public import Idealize.ShloMosaic.Lib.StableHlo.RunRead

@[expose] public section

set_option maxRecDepth 16384

noncomputable section

namespace Cert.SharedKvIdeal.Hand

open Cert.SharedKvIdeal Cert.SharedKvIdeal.Gen Cert.Rows
open Idealize.ShloMosaic Idealize.ShloMosaic.TcCoe Idealize.ShloMosaic.StableHlo
open Idealize.ShloMosaic.Pipeline (Dat)

/-- The batch of point `t`. -/
def pb (t : Fin cfg0.N) : Fin 2 := ⟨t.val / 16, by have := t.isLt; have h : cfg0.N = 32 := (by decide); omega⟩
/-- Row `r` of point `t`, within its batch. -/
def pos (t : Fin cfg0.N) (r : Fin 512) : Fin 8192 := ⟨512 * (t.val % 16) + r.val, by omega⟩
/-- Row `r` of point `t`, both batches together. -/
def row (t : Fin cfg0.N) (r : Fin 512) : Fin 16384 := ⟨512 * t.val + r.val, by have := t.isLt; have h : cfg0.N = 32 := (by decide); omega⟩

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![0, 0, 0] := by decide +kernel
theorem index_5 : ∀ t : Fin cfg0.N, win0_5.index t = ![0, 0] := by decide +kernel
theorem index_6 : ∀ t : Fin cfg0.N, win0_6.index t = ![0, 0] := by decide +kernel
theorem index_9 : ∀ t : Fin cfg0.N, win0_9.index t = ![(pb t).val, 0, t.val % 16] := by decide +kernel
theorem index_10 : ∀ t : Fin cfg0.N, win0_10.index t = ![(pb t).val, 0, t.val % 16] := by decide +kernel
theorem index_11 : ∀ t : Fin cfg0.N, win0_11.index t = ![(pb t).val, 0, t.val % 16] := by decide +kernel

variable (m : (ℓ : Loc nD τ sig) → Buf (Elt Ideal) ℓ)

theorem blk_0 (c : Dev nD) (t : Fin cfg0.N) (r : Fin 512) (e : Fin 1024) : iblk m c 0 t (ix2 r e) = V m c main_v10 (ix2 (row t r) e) := by
  blk_ext [iblk, index_0 t]
  all_goals simp only [row]
  all_goals omega
theorem blk_1 (c : Dev nD) (t : Fin cfg0.N) (e : Fin 1024) : iblk m c 1 t (ix2 0 e) = V m c main_v11 (ix2 0 e) := by
  blk_ext [iblk, index_1 t]
theorem blk_2 (c : Dev nD) (t : Fin cfg0.N) (d e : Fin 1024) : iblk m c 2 t (ix2 d e) = V m c main_v12 (ix2 d e) := by
  blk_ext [iblk, index_2 t]
theorem blk_3 (c : Dev nD) (t : Fin cfg0.N) (d e : Fin 1024) : iblk m c 3 t (ix2 d e) = V m c main_v13 (ix2 d e) := by
  blk_ext [iblk, index_3 t]
theorem blk_4 (c : Dev nD) (t : Fin cfg0.N) (h : Fin 16) (e : Fin 64) : iblk m c 4 t (ix3 h e 0) = V m c main_v9 (ix3 h e 0) := by
  blk_ext [iblk, index_4 t]
theorem blk_5 (c : Dev nD) (t : Fin cfg0.N) (e : Fin 1024) (d : Fin 128) : iblk m c 5 t (ix2 e d) = V m c main_v3 (ix2 e d) := by
  blk_ext [iblk, index_5 t]
theorem blk_6 (c : Dev nD) (t : Fin cfg0.N) (d : Fin 128) : iblk m c 6 t (ix2 0 d) = V m c main_v5 (ix2 0 d) := by
  blk_ext [iblk, index_6 t]

/-! ## What the arrays hold when the call begins -/

/-- The gains of a head's entries, once per head. -/
def column (g : FVec Ideal S64 .f32) : FVec Ideal S16x64x1 .f32 :=
  shapeCast S16x64x1 (shapeCast S1024 (broadcastInDim S16x64 ![0, 1] bcast_S1x64_S16x64_0_1 (shapeCast S1x64 g shapeCasts_S64_S1x64 : FVec Ideal S1x64 .f32) : FVec Ideal S16x64 .f32)
    shapeCasts_S16x64_S1024 : FVec Ideal S1024 .f32) shapeCasts_S1024_S16x64x1
/-- A square matrix on its side. -/
def turned (w : FVec Ideal S1024x1024 .f32) : FVec Ideal S1024x1024 .bf16 :=
  transpose S1024x1024 [1, 0] (truncf .bf16 w bitsLt_bf16_f32 : FVec Ideal S1024x1024 .bf16) transposes_S1024x1024_S1024x1024_1_0
/-- The gates' matrix and offsets, widened with zeros. -/
def wide (w : FVec Ideal S1024x16 .f32) : FVec Ideal S1024x128 .bf16 :=
  truncf .bf16 (pad S1024x128 ![0, 0] ![0, 112] ![0, 0] w (sitofp .f32 (constantI S_ 32 0#32) : FVec Ideal S_ .f32) pads_S1024x16_S1024x128_000_01120 h_S_ : FVec Ideal S1024x128 .f32) bitsLt_bf16_f32
def wideRow (b : FVec Ideal S16 .f32) : FVec Ideal S1x128 .f32 :=
  shapeCast S1x128 (pad S128 ![0] ![112] ![0] b (sitofp .f32 (constantI S_ 32 0#32) : FVec Ideal S_ .f32) pads_S16_S128_01120 h_S_ : FVec Ideal S128 .f32) shapeCasts_S128_S1x128

set_option maxHeartbeats 4000000 in
/-- All the arrays the three results are computed from. -/
theorem reads (c : Dev nD) :
    V m c main_v10 = shapeCast S16384x1024 (m ((c : Thread nD τ).loc main_arg0)) shapeCasts_S2x8192x1024_S16384x1024
    ∧ V m c main_v11 = shapeCast S1x1024 (m ((c : Thread nD τ).loc main_arg1)) shapeCasts_S1024_S1x1024
    ∧ V m c main_v12 = turned (m ((c : Thread nD τ).loc main_arg2)) ∧ V m c main_v13 = turned (m ((c : Thread nD τ).loc main_arg3))
    ∧ V m c main_v9 = column (m ((c : Thread nD τ).loc main_arg4)) ∧ V m c main_v3 = wide (m ((c : Thread nD τ).loc main_arg5))
    ∧ V m c main_v5 = wideRow (m ((c : Thread nD τ).loc main_arg6)) := by
  refine ⟨?_, ?_, ?_, ?_, ?_, ?_, ?_⟩
  all_goals
    unfold V
    simp only [hostOps0, hostOps0_1, hostOps0_2, hostOps0_3, hostOps0_4, hostOps0_5, hostOps0_6, hostOps0_7, hostOps0_8, hostOps0_9, hostOps0_10, hostOps0_11, hostOps0_12,
      List.flatten_cons, List.flatten_nil, List.append_nil, List.cons_append, List.nil_append, TRef.ternary, TRef.binary, TRef.unary, TRef.nullary, TRef.toBuf, TRef.ofBuf, cast_eq]
    after_reads_simp
    rfl

theorem column_at (g : FVec Ideal S64 .f32) (h : Fin 16) (e : Fin 64) : column g (ix3 h e 0) = g (ix1 e) := by
  have h1 : column g (ix3 h e 0) = g (ix1 ⟨(h.val * 64 + e.val) % 64, Nat.mod_lt _ (by decide)⟩) := by
    pointwise [column]
    exact congrArg (fun k => g (ix1 k)) (Fin.ext (by show e.val = (h.val * 64 + e.val) % 64; omega))
  exact h1.trans (congrArg (fun k => g (ix1 k)) (Fin.ext (by show (h.val * 64 + e.val) % 64 = e.val; omega)))
theorem turned_at (w : FVec Ideal S1024x1024 .f32) (d e : Fin 1024) : turned w (ix2 d e) = w (ix2 e d) := by
  pointwise [turned]
theorem wide_at (w : FVec Ideal S1024x16 .f32) (e : Fin 1024) (d : Fin 16) : wide w (ix2 e (Fin.castLE (by decide) d)) = w (ix2 e d) := by
  pointwise [wide]
  exact dif_pos d.isLt
theorem wideRow_at (b : FVec Ideal S16 .f32) (d : Fin 16) : wideRow b (ix2 0 (Fin.castLE (by decide) d)) = b (ix1 d) := by
  pointwise [wideRow]
  exact dif_pos d.isLt
theorem gains_at (g : FVec Ideal S1024 .f32) (e : Fin 1024) : shapeCast S1x1024 g shapeCasts_S1024_S1x1024 (ix2 0 e) = g (ix1 e) := by
  pointwise
/-- The residual's rows, both batches together, at row `r` of point `t`. -/
theorem rows_at (X : Vec Ideal S2x8192x1024 .f32) (t : Fin cfg0.N) (r : Fin 512) (e : Fin 1024) :
    shapeCast S16384x1024 X shapeCasts_S2x8192x1024_S16384x1024 (ix2 (row t r) e) = X (ix3 (pb t) (pos t r) e) := by
  have h : ∀ i : Fin 16384, shapeCast S16384x1024 X shapeCasts_S2x8192x1024_S16384x1024 (ix2 i e) = X (ix3 ⟨i.val / 8192, by omega⟩ ⟨i.val % 8192, by omega⟩ e) := fun i => by
    pointwise
  refine (h _).trans (congrArg₂ (fun a b => X (ix3 a b e)) (Fin.ext ?_) (Fin.ext ?_))
  · show (512 * t.val + r.val) / 8192 = t.val / 16
    omega
  · show (512 * t.val + r.val) % 8192 = 512 * (t.val % 16) + r.val
    omega

/-! ## The result arrays -/

/-- The keys, the values and the gates, positions last. -/
def keysOf (h : S2x8192x1024.Idx → EReal) (g : S1024.Idx → EReal) (w : S1024x1024.Idx → EReal) (gk : S64.Idx → EReal) : S2x1024x8192.Idx → EReal := fun i =>
  keyRow (fun j : Fin 1024 => h (ix3 (i 0) (i 2) j)) (fun j : Fin 1024 => g (ix1 j)) (fun (j d : Fin 1024) => w (ix2 j d)) (fun e : Fin 64 => gk (ix1 e)) (i 1)
def valuesOf (h : S2x8192x1024.Idx → EReal) (g : S1024.Idx → EReal) (w : S1024x1024.Idx → EReal) : S2x1024x8192.Idx → EReal := fun i =>
  proj (fun j : Fin 1024 => h (ix3 (i 0) (i 2) j)) (fun j : Fin 1024 => g (ix1 j)) (fun (j d : Fin 1024) => w (ix2 j d)) (i 1)
def gatesOf (h : S2x8192x1024.Idx → EReal) (g : S1024.Idx → EReal) (w : S1024x16.Idx → EReal) (b : S16.Idx → EReal) : S2x16x8192.Idx → EReal := fun i =>
  gate (proj (fun j : Fin 1024 => h (ix3 (i 0) (i 2) j)) (fun j : Fin 1024 => g (ix1 j)) (fun (j : Fin 1024) (d : Fin 16) => w (ix2 j d)) (i 1) + b (ix1 (i 1)))

section
variable (c : Dev nD) (t : Fin cfg0.N)

theorem in_0 (r : Fin 512) (j : Fin 1024) : iblk m c 0 t (ix2 r j) = (m ((c : Thread nD τ).loc main_arg0) : S2x8192x1024.Idx → EReal) (ix3 (pb t) (pos t r) j) := by
  rw [blk_0, (reads m c).1]; exact rows_at _ t r j
theorem in_1 (j : Fin 1024) : iblk m c 1 t (ix2 0 j) = (m ((c : Thread nD τ).loc main_arg1) : S1024.Idx → EReal) (ix1 j) := by
  rw [blk_1, (reads m c).2.1]; exact gains_at _ j
theorem in_2 (j d : Fin 1024) : iblk m c 2 t (ix2 d j) = (m ((c : Thread nD τ).loc main_arg2) : S1024x1024.Idx → EReal) (ix2 j d) := by
  rw [blk_2, (reads m c).2.2.1]; exact turned_at _ d j
theorem in_3 (j d : Fin 1024) : iblk m c 3 t (ix2 d j) = (m ((c : Thread nD τ).loc main_arg3) : S1024x1024.Idx → EReal) (ix2 j d) := by
  rw [blk_3, (reads m c).2.2.2.1]; exact turned_at _ d j
theorem in_4 (h : Fin 16) (e : Fin 64) : iblk m c 4 t (ix3 h e 0) = (m ((c : Thread nD τ).loc main_arg4) : S64.Idx → EReal) (ix1 e) := by
  rw [blk_4, (reads m c).2.2.2.2.1]; exact column_at _ h e
theorem in_5 (j : Fin 1024) (d : Fin 16) : iblk m c 5 t (ix2 j (Fin.castLE (by decide) d)) = (m ((c : Thread nD τ).loc main_arg5) : S1024x16.Idx → EReal) (ix2 j d) := by
  rw [blk_5, (reads m c).2.2.2.2.2.1]; exact wide_at _ j d
theorem in_6 (d : Fin 16) : iblk m c 6 t (ix2 0 (Fin.castLE (by decide) d)) = (m ((c : Thread nD τ).loc main_arg6) : S16.Idx → EReal) (ix1 d) := by
  rw [blk_6, (reads m c).2.2.2.2.2.2]; exact wideRow_at _ d
end

theorem block_keys (c : Dev nD) (t : Fin cfg0.N) (d : Fin 1024) (r : Fin 512) :
    k0_pay11 (k0_pay3 (iblk m c 0 t) (iblk m c 1 t) (iblk m c 2 t)) (iblk m c 4 t) (ix3 0 d r)
      = keysOf (m ((c : Thread nD τ).loc main_arg0)) (m ((c : Thread nD τ).loc main_arg1)) (m ((c : Thread nD τ).loc main_arg2)) (m ((c : Thread nD τ).loc main_arg4))
        (ix3 (pb t) d (pos t r)) := by
  rw [keys_at _ _ _ _ (fun e => (m ((c : Thread nD τ).loc main_arg4) : S64.Idx → EReal) (ix1 e)) (in_4 m c t) d r]
  exact keyRow_congr (in_0 m c t r) (in_1 m c t) (fun j d => in_2 m c t j d) (fun _ => rfl) d

theorem final_keys (c : Dev nD) : (dats m 0 c).arrAt 9 cfg0.N = keysOf (m ((c : Thread nD τ).loc main_arg0)) (m ((c : Thread nD τ).loc main_arg1))
    (m ((c : Thread nD τ).loc main_arg2)) (m ((c : Thread nD τ).loc main_arg4)) := by
  refine (dats m 0 c).arrAt_eq_of_covers 9 _ (by decide +kernel) fun t hf y => ?_
  blk_simp
  rw [after0_9, (outs_eq m c t).1]
  obtain ⟨d, r, rfl⟩ : ∃ (d : Fin 1024) (r : Fin 512), y = ix3 0 d r := ⟨y 1, y 2, by rw [eq_ix3 y]; exact congrArg (ix3 · _ _) (Subsingleton.elim _ _)⟩
  refine (block_keys m c t d r).trans (congrArg (keysOf _ _ _ _) (show ix3 (pb t) d (pos t r) = _ from ?_))
  blk_ext [index_9 t]
  all_goals simp only [pos]
  all_goals omega
theorem final_values (c : Dev nD) : (dats m 0 c).arrAt 10 cfg0.N = valuesOf (m ((c : Thread nD τ).loc main_arg0)) (m ((c : Thread nD τ).loc main_arg1))
    (m ((c : Thread nD τ).loc main_arg3)) := by
  refine (dats m 0 c).arrAt_eq_of_covers 10 _ (by decide +kernel) fun t hf y => ?_
  blk_simp
  rw [after0_10, (outs_eq m c t).2.1]
  obtain ⟨d, r, rfl⟩ : ∃ (d : Fin 1024) (r : Fin 512), y = ix3 0 d r := ⟨y 1, y 2, by rw [eq_ix3 y]; exact congrArg (ix3 · _ _) (Subsingleton.elim _ _)⟩
  refine (values_at _ _ _ d r).trans ((proj_congr (in_0 m c t r) (in_1 m c t) (fun j d => in_3 m c t j d) d).trans ?_)
  refine congrArg (valuesOf _ _ _) (show ix3 (pb t) d (pos t r) = _ from ?_)
  blk_ext [index_10 t]
  all_goals simp only [pos]
  all_goals omega
theorem final_gates (c : Dev nD) : (dats m 0 c).arrAt 11 cfg0.N = gatesOf (m ((c : Thread nD τ).loc main_arg0)) (m ((c : Thread nD τ).loc main_arg1))
    (m ((c : Thread nD τ).loc main_arg5)) (m ((c : Thread nD τ).loc main_arg6)) := by
  refine (dats m 0 c).arrAt_eq_of_covers 11 _ (by decide +kernel) fun t hf y => ?_
  blk_simp
  rw [after0_11, (outs_eq m c t).2.2]
  obtain ⟨d, r, rfl⟩ : ∃ (d : Fin 16) (r : Fin 512), y = ix3 0 d r := ⟨y 1, y 2, by rw [eq_ix3 y]; exact congrArg (ix3 · _ _) (Subsingleton.elim _ _)⟩
  refine (gates_at _ _ _ _ d r).trans (Eq.trans (congrArg gate ?_) (congrArg (gatesOf _ _ _ _) (show ix3 (pb t) d (pos t r) = _ from ?_)))
  · exact congrArg₂ (· + ·) (Finset.sum_congr rfl fun j _ => Ideal.mul_congr
      (congrFun (congrArg₂ normed (funext (in_0 m c t r)) (funext (in_1 m c t))) j) (in_5 m c t j d)) (in_6 m c t d)
  · blk_ext [index_11 t]
    all_goals simp only [pos]
    all_goals omega

end Cert.SharedKvIdeal.Hand

end
-- ==== Proof.KvRef.lean ====
/-
  The reference of the shared keys' call, read at an index: the same formulas of the row.
-/
module

public import proofs.«01_k».proof.Proof.KvRows
public import proofs.«01_k».proof.Proof.Gen.SharedKvReferenceIdeal.Run
public import Idealize.ShloMosaic.Lib.Pointwise

@[expose] public section

set_option maxRecDepth 16384

noncomputable section

namespace Cert.SharedKvReferenceIdeal.Hand

open Cert.SharedKvReferenceIdeal Cert.SharedKvReferenceIdeal.Gen Cert.SharedKvReferenceIdeal.Value Cert.Rows
open Idealize.ShloMosaic Idealize.ShloMosaic.TcCoe

/-! ## The reference in stages -/

/-- The rows, normalised. -/
def norm (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf
      (broadcastInDim S2x8192x1 ![0, 1] bcast_S2x8192_S2x8192x1_0_1 (Host.reduceAdd (mulf x x) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))
/-- Through a square matrix. -/
def through (y : FVec Ideal S2x8192x1024 .f32) (w : FVec Ideal S1024x1024 .f32) : FVec Ideal S2x8192x1024 .f32 :=
  Host.dotGeneral dot_S2x8192x1024_S1024x1024_S2x8192x1024_2_0_01_1_n_n none y w
/-- Each head's entries, normalised. -/
def heads (y : FVec Ideal S2x8192x16x64 .f32) (g : FVec Ideal S64 .f32) : FVec Ideal S2x8192x16x64 .f32 :=
  mulf (mulf y (broadcastInDim S2x8192x16x64 ![0, 1, 2, 3] bcast_S2x8192x16x1_S2x8192x16x64_0_1_2_3 (Host.rsqrt (addf (Host.divf
      (broadcastInDim S2x8192x16x1 ![0, 1, 2] bcast_S2x8192x16_S2x8192x16x1_0_1_2 (Host.reduceAdd (mulf y y) (constant S_ .f32 0x00000000#32) reducesTo_S2x8192x16x64_S2x8192x16_d3 h_S_))
      (broadcastInDim S2x8192x16x1 ![] bcast_S_S2x8192x16x1 (constant S_ .f32 0x42800000#32)))
      (broadcastInDim S2x8192x16x1 ![] bcast_S_S2x8192x16x1 (constant S_ .f32 0x358637BD#32))))))
    (broadcastInDim S2x8192x16x64 ![0, 1, 2, 3] bcast_S1x1x1x64_S2x8192x16x64_0_1_2_3 (broadcastInDim S1x1x1x64 ![3] bcast_S64_S1x1x1x64_3 g))
/-- The keys: heads split off, normalised, joined again, positions last. -/
def keys (y : FVec Ideal S2x8192x1024 .f32) (w : FVec Ideal S1024x1024 .f32) (g : FVec Ideal S64 .f32) : FVec Ideal S2x1024x8192 .f32 :=
  transpose S2x1024x8192 [0, 2, 1] (shapeCast S2x8192x1024 (heads (shapeCast S2x8192x16x64 (through y w) shapeCasts_S2x8192x1024_S2x8192x16x64) g)
    shapeCasts_S2x8192x16x64_S2x8192x1024 : FVec Ideal S2x8192x1024 .f32) transposes_S2x8192x1024_S2x1024x8192_0_2_1
/-- The values, positions last. -/
def values (y : FVec Ideal S2x8192x1024 .f32) (w : FVec Ideal S1024x1024 .f32) : FVec Ideal S2x1024x8192 .f32 :=
  transpose S2x1024x8192 [0, 2, 1] (through y w) transposes_S2x8192x1024_S2x1024x8192_0_2_1
/-- The gates' arguments. -/
def args (y : FVec Ideal S2x8192x1024 .f32) (w : FVec Ideal S1024x16 .f32) (b : FVec Ideal S16 .f32) : FVec Ideal S2x8192x16 .f32 :=
  addf (Host.dotGeneral dot_S2x8192x1024_S1024x16_S2x8192x16_2_0_01_1_n_n none y w)
    (broadcastInDim S2x8192x16 ![0, 1, 2] bcast_S1x1x16_S2x8192x16_0_1_2 (broadcastInDim S1x1x16 ![2] bcast_S16_S1x1x16_2 b))
/-- The logarithm of the logistic function, positions last: minus the softened positive part of the argument's negative. -/
def gates (z : FVec Ideal S2x8192x16 .f32) : FVec Ideal S2x16x8192 .f32 :=
  let zero : FVec Ideal S2x8192x16 .f32 := broadcastInDim S2x8192x16 ![] bcast_S_S2x8192x16 (constant S_ .f32 0x00000000#32)
  let y : FVec Ideal S2x8192x16 .f32 := Host.negf z
  transpose S2x16x8192 [0, 2, 1] (Host.negf (select (cmpf .une (subf y zero) (subf y zero)) (addf y zero)
    (addf (maximumf y zero) (Host.log1p (Host.exp (Host.negf (Host.absf (subf y zero))))))) : FVec Ideal S2x8192x16 .f32) transposes_S2x8192x16_S2x16x8192_0_2_1

theorem res_eq (m : (ℓ : Loc nD τ sig) → Buf (Elt Ideal) ℓ) (c : Dev nD) : res_main_v37 m c =
    gates (args (norm (m ((c : Thread nD τ).loc main_arg0)) (m ((c : Thread nD τ).loc main_arg1))) (m ((c : Thread nD τ).loc main_arg5)) (m ((c : Thread nD τ).loc main_arg6))) := rfl

/-! ## The stages at an index -/

theorem through_at (y : FVec Ideal S2x8192x1024 .f32) (w : FVec Ideal S1024x1024 .f32) (b : Fin 2) (p : Fin 8192) (d : Fin 1024) :
    through y w (ix3 b p d) = ∑ j : Fin 1024, (show EReal from y (ix3 b p j)) * w (ix2 j d) := by
  pointwise [through]
theorem norm_at (x : FVec Ideal S2x8192x1024 .f32) (g : FVec Ideal S1024 .f32) (b : Fin 2) (p : Fin 8192) (e : Fin 1024) :
    norm x g (ix3 b p e) = normed (fun j => x (ix3 b p j)) (fun j => g (ix1 j)) e := by
  pointwise [norm]
  rfl
theorem proj_at (x : FVec Ideal S2x8192x1024 .f32) (g : FVec Ideal S1024 .f32) (w : FVec Ideal S1024x1024 .f32) (b : Fin 2) (p : Fin 8192) (d : Fin 1024) :
    through (norm x g) w (ix3 b p d) = proj (fun j => x (ix3 b p j)) (fun j => g (ix1 j)) (fun j (d : Fin 1024) => w (ix2 j d)) d :=
  (through_at _ _ b p d).trans (Finset.sum_congr rfl fun j _ => Ideal.mul_congr (norm_at x g b p j) rfl)
theorem heads_at (y : FVec Ideal S2x8192x16x64 .f32) (g : FVec Ideal S64 .f32) (b : Fin 2) (p : Fin 8192) (h : Fin 16) (e : Fin 64) :
    heads y g (ix4 b p h e) = headed (fun e => y (ix4 b p h e)) (fun e => g (ix1 e)) e := by
  pointwise [heads]
  rfl
theorem split_at (y : FVec Ideal S2x8192x1024 .f32) (b : Fin 2) (p : Fin 8192) (h : Fin 16) (e : Fin 64) :
    shapeCast S2x8192x16x64 y shapeCasts_S2x8192x1024_S2x8192x16x64 (ix4 b p h e) = y (ix3 b p ⟨h.val * 64 + e.val, by omega⟩) := by
  pointwise
theorem joined_at (y : FVec Ideal S2x8192x16x64 .f32) (b : Fin 2) (p : Fin 8192) (d : Fin 1024) :
    transpose S2x1024x8192 [0, 2, 1] (shapeCast S2x8192x1024 y shapeCasts_S2x8192x16x64_S2x8192x1024 : FVec Ideal S2x8192x1024 .f32) transposes_S2x8192x1024_S2x1024x8192_0_2_1
      (ix3 b d p) = y (ix4 b p ⟨d.val / 64, by omega⟩ ⟨d.val % 64, Nat.mod_lt _ (by decide)⟩) := by
  pointwise
theorem keys_at (x : FVec Ideal S2x8192x1024 .f32) (g : FVec Ideal S1024 .f32) (w : FVec Ideal S1024x1024 .f32) (gk : FVec Ideal S64 .f32) (b : Fin 2) (d : Fin 1024) (p : Fin 8192) :
    keys (norm x g) w gk (ix3 b d p)
      = keyRow (fun j => x (ix3 b p j)) (fun j => g (ix1 j)) (fun j (d : Fin 1024) => w (ix2 j d)) (fun e => gk (ix1 e)) d := by
  refine (joined_at _ b p d).trans ((heads_at _ gk b p _ _).trans ?_)
  rw [funext fun e => (split_at _ b p ⟨d.val / 64, by omega⟩ e).trans (proj_at x g w b p _)]
  rfl
theorem values_at (x : FVec Ideal S2x8192x1024 .f32) (g : FVec Ideal S1024 .f32) (w : FVec Ideal S1024x1024 .f32) (b : Fin 2) (d : Fin 1024) (p : Fin 8192) :
    values (norm x g) w (ix3 b d p) = proj (fun j => x (ix3 b p j)) (fun j => g (ix1 j)) (fun j (d : Fin 1024) => w (ix2 j d)) d := by
  refine Eq.trans ?_ (proj_at x g w b p d)
  pointwise [values]
theorem args_at (x : FVec Ideal S2x8192x1024 .f32) (g : FVec Ideal S1024 .f32) (w : FVec Ideal S1024x16 .f32) (z : FVec Ideal S16 .f32) (b : Fin 2) (p : Fin 8192) (d : Fin 16) :
    args (norm x g) w z (ix3 b p d) = proj (fun j => x (ix3 b p j)) (fun j => g (ix1 j)) (fun j (d : Fin 16) => w (ix2 j d)) d + z (ix1 d) := by
  refine Eq.trans ?_ (congrArg (· + (z (ix1 d) : EReal)) (Finset.sum_congr rfl fun j _ => Ideal.mul_congr (norm_at x g b p j) rfl))
  pointwise [args]
theorem gates_at (z : FVec Ideal S2x8192x16 .f32) (b : Fin 2) (d : Fin 16) (p : Fin 8192) : gates z (ix3 b d p) = gate (z (ix3 b p d)) := by
  pointwise [gates]
  have e : FloatOps.absf (F := Ideal) (φ := .f32) (-z (ix3 b p d)) = max (z (ix3 b p d)) (-z (ix3 b p d)) := by
    show max (-z (ix3 b p d)) (- -z (ix3 b p d)) = _
    rw [neg_neg, max_comm]
  simp [gate, max_comm, e]

end Cert.SharedKvReferenceIdeal.Hand

end
-- ==== Proof.KvValue.lean ====
/-
  The shared keys, values and gates are their reference's, entry by entry.
-/
module

public import proofs.«01_k».proof.Defs
public import proofs.«01_k».proof.Proof.KvBlocks
public import proofs.«01_k».proof.Proof.KvRef
public import proofs.«01_k».proof.Proof.Gen.SharedKv.Frame
public import proofs.«01_k».proof.Proof.Gen.SharedKvIdeal.Value

@[expose] public section

set_option maxRecDepth 16384

noncomputable section

namespace Cert.Hand

open Idealize.ShloMosaic Idealize.SL.Sem Cert.Rows

theorem frame_kv : Cert.quiescent_SharedKv := fun m ρ _ => Cert.SharedKv.Gen.frame m ρ
theorem frame_kvIdeal : Cert.quiescent_SharedKvIdeal := fun m ρ _ => Cert.SharedKvIdeal.Gen.frame m ρ
theorem frame_kvReferenceIdeal : Cert.quiescent_SharedKvReferenceIdeal := fun m g _ =>
  (θ_run Cert.SharedKvReferenceIdeal.defs _ _).mono (fun r h => ⟨fun c => (h c).2.2.2, Idealize.ShloMosaic.sem_eq_zero_of_no_sems (by decide) r.2⟩)
    (Cert.SharedKvReferenceIdeal.Value.run (F := Ideal) m g)

section
open Cert.SharedKvReferenceIdeal Cert.SharedKvReferenceIdeal.Gen Cert.SharedKvReferenceIdeal.Hand

/-- The reference's three results are the arrays the call leaves, whatever the arguments. -/
theorem kv_reference (x : FVec Ideal S2x8192x1024 .f32) (g : FVec Ideal S1024 .f32) (wk wv : FVec Ideal S1024x1024 .f32) (gk : FVec Ideal S64 .f32)
    (wf : FVec Ideal S1024x16 .f32) (bf : FVec Ideal S16 .f32) :
    keys (norm x g) wk gk = Cert.SharedKvIdeal.Hand.keysOf x g wk gk ∧ values (norm x g) wv = Cert.SharedKvIdeal.Hand.valuesOf x g wv
    ∧ gates (args (norm x g) wf bf) = Cert.SharedKvIdeal.Hand.gatesOf x g wf bf := by
  refine ⟨?_, ?_, ?_⟩
  · funext i
    rw [eq_ix3 i]
    exact keys_at x g wk gk (i 0) (i 1) (i 2)
  · funext i
    rw [eq_ix3 i]
    exact values_at x g wv (i 0) (i 1) (i 2)
  · funext i
    rw [eq_ix3 i]
    exact (gates_at _ (i 0) (i 1) (i 2)).trans (congrArg gate (args_at x g wf bf (i 0) (i 2) (i 1)))
end

theorem algebraic_kv : Cert.algebraic_SharedKvIdeal_SharedKvReferenceIdeal := fun m g m' g' hp hag => by
  refine ⟨fun c => Cert.SharedKvIdeal.Hand.keysOf (m (c.tc.loc Cert.SharedKvIdeal.main_arg0)) (m (c.tc.loc Cert.SharedKvIdeal.main_arg1))
      (m (c.tc.loc Cert.SharedKvIdeal.main_arg2)) (m (c.tc.loc Cert.SharedKvIdeal.main_arg4)),
    fun c => Cert.SharedKvIdeal.Hand.valuesOf (m (c.tc.loc Cert.SharedKvIdeal.main_arg0)) (m (c.tc.loc Cert.SharedKvIdeal.main_arg1))
      (m (c.tc.loc Cert.SharedKvIdeal.main_arg3)),
    fun c => Cert.SharedKvIdeal.Hand.gatesOf (m (c.tc.loc Cert.SharedKvIdeal.main_arg0)) (m (c.tc.loc Cert.SharedKvIdeal.main_arg1))
      (m (c.tc.loc Cert.SharedKvIdeal.main_arg5)) (m (c.tc.loc Cert.SharedKvIdeal.main_arg6)), ?_, ?_⟩
  · exact (θ_run Cert.SharedKvIdeal.defs _ _).mono
      (fun r h c => ⟨(h c).1.trans (Cert.SharedKvIdeal.Hand.final_keys m c), (h c).2.1.trans (Cert.SharedKvIdeal.Hand.final_values m c),
        (h c).2.2.1.trans (Cert.SharedKvIdeal.Hand.final_gates m c), (h c).2.2.2.2.2.2⟩)
      (Cert.SharedKvIdeal.Value.run_blocks m g)
  · refine (θ_run Cert.SharedKvReferenceIdeal.defs _ _).mono (fun r h c => ⟨(h c).1.trans ?_, (h c).2.1.trans ?_, (h c).2.2.1.trans ?_, (h c).2.2.2⟩)
      (Cert.SharedKvReferenceIdeal.Value.run (F := Ideal) m' g')
    all_goals
      obtain ⟨e0, e1, e2, e3, e4, e5, e6⟩ := hag c
      have hr := kv_reference (m' (c.tc.loc Cert.SharedKvReferenceIdeal.main_arg0)) (m' (c.tc.loc Cert.SharedKvReferenceIdeal.main_arg1))
        (m' (c.tc.loc Cert.SharedKvReferenceIdeal.main_arg2)) (m' (c.tc.loc Cert.SharedKvReferenceIdeal.main_arg3))
        (m' (c.tc.loc Cert.SharedKvReferenceIdeal.main_arg4)) (m' (c.tc.loc Cert.SharedKvReferenceIdeal.main_arg5))
        (m' (c.tc.loc Cert.SharedKvReferenceIdeal.main_arg6))
      beta_reduce
    · rw [← e0, ← e1, ← e2, ← e4]
      exact hr.1
    · rw [← e0, ← e1, ← e3]
      exact hr.2.1
    · rw [← e0, ← e1, ← e5, ← e6]
      exact (Cert.SharedKvReferenceIdeal.Hand.res_eq m' c).trans hr.2.2

end Cert.Hand

end
-- ==== Proof.MlpSampleBody.lean ====
/-
  What the sample's MLP call computes, entry by entry: the prompt call's chunks on the residual with the projected attention added, which
  comes row by row here.
-/
module

public import proofs.«01_k».proof.Proof.MlpBody
public import proofs.«01_k».proof.Proof.Gen.MlpSampleIdeal.Frame

@[expose] public section

set_option maxRecDepth 16384

noncomputable section

namespace Cert.MlpSampleIdeal.Hand

open Cert.MlpSampleIdeal Cert.MlpSampleIdeal.Gen Cert.Rows
open Cert.MlpIdeal.Hand (chunk norm chunks_at ld_up ld_down)
open Idealize.ShloMosaic Idealize.ShloMosaic.TcCoe

theorem stored_eq (o : Vec Ideal S512x1024 .bf16) (w : Vec Ideal S1x1024x1024 .bf16) (h : Vec Ideal S512x1024 .f32) (g : Vec Ideal S1x1024 .f32)
    (a b : Fin 4 → Vec Ideal S1x1024x1024 .bf16) :
    k0_pay4 (k0_pay2 o w h g) (k0_pay3 o w h g (a 0) (b 0)) (a 1) (b 1) (a 2) (b 2) (a 3) (b 3)
      = (let x := k0_pay1 o w h
         addf (addf (addf (addf x (chunk (norm x g) (a 0) (b 0))) (chunk (norm x g) (a 1) (b 1))) (chunk (norm x g) (a 2) (b 2))) (chunk (norm x g) (a 3) (b 3))) := rfl

theorem pay1_at (o : Vec Ideal S512x1024 .bf16) (w : Vec Ideal S1x1024x1024 .bf16) (h : Vec Ideal S512x1024 .f32) (r : Fin 512) (e : Fin 1024) :
    k0_pay1 o w h (ix2 r e) = h (ix2 r e) + ∑ d : Fin 1024, (show EReal from o (ix2 r d)) * w (ix3 0 d e) := by
  pointwise [k0_pay1]

/-- What a point leaves of its block of rows. -/
theorem out_at (x0 : Vec Ideal S512x1024 .f32) (x1 : Vec Ideal S512x1024 .bf16) (x2 : Vec Ideal S1x1024x1024 .bf16) (x3 : Vec Ideal S1x1024 .f32)
    (x4 : Vec Ideal S1x1024x4096 .bf16) (x5 : Vec Ideal S1x4096x1024 .bf16) (r : Fin 512) (e : Fin 1024) :
    out0_6 x0 x1 x2 x3 x4 x5 (ix2 r e) = mlpRow (fun j => x0 (ix2 r j) + ∑ d : Fin 1024, (show EReal from x1 (ix2 r d)) * x2 (ix3 0 d j))
      (fun j => x3 (ix2 0 j)) (fun d f => x4 (ix3 0 d f)) (fun f j => x5 (ix3 0 f j)) e := by
  have z3 : (![0, 0, 0] : Fin 3 → Nat) = fun _ => 0 := by decide
  have z2 : (![0, 0] : Fin 2 → Nat) = fun _ => 0 := by decide
  rw [out0_6, View.canon_unit_zero z2, View.ld_unit_zero (S := S512x1024) z2, View.ld_unit_zero (S := S1x1024x1024) z3,
    View.ld_unit_zero (S := S512x1024) z2, View.ld_unit_zero (S := S1x1024) z2]
  refine (congrFun (stored_eq x1 x2 x0 x3 ![View.ld x4 r0_3, View.ld x4 r0_5, View.ld x4 r0_7, View.ld x4 r0_9]
    ![View.ld x5 r0_4, View.ld x5 r0_6, View.ld x5 r0_8, View.ld x5 r0_10]) _).trans ?_
  refine (chunks_at (k0_pay1 x1 x2 x0) x3 _ _ (fun d f => x4 (ix3 0 d f)) (fun f j => x5 (ix3 0 f j)) (fun k d f => ?_) (fun k f j => ?_) r e).trans ?_
  · fin_cases k
    exacts [ld_up x4 0 0 rfl _ d f, ld_up x4 1 1024 rfl _ d f, ld_up x4 2 2048 rfl _ d f, ld_up x4 3 3072 rfl _ d f]
  · fin_cases k
    exacts [ld_down x5 0 0 rfl _ f j, ld_down x5 1 1024 rfl _ f j, ld_down x5 2 2048 rfl _ f j, ld_down x5 3 3072 rfl _ f j]
  · rw [funext fun j => pay1_at x1 x2 x0 r j]

end Cert.MlpSampleIdeal.Hand

end
-- ==== Proof.MlpSampleRef.lean ====
/-
  The reference of the sample's MLP call, read at an index: the same formula of the row as the prompt's, for the sample's 128 sequences of
  four positions.
-/
module

public import proofs.«01_k».proof.Proof.Rows
public import proofs.«01_k».proof.Proof.Gen.MlpSampleReferenceIdeal.Run
public import Idealize.ShloMosaic.Lib.Pointwise

@[expose] public section

set_option maxRecDepth 16384

noncomputable section

namespace Cert.MlpSampleReferenceIdeal.Hand

open Cert.MlpSampleReferenceIdeal Cert.MlpSampleReferenceIdeal.Gen Cert.MlpSampleReferenceIdeal.Value Cert.Rows
open Idealize.ShloMosaic Idealize.ShloMosaic.TcCoe

/-! ## The reference in stages -/

/-- The residual with the projected attention added. -/
def mixed (h o : FVec Ideal S128x4x1024 .f32) (w : FVec Ideal S2x1024x1024 .f32) : FVec Ideal S128x4x1024 .f32 :=
  addf h (Host.dotGeneral dot_S128x4x1024_S1024x1024_S128x4x1024_2_0_01_1_n_n none o
    (shapeCast S1024x1024 (extractStridedSlice S1x1024x1024 ![1, 0, 0] w slices_S2x1024x1024_S1x1024x1024_1_0_0) shapeCasts_S1x1024x1024_S1024x1024))
/-- Its rows, normalised. -/
def norm (x : FVec Ideal S128x4x1024 .f32) (g : FVec Ideal S4x1024 .f32) : FVec Ideal S128x4x1024 .f32 :=
  mulf (mulf x (broadcastInDim S128x4x1024 ![0, 1, 2] bcast_S128x4x1_S128x4x1024_0_1_2 (Host.rsqrt (addf (Host.divf
      (broadcastInDim S128x4x1 ![0, 1] bcast_S128x4_S128x4x1_0_1 (Host.reduceAdd (mulf x x) (constant S_ .f32 0x00000000#32) reducesTo_S128x4x1024_S128x4_d2 h_S_))
      (broadcastInDim S128x4x1 ![] bcast_S_S128x4x1 (constant S_ .f32 0x44800000#32)))
      (broadcastInDim S128x4x1 ![] bcast_S_S128x4x1 (constant S_ .f32 0x358637BD#32))))))
    (broadcastInDim S128x4x1024 ![0, 1, 2] bcast_S1x1x1024_S128x4x1024_0_1_2 (broadcastInDim S1x1x1024 ![2] bcast_S1024_S1x1x1024_2
      (shapeCast S1024 (extractStridedSlice S1x1024 ![3, 0] g slices_S4x1024_S1x1024_3_0) shapeCasts_S1x1024_S1024)))
/-- The inner units before their square. -/
def units (y : FVec Ideal S128x4x1024 .f32) (w : FVec Ideal S4x1024x4096 .f32) : FVec Ideal S128x4x4096 .f32 :=
  maximumf (Host.dotGeneral dot_S128x4x1024_S1024x4096_S128x4x4096_2_0_01_1_n_n none y
    (shapeCast S1024x4096 (extractStridedSlice S1x1024x4096 ![3, 0, 0] w slices_S4x1024x4096_S1x1024x4096_3_0_0) shapeCasts_S1x1024x4096_S1024x4096))
    (broadcastInDim S128x4x4096 ![] bcast_S_S128x4x4096 (constant S_ .f32 0x00000000#32))
/-- The MLP's result, added. -/
def down (x : FVec Ideal S128x4x1024 .f32) (u : FVec Ideal S128x4x4096 .f32) (w : FVec Ideal S4x4096x1024 .f32) : FVec Ideal S128x4x1024 .f32 :=
  addf x (Host.dotGeneral dot_S128x4x4096_S4096x1024_S128x4x1024_2_0_01_1_n_n none (mulf u u)
    (shapeCast S4096x1024 (extractStridedSlice S1x4096x1024 ![3, 0, 0] w slices_S4x4096x1024_S1x4096x1024_3_0_0) shapeCasts_S1x4096x1024_S4096x1024))

theorem res_eq (m : (ℓ : Loc nD τ sig) → Buf (Elt Ideal) ℓ) (c : Dev nD) : res_main_v28 m c =
    (let x := mixed (m ((c : Thread nD τ).loc main_arg0)) (m ((c : Thread nD τ).loc main_arg1)) (m ((c : Thread nD τ).loc main_arg2))
     shapeCast S512x1024 (down x (units (norm x (m ((c : Thread nD τ).loc main_arg3))) (m ((c : Thread nD τ).loc main_arg4))) (m ((c : Thread nD τ).loc main_arg5)))
       shapeCasts_S128x4x1024_S512x1024) := rfl

/-! ## The stages at an index -/

theorem mixed_at (h o : FVec Ideal S128x4x1024 .f32) (w : FVec Ideal S2x1024x1024 .f32) (b : Fin 128) (p : Fin 4) (e : Fin 1024) :
    mixed h o w (ix3 b p e) = h (ix3 b p e) + ∑ d : Fin 1024, (show EReal from o (ix3 b p d)) * w (ix3 1 d e) := by
  pointwise [mixed]
theorem norm_at (x : FVec Ideal S128x4x1024 .f32) (g : FVec Ideal S4x1024 .f32) (b : Fin 128) (p : Fin 4) (e : Fin 1024) :
    norm x g (ix3 b p e) = normed (fun j => x (ix3 b p j)) (fun j => g (ix2 3 j)) e := by
  pointwise [norm]
  rfl
theorem units_at (y : FVec Ideal S128x4x1024 .f32) (w : FVec Ideal S4x1024x4096 .f32) (b : Fin 128) (p : Fin 4) (f : Fin 4096) :
    units y w (ix3 b p f) = max (∑ d, (show EReal from y (ix3 b p d)) * w (ix3 3 d f)) 0 := by
  pointwise [units]
theorem down_at (x : FVec Ideal S128x4x1024 .f32) (u : FVec Ideal S128x4x4096 .f32) (w : FVec Ideal S4x4096x1024 .f32) (b : Fin 128) (p : Fin 4) (e : Fin 1024) :
    down x u w (ix3 b p e) = x (ix3 b p e) + ∑ f, (show EReal from u (ix3 b p f)) * u (ix3 b p f) * w (ix3 3 f e) := by
  pointwise [down]

/-- The whole of it, at a row. -/
theorem row_at (x : FVec Ideal S128x4x1024 .f32) (g : FVec Ideal S4x1024 .f32) (wu : FVec Ideal S4x1024x4096 .f32) (wd : FVec Ideal S4x4096x1024 .f32)
    (b : Fin 128) (p : Fin 4) (e : Fin 1024) : down x (units (norm x g) wu) wd (ix3 b p e)
      = mlpRow (fun j => x (ix3 b p j)) (fun j => g (ix2 3 j)) (fun d f => wu (ix3 3 d f)) (fun f j => wd (ix3 3 f j)) e :=
  (down_at _ _ _ b p e).trans (mlpRow_of (y := fun d => norm x g (ix3 b p d)) (u := fun f => units (norm x g) wu (ix3 b p f))
    (wu := fun d f => wu (ix3 3 d f)) (wd := fun f j => wd (ix3 3 f j)) (norm_at x g b p) (units_at (norm x g) wu b p) e)

theorem flat_at (x : FVec Ideal S128x4x1024 .f32) (i : Fin 512) (e : Fin 1024) :
    shapeCast S512x1024 x shapeCasts_S128x4x1024_S512x1024 (ix2 i e) = x (ix3 ⟨i.val / 4, by omega⟩ ⟨i.val % 4, by omega⟩ e) := by
  pointwise

theorem res_at (m : (ℓ : Loc nD τ sig) → Buf (Elt Ideal) ℓ) (c : Dev nD) (i : Fin 512) (e : Fin 1024) :
    res_main_v28 m c (ix2 i e) = mlpRow (fun j => mixed (m ((c : Thread nD τ).loc main_arg0)) (m ((c : Thread nD τ).loc main_arg1)) (m ((c : Thread nD τ).loc main_arg2))
        (ix3 ⟨i.val / 4, by omega⟩ ⟨i.val % 4, by omega⟩ j))
      (fun j => (m ((c : Thread nD τ).loc main_arg3) : S4x1024.Idx → EReal) (ix2 3 j)) (fun d f => (m ((c : Thread nD τ).loc main_arg4) : S4x1024x4096.Idx → EReal) (ix3 3 d f))
      (fun f j => (m ((c : Thread nD τ).loc main_arg5) : S4x4096x1024.Idx → EReal) (ix3 3 f j)) e := by
  rw [res_eq]
  exact (flat_at _ i e).trans (row_at _ _ _ _ _ _ e)

end Cert.MlpSampleReferenceIdeal.Hand

end
-- ==== Proof.MlpSampleValue.lean ====
/-
  The sample's MLP call's result is its reference's: row by row the residual with the projected attention added, and the MLP of that row.
  The grid has one point, whose blocks are the arrays themselves.
-/
module

public import proofs.«01_k».proof.Defs
public import proofs.«01_k».proof.Proof.MlpSampleBody
public import proofs.«01_k».proof.Proof.MlpSampleRef
public import proofs.«01_k».proof.Proof.Gen.MlpSample.Frame
public import proofs.«01_k».proof.Proof.Gen.MlpSampleIdeal.Value
public import Idealize.ShloMosaic.Lib.Pipeline.ValueKit
public import Idealize.ShloMosaic.Lib.StableHlo.Run
public import Idealize.ShloMosaic.Lib.StableHlo.RunRead

@[expose] public section

set_option maxRecDepth 16384

noncomputable section

namespace Cert.MlpSampleIdeal.Hand

open Cert.MlpSampleIdeal Cert.MlpSampleIdeal.Gen Cert.Rows
open Idealize.ShloMosaic Idealize.ShloMosaic.TcCoe Idealize.ShloMosaic.StableHlo

theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![1, 0, 0] := by decide +kernel
theorem index_3 : ∀ t : Fin cfg0.N, win0_3.index t = ![0, 0] := by decide +kernel
theorem index_4 : ∀ t : Fin cfg0.N, win0_4.index t = ![3, 0, 0] := by decide +kernel
theorem index_5 : ∀ t : Fin cfg0.N, win0_5.index t = ![3, 0, 0] := by decide +kernel
theorem index_6 : ∀ t : Fin cfg0.N, win0_6.index t = ![0, 0] := by decide +kernel

variable (m : (ℓ : Loc nD τ sig) → Buf (Elt Ideal) ℓ)

set_option maxHeartbeats 4000000 in
/-- What the arrays hold when the call begins. -/
theorem reads (c : Dev nD) :
    V m c main_v3 = shapeCast S512x1024 (m ((c : Thread nD τ).loc main_arg0)) shapeCasts_S128x4x1024_S512x1024
    ∧ V m c main_v8 = shapeCast S512x1024 (truncf .bf16 (m ((c : Thread nD τ).loc main_arg1) : FVec Ideal S128x4x1024 .f32) bitsLt_bf16_f32 : FVec Ideal S128x4x1024 .bf16)
      shapeCasts_S128x4x1024_S512x1024
    ∧ V m c main_v0 = (truncf .bf16 (m ((c : Thread nD τ).loc main_arg2) : FVec Ideal S2x1024x1024 .f32) bitsLt_bf16_f32 : FVec Ideal S2x1024x1024 .bf16)
    ∧ V m c main_v6 = shapeCast S1x1024 (shapeCast S1024 (extractStridedSlice S1x1024 ![3, 0] (m ((c : Thread nD τ).loc main_arg3)) slices_S4x1024_S1x1024_3_0)
      shapeCasts_S1x1024_S1024) shapeCasts_S1024_S1x1024
    ∧ V m c main_v1 = (truncf .bf16 (m ((c : Thread nD τ).loc main_arg4) : FVec Ideal S4x1024x4096 .f32) bitsLt_bf16_f32 : FVec Ideal S4x1024x4096 .bf16)
    ∧ V m c main_v2 = (truncf .bf16 (m ((c : Thread nD τ).loc main_arg5) : FVec Ideal S4x4096x1024 .f32) bitsLt_bf16_f32 : FVec Ideal S4x4096x1024 .bf16) := by
  refine ⟨?_, ?_, ?_, ?_, ?_, ?_⟩
  all_goals
    unfold V
    simp only [hostOps0]
    after_reads_simp
    try rfl

/-- Row `r` of the sample: position `r % 4` of sequence `r / 4`. -/
theorem flat_at (x : Vec Ideal S128x4x1024 .f32) (r : Fin 512) (e : Fin 1024) :
    shapeCast S512x1024 x shapeCasts_S128x4x1024_S512x1024 (ix2 r e) = x (ix3 ⟨r.val / 4, by omega⟩ ⟨r.val % 4, by omega⟩ e) := by
  pointwise
theorem cast_flat_at (x : FVec Ideal S128x4x1024 .f32) (r : Fin 512) (e : Fin 1024) :
    shapeCast S512x1024 (truncf .bf16 x bitsLt_bf16_f32 : FVec Ideal S128x4x1024 .bf16) shapeCasts_S128x4x1024_S512x1024 (ix2 r e)
      = x (ix3 ⟨r.val / 4, by omega⟩ ⟨r.val % 4, by omega⟩ e) := by
  pointwise
theorem gains_at (g : Vec Ideal S4x1024 .f32) (e : Fin 1024) :
    shapeCast S1x1024 (shapeCast S1024 (extractStridedSlice S1x1024 ![3, 0] g slices_S4x1024_S1x1024_3_0) shapeCasts_S1x1024_S1024) shapeCasts_S1024_S1x1024 (ix2 0 e)
      = g (ix2 3 e) := by
  pointwise

section
variable (c : Dev nD) (t : Fin cfg0.N)

theorem in_0 (r : Fin 512) (j : Fin 1024) : iblk m c 0 t (ix2 r j)
    = (m ((c : Thread nD τ).loc main_arg0) : S128x4x1024.Idx → EReal) (ix3 ⟨r.val / 4, by omega⟩ ⟨r.val % 4, by omega⟩ j) := by
  have h : iblk m c 0 t (ix2 r j) = V m c main_v3 (ix2 r j) := by blk_ext [iblk, index_0 t]
  rw [h, (reads m c).1]; exact flat_at _ r j
theorem in_1 (r : Fin 512) (d : Fin 1024) : iblk m c 1 t (ix2 r d)
    = (m ((c : Thread nD τ).loc main_arg1) : S128x4x1024.Idx → EReal) (ix3 ⟨r.val / 4, by omega⟩ ⟨r.val % 4, by omega⟩ d) := by
  have h : iblk m c 1 t (ix2 r d) = V m c main_v8 (ix2 r d) := by blk_ext [iblk, index_1 t]
  rw [h, (reads m c).2.1]; exact cast_flat_at _ r d
theorem in_2 (d j : Fin 1024) : iblk m c 2 t (ix3 0 d j) = (m ((c : Thread nD τ).loc main_arg2) : S2x1024x1024.Idx → EReal) (ix3 1 d j) := by
  have h : iblk m c 2 t (ix3 0 d j) = V m c main_v0 (ix3 1 d j) := by blk_ext [iblk, index_2 t]
  rw [h, (reads m c).2.2.1]; rfl
theorem in_3 (j : Fin 1024) : iblk m c 3 t (ix2 0 j) = (m ((c : Thread nD τ).loc main_arg3) : S4x1024.Idx → EReal) (ix2 3 j) := by
  have h : iblk m c 3 t (ix2 0 j) = V m c main_v6 (ix2 0 j) := by blk_ext [iblk, index_3 t]
  rw [h, (reads m c).2.2.2.1]; exact gains_at _ j
theorem in_4 (d : Fin 1024) (f : Fin 4096) : iblk m c 4 t (ix3 0 d f) = (m ((c : Thread nD τ).loc main_arg4) : S4x1024x4096.Idx → EReal) (ix3 3 d f) := by
  have h : iblk m c 4 t (ix3 0 d f) = V m c main_v1 (ix3 3 d f) := by blk_ext [iblk, index_4 t]
  rw [h, (reads m c).2.2.2.2.1]; rfl
theorem in_5 (f : Fin 4096) (j : Fin 1024) : iblk m c 5 t (ix3 0 f j) = (m ((c : Thread nD τ).loc main_arg5) : S4x4096x1024.Idx → EReal) (ix3 3 f j) := by
  have h : iblk m c 5 t (ix3 0 f j) = V m c main_v2 (ix3 3 f j) := by blk_ext [iblk, index_5 t]
  rw [h, (reads m c).2.2.2.2.2]; rfl
end

/-- The layer's second half for the sample's rows. -/
def result (h o : S128x4x1024.Idx → EReal) (wo : S2x1024x1024.Idx → EReal) (g : S4x1024.Idx → EReal) (wu : S4x1024x4096.Idx → EReal) (wd : S4x4096x1024.Idx → EReal) :
    S512x1024.Idx → EReal := fun i =>
  let b : Fin 128 := ⟨(i 0).val / 4, by have := (i 0).isLt; have h : S512x1024.size 0 = 512 := rfl; omega⟩
  let p : Fin 4 := ⟨(i 0).val % 4, by omega⟩
  mlpRow (fun j => h (ix3 b p j) + ∑ d : Fin 1024, o (ix3 b p d) * wo (ix3 1 d j)) (fun j => g (ix2 3 j)) (fun d f => wu (ix3 3 d f)) (fun f j => wd (ix3 3 f j)) (i 1)

theorem result_at (h o : S128x4x1024.Idx → EReal) (wo : S2x1024x1024.Idx → EReal) (g : S4x1024.Idx → EReal) (wu : S4x1024x4096.Idx → EReal)
    (wd : S4x4096x1024.Idx → EReal) (r : Fin 512) (e : Fin 1024) : result h o wo g wu wd (ix2 r e) =
      mlpRow (fun j => h (ix3 ⟨r.val / 4, by omega⟩ ⟨r.val % 4, by omega⟩ j) + ∑ d : Fin 1024, o (ix3 ⟨r.val / 4, by omega⟩ ⟨r.val % 4, by omega⟩ d) * wo (ix3 1 d j))
        (fun j => g (ix2 3 j)) (fun d f => wu (ix3 3 d f)) (fun f j => wd (ix3 3 f j)) e := rfl

theorem block_value (c : Dev nD) (t : Fin cfg0.N) (r : Fin 512) (e : Fin 1024) :
    out0_6 (iblk m c 0 t) (iblk m c 1 t) (iblk m c 2 t) (iblk m c 3 t) (iblk m c 4 t) (iblk m c 5 t) (ix2 r e)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 r e) := by
  refine (out_at _ _ _ _ _ _ r e).trans (Eq.trans ?_ (result_at _ _ _ _ _ _ r e).symm)
  refine (mlpRow_congr (fun j => ?_) (in_3 m c t) (in_4 m c t) (in_5 m c t) e)
  rw [in_0, Finset.sum_congr rfl fun d _ => Ideal.mul_congr (in_1 m c t r d) (in_2 m c t d j)]

theorem final_value (c : Dev nD) : (dats m 0 c).arrAt 6 cfg0.N = result (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  obtain ⟨r, e, rfl⟩ : ∃ (r : Fin 512) (e : Fin 1024), y = ix2 r e := ⟨y 0, y 1, eq_ix2 y⟩
  refine (block_value m c t r e).trans (congrArg (result _ _ _ _ _ _) (show ix2 r e = _ from ?_))
  blk_ext [index_6 t]

end Cert.MlpSampleIdeal.Hand

namespace Cert.Hand

open Idealize.ShloMosaic Idealize.SL.Sem Cert.Rows

theorem frame_mlpSample : Cert.quiescent_MlpSample := fun m ρ _ => Cert.MlpSample.Gen.frame m ρ
theorem frame_mlpSampleIdeal : Cert.quiescent_MlpSampleIdeal := fun m ρ _ => Cert.MlpSampleIdeal.Gen.frame m ρ
theorem frame_mlpSampleReferenceIdeal : Cert.quiescent_MlpSampleReferenceIdeal := fun m g _ =>
  (θ_run Cert.MlpSampleReferenceIdeal.defs _ _).mono (fun r h => ⟨fun c => (h c).2, Idealize.ShloMosaic.sem_eq_zero_of_no_sems (by decide) r.2⟩)
    (Cert.MlpSampleReferenceIdeal.Value.run (F := Ideal) m g)

theorem algebraic_mlpSample : Cert.algebraic_MlpSampleIdeal_MlpSampleReferenceIdeal := fun m g m' g' hp hag => by
  refine ⟨fun c => Cert.MlpSampleIdeal.Hand.result (m (c.tc.loc Cert.MlpSampleIdeal.main_arg0)) (m (c.tc.loc Cert.MlpSampleIdeal.main_arg1))
    (m (c.tc.loc Cert.MlpSampleIdeal.main_arg2)) (m (c.tc.loc Cert.MlpSampleIdeal.main_arg3)) (m (c.tc.loc Cert.MlpSampleIdeal.main_arg4))
    (m (c.tc.loc Cert.MlpSampleIdeal.main_arg5)), ?_, ?_⟩
  · exact (θ_run Cert.MlpSampleIdeal.defs _ _).mono (fun r h c => ⟨(h c).1.trans (Cert.MlpSampleIdeal.Hand.final_value m c), (h c).2⟩)
      (Cert.MlpSampleIdeal.Value.run_blocks m g)
  · refine (θ_run Cert.MlpSampleReferenceIdeal.defs _ _).mono (fun r h c => ⟨(h c).1.trans ?_, (h c).2⟩) (Cert.MlpSampleReferenceIdeal.Value.run (F := Ideal) m' g')
    funext i
    obtain ⟨p, e, rfl⟩ : ∃ (p : Fin 512) (e : Fin 1024), i = ix2 p e := ⟨i 0, i 1, eq_ix2 i⟩
    obtain ⟨e0, e1, e2, e3, e4, e5⟩ := hag c
    refine (Cert.MlpSampleReferenceIdeal.Hand.res_at m' c p e).trans (Eq.trans ?_ (Cert.MlpSampleIdeal.Hand.result_at _ _ _ _ _ _ p e).symm)
    refine mlpRow_congr (fun j => ?_) (fun j => congrFun e3 _) (fun d f => congrFun e4 _) (fun f j => congrFun e5 _) e
    refine (Cert.MlpSampleReferenceIdeal.Hand.mixed_at _ _ _ _ _ j).trans ?_
    exact congrArg₂ (· + ·) (congrFun e0 _) (Finset.sum_congr rfl fun d _ => Ideal.mul_congr (congrFun e1 _) (congrFun e2 _))

end Cert.Hand

end
-- ==== Proof.KeyRows.lean ====
/-
  A head's norm computed with one-hot matrices. The sample's keys come in four quarters of 256 columns; a quarter's squares are summed per
  head by a product with the matrix that marks each column's head, and the heads' roots are spread back over the columns by its transpose.
  Both products are of two parts, a number and what its rounding left; among reals the second part is nought.
-/
module

public import proofs.«01_k».proof.Proof.KvRows
public import proofs.«01_k».proof.Proof.Real

@[expose] public section

noncomputable section

namespace Cert.Rows

open Idealize.ShloMosaic Cert.Attn

/-- Neither infinity. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sum {ι : Type} (s : Finset ι) {f : ι → EReal} (h : ∀ i, IsReal (f i)) : IsReal (∑ i ∈ s, f i) := by
  choose r hr using h
  exact ⟨_, sum_coe s f r hr⟩
theorem IsReal.sub_self {x : EReal} (h : IsReal x) : x - x = 0 := by
  obtain ⟨a, rfl⟩ := h
  rw [← EReal.coe_sub, _root_.sub_self, EReal.coe_zero]

/-! ## The constants -/

theorem eps_real : ∃ ε : ℝ, 0 < ε ∧ Ideal.ofBits .f32 0x358637BD#32 = (ε : EReal) :=
  ⟨8796093 * (2 ^ 43)⁻¹, by positivity, by rw [EReal.coe_mul]; simp [Ideal.ofBits, Ideal.ieee]⟩
theorem thousand : Ideal.ofBits .f32 0x44800000#32 = ((1024 : ℝ) : EReal) := by
  simp [Ideal.ofBits, Ideal.ieee]; rw [← EReal.coe_mul]; norm_num
theorem sixtyFour : Ideal.ofBits .f32 0x42800000#32 = ((64 : ℝ) : EReal) := by
  simp [Ideal.ofBits, Ideal.ieee]; rw [← EReal.coe_mul]; norm_num
theorem sixtyFourth : Ideal.ofBits .f32 0x3C800000#32 = ((1 / 64 : ℝ) : EReal) := by
  simp [Ideal.ofBits, Ideal.ieee]; rw [← EReal.coe_mul]; norm_num

/-- The root of a mean square with the small number added is real. -/
theorem root_real {s : ℝ} (hs : 0 ≤ s) : IsReal (Ideal.rsqrt ((s : EReal) + Ideal.ofBits .f32 0x358637BD#32)) := by
  obtain ⟨ε, hε, e⟩ := eps_real
  rw [e, ← EReal.coe_add, Ideal.rsqrt_coe, if_neg (by linarith), if_neg (by linarith)]
  exact ⟨_, rfl⟩

/-! ## A normalised row is real whatever the row -/

/-- A row's entries times one over its root: nought where the row has an infinite entry, for the root is infinite then. -/
theorem scaled_real (x : Fin 1024 → EReal) (j : Fin 1024) : IsReal (x j * inv x) := by
  by_cases h : ∀ j, IsReal (x j)
  · refine (h j).mul ?_
    choose r hr using h
    rw [inv, sum_coe Finset.univ (fun j => x j * x j) (fun j => r j * r j) (fun j => by rw [hr, EReal.coe_mul]), thousand,
      Ideal.div_coe (by norm_num), ← EReal.coe_mul]
    exact root_real (mul_nonneg (Finset.sum_nonneg fun j _ => mul_self_nonneg _) (by norm_num))
  · obtain ⟨i, hi⟩ := not_forall.1 h
    have hsq : x i * x i = ⊤ := by
      induction hx : x i with
      | bot => simp
      | top => simp
      | coe r => exact absurd ⟨r, hx⟩ hi
    have hnn (j : Fin 1024) : 0 ≤ x j * x j := by
      induction x j with
      | bot => simp
      | top => simp
      | coe r => rw [← EReal.coe_mul]; exact_mod_cast mul_self_nonneg r
    have hs : ∑ j, x j * x j = ⊤ :=
      top_le_iff.1 (hsq ▸ Finset.single_le_sum (f := fun j => x j * x j) (fun j _ => hnn j) (Finset.mem_univ i))
    obtain ⟨ε, hε, e⟩ := eps_real
    rw [inv, hs, thousand, Ideal.div_coe (by norm_num), EReal.top_mul_coe_of_pos (by norm_num), e, EReal.top_add_coe, Ideal.rsqrt_top, mul_zero]
    exact ⟨0, rfl⟩

theorem proj_real {n : Nat} (x : Fin 1024 → EReal) {g : Fin 1024 → EReal} {w : Fin 1024 → Fin n → EReal} (hg : ∀ j, IsReal (g j))
    (hw : ∀ j d, IsReal (w j d)) (d : Fin n) : IsReal (proj x g w d) :=
  IsReal.sum _ fun j => ((scaled_real x j).mul (hg j)).mul (hw j d)

/-! ## The quarters -/

/-- Column `k` of the quarter `q`. -/
def col (q : Fin 4) (k : Fin 256) : Fin 1024 := ⟨256 * q.val + k.val, by omega⟩
/-- Marks the head of a column. -/
def hot (c : Fin 1024) (l : Fin 128) : EReal := if c.val / 64 = l.val then 1 else 0
/-- One over the root of lane `l`'s mean square in the quarter `q`. -/
def root (q : Fin 4) (y : Fin 256 → EReal) (l : Fin 128) : EReal :=
  Ideal.rsqrt ((∑ k, y k * y k * hot (col q k) l + ∑ k, (y k * y k - y k * y k) * hot (col q k) l) * Ideal.ofBits .f32 0x3C800000#32
    + Ideal.ofBits .f32 0x358637BD#32)

/-- The lane's sum, as a real. -/
theorem lane_sum (q : Fin 4) (r : Fin 256 → ℝ) (l : Fin 128) :
    ∑ k, (r k : EReal) * r k * hot (col q k) l + ∑ k, ((r k : EReal) * r k - (r k : EReal) * r k) * hot (col q k) l
      = ((∑ k, (if (col q k).val / 64 = l.val then r k * r k else 0) : ℝ) : EReal) := by
  rw [Finset.sum_eq_zero (s := Finset.univ) (f := fun k => ((r k : EReal) * r k - (r k : EReal) * r k) * hot (col q k) l)
    fun k _ => by rw [IsReal.sub_self ⟨_, (EReal.coe_mul _ _).symm⟩, zero_mul], add_zero]
  refine sum_coe _ _ _ fun k => ?_
  unfold hot
  split
  · rw [mul_one, EReal.coe_mul]
  · rw [mul_zero, EReal.coe_zero]

theorem lane_root (q : Fin 4) (r : Fin 256 → ℝ) (l : Fin 128) : IsReal (root q (fun k => (r k : EReal)) l) := by
  rw [root, lane_sum, sixtyFourth, ← EReal.coe_mul]
  refine root_real (mul_nonneg (Finset.sum_nonneg fun k _ => ?_) (by norm_num))
  split
  · exact mul_self_nonneg _
  · exact le_rfl

/-- The lane of a column's head sums the head's 64 squares. -/
theorem head_sum (q : Fin 4) (r : Fin 1024 → ℝ) (k : Fin 256) :
    (∑ i, (if (col q i).val / 64 = (col q k).val / 64 then r (col q i) * r (col q i) else 0) : ℝ)
      = ∑ e : Fin 64, r (sib (col q k) e) * r (sib (col q k) e) := by
  rw [Fin.sum_univ_tiles 4 64 rfl]
  rw [Finset.sum_eq_single (⟨k.val / 64, by omega⟩ : Fin 4)]
  · refine Finset.sum_congr rfl fun e _ => ?_
    have h : col q ⟨k.val / 64 * 64 + e.val, by omega⟩ = sib (col q k) e := Fin.ext (by simp only [col, sib]; omega)
    rw [if_pos (by simp only [col]; omega)]
    exact congrArg₂ (· * ·) (congrArg r h) (congrArg r h)
  · intro a _ ha
    refine Finset.sum_eq_zero fun e _ => if_neg fun h => ha (Fin.ext ?_)
    simp only [col] at h
    show a.val = k.val / 64
    omega
  · exact fun h => absurd (Finset.mem_univ _) h

/-- A quarter's column, spread root and all, is the head's normalised entry. -/
theorem quarter_head (q : Fin 4) {y : Fin 1024 → EReal} (hy : ∀ d, IsReal (y d)) (g : EReal) (k : Fin 256) :
    y (col q k) * (∑ l, root q (fun k => y (col q k)) l * hot (col q k) l
        + ∑ l, (root q (fun k => y (col q k)) l - root q (fun k => y (col q k)) l) * hot (col q k) l) * g
      = y (col q k) * Ideal.rsqrt (Ideal.div (∑ e, y (sib (col q k) e) * y (sib (col q k) e)) (Ideal.ofBits .f32 0x42800000#32)
          + Ideal.ofBits .f32 0x358637BD#32) * g := by
  choose r hr using hy
  obtain rfl : y = fun d => (r d : EReal) := funext hr
  have hl : (col q k).val / 64 < 128 := by have := (col q k).isLt; omega
  rw [Finset.sum_eq_single (⟨(col q k).val / 64, hl⟩ : Fin 128) (fun l _ hne => by rw [hot, if_neg (fun h => hne (Fin.ext h.symm)), mul_zero])
    (fun h => absurd (Finset.mem_univ _) h), hot, if_pos rfl, mul_one,
    Finset.sum_eq_zero (s := Finset.univ) (fun l _ => by rw [(lane_root q (fun k => r (col q k)) l).sub_self, zero_mul]), add_zero]
  rw [root, lane_sum, head_sum, sixtyFourth, sixtyFour, Ideal.div_coe (by norm_num), coe_sum]
  simp only [EReal.coe_mul]

end Cert.Rows

end
-- ==== Proof.KvSampleBody.lean ====
/-
  What the sample's keys-and-values call's body computes, entry by entry. The keys come in four quarters of 256 columns, each computed by the
  same two steps: one over the root of each head's mean square, and its spreading over the head's columns.
-/
module

public import proofs.«01_k».proof.Proof.KeyRows
public import proofs.«01_k».proof.Proof.Gen.KvSampleIdeal.Frame
public import Idealize.ShloMosaic.Lib.Pipeline.Value
public import Idealize.ShloMosaic.Lib.Pointwise

@[expose] public section

set_option maxRecDepth 16384

noncomputable section

namespace Cert.KvSampleIdeal.Hand

open Cert.KvSampleIdeal Cert.KvSampleIdeal.Gen Cert.Rows
open Idealize.ShloMosaic Idealize.ShloMosaic.TcCoe

/-! ## Pieces of the arrays -/

/-- A piece of a matrix, at an entry. -/
theorem ld_at {a b c d : Nat} {e : EltTy} (x : Vec Ideal ⟨2, ![a, b]⟩ e) (o p : Nat)
    (inb : ∀ k, (![o, p] : Fin 2 → Nat) k + (⟨2, ![c, d]⟩ : Shape).size k ≤ (⟨2, ![a, b]⟩ : Shape).size k) (i : Fin c) (j : Fin d) (i' : Fin a) (j' : Fin b)
    (hi : i'.val = o + i.val) (hj : j'.val = p + j.val) :
    View.ld x (Rect.unit (s := ⟨2, ![a, b]⟩) ![o, p] (⟨2, ![c, d]⟩ : Shape).size inb) (ix2 i j) = x (ix2 i' j') := by
  rw [View.ld_unit]
  refine congrArg x (funext fun k => Fin.ext ?_)
  fin_cases k
  exacts [hi.symm, hj.symm]

/-! ## The rows and their products -/

variable (x0 : Vec Ideal S512x1024 .f32) (x1 : Vec Ideal S1x1024 .f32)

theorem normed_at (r : Fin 512) (e : Fin 1024) : k0_pay4 x0 x1 (ix2 r e) = normed (fun j => x0 (ix2 r j)) (fun j => x1 (ix2 0 j)) e := by
  pointwise [k0_pay4]
  rfl
theorem quarter_product (w : Vec Ideal S1024x256 .bf16) (r : Fin 512) (k : Fin 256) :
    k0_pay5 x0 x1 w (ix2 r k) = proj (fun j => x0 (ix2 r j)) (fun j => x1 (ix2 0 j)) (fun j (k : Fin 256) => w (ix2 j k)) k := by
  refine Eq.trans ?_ (Finset.sum_congr rfl fun j _ => Ideal.mul_congr (normed_at x0 x1 r j) rfl)
  pointwise [k0_pay5]
theorem values_at (w : Vec Ideal S1024x1024 .bf16) (r : Fin 512) (d : Fin 1024) :
    k0_pay21 (k0_pay4 x0 x1) w (ix2 r d) = proj (fun j => x0 (ix2 r j)) (fun j => x1 (ix2 0 j)) (fun j (d : Fin 1024) => w (ix2 j d)) d := by
  refine Eq.trans ?_ (Finset.sum_congr rfl fun j _ => Ideal.mul_congr (normed_at x0 x1 r j) rfl)
  pointwise [k0_pay21]

/-! ## The gates -/

theorem arg_at (x5 : Vec Ideal S1024x128 .bf16) (x6 : Vec Ideal S1x128 .f32) (r : Fin 512) (d : Fin 128) :
    k0_pay22 (k0_pay4 x0 x1) x5 x6 (ix2 r d) = proj (fun j => x0 (ix2 r j)) (fun j => x1 (ix2 0 j)) (fun j (d : Fin 128) => x5 (ix2 j d)) d + x6 (ix2 0 d) := by
  refine Eq.trans ?_ (congrArg (· + (x6 (ix2 0 d) : EReal)) (Finset.sum_congr rfl fun j _ => Ideal.mul_congr (normed_at x0 x1 r j) rfl))
  pointwise [k0_pay22]
theorem gates_at (x5 : Vec Ideal S1024x128 .bf16) (x6 : Vec Ideal S1x128 .f32) (r : Fin 512) (d : Fin 16) :
    k0_pay3 (k0_pay23 (k0_pay4 x0 x1) x5 x6) (k0_pay24 (k0_pay4 x0 x1) x5 x6) (Scalar.ofBits .f32 0x00000000#32) (ix2 r d)
      = gate (proj (fun j => x0 (ix2 r j)) (fun j => x1 (ix2 0 j)) (fun j (d : Fin 128) => x5 (ix2 j d)) (Fin.castLE (by decide) d) + x6 (ix2 0 (Fin.castLE (by decide) d))) := by
  have h (z : FVec Ideal S512x128 .f32) (z' : FVec Ideal S512x128 .f32) : k0_pay3 z z' (Scalar.ofBits .f32 0x00000000#32) (ix2 r d)
      = 0 - ((show EReal from z (ix2 r (Fin.castLE (by decide) d))) + Ideal.log1p (Ideal.exp (0 - (show EReal from z' (ix2 r (Fin.castLE (by decide) d)))))) := by
    pointwise [k0_pay3]
    rfl
  have h3 (e : Fin 128) : k0_pay23 (k0_pay4 x0 x1) x5 x6 (ix2 r e) = max (0 - (show EReal from k0_pay22 (k0_pay4 x0 x1) x5 x6 (ix2 r e))) 0 := by
    pointwise [k0_pay23]
  have h4 (e : Fin 128) : k0_pay24 (k0_pay4 x0 x1) x5 x6 (ix2 r e)
      = max (show EReal from k0_pay22 (k0_pay4 x0 x1) x5 x6 (ix2 r e)) (-(show EReal from k0_pay22 (k0_pay4 x0 x1) x5 x6 (ix2 r e))) := by
    pointwise [k0_pay24]
    rfl
  rw [h, h3, h4, arg_at, zero_sub, zero_sub, zero_sub]
  rfl

/-! ## The keys -/

/-- A quarter of the keys: its product `y` with each head's entries normalised. -/
def quarter (y : FVec Ideal S512x256 .f32) (g : Vec Ideal S1x256 .f32) (e : Vec Ideal S256x128 .bf16) (et : Vec Ideal S128x256 .bf16) : FVec Ideal S512x256 .f32 :=
  k0_pay16 y (k0_pay12 g) (k0_pay13 et) (k0_pay14 y e) (k0_pay15 y e)

theorem root_at (q : Fin 4) (y : FVec Ideal S512x256 .f32) (e : Vec Ideal S256x128 .bf16) (he : ∀ k l, e (ix2 k l) = hot (col q k) l) (r : Fin 512) (l : Fin 128) :
    k0_pay14 y e (ix2 r l) = root q (fun k => y (ix2 r k)) l := by
  have h : k0_pay14 y e (ix2 r l) = Ideal.rsqrt ((∑ k : Fin 256, (show EReal from y (ix2 r k)) * y (ix2 r k) * e (ix2 k l)
      + ∑ k : Fin 256, ((show EReal from y (ix2 r k)) * y (ix2 r k) - (show EReal from y (ix2 r k)) * y (ix2 r k)) * e (ix2 k l))
      * Ideal.ofBits .f32 0x3C800000#32 + Ideal.ofBits .f32 0x358637BD#32) := by
    pointwise [k0_pay14]
  rw [h, root]
  simp only [he]
theorem quarter_at (q : Fin 4) (y : FVec Ideal S512x256 .f32) (g : Vec Ideal S1x256 .f32) (e : Vec Ideal S256x128 .bf16) (et : Vec Ideal S128x256 .bf16)
    (he : ∀ k l, e (ix2 k l) = hot (col q k) l) (het : ∀ l k, et (ix2 l k) = hot (col q k) l) (r : Fin 512) (k : Fin 256) :
    quarter y g e et (ix2 r k) = y (ix2 r k) * (∑ l, root q (fun k => y (ix2 r k)) l * hot (col q k) l
        + ∑ l, (root q (fun k => y (ix2 r k)) l - root q (fun k => y (ix2 r k)) l) * hot (col q k) l) * g (ix2 0 k) := by
  have h : quarter y g e et (ix2 r k) = y (ix2 r k) * (∑ l : Fin 128, (show EReal from k0_pay14 y e (ix2 r l)) * et (ix2 l k)
        + ∑ l : Fin 128, ((show EReal from k0_pay14 y e (ix2 r l)) - (show EReal from k0_pay14 y e (ix2 r l))) * et (ix2 l k)) * g (ix2 0 k) := by
    pointwise [quarter, k0_pay16, k0_pay12, k0_pay13, k0_pay15]
  rw [h]
  simp only [root_at q y e he, het]

/-- The keys are the four quarters side by side. -/
theorem joined_at (z : Fin 4 → FVec Ideal S512x256 .f32) (q : Fin 4) (r : Fin 512) (k : Fin 256) :
    concatenate S512x1024 1 [⟨S512x256, z 0⟩, ⟨S512x256, z 1⟩, ⟨S512x256, z 2⟩, ⟨S512x256, z 3⟩] concatenates_S512x256_S512x256_S512x256_S512x256_S512x1024_d1
      (ix2 r (col q k)) = z q (ix2 r k) := by
  have hv : (col q k).val = 256 * q.val + k.val := rfl
  have hz (i : Fin 4) (n : Fin 256) (hi : i.val = q.val) (hn : n.val = k.val) : z i (ix2 r n) = z q (ix2 r k) := by rw [Fin.ext hi, Fin.ext hn]
  pointwise
  by_cases h0 : (col q k).val < 256
  · exact (dif_pos h0).trans (hz 0 _ (by show 0 = q.val; omega) (by show (col q k).val = k.val; omega))
  refine (dif_neg h0).trans ?_
  by_cases h1 : (col q k).val - 256 < 256
  · exact (dif_pos h1).trans (hz 1 _ (by show 1 = q.val; omega) (by show (col q k).val - 256 = k.val; omega))
  refine (dif_neg h1).trans ?_
  by_cases h2 : (col q k).val - 256 - 256 < 256
  · exact (dif_pos h2).trans (hz 2 _ (by show 2 = q.val; omega) (by show (col q k).val - 256 - 256 = k.val; omega))
  · exact (dif_neg h2).trans (hz 3 _ (by show 3 = q.val; omega) (by show (col q k).val - 256 - 256 - 256 = k.val; omega))

/-! ## The three results -/

section
variable (x2 x3 : Vec Ideal S1024x1024 .bf16) (x4 : Vec Ideal S1x1024 .f32) (x5 : Vec Ideal S1024x128 .bf16) (x6 : Vec Ideal S1x128 .f32)
  (x7 : Vec Ideal S1024x128 .bf16) (x8 : Vec Ideal S128x1024 .bf16)

/-- The four quarters, each of its own pieces. -/
def quarters (q : Fin 4) : FVec Ideal S512x256 .f32 :=
  quarter (k0_pay5 x0 x1 (![View.ld x2 r0_2, View.ld x2 r0_3, View.ld x2 r0_4, View.ld x2 r0_5] q))
    (![View.ld x4 r0_6, View.ld x4 r0_9, View.ld x4 r0_12, View.ld x4 r0_15] q) (![View.ld x7 r0_7, View.ld x7 r0_10, View.ld x7 r0_13, View.ld x7 r0_16] q)
    (![View.ld x8 r0_8, View.ld x8 r0_11, View.ld x8 r0_14, View.ld x8 r0_17] q)

theorem keys_eq : out0_9 x0 x1 x2 x3 x4 x5 x6 x7 x8
    = concatenate S512x1024 1 [⟨S512x256, quarters x0 x1 x2 x4 x7 x8 0⟩, ⟨S512x256, quarters x0 x1 x2 x4 x7 x8 1⟩, ⟨S512x256, quarters x0 x1 x2 x4 x7 x8 2⟩,
        ⟨S512x256, quarters x0 x1 x2 x4 x7 x8 3⟩] concatenates_S512x256_S512x256_S512x256_S512x256_S512x1024_d1 := by
  have z2 : (![0, 0] : Fin 2 → Nat) = fun _ => 0 := by decide
  rw [out0_9, View.canon_unit_zero z2, k0_pay27, k0_pay26, View.ld_unit_zero (S := S512x1024) z2, View.ld_unit_zero (S := S1x1024) z2]
  rfl

theorem piece_2 (q : Fin 4) (j : Fin 1024) (k : Fin 256) :
    (![View.ld x2 r0_2, View.ld x2 r0_3, View.ld x2 r0_4, View.ld x2 r0_5] q : Vec Ideal S1024x256 .bf16) (ix2 j k) = x2 (ix2 j (col q k)) := by
  fin_cases q
  all_goals exact ld_at x2 0 _ _ j k _ _ (Nat.zero_add _).symm rfl
theorem piece_4 (q : Fin 4) (k : Fin 256) :
    (![View.ld x4 r0_6, View.ld x4 r0_9, View.ld x4 r0_12, View.ld x4 r0_15] q : Vec Ideal S1x256 .f32) (ix2 0 k) = x4 (ix2 0 (col q k)) := by
  fin_cases q
  all_goals exact ld_at x4 0 _ _ 0 k _ _ rfl rfl
theorem piece_7 (q : Fin 4) (k : Fin 256) (l : Fin 128) :
    (![View.ld x7 r0_7, View.ld x7 r0_10, View.ld x7 r0_13, View.ld x7 r0_16] q : Vec Ideal S256x128 .bf16) (ix2 k l) = x7 (ix2 (col q k) l) := by
  fin_cases q
  all_goals exact ld_at x7 _ 0 _ k l _ _ rfl (Nat.zero_add _).symm
theorem piece_8 (q : Fin 4) (l : Fin 128) (k : Fin 256) :
    (![View.ld x8 r0_8, View.ld x8 r0_11, View.ld x8 r0_14, View.ld x8 r0_17] q : Vec Ideal S128x256 .bf16) (ix2 l k) = x8 (ix2 l (col q k)) := by
  fin_cases q
  all_goals exact ld_at x8 0 _ _ l k _ _ (Nat.zero_add _).symm rfl

/-- What the body leaves of the keys, where gains and weights are real. -/
theorem out_keys (hg : ∀ j, IsReal (x1 (ix2 0 j))) (hw : ∀ j d, IsReal (x2 (ix2 j d))) (h7 : ∀ c l, x7 (ix2 c l) = hot c l) (h8 : ∀ l c, x8 (ix2 l c) = hot c l)
    (gk : Fin 64 → EReal) (h4 : ∀ d : Fin 1024, x4 (ix2 0 d) = gk ⟨d.val % 64, Nat.mod_lt _ (by decide)⟩) (r : Fin 512) (d : Fin 1024) :
    out0_9 x0 x1 x2 x3 x4 x5 x6 x7 x8 (ix2 r d) = keyRow (fun j => x0 (ix2 r j)) (fun j => x1 (ix2 0 j)) (fun j (d : Fin 1024) => x2 (ix2 j d)) gk d := by
  obtain ⟨q, k, rfl⟩ : ∃ q k, d = col q k := ⟨⟨d.val / 256, by omega⟩, ⟨d.val % 256, by omega⟩, Fin.ext (by show d.val = 256 * (d.val / 256) + d.val % 256; omega)⟩
  have hy (k : Fin 256) : k0_pay5 x0 x1 (![View.ld x2 r0_2, View.ld x2 r0_3, View.ld x2 r0_4, View.ld x2 r0_5] q) (ix2 r k)
      = proj (fun j => x0 (ix2 r j)) (fun j => x1 (ix2 0 j)) (fun j (d : Fin 1024) => x2 (ix2 j d)) (col q k) :=
    (quarter_product x0 x1 _ r k).trans (Finset.sum_congr rfl fun j _ => congrArg _ (piece_2 x2 q j k))
  rw [keys_eq, joined_at (quarters x0 x1 x2 x4 x7 x8) q r k]
  refine (quarter_at q _ _ _ _ (fun k l => (piece_7 x7 q k l).trans (h7 _ l)) (fun l k => (piece_8 x8 q l k).trans (h8 l _)) r k).trans ?_
  rw [funext hy, hy, piece_4, h4]
  refine (quarter_head q (fun d => proj_real _ hg hw d) _ k).trans ?_
  rw [keyRow, headed, sib_self]

theorem out_values (r : Fin 512) (d : Fin 1024) : out0_10 x0 x1 x2 x3 x4 x5 x6 x7 x8 (ix2 r d)
    = proj (fun j => x0 (ix2 r j)) (fun j => x1 (ix2 0 j)) (fun j (d : Fin 1024) => x3 (ix2 j d)) d := by
  have z2 : (![0, 0] : Fin 2 → Nat) = fun _ => 0 := by decide
  rw [out0_10, View.canon_unit_zero z2, k0_pay28, k0_pay25, View.ld_unit_zero (S := S512x1024) z2, View.ld_unit_zero (S := S1x1024) z2,
    View.ld_unit_zero (S := S1024x1024) z2]
  exact values_at x0 x1 x3 r d

theorem out_gates (r : Fin 512) (d : Fin 16) : out0_11 x0 x1 x2 x3 x4 x5 x6 x7 x8 (ix2 r d)
    = gate (proj (fun j => x0 (ix2 r j)) (fun j => x1 (ix2 0 j)) (fun j (d : Fin 128) => x5 (ix2 j d)) (Fin.castLE (by decide) d) + x6 (ix2 0 (Fin.castLE (by decide) d))) := by
  have z2 : (![0, 0] : Fin 2 → Nat) = fun _ => 0 := by decide
  rw [out0_11, View.canon_unit_zero z2, k0_pay25, View.ld_unit_zero (S := S512x1024) z2, View.ld_unit_zero (S := S1x1024) z2,
    View.ld_unit_zero (S := S1024x128) z2, View.ld_unit_zero (S := S1x128) z2]
  exact gates_at x0 x1 x5 x6 r d
end

end Cert.KvSampleIdeal.Hand

end
-- ==== Proof.KvSampleBlocks.lean ====
/-
  What the arrays of the sample's keys-and-values call hold when it begins, and what its three result arrays hold at the end. The grid has
  one point, whose blocks are the arrays themselves.
-/
module

public import proofs.«01_k».proof.Proof.KvSampleBody
public import proofs.«01_k».proof.Proof.KvBlocks
public import proofs.«01_k».proof.Proof.Gen.KvSampleIdeal.Value

@[expose] public section

set_option maxRecDepth 16384

noncomputable section

namespace Cert.KvSampleIdeal.Hand

open Cert.KvSampleIdeal Cert.KvSampleIdeal.Gen Cert.Rows
open Cert.SharedKvIdeal.Hand (wide wideRow wide_at wideRow_at gains_at)
open Idealize.ShloMosaic Idealize.ShloMosaic.TcCoe Idealize.ShloMosaic.StableHlo

theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![0, 0] := by decide +kernel
theorem index_7 : ∀ t : Fin cfg0.N, win0_7.index t = ![0, 0] := by decide +kernel
theorem index_8 : ∀ t : Fin cfg0.N, win0_8.index t = ![0, 0] := by decide +kernel
theorem index_9 : ∀ t : Fin cfg0.N, win0_9.index t = ![0, 0] := by decide +kernel
theorem index_10 : ∀ t : Fin cfg0.N, win0_10.index t = ![0, 0] := by decide +kernel
theorem index_11 : ∀ t : Fin cfg0.N, win0_11.index t = ![0, 0] := by decide +kernel

/-! ## What the arrays hold when the call begins -/

/-- The head of every column, by the rounding-down division of its number. -/
def heads : IVec S1024x1 32 :=
  let n : IVec S1024x1 32 := broadcastInDim S1024x1 ![0] bcast_S1024_S1024x1_0 (iotaInDim S1024 32 0)
  let k : IVec S_ 32 := constantI S_ 32 64#32
  let z : IVec S1024x1 32 := broadcastInDim S1024x1 ![] bcast_S_S1024x1 k
  select (andi (cmpi .ne (signi n) (broadcastInDim S1024x1 ![] bcast_S_S1024x1 (signi k)))
      (cmpi .ne (Host.remsi n z) (broadcastInDim S1024x1 ![] bcast_S_S1024x1 (constantI S_ 32 0#32))))
    (subi (Host.divsi n z) (broadcastInDim S1024x1 ![] bcast_S_S1024x1 (constantI S_ 32 1#32))) (Host.divsi n z)
/-- Marks every column's head. -/
def marks : FVec Ideal S1024x128 .bf16 :=
  uitofp .bf16 (cmpi .eq (broadcastInDim S1024x128 ![0, 1] bcast_S1024x1_S1024x128_0_1 heads)
    (broadcastInDim S1024x128 ![0, 1] bcast_S1x128_S1024x128_0_1 (broadcastInDim S1x128 ![1] bcast_S128_S1x128_1 (iotaInDim S128 32 0))))
/-- The gains of a head's entries, once per head. -/
def tiled (g : FVec Ideal S64 .f32) : FVec Ideal S1x1024 .f32 :=
  shapeCast S1x1024 (shapeCast S1024 (broadcastInDim S16x64 ![0, 1] bcast_S1x64_S16x64_0_1 (shapeCast S1x64 g shapeCasts_S64_S1x64 : FVec Ideal S1x64 .f32) : FVec Ideal S16x64 .f32)
    shapeCasts_S16x64_S1024 : FVec Ideal S1024 .f32) shapeCasts_S1024_S1x1024

variable (m : (ℓ : Loc nD τ sig) → Buf (Elt Ideal) ℓ)

set_option maxHeartbeats 4000000 in
/-- All the arrays the three results are computed from. -/
theorem reads (c : Dev nD) :
    V m c main_v20 = shapeCast S512x1024 (m ((c : Thread nD τ).loc main_arg0)) shapeCasts_S128x4x1024_S512x1024
    ∧ V m c main_v21 = shapeCast S1x1024 (m ((c : Thread nD τ).loc main_arg1)) shapeCasts_S1024_S1x1024
    ∧ V m c main_v0 = (truncf .bf16 (m ((c : Thread nD τ).loc main_arg2) : FVec Ideal S1024x1024 .f32) bitsLt_bf16_f32 : FVec Ideal S1024x1024 .bf16)
    ∧ V m c main_v1 = (truncf .bf16 (m ((c : Thread nD τ).loc main_arg3) : FVec Ideal S1024x1024 .f32) bitsLt_bf16_f32 : FVec Ideal S1024x1024 .bf16)
    ∧ V m c main_v19 = tiled (m ((c : Thread nD τ).loc main_arg4)) ∧ V m c main_v3 = wide (m ((c : Thread nD τ).loc main_arg5))
    ∧ V m c main_v5 = wideRow (m ((c : Thread nD τ).loc main_arg6)) ∧ V m c main_v14 = marks
    ∧ V m c main_v15 = transpose S128x1024 [1, 0] marks transposes_S1024x128_S128x1024_1_0 := by
  refine ⟨?_, ?_, ?_, ?_, ?_, ?_, ?_, ?_, ?_⟩
  all_goals
    unfold V
    simp only [hostOps0, hostOps0_1, hostOps0_2, hostOps0_3, hostOps0_4, hostOps0_5, hostOps0_6,
      List.flatten_cons, List.flatten_nil, List.append_nil, List.cons_append, List.nil_append, TRef.ternary, TRef.binary, TRef.unary, TRef.nullary, TRef.toBuf, TRef.ofBuf, cast_eq]
    after_reads_simp
    try rfl

theorem flat_at (x : Vec Ideal S128x4x1024 .f32) (r : Fin 512) (e : Fin 1024) :
    shapeCast S512x1024 x shapeCasts_S128x4x1024_S512x1024 (ix2 r e) = x (ix3 ⟨r.val / 4, by omega⟩ ⟨r.val % 4, by omega⟩ e) := by
  pointwise
theorem heads_at : ∀ d : Fin 1024, heads (ix2 d 0) = BitVec.ofNat 32 (d.val / 64) := by decide +kernel
theorem marks_at (d : Fin 1024) (l : Fin 128) : marks (ix2 d l) = hot d l := by
  have h : marks (ix2 d l) = FloatOps.uitofp .bf16 (IntOp.cmpi .eq (heads (ix2 d 0)) (BitVec.ofNat 32 l.val)) := by
    pointwise [marks]
  rw [h, heads_at, hot, WordCmp.cmpi_eq_ofNat (by omega) (by omega)]
  by_cases e : d.val / 64 = l.val
  · rw [if_pos e, decide_eq_true e]
    simp [FloatOps.uitofp]
  · rw [if_neg e, decide_eq_false e]
    simp [FloatOps.uitofp]
theorem tiled_at (g : FVec Ideal S64 .f32) (d : Fin 1024) : tiled g (ix2 0 d) = g (ix1 ⟨d.val % 64, Nat.mod_lt _ (by decide)⟩) := by
  pointwise [tiled]

/-! ## The blocks -/

section
variable (c : Dev nD) (t : Fin cfg0.N)

theorem in_0 (r : Fin 512) (j : Fin 1024) : iblk m c 0 t (ix2 r j)
    = (m ((c : Thread nD τ).loc main_arg0) : S128x4x1024.Idx → EReal) (ix3 ⟨r.val / 4, by omega⟩ ⟨r.val % 4, by omega⟩ j) := by
  refine Eq.trans (b := V m c main_v20 (ix2 r j)) (by blk_ext [iblk, index_0 t]) ?_
  rw [(reads m c).1]; exact flat_at _ r j
theorem in_1 (j : Fin 1024) : iblk m c 1 t (ix2 0 j) = (m ((c : Thread nD τ).loc main_arg1) : S1024.Idx → EReal) (ix1 j) := by
  refine Eq.trans (b := V m c main_v21 (ix2 0 j)) (by blk_ext [iblk, index_1 t]) ?_
  rw [(reads m c).2.1]; exact gains_at _ j
theorem in_2 (j d : Fin 1024) : iblk m c 2 t (ix2 j d) = (m ((c : Thread nD τ).loc main_arg2) : S1024x1024.Idx → EReal) (ix2 j d) := by
  refine Eq.trans (b := V m c main_v0 (ix2 j d)) (by blk_ext [iblk, index_2 t]) ?_
  rw [(reads m c).2.2.1]; rfl
theorem in_3 (j d : Fin 1024) : iblk m c 3 t (ix2 j d) = (m ((c : Thread nD τ).loc main_arg3) : S1024x1024.Idx → EReal) (ix2 j d) := by
  refine Eq.trans (b := V m c main_v1 (ix2 j d)) (by blk_ext [iblk, index_3 t]) ?_
  rw [(reads m c).2.2.2.1]; rfl
theorem in_4 (d : Fin 1024) : iblk m c 4 t (ix2 0 d)
    = (m ((c : Thread nD τ).loc main_arg4) : S64.Idx → EReal) (ix1 ⟨d.val % 64, Nat.mod_lt _ (by decide)⟩) := by
  refine Eq.trans (b := V m c main_v19 (ix2 0 d)) (by blk_ext [iblk, index_4 t]) ?_
  rw [(reads m c).2.2.2.2.1]; exact tiled_at _ d
theorem in_5 (j : Fin 1024) (d : Fin 16) : iblk m c 5 t (ix2 j (Fin.castLE (by decide) d)) = (m ((c : Thread nD τ).loc main_arg5) : S1024x16.Idx → EReal) (ix2 j d) := by
  refine Eq.trans (b := V m c main_v3 (ix2 j (Fin.castLE (by decide) d))) (by blk_ext [iblk, index_5 t]) ?_
  rw [(reads m c).2.2.2.2.2.1]; exact wide_at _ j d
theorem in_6 (d : Fin 16) : iblk m c 6 t (ix2 0 (Fin.castLE (by decide) d)) = (m ((c : Thread nD τ).loc main_arg6) : S16.Idx → EReal) (ix1 d) := by
  refine Eq.trans (b := V m c main_v5 (ix2 0 (Fin.castLE (by decide) d))) (by blk_ext [iblk, index_6 t]) ?_
  rw [(reads m c).2.2.2.2.2.2.1]; exact wideRow_at _ d
theorem in_7 (d : Fin 1024) (l : Fin 128) : iblk m c 7 t (ix2 d l) = hot d l := by
  refine Eq.trans (b := V m c main_v14 (ix2 d l)) (by blk_ext [iblk, index_7 t]) ?_
  rw [(reads m c).2.2.2.2.2.2.2.1]; exact marks_at d l
theorem in_8 (l : Fin 128) (d : Fin 1024) : iblk m c 8 t (ix2 l d) = hot d l := by
  refine Eq.trans (b := V m c main_v15 (ix2 l d)) (by blk_ext [iblk, index_8 t]) ?_
  rw [(reads m c).2.2.2.2.2.2.2.2]
  refine Eq.trans ?_ (marks_at d l)
  pointwise
end

/-! ## The result arrays -/

/-- The keys, the values and the gates, a sequence's positions one after another. -/
def keysOf (h : S128x4x1024.Idx → EReal) (g : S1024.Idx → EReal) (w : S1024x1024.Idx → EReal) (gk : S64.Idx → EReal) : S512x1024.Idx → EReal := fun i =>
  keyRow (fun j : Fin 1024 => h (ix3 (⟨(i 0).val / 4, Nat.div_lt_of_lt_mul (i 0).isLt⟩ : Fin 128) (⟨(i 0).val % 4, Nat.mod_lt _ (by decide)⟩ : Fin 4) j))
    (fun j : Fin 1024 => g (ix1 j)) (fun (j d : Fin 1024) => w (ix2 j d)) (fun e : Fin 64 => gk (ix1 e)) (i 1)
def valuesOf (h : S128x4x1024.Idx → EReal) (g : S1024.Idx → EReal) (w : S1024x1024.Idx → EReal) : S512x1024.Idx → EReal := fun i =>
  proj (fun j : Fin 1024 => h (ix3 (⟨(i 0).val / 4, Nat.div_lt_of_lt_mul (i 0).isLt⟩ : Fin 128) (⟨(i 0).val % 4, Nat.mod_lt _ (by decide)⟩ : Fin 4) j))
    (fun j : Fin 1024 => g (ix1 j)) (fun (j d : Fin 1024) => w (ix2 j d)) (i 1)
def gatesOf (h : S128x4x1024.Idx → EReal) (g : S1024.Idx → EReal) (w : S1024x16.Idx → EReal) (b : S16.Idx → EReal) : S512x16.Idx → EReal := fun i =>
  gate (proj (fun j : Fin 1024 => h (ix3 (⟨(i 0).val / 4, Nat.div_lt_of_lt_mul (i 0).isLt⟩ : Fin 128) (⟨(i 0).val % 4, Nat.mod_lt _ (by decide)⟩ : Fin 4) j))
    (fun j : Fin 1024 => g (ix1 j)) (fun (j : Fin 1024) (d : Fin 16) => w (ix2 j d)) (i 1) + b (ix1 (i 1)))

/-- The keys need the row's gains and the keys' weights to be real. -/
theorem block_keys (c : Dev nD) (t : Fin cfg0.N) (hg : ∀ j : Fin 1024, IsReal ((m ((c : Thread nD τ).loc main_arg1) : S1024.Idx → EReal) (ix1 j)))
    (hw : ∀ j d : Fin 1024, IsReal ((m ((c : Thread nD τ).loc main_arg2) : S1024x1024.Idx → EReal) (ix2 j d))) (r : Fin 512) (d : Fin 1024) :
    out0_9 (iblk m c 0 t) (iblk m c 1 t) (iblk m c 2 t) (iblk m c 3 t) (iblk m c 4 t) (iblk m c 5 t) (iblk m c 6 t) (iblk m c 7 t) (iblk m c 8 t) (ix2 r d)
      = keysOf (m ((c : Thread nD τ).loc main_arg0)) (m ((c : Thread nD τ).loc main_arg1)) (m ((c : Thread nD τ).loc main_arg2))
        (m ((c : Thread nD τ).loc main_arg4)) (ix2 r d) := by
  have h1 : ∀ j : Fin 1024, IsReal (iblk m c 1 t (ix2 0 j)) := fun j => by
    rw [in_1]
    exact hg j
  have h2 : ∀ j d : Fin 1024, IsReal (iblk m c 2 t (ix2 j d)) := fun j d => by
    rw [in_2]
    exact hw j d
  rw [out_keys _ _ _ _ _ _ _ _ _ h1 h2 (in_7 m c t) (in_8 m c t) (fun e => (m ((c : Thread nD τ).loc main_arg4) : S64.Idx → EReal) (ix1 e)) (in_4 m c t) r d]
  exact keyRow_congr (in_0 m c t r) (in_1 m c t) (fun j d => in_2 m c t j d) (fun _ => rfl) d
theorem final_keys (c : Dev nD) (hg : ∀ j : Fin 1024, IsReal ((m ((c : Thread nD τ).loc main_arg1) : S1024.Idx → EReal) (ix1 j)))
    (hw : ∀ j d : Fin 1024, IsReal ((m ((c : Thread nD τ).loc main_arg2) : S1024x1024.Idx → EReal) (ix2 j d))) :
    (dats m 0 c).arrAt 9 cfg0.N = keysOf (m ((c : Thread nD τ).loc main_arg0)) (m ((c : Thread nD τ).loc main_arg1))
      (m ((c : Thread nD τ).loc main_arg2)) (m ((c : Thread nD τ).loc main_arg4)) := by
  refine (dats m 0 c).arrAt_eq_of_covers 9 _ (by decide +kernel) fun t hf y => ?_
  blk_simp
  rw [after0_9]
  obtain ⟨r, d, rfl⟩ : ∃ (r : Fin 512) (d : Fin 1024), y = ix2 r d := ⟨y 0, y 1, eq_ix2 y⟩
  refine (block_keys m c t hg hw r d).trans (congrArg (keysOf _ _ _ _) (show ix2 r d = _ from ?_))
  blk_ext [index_9 t]
theorem final_values (c : Dev nD) : (dats m 0 c).arrAt 10 cfg0.N = valuesOf (m ((c : Thread nD τ).loc main_arg0)) (m ((c : Thread nD τ).loc main_arg1))
    (m ((c : Thread nD τ).loc main_arg3)) := by
  refine (dats m 0 c).arrAt_eq_of_covers 10 _ (by decide +kernel) fun t hf y => ?_
  blk_simp
  rw [after0_10]
  obtain ⟨r, d, rfl⟩ : ∃ (r : Fin 512) (d : Fin 1024), y = ix2 r d := ⟨y 0, y 1, eq_ix2 y⟩
  refine (out_values _ _ _ _ _ _ _ _ _ r d).trans ((proj_congr (in_0 m c t r) (in_1 m c t) (fun j d => in_3 m c t j d) d).trans ?_)
  refine congrArg (valuesOf _ _ _) (show ix2 r d = _ from ?_)
  blk_ext [index_10 t]
theorem final_gates (c : Dev nD) : (dats m 0 c).arrAt 11 cfg0.N = gatesOf (m ((c : Thread nD τ).loc main_arg0)) (m ((c : Thread nD τ).loc main_arg1))
    (m ((c : Thread nD τ).loc main_arg5)) (m ((c : Thread nD τ).loc main_arg6)) := by
  refine (dats m 0 c).arrAt_eq_of_covers 11 _ (by decide +kernel) fun t hf y => ?_
  blk_simp
  rw [after0_11]
  obtain ⟨r, d, rfl⟩ : ∃ (r : Fin 512) (d : Fin 16), y = ix2 r d := ⟨y 0, y 1, eq_ix2 y⟩
  refine (out_gates _ _ _ _ _ _ _ _ _ r d).trans (Eq.trans (congrArg gate ?_) (congrArg (gatesOf _ _ _ _) (show ix2 r d = _ from ?_)))
  · exact congrArg₂ (· + ·) (Finset.sum_congr rfl fun j _ => Ideal.mul_congr
      (congrFun (congrArg₂ normed (funext (in_0 m c t r)) (funext (in_1 m c t))) j) (in_5 m c t j d)) (in_6 m c t d)
  · blk_ext [index_11 t]

end Cert.KvSampleIdeal.Hand

end
-- ==== Proof.KvSampleRef.lean ====
/-
  The reference of the sample's keys, values and gates, read at an index: 128 sequences of four positions, one row after another.
-/
module

public import proofs.«01_k».proof.Proof.KvRows
public import proofs.«01_k».proof.Proof.Gen.KvSampleReferenceIdeal.Run
public import Idealize.ShloMosaic.Lib.Pointwise

@[expose] public section

set_option maxRecDepth 16384

noncomputable section

namespace Cert.KvSampleReferenceIdeal.Hand

open Cert.KvSampleReferenceIdeal Cert.KvSampleReferenceIdeal.Gen Cert.KvSampleReferenceIdeal.Value Cert.Rows
open Idealize.ShloMosaic Idealize.ShloMosaic.TcCoe

/-- The sequence and the position of a row. -/
def seq (r : Fin 512) : Fin 128 := ⟨r.val / 4, by omega⟩
def place (r : Fin 512) : Fin 4 := ⟨r.val % 4, by omega⟩

/-! ## The reference in stages -/

/-- The rows, normalised. -/
def norm (x : FVec Ideal S128x4x1024 .f32) (g : FVec Ideal S1024 .f32) : FVec Ideal S128x4x1024 .f32 :=
  mulf (mulf x (broadcastInDim S128x4x1024 ![0, 1, 2] bcast_S128x4x1_S128x4x1024_0_1_2 (Host.rsqrt (addf (Host.divf
      (broadcastInDim S128x4x1 ![0, 1] bcast_S128x4_S128x4x1_0_1 (Host.reduceAdd (mulf x x) (constant S_ .f32 0x00000000#32) reducesTo_S128x4x1024_S128x4_d2 h_S_))
      (broadcastInDim S128x4x1 ![] bcast_S_S128x4x1 (constant S_ .f32 0x44800000#32)))
      (broadcastInDim S128x4x1 ![] bcast_S_S128x4x1 (constant S_ .f32 0x358637BD#32))))))
    (broadcastInDim S128x4x1024 ![0, 1, 2] bcast_S1x1x1024_S128x4x1024_0_1_2 (broadcastInDim S1x1x1024 ![2] bcast_S1024_S1x1x1024_2 g))
/-- Through a square matrix. -/
def through (y : FVec Ideal S128x4x1024 .f32) (w : FVec Ideal S1024x1024 .f32) : FVec Ideal S128x4x1024 .f32 :=
  Host.dotGeneral dot_S128x4x1024_S1024x1024_S128x4x1024_2_0_01_1_n_n none y w
/-- The entries split into heads, each head normalised, one row after another. -/
def keys (y : FVec Ideal S128x4x1024 .f32) (g : FVec Ideal S64 .f32) : FVec Ideal S512x1024 .f32 :=
  let z : FVec Ideal S128x4x16x64 .f32 := shapeCast S128x4x16x64 y shapeCasts_S128x4x1024_S128x4x16x64
  shapeCast S512x1024 (mulf (mulf z (broadcastInDim S128x4x16x64 ![0, 1, 2, 3] bcast_S128x4x16x1_S128x4x16x64_0_1_2_3 (Host.rsqrt (addf (Host.divf
      (broadcastInDim S128x4x16x1 ![0, 1, 2] bcast_S128x4x16_S128x4x16x1_0_1_2 (Host.reduceAdd (mulf z z) (constant S_ .f32 0x00000000#32) reducesTo_S128x4x16x64_S128x4x16_d3 h_S_))
      (broadcastInDim S128x4x16x1 ![] bcast_S_S128x4x16x1 (constant S_ .f32 0x42800000#32)))
      (broadcastInDim S128x4x16x1 ![] bcast_S_S128x4x16x1 (constant S_ .f32 0x358637BD#32))))))
    (broadcastInDim S128x4x16x64 ![0, 1, 2, 3] bcast_S1x1x1x64_S128x4x16x64_0_1_2_3 (broadcastInDim S1x1x1x64 ![3] bcast_S64_S1x1x1x64_3 g)) : FVec Ideal S128x4x16x64 .f32)
    shapeCasts_S128x4x16x64_S512x1024
/-- The gates' arguments. -/
def args (y : FVec Ideal S128x4x1024 .f32) (w : FVec Ideal S1024x16 .f32) (b : FVec Ideal S16 .f32) : FVec Ideal S128x4x16 .f32 :=
  addf (Host.dotGeneral dot_S128x4x1024_S1024x16_S128x4x16_2_0_01_1_n_n none y w)
    (broadcastInDim S128x4x16 ![0, 1, 2] bcast_S1x1x16_S128x4x16_0_1_2 (broadcastInDim S1x1x16 ![2] bcast_S16_S1x1x16_2 b))
/-- The logarithm of the logistic function: minus the softened positive part of the argument's negative. -/
def gates (z : FVec Ideal S128x4x16 .f32) : FVec Ideal S512x16 .f32 :=
  let zero : FVec Ideal S128x4x16 .f32 := broadcastInDim S128x4x16 ![] bcast_S_S128x4x16 (constant S_ .f32 0x00000000#32)
  let y : FVec Ideal S128x4x16 .f32 := Host.negf z
  shapeCast S512x16 (Host.negf (select (cmpf .une (subf y zero) (subf y zero)) (addf y zero)
    (addf (maximumf y zero) (Host.log1p (Host.exp (Host.negf (Host.absf (subf y zero))))))) : FVec Ideal S128x4x16 .f32) shapeCasts_S128x4x16_S512x16

theorem res_eq (m : (ℓ : Loc nD τ sig) → Buf (Elt Ideal) ℓ) (c : Dev nD) : res_main_v36 m c =
    gates (args (norm (m ((c : Thread nD τ).loc main_arg0)) (m ((c : Thread nD τ).loc main_arg1))) (m ((c : Thread nD τ).loc main_arg5)) (m ((c : Thread nD τ).loc main_arg6))) := rfl

/-! ## The stages at an index -/

theorem norm_at (x : FVec Ideal S128x4x1024 .f32) (g : FVec Ideal S1024 .f32) (b : Fin 128) (p : Fin 4) (e : Fin 1024) :
    norm x g (ix3 b p e) = normed (fun j => x (ix3 b p j)) (fun j => g (ix1 j)) e := by
  pointwise [norm]
  rfl
theorem proj_at (x : FVec Ideal S128x4x1024 .f32) (g : FVec Ideal S1024 .f32) (w : FVec Ideal S1024x1024 .f32) (b : Fin 128) (p : Fin 4) (d : Fin 1024) :
    through (norm x g) w (ix3 b p d) = proj (fun j => x (ix3 b p j)) (fun j => g (ix1 j)) (fun j (d : Fin 1024) => w (ix2 j d)) d := by
  refine Eq.trans ?_ (Finset.sum_congr rfl fun j _ => Ideal.mul_congr (norm_at x g b p j) rfl)
  pointwise [through]
theorem heads_at (y : FVec Ideal S128x4x1024 .f32) (g : FVec Ideal S64 .f32) (r : Fin 512) (d : Fin 1024) :
    keys y g (ix2 r d) = headed (fun e => y (ix3 (seq r) (place r) (sib d e))) (fun e => g (ix1 e)) ⟨d.val % 64, Nat.mod_lt _ (by decide)⟩ := by
  rw [headed, sib_self]
  pointwise [keys]
  rfl
theorem keys_at (x : FVec Ideal S128x4x1024 .f32) (g : FVec Ideal S1024 .f32) (w : FVec Ideal S1024x1024 .f32) (gk : FVec Ideal S64 .f32) (r : Fin 512) (d : Fin 1024) :
    keys (through (norm x g) w) gk (ix2 r d)
      = keyRow (fun j => x (ix3 (seq r) (place r) j)) (fun j => g (ix1 j)) (fun j (d : Fin 1024) => w (ix2 j d)) (fun e => gk (ix1 e)) d := by
  rw [heads_at, funext fun e => proj_at x g w (seq r) (place r) (sib d e)]
  rfl
theorem values_at (x : FVec Ideal S128x4x1024 .f32) (g : FVec Ideal S1024 .f32) (w : FVec Ideal S1024x1024 .f32) (r : Fin 512) (d : Fin 1024) :
    shapeCast S512x1024 (through (norm x g) w) shapeCasts_S128x4x1024_S512x1024 (ix2 r d)
      = proj (fun j => x (ix3 (seq r) (place r) j)) (fun j => g (ix1 j)) (fun j (d : Fin 1024) => w (ix2 j d)) d := by
  refine Eq.trans ?_ (proj_at x g w (seq r) (place r) d)
  pointwise
  rfl
theorem args_at (x : FVec Ideal S128x4x1024 .f32) (g : FVec Ideal S1024 .f32) (w : FVec Ideal S1024x16 .f32) (z : FVec Ideal S16 .f32) (b : Fin 128) (p : Fin 4) (d : Fin 16) :
    args (norm x g) w z (ix3 b p d) = proj (fun j => x (ix3 b p j)) (fun j => g (ix1 j)) (fun j (d : Fin 16) => w (ix2 j d)) d + z (ix1 d) := by
  refine Eq.trans ?_ (congrArg (· + (z (ix1 d) : EReal)) (Finset.sum_congr rfl fun j _ => Ideal.mul_congr (norm_at x g b p j) rfl))
  pointwise [args]
theorem gates_at (z : FVec Ideal S128x4x16 .f32) (r : Fin 512) (d : Fin 16) : gates z (ix2 r d) = gate (z (ix3 (seq r) (place r) d)) := by
  have e (a : EReal) : FloatOps.absf (F := Ideal) (φ := .f32) (-a) = max a (-a) := by
    show max (-a) (- -a) = _
    rw [neg_neg, max_comm]
  pointwise [gates]
  show _ = gate (z (ix3 ⟨r.val / 4, _⟩ ⟨r.val % 4, _⟩ d))
  generalize z (ix3 ⟨r.val / 4, _⟩ ⟨r.val % 4, _⟩ d) = a
  simp [gate, max_comm, e]

end Cert.KvSampleReferenceIdeal.Hand

end
-- ==== Proof.KvSampleValue.lean ====
/-
  The sample's keys, values and gates are their reference's, entry by entry, where the rows' gains and the keys' weights are finite.
-/
module

public import proofs.«01_k».proof.Defs
public import proofs.«01_k».proof.Proof.KvSampleBlocks
public import proofs.«01_k».proof.Proof.KvSampleRef
public import proofs.«01_k».proof.Proof.Finite
public import proofs.«01_k».proof.Proof.Gen.Pre_finite_keys
public import proofs.«01_k».proof.Proof.Gen.KvSample.Frame
public import proofs.«01_k».proof.Proof.Gen.KvSampleIdeal.Value

@[expose] public section

set_option maxRecDepth 16384

noncomputable section

namespace Cert.Hand

open Idealize.ShloMosaic Idealize.SL.Sem Cert.Rows

theorem frame_kvSample : Cert.quiescent_KvSample := fun m ρ _ => Cert.KvSample.Gen.frame m ρ
theorem frame_kvSampleIdeal : Cert.quiescent_KvSampleIdeal := fun m ρ _ => Cert.KvSampleIdeal.Gen.frame m ρ
theorem frame_kvSampleIdeal_pre : Cert.quiescent_KvSampleIdeal_pre_finite_keys := fun m ρ _ => Cert.KvSampleIdeal.Gen.frame m ρ
theorem frame_kvSampleReferenceIdeal : Cert.quiescent_KvSampleReferenceIdeal := fun m g _ =>
  (θ_run Cert.KvSampleReferenceIdeal.defs _ _).mono (fun r h => ⟨fun c => (h c).2.2.2, Idealize.ShloMosaic.sem_eq_zero_of_no_sems (by decide) r.2⟩)
    (Cert.KvSampleReferenceIdeal.Value.run (F := Ideal) m g)
theorem frame_kvSampleReferenceIdeal_pre : Cert.quiescent_KvSampleReferenceIdeal_pre_finite_keys := fun m g _ =>
  frame_kvSampleReferenceIdeal m g trivial

/-- The precondition read back: the rows' gains and the keys' weights are real. -/
theorem real_of_pre (m : (ℓ : Loc Cert.KvSampleIdeal.nD Cert.KvSampleIdeal.τ Cert.KvSampleIdeal.sig) → Buf (Elt Ideal) ℓ)
    (hp : Cert.Pre_KvSampleIdeal_finite_keys m) (c : Dev Cert.KvSampleIdeal.nD) :
    (∀ i, IsReal ((m (c.tc.loc Cert.KvSampleIdeal.main_arg1) : Cert.KvSampleIdeal.S1024.Idx → EReal) i))
    ∧ ∀ i, IsReal ((m (c.tc.loc Cert.KvSampleIdeal.main_arg2) : Cert.KvSampleIdeal.S1024x1024.Idx → EReal) i) := by
  obtain ⟨h1, h2⟩ := IntOp.andi_eq_one.1 (congrFun (hp c) (fun i => i.elim0))
  beta_reduce at h1 h2
  exact ⟨fun i => ⟨_, Cert.Pre_finite.Hand.real_of_all _ _ (fun _ => Cert.Pre_finite.Hand.ofBits_top) h1 i⟩,
    fun i => ⟨_, Cert.Pre_finite.Hand.real_of_all _ _ (fun _ => Cert.Pre_finite.Hand.ofBits_top) h2 i⟩⟩

section
open Cert.KvSampleReferenceIdeal Cert.KvSampleReferenceIdeal.Gen Cert.KvSampleReferenceIdeal.Hand

/-- The reference's three results are the arrays the call leaves, whatever the arguments. -/
theorem kvSample_reference (x : FVec Ideal S128x4x1024 .f32) (g : FVec Ideal S1024 .f32) (wk wv : FVec Ideal S1024x1024 .f32) (gk : FVec Ideal S64 .f32)
    (wf : FVec Ideal S1024x16 .f32) (bf : FVec Ideal S16 .f32) :
    keys (through (norm x g) wk) gk = Cert.KvSampleIdeal.Hand.keysOf x g wk gk
    ∧ shapeCast S512x1024 (through (norm x g) wv) shapeCasts_S128x4x1024_S512x1024 = Cert.KvSampleIdeal.Hand.valuesOf x g wv
    ∧ gates (args (norm x g) wf bf) = Cert.KvSampleIdeal.Hand.gatesOf x g wf bf := by
  refine ⟨?_, ?_, ?_⟩
  · funext i
    rw [eq_ix2 i]
    exact keys_at x g wk gk (i 0) (i 1)
  · funext i
    rw [eq_ix2 i]
    exact values_at x g wv (i 0) (i 1)
  · funext i
    rw [eq_ix2 i]
    exact (gates_at _ (i 0) (i 1)).trans (congrArg gate (args_at x g wf bf (seq (i 0)) (place (i 0)) (i 1)))
end

theorem algebraic_kvSample : Cert.algebraic_KvSampleIdeal_KvSampleReferenceIdeal_pre_finite_keys := fun m g m' g' hp hag => by
  refine ⟨fun c => Cert.KvSampleIdeal.Hand.keysOf (m (c.tc.loc Cert.KvSampleIdeal.main_arg0)) (m (c.tc.loc Cert.KvSampleIdeal.main_arg1))
      (m (c.tc.loc Cert.KvSampleIdeal.main_arg2)) (m (c.tc.loc Cert.KvSampleIdeal.main_arg4)),
    fun c => Cert.KvSampleIdeal.Hand.valuesOf (m (c.tc.loc Cert.KvSampleIdeal.main_arg0)) (m (c.tc.loc Cert.KvSampleIdeal.main_arg1))
      (m (c.tc.loc Cert.KvSampleIdeal.main_arg3)),
    fun c => Cert.KvSampleIdeal.Hand.gatesOf (m (c.tc.loc Cert.KvSampleIdeal.main_arg0)) (m (c.tc.loc Cert.KvSampleIdeal.main_arg1))
      (m (c.tc.loc Cert.KvSampleIdeal.main_arg5)) (m (c.tc.loc Cert.KvSampleIdeal.main_arg6)), ?_, ?_⟩
  · exact (θ_run Cert.KvSampleIdeal.defs _ _).mono
      (fun r h c => ⟨(h c).1.trans (Cert.KvSampleIdeal.Hand.final_keys m c (fun j => (real_of_pre m hp c).1 _) (fun j d => (real_of_pre m hp c).2 _)),
        (h c).2.1.trans (Cert.KvSampleIdeal.Hand.final_values m c), (h c).2.2.1.trans (Cert.KvSampleIdeal.Hand.final_gates m c), (h c).2.2.2.2.2⟩)
      (Cert.KvSampleIdeal.Value.run_blocks m g)
  · refine (θ_run Cert.KvSampleReferenceIdeal.defs _ _).mono (fun r h c => ⟨(h c).1.trans ?_, (h c).2.1.trans ?_, (h c).2.2.1.trans ?_, (h c).2.2.2⟩)
      (Cert.KvSampleReferenceIdeal.Value.run (F := Ideal) m' g')
    all_goals
      obtain ⟨e0, e1, e2, e3, e4, e5, e6⟩ := hag c
      have hr := kvSample_reference (m' (c.tc.loc Cert.KvSampleReferenceIdeal.main_arg0)) (m' (c.tc.loc Cert.KvSampleReferenceIdeal.main_arg1))
        (m' (c.tc.loc Cert.KvSampleReferenceIdeal.main_arg2)) (m' (c.tc.loc Cert.KvSampleReferenceIdeal.main_arg3))
        (m' (c.tc.loc Cert.KvSampleReferenceIdeal.main_arg4)) (m' (c.tc.loc Cert.KvSampleReferenceIdeal.main_arg5))
        (m' (c.tc.loc Cert.KvSampleReferenceIdeal.main_arg6))
      beta_reduce
    · rw [← e0, ← e1, ← e2, ← e4]
      exact hr.1
    · rw [← e0, ← e1, ← e3]
      exact hr.2.1
    · rw [← e0, ← e1, ← e5, ← e6]
      exact (Cert.KvSampleReferenceIdeal.Hand.res_eq m' c).trans hr.2.2

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite_keys
public import proofs.«01_k».proof.Proof.Gen.ReferenceIdeal.Run
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import proofs.«01_k».proof.Proof.Gen.MlpReferenceIdeal
public import proofs.«01_k».proof.Proof.Gen.MlpReferenceIdeal.Run
public import proofs.«01_k».proof.Proof.Gen.PoolMlp
public import proofs.«01_k».proof.Proof.Gen.PoolMlp.Frame
public import proofs.«01_k».proof.Proof.Gen.PoolMlpIdeal
public import proofs.«01_k».proof.Proof.Gen.PoolMlpIdeal.Frame
public import proofs.«01_k».proof.Proof.Gen.PoolMlpIdeal.Value
public import proofs.«01_k».proof.Proof.Gen.PoolMlpReferenceIdeal
public import proofs.«01_k».proof.Proof.Gen.PoolMlpReferenceIdeal.Run
public import proofs.«01_k».proof.Proof.Gen.SharedKv
public import proofs.«01_k».proof.Proof.Gen.SharedKv.Frame
public import proofs.«01_k».proof.Proof.Gen.SharedKvIdeal
public import proofs.«01_k».proof.Proof.Gen.SharedKvIdeal.Frame
public import proofs.«01_k».proof.Proof.Gen.SharedKvIdeal.Value
public import proofs.«01_k».proof.Proof.Gen.SharedKvReferenceIdeal
public import proofs.«01_k».proof.Proof.Gen.SharedKvReferenceIdeal.Run
public import proofs.«01_k».proof.Proof.Gen.MlpSample
public import proofs.«01_k».proof.Proof.Gen.MlpSample.Frame
public import proofs.«01_k».proof.Proof.Gen.MlpSampleIdeal
public import proofs.«01_k».proof.Proof.Gen.MlpSampleIdeal.Frame
public import proofs.«01_k».proof.Proof.Gen.MlpSampleIdeal.Value
public import proofs.«01_k».proof.Proof.Gen.MlpSampleReferenceIdeal
public import proofs.«01_k».proof.Proof.Gen.MlpSampleReferenceIdeal.Run
public import proofs.«01_k».proof.Proof.Gen.KvSample
public import proofs.«01_k».proof.Proof.Gen.KvSample.Frame
public import proofs.«01_k».proof.Proof.Gen.KvSampleIdeal
public import proofs.«01_k».proof.Proof.Gen.KvSampleIdeal.Frame
public import proofs.«01_k».proof.Proof.Gen.KvSampleIdeal.Value
public import proofs.«01_k».proof.Proof.Gen.KvSampleReferenceIdeal
public import proofs.«01_k».proof.Proof.Gen.KvSampleReferenceIdeal.Run
public import proofs.«01_k».proof.Proof.Frames
public import proofs.«01_k».proof.Proof.Value
public import proofs.«01_k».proof.Proof.MlpValue
public import proofs.«01_k».proof.Proof.PoolValue
public import proofs.«01_k».proof.Proof.KvValue
public import proofs.«01_k».proof.Proof.MlpSampleValue
public import proofs.«01_k».proof.Proof.KvSampleValue
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)
theorem frame_reference_finite : Cert.quiescent_ReferenceIdeal_pre_finite := fun m g _ => frame_reference m g trivial

theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts,
  Cert.PoolMlp.Gen.facts, Cert.PoolMlpIdeal.Gen.facts, Cert.PoolMlpReferenceIdeal.Gen.facts,
  Cert.SharedKv.Gen.facts, Cert.SharedKvIdeal.Gen.facts, Cert.SharedKvReferenceIdeal.Gen.facts,
  Cert.MlpSample.Gen.facts, Cert.MlpSampleIdeal.Gen.facts, Cert.MlpSampleReferenceIdeal.Gen.facts,
  Cert.KvSample.Gen.facts, Cert.KvSampleIdeal.Gen.facts, Cert.KvSampleReferenceIdeal.Gen.facts,
  Cert.Pre_finite.Gen.facts, Cert.Pre_finite_keys.Gen.facts,
  Cert.KernelIdeal.Hand.frame_kernel, Cert.KernelIdeal.Hand.frame_kernelIdeal, Cert.KernelIdeal.Hand.frame_kernelIdeal_finite,
  frame_reference, frame_reference_finite, Cert.Hand.frame_mlp, Cert.Hand.frame_mlpIdeal, Cert.Hand.frame_mlpReferenceIdeal,
  Cert.Hand.frame_pool, Cert.Hand.frame_poolIdeal, Cert.Hand.frame_poolReferenceIdeal,
  Cert.Hand.frame_kv, Cert.Hand.frame_kvIdeal, Cert.Hand.frame_kvReferenceIdeal,
  Cert.Hand.frame_mlpSample, Cert.Hand.frame_mlpSampleIdeal, Cert.Hand.frame_mlpSampleReferenceIdeal,
  Cert.Hand.frame_kvSample, Cert.Hand.frame_kvSampleIdeal, Cert.Hand.frame_kvSampleIdeal_pre,
  Cert.Hand.frame_kvSampleReferenceIdeal, Cert.Hand.frame_kvSampleReferenceIdeal_pre,
  IdealRules.named_const.statement Cert.KernelIdeal.κ "mask" .f32 0xF149F2CA#32 ⊥ rfl,
  Cert.Hand.algebraic, trivial, Cert.Hand.algebraic_mlp,
  trivial, Cert.Hand.algebraic_pool, trivial, Cert.Hand.algebraic_kv,
  trivial, Cert.Hand.algebraic_mlpSample, trivial, Cert.Hand.algebraic_kvSample⟩

end Cert.Proof

end
